-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_routed_KernelIdeal [hPre_finite_routed_KernelIdeal : Cert.Pre_finite_routed_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_routed_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_routed_ReferenceIdeal [hPre_finite_routed_ReferenceIdeal : Cert.Pre_finite_routed_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_routed_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_routed_KernelIdeal [hKernelIdeal : Cert.KernelIdeal.Facts] [hPre_finite_routed_KernelIdeal : Cert.Pre_finite_routed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_routed_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_routed_ReferenceIdeal [hReferenceIdeal : Cert.ReferenceIdeal.Facts] [hPre_finite_routed_ReferenceIdeal : Cert.Pre_finite_routed_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_routed_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite_routed_KernelIdeal [hKernelIdeal : Cert.KernelIdeal.Facts] [hReferenceIdeal : Cert.ReferenceIdeal.Facts] [hPre_finite_routed_KernelIdeal : Cert.Pre_finite_routed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_routed_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![4, 256, 512]⟩ ⟨3, ![64, 256, 512]⟩ 0 16 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v45) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_routed_KernelIdeal : Cert.Pre_finite_routed_KernelIdeal.Facts) (hPre_finite_routed_ReferenceIdeal : Cert.Pre_finite_routed_ReferenceIdeal.Facts),
    quiescent_Kernel (hKernel := hKernel)
    ∧ quiescent_KernelIdeal (hKernelIdeal := hKernelIdeal)
    ∧ quiescent_KernelIdeal_pre_finite_routed_KernelIdeal (hKernelIdeal := hKernelIdeal) (hPre_finite_routed_KernelIdeal := hPre_finite_routed_KernelIdeal)
    ∧ quiescent_ReferenceIdeal (hReferenceIdeal := hReferenceIdeal)
    ∧ quiescent_ReferenceIdeal_pre_finite_routed_ReferenceIdeal (hReferenceIdeal := hReferenceIdeal) (hPre_finite_routed_ReferenceIdeal := hPre_finite_routed_ReferenceIdeal)
    ∧ preserves_Kernel_KernelIdeal
    ∧ algebraic_KernelIdeal_ReferenceIdeal_pre_finite_routed_KernelIdeal (hKernelIdeal := hKernelIdeal) (hReferenceIdeal := hReferenceIdeal) (hPre_finite_routed_KernelIdeal := hPre_finite_routed_KernelIdeal)
-- ==== Pre_finite_routed_KernelIdeal.lean ====
abbrev S1024x256 : Shape := ⟨2, ![1024, 256]⟩
abbrev S256x64 : Shape := ⟨2, ![256, 64]⟩
abbrev S1024x2 : Shape := ⟨2, ![1024, 2]⟩
abbrev S4x256x512 : Shape := ⟨3, ![4, 256, 512]⟩
abbrev S_ : Shape := ⟨0, ![]⟩

class Facts : Prop where
  bcast_S_S1024x256 : S_.BroadcastsInDim S1024x256 (![] : Fin 0 → Fin S1024x256.rank)
  reducesTo_S1024x256_S_d0_1 : S1024x256.ReducesTo [0, 1] S_
  h_S_ : 0 < S_.numel
  bcast_S_S256x64 : S_.BroadcastsInDim S256x64 (![] : Fin 0 → Fin S256x64.rank)
  reducesTo_S256x64_S_d0_1 : S256x64.ReducesTo [0, 1] S_
  bcast_S_S1024x2 : S_.BroadcastsInDim S1024x2 (![] : Fin 0 → Fin S1024x2.rank)
  reducesTo_S1024x2_S_d0_1 : S1024x2.ReducesTo [0, 1] S_

variable [Facts]

def fn {F : FTy → Type} [FloatOps F] (main_arg0 : FVec F S1024x256 .bf16) (main_arg1 : FVec F S256x64 .bf16) (main_arg2 : IVec S1024x2 32) (main_arg3 : FVec F S4x256x512 .bf16) : IVec S_ 1 :=
  let main_v0 : FVec F S1024x256 .bf16 := Host.absf main_arg0
  let main_cst : FVec F S_ .bf16 := constant S_ .bf16 0x7F80#16
  let main_v1 : FVec F S1024x256 .bf16 := broadcastInDim S1024x256 ![] bcast_S_S1024x256 main_cst
  let main_v2 : IVec S1024x256 1 := cmpf .olt main_v0 main_v1
  let main_c : IVec S_ 1 := constantI S_ 1 1#1
  let main_v3 : IVec S_ 1 := (fun x v => Host.reduce IntOp.andi x v reducesTo_S1024x256_S_d0_1 h_S_) main_v2 main_c
  let main_v4 : FVec F S256x64 .bf16 := Host.absf main_arg1
  let main_cst_0 : FVec F S_ .bf16 := constant S_ .bf16 0x7F80#16
  let main_v5 : FVec F S256x64 .bf16 := broadcastInDim S256x64 ![] bcast_S_S256x64 main_cst_0
  let main_v6 : IVec S256x64 1 := cmpf .olt main_v4 main_v5
  let main_c_1 : IVec S_ 1 := constantI S_ 1 1#1
  let main_v7 : IVec S_ 1 := (fun x v => Host.reduce IntOp.andi x v reducesTo_S256x64_S_d0_1 h_S_) main_v6 main_c_1
  let main_v8 : IVec S_ 1 := andi main_v3 main_v7
  let main_c_2 : IVec S_ 32 := constantI S_ 32 0#32
  let main_v9 : IVec S1024x2 32 := broadcastInDim S1024x2 ![] bcast_S_S1024x2 main_c_2
  let main_v10 : IVec S1024x2 1 := cmpi .sge main_arg2 main_v9
  let main_c_3 : IVec S_ 32 := constantI S_ 32 63#32
  let main_v11 : IVec S1024x2 32 := broadcastInDim S1024x2 ![] bcast_S_S1024x2 main_c_3
  let main_v12 : IVec S1024x2 1 := cmpi .sle main_arg2 main_v11
  let main_v13 : IVec S1024x2 1 := andi main_v10 main_v12
  let main_c_4 : IVec S_ 1 := constantI S_ 1 1#1
  let main_v14 : IVec S_ 1 := (fun x v => Host.reduce IntOp.andi x v reducesTo_S1024x2_S_d0_1 h_S_) main_v13 main_c_4
  let main_v15 : IVec S_ 1 := andi main_v8 main_v14
  main_v15
-- ==== Pre_finite_routed_ReferenceIdeal.lean ====
abbrev S1024x256 : Shape := ⟨2, ![1024, 256]⟩
abbrev S256x64 : Shape := ⟨2, ![256, 64]⟩
abbrev S1024x2 : Shape := ⟨2, ![1024, 2]⟩
abbrev S64x256x512 : Shape := ⟨3, ![64, 256, 512]⟩
abbrev S_ : Shape := ⟨0, ![]⟩

class Facts : Prop where
  bcast_S_S1024x256 : S_.BroadcastsInDim S1024x256 (![] : Fin 0 → Fin S1024x256.rank)
  reducesTo_S1024x256_S_d0_1 : S1024x256.ReducesTo [0, 1] S_
  h_S_ : 0 < S_.numel
  bcast_S_S256x64 : S_.BroadcastsInDim S256x64 (![] : Fin 0 → Fin S256x64.rank)
  reducesTo_S256x64_S_d0_1 : S256x64.ReducesTo [0, 1] S_
  bcast_S_S1024x2 : S_.BroadcastsInDim S1024x2 (![] : Fin 0 → Fin S1024x2.rank)
  reducesTo_S1024x2_S_d0_1 : S1024x2.ReducesTo [0, 1] S_

variable [Facts]

def fn {F : FTy → Type} [FloatOps F] (main_arg0 : FVec F S1024x256 .bf16) (main_arg1 : FVec F S256x64 .bf16) (main_arg2 : IVec S1024x2 32) (main_arg3 : FVec F S64x256x512 .bf16) : IVec S_ 1 :=
  let main_v0 : FVec F S1024x256 .bf16 := Host.absf main_arg0
  let main_cst : FVec F S_ .bf16 := constant S_ .bf16 0x7F80#16
  let main_v1 : FVec F S1024x256 .bf16 := broadcastInDim S1024x256 ![] bcast_S_S1024x256 main_cst
  let main_v2 : IVec S1024x256 1 := cmpf .olt main_v0 main_v1
  let main_c : IVec S_ 1 := constantI S_ 1 1#1
  let main_v3 : IVec S_ 1 := (fun x v => Host.reduce IntOp.andi x v reducesTo_S1024x256_S_d0_1 h_S_) main_v2 main_c
  let main_v4 : FVec F S256x64 .bf16 := Host.absf main_arg1
  let main_cst_0 : FVec F S_ .bf16 := constant S_ .bf16 0x7F80#16
  let main_v5 : FVec F S256x64 .bf16 := broadcastInDim S256x64 ![] bcast_S_S256x64 main_cst_0
  let main_v6 : IVec S256x64 1 := cmpf .olt main_v4 main_v5
  let main_c_1 : IVec S_ 1 := constantI S_ 1 1#1
  let main_v7 : IVec S_ 1 := (fun x v => Host.reduce IntOp.andi x v reducesTo_S256x64_S_d0_1 h_S_) main_v6 main_c_1
  let main_v8 : IVec S_ 1 := andi main_v3 main_v7
  let main_c_2 : IVec S_ 32 := constantI S_ 32 0#32
  let main_v9 : IVec S1024x2 32 := broadcastInDim S1024x2 ![] bcast_S_S1024x2 main_c_2
  let main_v10 : IVec S1024x2 1 := cmpi .sge main_arg2 main_v9
  let main_c_3 : IVec S_ 32 := constantI S_ 32 63#32
  let main_v11 : IVec S1024x2 32 := broadcastInDim S1024x2 ![] bcast_S_S1024x2 main_c_3
  let main_v12 : IVec S1024x2 1 := cmpi .sle main_arg2 main_v11
  let main_v13 : IVec S1024x2 1 := andi main_v10 main_v12
  let main_c_4 : IVec S_ 1 := constantI S_ 1 1#1
  let main_v14 : IVec S_ 1 := (fun x v => Host.reduce IntOp.andi x v reducesTo_S1024x2_S_d0_1 h_S_) main_v13 main_c_4
  let main_v15 : IVec S_ 1 := andi main_v8 main_v14
  main_v15
-- ==== Kernel.lean ====
abbrev S1024x256 : Shape := ⟨2, ![1024, 256]⟩
abbrev S256x64 : Shape := ⟨2, ![256, 64]⟩
abbrev S1024x2 : Shape := ⟨2, ![1024, 2]⟩
abbrev S4x256x512 : Shape := ⟨3, ![4, 256, 512]⟩
abbrev S1024x512 : Shape := ⟨2, ![1024, 512]⟩
abbrev S16x64x512 : Shape := ⟨3, ![16, 64, 512]⟩
abbrev S2x16x64x256 : Shape := ⟨4, ![2, 16, 64, 256]⟩
abbrev S2x16 : Shape := ⟨2, ![2, 16]⟩
abbrev S_ : Shape := ⟨0, ![]⟩
abbrev S1x256x512 : Shape := ⟨3, ![1, 256, 512]⟩
abbrev S256x512 : Shape := ⟨2, ![256, 512]⟩
abbrev S256x256 : Shape := ⟨2, ![256, 256]⟩
abbrev S256 : Shape := ⟨1, ![256]⟩
abbrev S256x1 : Shape := ⟨2, ![256, 1]⟩
abbrev S4x64x512 : Shape := ⟨3, ![4, 64, 512]⟩
abbrev S4x64x256 : Shape := ⟨3, ![4, 64, 256]⟩
abbrev S1x4x64x256 : Shape := ⟨4, ![1, 4, 64, 256]⟩
abbrev S1x1 : Shape := ⟨2, ![1, 1]⟩
abbrev S1x1x64x256 : Shape := ⟨4, ![1, 1, 64, 256]⟩
abbrev S64x256 : Shape := ⟨2, ![64, 256]⟩
abbrev S1x64x512 : Shape := ⟨3, ![1, 64, 512]⟩
abbrev S64x512 : Shape := ⟨2, ![64, 512]⟩

abbrev nBuf : Space → Nat
  | .hbm => 5
  | .vmem => 8
  | .smem => 0
  | _ => 0

abbrev bufTy : (tb : Table) → Fin (tcTables nBuf tb) → BufTy
  | .hbm, ⟨0, _⟩ => ⟨S1024x256, .bf16⟩
  | .hbm, ⟨1, _⟩ => ⟨S256x64, .bf16⟩
  | .hbm, ⟨2, _⟩ => ⟨S1024x2, .i32⟩
  | .hbm, ⟨3, _⟩ => ⟨S4x256x512, .bf16⟩
  | .hbm, ⟨4, _⟩ => ⟨S1024x512, .bf16⟩
  | .local _ .vmem, ⟨0, _⟩ => ⟨S1024x256, .bf16⟩
  | .local _ .vmem, ⟨1, _⟩ => ⟨S256x64, .bf16⟩
  | .local _ .vmem, ⟨2, _⟩ => ⟨S1024x2, .i32⟩
  | .local _ .vmem, ⟨3, _⟩ => ⟨S4x256x512, .bf16⟩
  | .local _ .vmem, ⟨4, _⟩ => ⟨S1024x512, .bf16⟩
  | .local _ .vmem, ⟨5, _⟩ => ⟨S16x64x512, .f32⟩
  | .local _ .vmem, ⟨6, _⟩ => ⟨S2x16x64x256, .bf16⟩
  | .local _ .vmem, ⟨7, _⟩ => ⟨S2x16x64x256, .bf16⟩
  | _, _ => ⟨S1024x256, .bf16⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 133 → Bool
  | ⟨i, _⟩ => dmaSemScopedAt i

abbrev sig : RefSig :=
  (ofTc nBuf bufTy 1 133 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_4 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v5 : BitVec 32 := Scalar.addi v2 c1_i32_0
  let c0_i32 : BitVec 32 := 0#32
  let v6 : BitVec 32 := Scalar.addi v5 c0_i32
  let c16_i32_1 : BitVec 32 := 16#32
  let v7 : BitVec 32 := Scalar.remsi v6 c16_i32_1
  let c1_i32_3 : BitVec 32 := 1#32
  let v8 : BitVec 32 := Scalar.muli v7 c1_i32_3
  let v9 : BitVec 32 := Scalar.addi c0_i32_4 v8
  v9.toNat
def k0_dev2 (d0 : Dev nD) : Nat :=
  let c0_i32_10 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_5 : BitVec 32 := 1#32
  let v10 : BitVec 32 := Scalar.addi v2 c1_i32_5
  let c1_i32_6 : BitVec 32 := 1#32
  let v11 : BitVec 32 := Scalar.addi v10 c1_i32_6
  let c16_i32_7 : BitVec 32 := 16#32
  let v12 : BitVec 32 := Scalar.remsi v11 c16_i32_7
  let c1_i32_9 : BitVec 32 := 1#32
  let v13 : BitVec 32 := Scalar.muli v12 c1_i32_9
  let v14 : BitVec 32 := Scalar.addi c0_i32_10 v13
  v14.toNat
def k0_dev3 (d0 : Dev nD) : Nat :=
  let c0_i32_15 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_11 : BitVec 32 := 1#32
  let v15 : BitVec 32 := Scalar.addi v2 c1_i32_11
  let c2_i32 : BitVec 32 := 2#32
  let v16 : BitVec 32 := Scalar.addi v15 c2_i32
  let c16_i32_12 : BitVec 32 := 16#32
  let v17 : BitVec 32 := Scalar.remsi v16 c16_i32_12
  let c1_i32_14 : BitVec 32 := 1#32
  let v18 : BitVec 32 := Scalar.muli v17 c1_i32_14
  let v19 : BitVec 32 := Scalar.addi c0_i32_15 v18
  v19.toNat
def k0_dev4 (d0 : Dev nD) : Nat :=
  let c0_i32_20 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_16 : BitVec 32 := 1#32
  let v20 : BitVec 32 := Scalar.addi v2 c1_i32_16
  let c3_i32 : BitVec 32 := 3#32
  let v21 : BitVec 32 := Scalar.addi v20 c3_i32
  let c16_i32_17 : BitVec 32 := 16#32
  let v22 : BitVec 32 := Scalar.remsi v21 c16_i32_17
  let c1_i32_19 : BitVec 32 := 1#32
  let v23 : BitVec 32 := Scalar.muli v22 c1_i32_19
  let v24 : BitVec 32 := Scalar.addi c0_i32_20 v23
  v24.toNat
def k0_dev5 (d0 : Dev nD) : Nat :=
  let c0_i32_26 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_21 : BitVec 32 := 1#32
  let v25 : BitVec 32 := Scalar.addi v2 c1_i32_21
  let c4_i32_22 : BitVec 32 := 4#32
  let v26 : BitVec 32 := Scalar.addi v25 c4_i32_22
  let c16_i32_23 : BitVec 32 := 16#32
  let v27 : BitVec 32 := Scalar.remsi v26 c16_i32_23
  let c1_i32_25 : BitVec 32 := 1#32
  let v28 : BitVec 32 := Scalar.muli v27 c1_i32_25
  let v29 : BitVec 32 := Scalar.addi c0_i32_26 v28
  v29.toNat
def k0_dev6 (d0 : Dev nD) : Nat :=
  let c0_i32_31 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_27 : BitVec 32 := 1#32
  let v30 : BitVec 32 := Scalar.addi v2 c1_i32_27
  let c5_i32 : BitVec 32 := 5#32
  let v31 : BitVec 32 := Scalar.addi v30 c5_i32
  let c16_i32_28 : BitVec 32 := 16#32
  let v32 : BitVec 32 := Scalar.remsi v31 c16_i32_28
  let c1_i32_30 : BitVec 32 := 1#32
  let v33 : BitVec 32 := Scalar.muli v32 c1_i32_30
  let v34 : BitVec 32 := Scalar.addi c0_i32_31 v33
  v34.toNat
def k0_dev7 (d0 : Dev nD) : Nat :=
  let c0_i32_36 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_32 : BitVec 32 := 1#32
  let v35 : BitVec 32 := Scalar.addi v2 c1_i32_32
  let c6_i32 : BitVec 32 := 6#32
  let v36 : BitVec 32 := Scalar.addi v35 c6_i32
  let c16_i32_33 : BitVec 32 := 16#32
  let v37 : BitVec 32 := Scalar.remsi v36 c16_i32_33
  let c1_i32_35 : BitVec 32 := 1#32
  let v38 : BitVec 32 := Scalar.muli v37 c1_i32_35
  let v39 : BitVec 32 := Scalar.addi c0_i32_36 v38
  v39.toNat
def k0_dev8 (d0 : Dev nD) : Nat :=
  let c0_i32_41 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_37 : BitVec 32 := 1#32
  let v40 : BitVec 32 := Scalar.addi v2 c1_i32_37
  let c7_i32 : BitVec 32 := 7#32
  let v41 : BitVec 32 := Scalar.addi v40 c7_i32
  let c16_i32_38 : BitVec 32 := 16#32
  let v42 : BitVec 32 := Scalar.remsi v41 c16_i32_38
  let c1_i32_40 : BitVec 32 := 1#32
  let v43 : BitVec 32 := Scalar.muli v42 c1_i32_40
  let v44 : BitVec 32 := Scalar.addi c0_i32_41 v43
  v44.toNat
def k0_dev9 (d0 : Dev nD) : Nat :=
  let c0_i32_46 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_42 : BitVec 32 := 1#32
  let v45 : BitVec 32 := Scalar.addi v2 c1_i32_42
  let c8_i32 : BitVec 32 := 8#32
  let v46 : BitVec 32 := Scalar.addi v45 c8_i32
  let c16_i32_43 : BitVec 32 := 16#32
  let v47 : BitVec 32 := Scalar.remsi v46 c16_i32_43
  let c1_i32_45 : BitVec 32 := 1#32
  let v48 : BitVec 32 := Scalar.muli v47 c1_i32_45
  let v49 : BitVec 32 := Scalar.addi c0_i32_46 v48
  v49.toNat
def k0_dev10 (d0 : Dev nD) : Nat :=
  let c0_i32_51 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_47 : BitVec 32 := 1#32
  let v50 : BitVec 32 := Scalar.addi v2 c1_i32_47
  let c9_i32 : BitVec 32 := 9#32
  let v51 : BitVec 32 := Scalar.addi v50 c9_i32
  let c16_i32_48 : BitVec 32 := 16#32
  let v52 : BitVec 32 := Scalar.remsi v51 c16_i32_48
  let c1_i32_50 : BitVec 32 := 1#32
  let v53 : BitVec 32 := Scalar.muli v52 c1_i32_50
  let v54 : BitVec 32 := Scalar.addi c0_i32_51 v53
  v54.toNat
def k0_dev11 (d0 : Dev nD) : Nat :=
  let c0_i32_56 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_52 : BitVec 32 := 1#32
  let v55 : BitVec 32 := Scalar.addi v2 c1_i32_52
  let c10_i32 : BitVec 32 := 10#32
  let v56 : BitVec 32 := Scalar.addi v55 c10_i32
  let c16_i32_53 : BitVec 32 := 16#32
  let v57 : BitVec 32 := Scalar.remsi v56 c16_i32_53
  let c1_i32_55 : BitVec 32 := 1#32
  let v58 : BitVec 32 := Scalar.muli v57 c1_i32_55
  let v59 : BitVec 32 := Scalar.addi c0_i32_56 v58
  v59.toNat
def k0_dev12 (d0 : Dev nD) : Nat :=
  let c0_i32_61 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_57 : BitVec 32 := 1#32
  let v60 : BitVec 32 := Scalar.addi v2 c1_i32_57
  let c11_i32 : BitVec 32 := 11#32
  let v61 : BitVec 32 := Scalar.addi v60 c11_i32
  let c16_i32_58 : BitVec 32 := 16#32
  let v62 : BitVec 32 := Scalar.remsi v61 c16_i32_58
  let c1_i32_60 : BitVec 32 := 1#32
  let v63 : BitVec 32 := Scalar.muli v62 c1_i32_60
  let v64 : BitVec 32 := Scalar.addi c0_i32_61 v63
  v64.toNat
def k0_dev13 (d0 : Dev nD) : Nat :=
  let c0_i32_66 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_62 : BitVec 32 := 1#32
  let v65 : BitVec 32 := Scalar.addi v2 c1_i32_62
  let c12_i32 : BitVec 32 := 12#32
  let v66 : BitVec 32 := Scalar.addi v65 c12_i32
  let c16_i32_63 : BitVec 32 := 16#32
  let v67 : BitVec 32 := Scalar.remsi v66 c16_i32_63
  let c1_i32_65 : BitVec 32 := 1#32
  let v68 : BitVec 32 := Scalar.muli v67 c1_i32_65
  let v69 : BitVec 32 := Scalar.addi c0_i32_66 v68
  v69.toNat
def k0_dev14 (d0 : Dev nD) : Nat :=
  let c0_i32_71 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_67 : BitVec 32 := 1#32
  let v70 : BitVec 32 := Scalar.addi v2 c1_i32_67
  let c13_i32 : BitVec 32 := 13#32
  let v71 : BitVec 32 := Scalar.addi v70 c13_i32
  let c16_i32_68 : BitVec 32 := 16#32
  let v72 : BitVec 32 := Scalar.remsi v71 c16_i32_68
  let c1_i32_70 : BitVec 32 := 1#32
  let v73 : BitVec 32 := Scalar.muli v72 c1_i32_70
  let v74 : BitVec 32 := Scalar.addi c0_i32_71 v73
  v74.toNat
def k0_dev15 (d0 : Dev nD) : Nat :=
  let c0_i32_76 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_72 : BitVec 32 := 1#32
  let v75 : BitVec 32 := Scalar.addi v2 c1_i32_72
  let c14_i32 : BitVec 32 := 14#32
  let v76 : BitVec 32 := Scalar.addi v75 c14_i32
  let c16_i32_73 : BitVec 32 := 16#32
  let v77 : BitVec 32 := Scalar.remsi v76 c16_i32_73
  let c1_i32_75 : BitVec 32 := 1#32
  let v78 : BitVec 32 := Scalar.muli v77 c1_i32_75
  let v79 : BitVec 32 := Scalar.addi c0_i32_76 v78
  v79.toNat
def k0_off1 (d0 : Dev nD) (c0_i32_88 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_87 : BitVec 32 := 1#32
  let v91 : BitVec 32 := Scalar.addi v3 c1_i32_87
  let v92 : BitVec 32 := Scalar.addi v91 c0_i32_88
  let c4_i32_89 : BitVec 32 := 4#32
  let v93 : BitVec 32 := Scalar.remsi v92 c4_i32_89
  let c256_i32 : BitVec 32 := 256#32
  let v94 : BitVec 32 := Scalar.muli v93 c256_i32
  let v95 : Index := Scalar.indexCast v94
  let c0_90 : Index := 0#32
  ![v95.toNat, 0]
def k0_off2 (d0 : Dev nD) (c0_i32_88 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_87 : BitVec 32 := 1#32
  let v91 : BitVec 32 := Scalar.addi v3 c1_i32_87
  let v92 : BitVec 32 := Scalar.addi v91 c0_i32_88
  let c4_i32_89 : BitVec 32 := 4#32
  let v93 : BitVec 32 := Scalar.remsi v92 c4_i32_89
  let c256_i32 : BitVec 32 := 256#32
  let v94 : BitVec 32 := Scalar.muli v93 c256_i32
  let v108 : Index := Scalar.indexCast v94
  let c0_93 : Index := 0#32
  ![v108.toNat, 0]
def k0_off3 (d0 : Dev nD) (c0_i32_88 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_87 : BitVec 32 := 1#32
  let v91 : BitVec 32 := Scalar.addi v3 c1_i32_87
  let v92 : BitVec 32 := Scalar.addi v91 c0_i32_88
  let c4_i32_89 : BitVec 32 := 4#32
  let v93 : BitVec 32 := Scalar.remsi v92 c4_i32_89
  let c256_i32 : BitVec 32 := 256#32
  let v94 : BitVec 32 := Scalar.muli v93 c256_i32
  let v111 : Index := Scalar.indexCast v94
  let c1_94 : Index := 1#32
  ![v111.toNat, 1]
def k0_off4 (d0 : Dev nD) (c0_i32_88 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_87 : BitVec 32 := 1#32
  let v91 : BitVec 32 := Scalar.addi v3 c1_i32_87
  let v92 : BitVec 32 := Scalar.addi v91 c0_i32_88
  let c4_i32_89 : BitVec 32 := 4#32
  let v93 : BitVec 32 := Scalar.remsi v92 c4_i32_89
  let c4_i32_120 : BitVec 32 := 4#32
  let v202 : BitVec 32 := Scalar.muli v93 c4_i32_120
  let v204 : Index := Scalar.indexCast v202
  let c0_121 : Index := 0#32
  let c0_122 : Index := 0#32
  ![v204.toNat, 0, 0]
def k0_off5 (d0 : Dev nD) (c0_i32_88 : BitVec 32) : Fin 4 → Nat :=
  let c0_123 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_87 : BitVec 32 := 1#32
  let v91 : BitVec 32 := Scalar.addi v3 c1_i32_87
  let v92 : BitVec 32 := Scalar.addi v91 c0_i32_88
  let c4_i32_89 : BitVec 32 := 4#32
  let v93 : BitVec 32 := Scalar.remsi v92 c4_i32_89
  let c4_i32_120 : BitVec 32 := 4#32
  let v202 : BitVec 32 := Scalar.muli v93 c4_i32_120
  let v211 : Index := Scalar.indexCast v202
  let c0_124 : Index := 0#32
  let c0_125 : Index := 0#32
  ![0, v211.toNat, 0, 0]
def k0_off6 (d0 : Dev nD) (c0_i32_88 : BitVec 32) : Fin 4 → Nat :=
  let c1_126 : Index := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_87 : BitVec 32 := 1#32
  let v91 : BitVec 32 := Scalar.addi v3 c1_i32_87
  let v92 : BitVec 32 := Scalar.addi v91 c0_i32_88
  let c4_i32_89 : BitVec 32 := 4#32
  let v93 : BitVec 32 := Scalar.remsi v92 c4_i32_89
  let c4_i32_120 : BitVec 32 := 4#32
  let v202 : BitVec 32 := Scalar.muli v93 c4_i32_120
  let v217 : Index := Scalar.indexCast v202
  let c0_127 : Index := 0#32
  let c0_128 : Index := 0#32
  ![1, v217.toNat, 0, 0]
def k0_off7 (d0 : Dev nD) (c0_i32_88 : BitVec 32) (c0_i32_129 : BitVec 32) : Fin 2 → Nat :=
  let c0_i32_138 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_87 : BitVec 32 := 1#32
  let v91 : BitVec 32 := Scalar.addi v3 c1_i32_87
  let v92 : BitVec 32 := Scalar.addi v91 c0_i32_88
  let c4_i32_89 : BitVec 32 := 4#32
  let v93 : BitVec 32 := Scalar.remsi v92 c4_i32_89
  let c4_i32_120 : BitVec 32 := 4#32
  let v202 : BitVec 32 := Scalar.muli v93 c4_i32_120
  let v221 : BitVec 32 := Scalar.addi v202 c0_i32_129
  let v226 : BitVec 32 := Scalar.subi v2 v221
  let c1_i32_133 : BitVec 32 := 1#32
  let v227 : BitVec 32 := Scalar.subi v226 c1_i32_133
  let c16_i32_134 : BitVec 32 := 16#32
  let v228 : BitVec 32 := Scalar.addi v227 c16_i32_134
  let c16_i32_135 : BitVec 32 := 16#32
  let v229 : BitVec 32 := Scalar.remsi v228 c16_i32_135
  ![0, v229.toNat]
def k0_off8 (d0 : Dev nD) (c0_i32_88 : BitVec 32) (c0_i32_129 : BitVec 32) : Fin 4 → Nat :=
  let c0_i32_137 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_87 : BitVec 32 := 1#32
  let v91 : BitVec 32 := Scalar.addi v3 c1_i32_87
  let v92 : BitVec 32 := Scalar.addi v91 c0_i32_88
  let c4_i32_89 : BitVec 32 := 4#32
  let v93 : BitVec 32 := Scalar.remsi v92 c4_i32_89
  let c4_i32_120 : BitVec 32 := 4#32
  let v202 : BitVec 32 := Scalar.muli v93 c4_i32_120
  let v221 : BitVec 32 := Scalar.addi v202 c0_i32_129
  let v222 : BitVec 32 := Scalar.subi v2 v221
  let c1_i32_130 : BitVec 32 := 1#32
  let v223 : BitVec 32 := Scalar.subi v222 c1_i32_130
  let c16_i32_131 : BitVec 32 := 16#32
  let v224 : BitVec 32 := Scalar.addi v223 c16_i32_131
  let c16_i32_132 : BitVec 32 := 16#32
  let v225 : BitVec 32 := Scalar.remsi v224 c16_i32_132
  let c0_i32_143 : BitVec 32 := 0#32
  let c0_i32_144 : BitVec 32 := 0#32
  ![0, v225.toNat, 0, 0]
def k0_off9 (d0 : Dev nD) (c0_i32_88 : BitVec 32) (c0_i32_129 : BitVec 32) : Fin 4 → Nat :=
  let c0_i32_136 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_87 : BitVec 32 := 1#32
  let v91 : BitVec 32 := Scalar.addi v3 c1_i32_87
  let v92 : BitVec 32 := Scalar.addi v91 c0_i32_88
  let c4_i32_89 : BitVec 32 := 4#32
  let v93 : BitVec 32 := Scalar.remsi v92 c4_i32_89
  let c4_i32_120 : BitVec 32 := 4#32
  let v202 : BitVec 32 := Scalar.muli v93 c4_i32_120
  let v221 : BitVec 32 := Scalar.addi v202 c0_i32_129
  let c0_i32_145 : BitVec 32 := 0#32
  let c0_i32_146 : BitVec 32 := 0#32
  ![0, v221.toNat, 0, 0]
def k0_dev16 (d0 : Dev nD) : Nat :=
  let c0_i32_142 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_87 : BitVec 32 := 1#32
  let v91 : BitVec 32 := Scalar.addi v3 c1_i32_87
  let c0_i32_88 : BitVec 32 := 0#32
  let v92 : BitVec 32 := Scalar.addi v91 c0_i32_88
  let c4_i32_89 : BitVec 32 := 4#32
  let v93 : BitVec 32 := Scalar.remsi v92 c4_i32_89
  let c4_i32_120 : BitVec 32 := 4#32
  let v202 : BitVec 32 := Scalar.muli v93 c4_i32_120
  let c0_i32_129 : BitVec 32 := 0#32
  let v221 : BitVec 32 := Scalar.addi v202 c0_i32_129
  let c1_i32_141 : BitVec 32 := 1#32
  let v230 : BitVec 32 := Scalar.muli v221 c1_i32_141
  let v231 : BitVec 32 := Scalar.addi c0_i32_142 v230
  v231.toNat
def k0_dev17 (d0 : Dev nD) : Nat :=
  let c0_i32_160 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_87 : BitVec 32 := 1#32
  let v91 : BitVec 32 := Scalar.addi v3 c1_i32_87
  let c0_i32_88 : BitVec 32 := 0#32
  let v92 : BitVec 32 := Scalar.addi v91 c0_i32_88
  let c4_i32_89 : BitVec 32 := 4#32
  let v93 : BitVec 32 := Scalar.remsi v92 c4_i32_89
  let c4_i32_120 : BitVec 32 := 4#32
  let v202 : BitVec 32 := Scalar.muli v93 c4_i32_120
  let c1_i32_147 : BitVec 32 := 1#32
  let v240 : BitVec 32 := Scalar.addi v202 c1_i32_147
  let c1_i32_159 : BitVec 32 := 1#32
  let v249 : BitVec 32 := Scalar.muli v240 c1_i32_159
  let v250 : BitVec 32 := Scalar.addi c0_i32_160 v249
  v250.toNat
def k0_dev18 (d0 : Dev nD) : Nat :=
  let c0_i32_178 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_87 : BitVec 32 := 1#32
  let v91 : BitVec 32 := Scalar.addi v3 c1_i32_87
  let c0_i32_88 : BitVec 32 := 0#32
  let v92 : BitVec 32 := Scalar.addi v91 c0_i32_88
  let c4_i32_89 : BitVec 32 := 4#32
  let v93 : BitVec 32 := Scalar.remsi v92 c4_i32_89
  let c4_i32_120 : BitVec 32 := 4#32
  let v202 : BitVec 32 := Scalar.muli v93 c4_i32_120
  let c2_i32_165 : BitVec 32 := 2#32
  let v259 : BitVec 32 := Scalar.addi v202 c2_i32_165
  let c1_i32_177 : BitVec 32 := 1#32
  let v268 : BitVec 32 := Scalar.muli v259 c1_i32_177
  let v269 : BitVec 32 := Scalar.addi c0_i32_178 v268
  v269.toNat
def k0_dev19 (d0 : Dev nD) : Nat :=
  let c0_i32_196 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_87 : BitVec 32 := 1#32
  let v91 : BitVec 32 := Scalar.addi v3 c1_i32_87
  let c0_i32_88 : BitVec 32 := 0#32
  let v92 : BitVec 32 := Scalar.addi v91 c0_i32_88
  let c4_i32_89 : BitVec 32 := 4#32
  let v93 : BitVec 32 := Scalar.remsi v92 c4_i32_89
  let c4_i32_120 : BitVec 32 := 4#32
  let v202 : BitVec 32 := Scalar.muli v93 c4_i32_120
  let c3_i32_183 : BitVec 32 := 3#32
  let v278 : BitVec 32 := Scalar.addi v202 c3_i32_183
  let c1_i32_195 : BitVec 32 := 1#32
  let v287 : BitVec 32 := Scalar.muli v278 c1_i32_195
  let v288 : BitVec 32 := Scalar.addi c0_i32_196 v287
  v288.toNat
def k0_dev20 (d0 : Dev nD) : Nat :=
  let c0_i32_258 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_201 : BitVec 32 := 1#32
  let v297 : BitVec 32 := Scalar.addi v3 c1_i32_201
  let c1_i32_202 : BitVec 32 := 1#32
  let v298 : BitVec 32 := Scalar.addi v297 c1_i32_202
  let c4_i32_203 : BitVec 32 := 4#32
  let v299 : BitVec 32 := Scalar.remsi v298 c4_i32_203
  let c4_i32_236 : BitVec 32 := 4#32
  let v408 : BitVec 32 := Scalar.muli v299 c4_i32_236
  let c0_i32_245 : BitVec 32 := 0#32
  let v427 : BitVec 32 := Scalar.addi v408 c0_i32_245
  let c1_i32_257 : BitVec 32 := 1#32
  let v436 : BitVec 32 := Scalar.muli v427 c1_i32_257
  let v437 : BitVec 32 := Scalar.addi c0_i32_258 v436
  v437.toNat
def k0_dev21 (d0 : Dev nD) : Nat :=
  let c0_i32_276 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_201 : BitVec 32 := 1#32
  let v297 : BitVec 32 := Scalar.addi v3 c1_i32_201
  let c1_i32_202 : BitVec 32 := 1#32
  let v298 : BitVec 32 := Scalar.addi v297 c1_i32_202
  let c4_i32_203 : BitVec 32 := 4#32
  let v299 : BitVec 32 := Scalar.remsi v298 c4_i32_203
  let c4_i32_236 : BitVec 32 := 4#32
  let v408 : BitVec 32 := Scalar.muli v299 c4_i32_236
  let c1_i32_263 : BitVec 32 := 1#32
  let v446 : BitVec 32 := Scalar.addi v408 c1_i32_263
  let c1_i32_275 : BitVec 32 := 1#32
  let v455 : BitVec 32 := Scalar.muli v446 c1_i32_275
  let v456 : BitVec 32 := Scalar.addi c0_i32_276 v455
  v456.toNat
def k0_dev22 (d0 : Dev nD) : Nat :=
  let c0_i32_294 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_201 : BitVec 32 := 1#32
  let v297 : BitVec 32 := Scalar.addi v3 c1_i32_201
  let c1_i32_202 : BitVec 32 := 1#32
  let v298 : BitVec 32 := Scalar.addi v297 c1_i32_202
  let c4_i32_203 : BitVec 32 := 4#32
  let v299 : BitVec 32 := Scalar.remsi v298 c4_i32_203
  let c4_i32_236 : BitVec 32 := 4#32
  let v408 : BitVec 32 := Scalar.muli v299 c4_i32_236
  let c2_i32_281 : BitVec 32 := 2#32
  let v465 : BitVec 32 := Scalar.addi v408 c2_i32_281
  let c1_i32_293 : BitVec 32 := 1#32
  let v474 : BitVec 32 := Scalar.muli v465 c1_i32_293
  let v475 : BitVec 32 := Scalar.addi c0_i32_294 v474
  v475.toNat
def k0_dev23 (d0 : Dev nD) : Nat :=
  let c0_i32_312 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_201 : BitVec 32 := 1#32
  let v297 : BitVec 32 := Scalar.addi v3 c1_i32_201
  let c1_i32_202 : BitVec 32 := 1#32
  let v298 : BitVec 32 := Scalar.addi v297 c1_i32_202
  let c4_i32_203 : BitVec 32 := 4#32
  let v299 : BitVec 32 := Scalar.remsi v298 c4_i32_203
  let c4_i32_236 : BitVec 32 := 4#32
  let v408 : BitVec 32 := Scalar.muli v299 c4_i32_236
  let c3_i32_299 : BitVec 32 := 3#32
  let v484 : BitVec 32 := Scalar.addi v408 c3_i32_299
  let c1_i32_311 : BitVec 32 := 1#32
  let v493 : BitVec 32 := Scalar.muli v484 c1_i32_311
  let v494 : BitVec 32 := Scalar.addi c0_i32_312 v493
  v494.toNat
def k0_dev24 (d0 : Dev nD) : Nat :=
  let c0_i32_374 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_317 : BitVec 32 := 1#32
  let v503 : BitVec 32 := Scalar.addi v3 c1_i32_317
  let c2_i32_318 : BitVec 32 := 2#32
  let v504 : BitVec 32 := Scalar.addi v503 c2_i32_318
  let c4_i32_319 : BitVec 32 := 4#32
  let v505 : BitVec 32 := Scalar.remsi v504 c4_i32_319
  let c4_i32_352 : BitVec 32 := 4#32
  let v614 : BitVec 32 := Scalar.muli v505 c4_i32_352
  let c0_i32_361 : BitVec 32 := 0#32
  let v633 : BitVec 32 := Scalar.addi v614 c0_i32_361
  let c1_i32_373 : BitVec 32 := 1#32
  let v642 : BitVec 32 := Scalar.muli v633 c1_i32_373
  let v643 : BitVec 32 := Scalar.addi c0_i32_374 v642
  v643.toNat
def k0_dev25 (d0 : Dev nD) : Nat :=
  let c0_i32_392 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_317 : BitVec 32 := 1#32
  let v503 : BitVec 32 := Scalar.addi v3 c1_i32_317
  let c2_i32_318 : BitVec 32 := 2#32
  let v504 : BitVec 32 := Scalar.addi v503 c2_i32_318
  let c4_i32_319 : BitVec 32 := 4#32
  let v505 : BitVec 32 := Scalar.remsi v504 c4_i32_319
  let c4_i32_352 : BitVec 32 := 4#32
  let v614 : BitVec 32 := Scalar.muli v505 c4_i32_352
  let c1_i32_379 : BitVec 32 := 1#32
  let v652 : BitVec 32 := Scalar.addi v614 c1_i32_379
  let c1_i32_391 : BitVec 32 := 1#32
  let v661 : BitVec 32 := Scalar.muli v652 c1_i32_391
  let v662 : BitVec 32 := Scalar.addi c0_i32_392 v661
  v662.toNat
def k0_dev26 (d0 : Dev nD) : Nat :=
  let c0_i32_410 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_317 : BitVec 32 := 1#32
  let v503 : BitVec 32 := Scalar.addi v3 c1_i32_317
  let c2_i32_318 : BitVec 32 := 2#32
  let v504 : BitVec 32 := Scalar.addi v503 c2_i32_318
  let c4_i32_319 : BitVec 32 := 4#32
  let v505 : BitVec 32 := Scalar.remsi v504 c4_i32_319
  let c4_i32_352 : BitVec 32 := 4#32
  let v614 : BitVec 32 := Scalar.muli v505 c4_i32_352
  let c2_i32_397 : BitVec 32 := 2#32
  let v671 : BitVec 32 := Scalar.addi v614 c2_i32_397
  let c1_i32_409 : BitVec 32 := 1#32
  let v680 : BitVec 32 := Scalar.muli v671 c1_i32_409
  let v681 : BitVec 32 := Scalar.addi c0_i32_410 v680
  v681.toNat
def k0_dev27 (d0 : Dev nD) : Nat :=
  let c0_i32_428 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_317 : BitVec 32 := 1#32
  let v503 : BitVec 32 := Scalar.addi v3 c1_i32_317
  let c2_i32_318 : BitVec 32 := 2#32
  let v504 : BitVec 32 := Scalar.addi v503 c2_i32_318
  let c4_i32_319 : BitVec 32 := 4#32
  let v505 : BitVec 32 := Scalar.remsi v504 c4_i32_319
  let c4_i32_352 : BitVec 32 := 4#32
  let v614 : BitVec 32 := Scalar.muli v505 c4_i32_352
  let c3_i32_415 : BitVec 32 := 3#32
  let v690 : BitVec 32 := Scalar.addi v614 c3_i32_415
  let c1_i32_427 : BitVec 32 := 1#32
  let v699 : BitVec 32 := Scalar.muli v690 c1_i32_427
  let v700 : BitVec 32 := Scalar.addi c0_i32_428 v699
  v700.toNat
def k0_cond1 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_433 : BitVec 32 := 1#32
  let v709 : BitVec 32 := Scalar.addi v3 c1_i32_433
  let c3_i32_434 : BitVec 32 := 3#32
  let v710 : BitVec 32 := Scalar.addi v709 c3_i32_434
  let c4_i32_435 : BitVec 32 := 4#32
  let v711 : BitVec 32 := Scalar.remsi v710 c4_i32_435
  let c4_i32_468 : BitVec 32 := 4#32
  let v820 : BitVec 32 := Scalar.muli v711 c4_i32_468
  let c0_i32_477 : BitVec 32 := 0#32
  let v839 : BitVec 32 := Scalar.addi v820 c0_i32_477
  let v848 : BitVec 1 := Scalar.cmpi .ne v839 v2
  let v849 : BitVec 32 := Scalar.extui v848
  let c0_i32_489 : BitVec 32 := 0#32
  let v850 : BitVec 1 := Scalar.cmpi .ne v849 c0_i32_489
  v850

def k0_off10 (d0 : Dev nD) : Fin 2 → Nat :=
  let c0_i32_486 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_433 : BitVec 32 := 1#32
  let v709 : BitVec 32 := Scalar.addi v3 c1_i32_433
  let c3_i32_434 : BitVec 32 := 3#32
  let v710 : BitVec 32 := Scalar.addi v709 c3_i32_434
  let c4_i32_435 : BitVec 32 := 4#32
  let v711 : BitVec 32 := Scalar.remsi v710 c4_i32_435
  let c4_i32_468 : BitVec 32 := 4#32
  let v820 : BitVec 32 := Scalar.muli v711 c4_i32_468
  let c0_i32_477 : BitVec 32 := 0#32
  let v839 : BitVec 32 := Scalar.addi v820 c0_i32_477
  let v844 : BitVec 32 := Scalar.subi v2 v839
  let c1_i32_481 : BitVec 32 := 1#32
  let v845 : BitVec 32 := Scalar.subi v844 c1_i32_481
  let c16_i32_482 : BitVec 32 := 16#32
  let v846 : BitVec 32 := Scalar.addi v845 c16_i32_482
  let c16_i32_483 : BitVec 32 := 16#32
  let v847 : BitVec 32 := Scalar.remsi v846 c16_i32_483
  ![0, v847.toNat]
def k0_off11 (d0 : Dev nD) : Fin 4 → Nat :=
  let c0_i32_485 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_433 : BitVec 32 := 1#32
  let v709 : BitVec 32 := Scalar.addi v3 c1_i32_433
  let c3_i32_434 : BitVec 32 := 3#32
  let v710 : BitVec 32 := Scalar.addi v709 c3_i32_434
  let c4_i32_435 : BitVec 32 := 4#32
  let v711 : BitVec 32 := Scalar.remsi v710 c4_i32_435
  let c4_i32_468 : BitVec 32 := 4#32
  let v820 : BitVec 32 := Scalar.muli v711 c4_i32_468
  let c0_i32_477 : BitVec 32 := 0#32
  let v839 : BitVec 32 := Scalar.addi v820 c0_i32_477
  let v840 : BitVec 32 := Scalar.subi v2 v839
  let c1_i32_478 : BitVec 32 := 1#32
  let v841 : BitVec 32 := Scalar.subi v840 c1_i32_478
  let c16_i32_479 : BitVec 32 := 16#32
  let v842 : BitVec 32 := Scalar.addi v841 c16_i32_479
  let c16_i32_480 : BitVec 32 := 16#32
  let v843 : BitVec 32 := Scalar.remsi v842 c16_i32_480
  let c0_i32_2490 : BitVec 32 := 0#32
  let c0_i32_2491 : BitVec 32 := 0#32
  ![0, v843.toNat, 0, 0]
def k0_off12 (d0 : Dev nD) : Fin 4 → Nat :=
  let c0_i32_484 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_433 : BitVec 32 := 1#32
  let v709 : BitVec 32 := Scalar.addi v3 c1_i32_433
  let c3_i32_434 : BitVec 32 := 3#32
  let v710 : BitVec 32 := Scalar.addi v709 c3_i32_434
  let c4_i32_435 : BitVec 32 := 4#32
  let v711 : BitVec 32 := Scalar.remsi v710 c4_i32_435
  let c4_i32_468 : BitVec 32 := 4#32
  let v820 : BitVec 32 := Scalar.muli v711 c4_i32_468
  let c0_i32_477 : BitVec 32 := 0#32
  let v839 : BitVec 32 := Scalar.addi v820 c0_i32_477
  let c0_i32_2492 : BitVec 32 := 0#32
  let c0_i32_2493 : BitVec 32 := 0#32
  ![0, v839.toNat, 0, 0]
def k0_dev28 (d0 : Dev nD) : Nat :=
  let c0_i32_2489 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_433 : BitVec 32 := 1#32
  let v709 : BitVec 32 := Scalar.addi v3 c1_i32_433
  let c3_i32_434 : BitVec 32 := 3#32
  let v710 : BitVec 32 := Scalar.addi v709 c3_i32_434
  let c4_i32_435 : BitVec 32 := 4#32
  let v711 : BitVec 32 := Scalar.remsi v710 c4_i32_435
  let c4_i32_468 : BitVec 32 := 4#32
  let v820 : BitVec 32 := Scalar.muli v711 c4_i32_468
  let c0_i32_477 : BitVec 32 := 0#32
  let v839 : BitVec 32 := Scalar.addi v820 c0_i32_477
  let c1_i32_2488 : BitVec 32 := 1#32
  let v2417 : BitVec 32 := Scalar.muli v839 c1_i32_2488
  let v2418 : BitVec 32 := Scalar.addi c0_i32_2489 v2417
  v2418.toNat
def k0_cond2 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_433 : BitVec 32 := 1#32
  let v709 : BitVec 32 := Scalar.addi v3 c1_i32_433
  let c3_i32_434 : BitVec 32 := 3#32
  let v710 : BitVec 32 := Scalar.addi v709 c3_i32_434
  let c4_i32_435 : BitVec 32 := 4#32
  let v711 : BitVec 32 := Scalar.remsi v710 c4_i32_435
  let c4_i32_468 : BitVec 32 := 4#32
  let v820 : BitVec 32 := Scalar.muli v711 c4_i32_468
  let c1_i32_490 : BitVec 32 := 1#32
  let v851 : BitVec 32 := Scalar.addi v820 c1_i32_490
  let v860 : BitVec 1 := Scalar.cmpi .ne v851 v2
  let v861 : BitVec 32 := Scalar.extui v860
  let c0_i32_502 : BitVec 32 := 0#32
  let v862 : BitVec 1 := Scalar.cmpi .ne v861 c0_i32_502
  v862

def k0_off13 (d0 : Dev nD) : Fin 2 → Nat :=
  let c0_i32_499 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_433 : BitVec 32 := 1#32
  let v709 : BitVec 32 := Scalar.addi v3 c1_i32_433
  let c3_i32_434 : BitVec 32 := 3#32
  let v710 : BitVec 32 := Scalar.addi v709 c3_i32_434
  let c4_i32_435 : BitVec 32 := 4#32
  let v711 : BitVec 32 := Scalar.remsi v710 c4_i32_435
  let c4_i32_468 : BitVec 32 := 4#32
  let v820 : BitVec 32 := Scalar.muli v711 c4_i32_468
  let c1_i32_490 : BitVec 32 := 1#32
  let v851 : BitVec 32 := Scalar.addi v820 c1_i32_490
  let v856 : BitVec 32 := Scalar.subi v2 v851
  let c1_i32_494 : BitVec 32 := 1#32
  let v857 : BitVec 32 := Scalar.subi v856 c1_i32_494
  let c16_i32_495 : BitVec 32 := 16#32
  let v858 : BitVec 32 := Scalar.addi v857 c16_i32_495
  let c16_i32_496 : BitVec 32 := 16#32
  let v859 : BitVec 32 := Scalar.remsi v858 c16_i32_496
  ![0, v859.toNat]
def k0_off14 (d0 : Dev nD) : Fin 4 → Nat :=
  let c0_i32_498 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_433 : BitVec 32 := 1#32
  let v709 : BitVec 32 := Scalar.addi v3 c1_i32_433
  let c3_i32_434 : BitVec 32 := 3#32
  let v710 : BitVec 32 := Scalar.addi v709 c3_i32_434
  let c4_i32_435 : BitVec 32 := 4#32
  let v711 : BitVec 32 := Scalar.remsi v710 c4_i32_435
  let c4_i32_468 : BitVec 32 := 4#32
  let v820 : BitVec 32 := Scalar.muli v711 c4_i32_468
  let c1_i32_490 : BitVec 32 := 1#32
  let v851 : BitVec 32 := Scalar.addi v820 c1_i32_490
  let v852 : BitVec 32 := Scalar.subi v2 v851
  let c1_i32_491 : BitVec 32 := 1#32
  let v853 : BitVec 32 := Scalar.subi v852 c1_i32_491
  let c16_i32_492 : BitVec 32 := 16#32
  let v854 : BitVec 32 := Scalar.addi v853 c16_i32_492
  let c16_i32_493 : BitVec 32 := 16#32
  let v855 : BitVec 32 := Scalar.remsi v854 c16_i32_493
  let c0_i32_2490 : BitVec 32 := 0#32
  let c0_i32_2491 : BitVec 32 := 0#32
  ![0, v855.toNat, 0, 0]
def k0_off15 (d0 : Dev nD) : Fin 4 → Nat :=
  let c0_i32_497 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_433 : BitVec 32 := 1#32
  let v709 : BitVec 32 := Scalar.addi v3 c1_i32_433
  let c3_i32_434 : BitVec 32 := 3#32
  let v710 : BitVec 32 := Scalar.addi v709 c3_i32_434
  let c4_i32_435 : BitVec 32 := 4#32
  let v711 : BitVec 32 := Scalar.remsi v710 c4_i32_435
  let c4_i32_468 : BitVec 32 := 4#32
  let v820 : BitVec 32 := Scalar.muli v711 c4_i32_468
  let c1_i32_490 : BitVec 32 := 1#32
  let v851 : BitVec 32 := Scalar.addi v820 c1_i32_490
  let c0_i32_2492 : BitVec 32 := 0#32
  let c0_i32_2493 : BitVec 32 := 0#32
  ![0, v851.toNat, 0, 0]
def k0_dev29 (d0 : Dev nD) : Nat :=
  let c0_i32_2489 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_433 : BitVec 32 := 1#32
  let v709 : BitVec 32 := Scalar.addi v3 c1_i32_433
  let c3_i32_434 : BitVec 32 := 3#32
  let v710 : BitVec 32 := Scalar.addi v709 c3_i32_434
  let c4_i32_435 : BitVec 32 := 4#32
  let v711 : BitVec 32 := Scalar.remsi v710 c4_i32_435
  let c4_i32_468 : BitVec 32 := 4#32
  let v820 : BitVec 32 := Scalar.muli v711 c4_i32_468
  let c1_i32_490 : BitVec 32 := 1#32
  let v851 : BitVec 32 := Scalar.addi v820 c1_i32_490
  let c1_i32_2488 : BitVec 32 := 1#32
  let v2417 : BitVec 32 := Scalar.muli v851 c1_i32_2488
  let v2418 : BitVec 32 := Scalar.addi c0_i32_2489 v2417
  v2418.toNat
def k0_cond3 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_433 : BitVec 32 := 1#32
  let v709 : BitVec 32 := Scalar.addi v3 c1_i32_433
  let c3_i32_434 : BitVec 32 := 3#32
  let v710 : BitVec 32 := Scalar.addi v709 c3_i32_434
  let c4_i32_435 : BitVec 32 := 4#32
  let v711 : BitVec 32 := Scalar.remsi v710 c4_i32_435
  let c4_i32_468 : BitVec 32 := 4#32
  let v820 : BitVec 32 := Scalar.muli v711 c4_i32_468
  let c2_i32_503 : BitVec 32 := 2#32
  let v863 : BitVec 32 := Scalar.addi v820 c2_i32_503
  let v872 : BitVec 1 := Scalar.cmpi .ne v863 v2
  let v873 : BitVec 32 := Scalar.extui v872
  let c0_i32_515 : BitVec 32 := 0#32
  let v874 : BitVec 1 := Scalar.cmpi .ne v873 c0_i32_515
  v874

def k0_off16 (d0 : Dev nD) : Fin 2 → Nat :=
  let c0_i32_512 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_433 : BitVec 32 := 1#32
  let v709 : BitVec 32 := Scalar.addi v3 c1_i32_433
  let c3_i32_434 : BitVec 32 := 3#32
  let v710 : BitVec 32 := Scalar.addi v709 c3_i32_434
  let c4_i32_435 : BitVec 32 := 4#32
  let v711 : BitVec 32 := Scalar.remsi v710 c4_i32_435
  let c4_i32_468 : BitVec 32 := 4#32
  let v820 : BitVec 32 := Scalar.muli v711 c4_i32_468
  let c2_i32_503 : BitVec 32 := 2#32
  let v863 : BitVec 32 := Scalar.addi v820 c2_i32_503
  let v868 : BitVec 32 := Scalar.subi v2 v863
  let c1_i32_507 : BitVec 32 := 1#32
  let v869 : BitVec 32 := Scalar.subi v868 c1_i32_507
  let c16_i32_508 : BitVec 32 := 16#32
  let v870 : BitVec 32 := Scalar.addi v869 c16_i32_508
  let c16_i32_509 : BitVec 32 := 16#32
  let v871 : BitVec 32 := Scalar.remsi v870 c16_i32_509
  ![0, v871.toNat]
def k0_off17 (d0 : Dev nD) : Fin 4 → Nat :=
  let c0_i32_511 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_433 : BitVec 32 := 1#32
  let v709 : BitVec 32 := Scalar.addi v3 c1_i32_433
  let c3_i32_434 : BitVec 32 := 3#32
  let v710 : BitVec 32 := Scalar.addi v709 c3_i32_434
  let c4_i32_435 : BitVec 32 := 4#32
  let v711 : BitVec 32 := Scalar.remsi v710 c4_i32_435
  let c4_i32_468 : BitVec 32 := 4#32
  let v820 : BitVec 32 := Scalar.muli v711 c4_i32_468
  let c2_i32_503 : BitVec 32 := 2#32
  let v863 : BitVec 32 := Scalar.addi v820 c2_i32_503
  let v864 : BitVec 32 := Scalar.subi v2 v863
  let c1_i32_504 : BitVec 32 := 1#32
  let v865 : BitVec 32 := Scalar.subi v864 c1_i32_504
  let c16_i32_505 : BitVec 32 := 16#32
  let v866 : BitVec 32 := Scalar.addi v865 c16_i32_505
  let c16_i32_506 : BitVec 32 := 16#32
  let v867 : BitVec 32 := Scalar.remsi v866 c16_i32_506
  let c0_i32_2490 : BitVec 32 := 0#32
  let c0_i32_2491 : BitVec 32 := 0#32
  ![0, v867.toNat, 0, 0]
def k0_off18 (d0 : Dev nD) : Fin 4 → Nat :=
  let c0_i32_510 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_433 : BitVec 32 := 1#32
  let v709 : BitVec 32 := Scalar.addi v3 c1_i32_433
  let c3_i32_434 : BitVec 32 := 3#32
  let v710 : BitVec 32 := Scalar.addi v709 c3_i32_434
  let c4_i32_435 : BitVec 32 := 4#32
  let v711 : BitVec 32 := Scalar.remsi v710 c4_i32_435
  let c4_i32_468 : BitVec 32 := 4#32
  let v820 : BitVec 32 := Scalar.muli v711 c4_i32_468
  let c2_i32_503 : BitVec 32 := 2#32
  let v863 : BitVec 32 := Scalar.addi v820 c2_i32_503
  let c0_i32_2492 : BitVec 32 := 0#32
  let c0_i32_2493 : BitVec 32 := 0#32
  ![0, v863.toNat, 0, 0]
def k0_dev30 (d0 : Dev nD) : Nat :=
  let c0_i32_2489 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_433 : BitVec 32 := 1#32
  let v709 : BitVec 32 := Scalar.addi v3 c1_i32_433
  let c3_i32_434 : BitVec 32 := 3#32
  let v710 : BitVec 32 := Scalar.addi v709 c3_i32_434
  let c4_i32_435 : BitVec 32 := 4#32
  let v711 : BitVec 32 := Scalar.remsi v710 c4_i32_435
  let c4_i32_468 : BitVec 32 := 4#32
  let v820 : BitVec 32 := Scalar.muli v711 c4_i32_468
  let c2_i32_503 : BitVec 32 := 2#32
  let v863 : BitVec 32 := Scalar.addi v820 c2_i32_503
  let c1_i32_2488 : BitVec 32 := 1#32
  let v2417 : BitVec 32 := Scalar.muli v863 c1_i32_2488
  let v2418 : BitVec 32 := Scalar.addi c0_i32_2489 v2417
  v2418.toNat
def k0_cond4 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_433 : BitVec 32 := 1#32
  let v709 : BitVec 32 := Scalar.addi v3 c1_i32_433
  let c3_i32_434 : BitVec 32 := 3#32
  let v710 : BitVec 32 := Scalar.addi v709 c3_i32_434
  let c4_i32_435 : BitVec 32 := 4#32
  let v711 : BitVec 32 := Scalar.remsi v710 c4_i32_435
  let c4_i32_468 : BitVec 32 := 4#32
  let v820 : BitVec 32 := Scalar.muli v711 c4_i32_468
  let c3_i32_516 : BitVec 32 := 3#32
  let v875 : BitVec 32 := Scalar.addi v820 c3_i32_516
  let v884 : BitVec 1 := Scalar.cmpi .ne v875 v2
  let v885 : BitVec 32 := Scalar.extui v884
  let c0_i32_528 : BitVec 32 := 0#32
  let v886 : BitVec 1 := Scalar.cmpi .ne v885 c0_i32_528
  v886

def k0_off19 (d0 : Dev nD) : Fin 2 → Nat :=
  let c0_i32_525 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_433 : BitVec 32 := 1#32
  let v709 : BitVec 32 := Scalar.addi v3 c1_i32_433
  let c3_i32_434 : BitVec 32 := 3#32
  let v710 : BitVec 32 := Scalar.addi v709 c3_i32_434
  let c4_i32_435 : BitVec 32 := 4#32
  let v711 : BitVec 32 := Scalar.remsi v710 c4_i32_435
  let c4_i32_468 : BitVec 32 := 4#32
  let v820 : BitVec 32 := Scalar.muli v711 c4_i32_468
  let c3_i32_516 : BitVec 32 := 3#32
  let v875 : BitVec 32 := Scalar.addi v820 c3_i32_516
  let v880 : BitVec 32 := Scalar.subi v2 v875
  let c1_i32_520 : BitVec 32 := 1#32
  let v881 : BitVec 32 := Scalar.subi v880 c1_i32_520
  let c16_i32_521 : BitVec 32 := 16#32
  let v882 : BitVec 32 := Scalar.addi v881 c16_i32_521
  let c16_i32_522 : BitVec 32 := 16#32
  let v883 : BitVec 32 := Scalar.remsi v882 c16_i32_522
  ![0, v883.toNat]
def k0_off20 (d0 : Dev nD) : Fin 4 → Nat :=
  let c0_i32_524 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_433 : BitVec 32 := 1#32
  let v709 : BitVec 32 := Scalar.addi v3 c1_i32_433
  let c3_i32_434 : BitVec 32 := 3#32
  let v710 : BitVec 32 := Scalar.addi v709 c3_i32_434
  let c4_i32_435 : BitVec 32 := 4#32
  let v711 : BitVec 32 := Scalar.remsi v710 c4_i32_435
  let c4_i32_468 : BitVec 32 := 4#32
  let v820 : BitVec 32 := Scalar.muli v711 c4_i32_468
  let c3_i32_516 : BitVec 32 := 3#32
  let v875 : BitVec 32 := Scalar.addi v820 c3_i32_516
  let v876 : BitVec 32 := Scalar.subi v2 v875
  let c1_i32_517 : BitVec 32 := 1#32
  let v877 : BitVec 32 := Scalar.subi v876 c1_i32_517
  let c16_i32_518 : BitVec 32 := 16#32
  let v878 : BitVec 32 := Scalar.addi v877 c16_i32_518
  let c16_i32_519 : BitVec 32 := 16#32
  let v879 : BitVec 32 := Scalar.remsi v878 c16_i32_519
  let c0_i32_2490 : BitVec 32 := 0#32
  let c0_i32_2491 : BitVec 32 := 0#32
  ![0, v879.toNat, 0, 0]
def k0_off21 (d0 : Dev nD) : Fin 4 → Nat :=
  let c0_i32_523 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_433 : BitVec 32 := 1#32
  let v709 : BitVec 32 := Scalar.addi v3 c1_i32_433
  let c3_i32_434 : BitVec 32 := 3#32
  let v710 : BitVec 32 := Scalar.addi v709 c3_i32_434
  let c4_i32_435 : BitVec 32 := 4#32
  let v711 : BitVec 32 := Scalar.remsi v710 c4_i32_435
  let c4_i32_468 : BitVec 32 := 4#32
  let v820 : BitVec 32 := Scalar.muli v711 c4_i32_468
  let c3_i32_516 : BitVec 32 := 3#32
  let v875 : BitVec 32 := Scalar.addi v820 c3_i32_516
  let c0_i32_2492 : BitVec 32 := 0#32
  let c0_i32_2493 : BitVec 32 := 0#32
  ![0, v875.toNat, 0, 0]
def k0_dev31 (d0 : Dev nD) : Nat :=
  let c0_i32_2489 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_433 : BitVec 32 := 1#32
  let v709 : BitVec 32 := Scalar.addi v3 c1_i32_433
  let c3_i32_434 : BitVec 32 := 3#32
  let v710 : BitVec 32 := Scalar.addi v709 c3_i32_434
  let c4_i32_435 : BitVec 32 := 4#32
  let v711 : BitVec 32 := Scalar.remsi v710 c4_i32_435
  let c4_i32_468 : BitVec 32 := 4#32
  let v820 : BitVec 32 := Scalar.muli v711 c4_i32_468
  let c3_i32_516 : BitVec 32 := 3#32
  let v875 : BitVec 32 := Scalar.addi v820 c3_i32_516
  let c1_i32_2488 : BitVec 32 := 1#32
  let v2417 : BitVec 32 := Scalar.muli v875 c1_i32_2488
  let v2418 : BitVec 32 := Scalar.addi c0_i32_2489 v2417
  v2418.toNat
def k0_off22 (d0 : Dev nD) (c0_i32_530 : BitVec 32) (c0_i32_533 : BitVec 32) : Fin 2 → Nat :=
  let c1_i32_542 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_529 : BitVec 32 := 1#32
  let v887 : BitVec 32 := Scalar.addi v3 c1_i32_529
  let v888 : BitVec 32 := Scalar.addi v887 c0_i32_530
  let c4_i32_531 : BitVec 32 := 4#32
  let v889 : BitVec 32 := Scalar.remsi v888 c4_i32_531
  let c4_i32_532 : BitVec 32 := 4#32
  let v890 : BitVec 32 := Scalar.muli v889 c4_i32_532
  let v891 : BitVec 32 := Scalar.addi v890 c0_i32_533
  let v896 : BitVec 32 := Scalar.subi v2 v891
  let c1_i32_537 : BitVec 32 := 1#32
  let v897 : BitVec 32 := Scalar.subi v896 c1_i32_537
  let c16_i32_538 : BitVec 32 := 16#32
  let v898 : BitVec 32 := Scalar.addi v897 c16_i32_538
  let c16_i32_539 : BitVec 32 := 16#32
  let v899 : BitVec 32 := Scalar.remsi v898 c16_i32_539
  ![1, v899.toNat]
def k0_off23 (d0 : Dev nD) (c0_i32_530 : BitVec 32) (c0_i32_533 : BitVec 32) : Fin 4 → Nat :=
  let c1_i32_541 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_529 : BitVec 32 := 1#32
  let v887 : BitVec 32 := Scalar.addi v3 c1_i32_529
  let v888 : BitVec 32 := Scalar.addi v887 c0_i32_530
  let c4_i32_531 : BitVec 32 := 4#32
  let v889 : BitVec 32 := Scalar.remsi v888 c4_i32_531
  let c4_i32_532 : BitVec 32 := 4#32
  let v890 : BitVec 32 := Scalar.muli v889 c4_i32_532
  let v891 : BitVec 32 := Scalar.addi v890 c0_i32_533
  let v892 : BitVec 32 := Scalar.subi v2 v891
  let c1_i32_534 : BitVec 32 := 1#32
  let v893 : BitVec 32 := Scalar.subi v892 c1_i32_534
  let c16_i32_535 : BitVec 32 := 16#32
  let v894 : BitVec 32 := Scalar.addi v893 c16_i32_535
  let c16_i32_536 : BitVec 32 := 16#32
  let v895 : BitVec 32 := Scalar.remsi v894 c16_i32_536
  let c0_i32_547 : BitVec 32 := 0#32
  let c0_i32_548 : BitVec 32 := 0#32
  ![1, v895.toNat, 0, 0]
def k0_off24 (d0 : Dev nD) (c0_i32_530 : BitVec 32) (c0_i32_533 : BitVec 32) : Fin 4 → Nat :=
  let c1_i32_540 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_529 : BitVec 32 := 1#32
  let v887 : BitVec 32 := Scalar.addi v3 c1_i32_529
  let v888 : BitVec 32 := Scalar.addi v887 c0_i32_530
  let c4_i32_531 : BitVec 32 := 4#32
  let v889 : BitVec 32 := Scalar.remsi v888 c4_i32_531
  let c4_i32_532 : BitVec 32 := 4#32
  let v890 : BitVec 32 := Scalar.muli v889 c4_i32_532
  let v891 : BitVec 32 := Scalar.addi v890 c0_i32_533
  let c0_i32_549 : BitVec 32 := 0#32
  let c0_i32_550 : BitVec 32 := 0#32
  ![1, v891.toNat, 0, 0]
def k0_dev32 (d0 : Dev nD) : Nat :=
  let c0_i32_546 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_529 : BitVec 32 := 1#32
  let v887 : BitVec 32 := Scalar.addi v3 c1_i32_529
  let c0_i32_530 : BitVec 32 := 0#32
  let v888 : BitVec 32 := Scalar.addi v887 c0_i32_530
  let c4_i32_531 : BitVec 32 := 4#32
  let v889 : BitVec 32 := Scalar.remsi v888 c4_i32_531
  let c4_i32_532 : BitVec 32 := 4#32
  let v890 : BitVec 32 := Scalar.muli v889 c4_i32_532
  let c0_i32_533 : BitVec 32 := 0#32
  let v891 : BitVec 32 := Scalar.addi v890 c0_i32_533
  let c1_i32_545 : BitVec 32 := 1#32
  let v900 : BitVec 32 := Scalar.muli v891 c1_i32_545
  let v901 : BitVec 32 := Scalar.addi c0_i32_546 v900
  v901.toNat
def k0_dev33 (d0 : Dev nD) : Nat :=
  let c0_i32_565 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_529 : BitVec 32 := 1#32
  let v887 : BitVec 32 := Scalar.addi v3 c1_i32_529
  let c0_i32_530 : BitVec 32 := 0#32
  let v888 : BitVec 32 := Scalar.addi v887 c0_i32_530
  let c4_i32_531 : BitVec 32 := 4#32
  let v889 : BitVec 32 := Scalar.remsi v888 c4_i32_531
  let c4_i32_551 : BitVec 32 := 4#32
  let v910 : BitVec 32 := Scalar.muli v889 c4_i32_551
  let c1_i32_552 : BitVec 32 := 1#32
  let v911 : BitVec 32 := Scalar.addi v910 c1_i32_552
  let c1_i32_564 : BitVec 32 := 1#32
  let v920 : BitVec 32 := Scalar.muli v911 c1_i32_564
  let v921 : BitVec 32 := Scalar.addi c0_i32_565 v920
  v921.toNat
def k0_dev34 (d0 : Dev nD) : Nat :=
  let c0_i32_584 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_529 : BitVec 32 := 1#32
  let v887 : BitVec 32 := Scalar.addi v3 c1_i32_529
  let c0_i32_530 : BitVec 32 := 0#32
  let v888 : BitVec 32 := Scalar.addi v887 c0_i32_530
  let c4_i32_531 : BitVec 32 := 4#32
  let v889 : BitVec 32 := Scalar.remsi v888 c4_i32_531
  let c4_i32_570 : BitVec 32 := 4#32
  let v930 : BitVec 32 := Scalar.muli v889 c4_i32_570
  let c2_i32_571 : BitVec 32 := 2#32
  let v931 : BitVec 32 := Scalar.addi v930 c2_i32_571
  let c1_i32_583 : BitVec 32 := 1#32
  let v940 : BitVec 32 := Scalar.muli v931 c1_i32_583
  let v941 : BitVec 32 := Scalar.addi c0_i32_584 v940
  v941.toNat
def k0_dev35 (d0 : Dev nD) : Nat :=
  let c0_i32_603 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_529 : BitVec 32 := 1#32
  let v887 : BitVec 32 := Scalar.addi v3 c1_i32_529
  let c0_i32_530 : BitVec 32 := 0#32
  let v888 : BitVec 32 := Scalar.addi v887 c0_i32_530
  let c4_i32_531 : BitVec 32 := 4#32
  let v889 : BitVec 32 := Scalar.remsi v888 c4_i32_531
  let c4_i32_589 : BitVec 32 := 4#32
  let v950 : BitVec 32 := Scalar.muli v889 c4_i32_589
  let c3_i32_590 : BitVec 32 := 3#32
  let v951 : BitVec 32 := Scalar.addi v950 c3_i32_590
  let c1_i32_602 : BitVec 32 := 1#32
  let v960 : BitVec 32 := Scalar.muli v951 c1_i32_602
  let v961 : BitVec 32 := Scalar.addi c0_i32_603 v960
  v961.toNat
def k0_dev36 (d0 : Dev nD) : Nat :=
  let c0_i32_625 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_608 : BitVec 32 := 1#32
  let v970 : BitVec 32 := Scalar.addi v3 c1_i32_608
  let c1_i32_609 : BitVec 32 := 1#32
  let v971 : BitVec 32 := Scalar.addi v970 c1_i32_609
  let c4_i32_610 : BitVec 32 := 4#32
  let v972 : BitVec 32 := Scalar.remsi v971 c4_i32_610
  let c4_i32_611 : BitVec 32 := 4#32
  let v973 : BitVec 32 := Scalar.muli v972 c4_i32_611
  let c0_i32_612 : BitVec 32 := 0#32
  let v974 : BitVec 32 := Scalar.addi v973 c0_i32_612
  let c1_i32_624 : BitVec 32 := 1#32
  let v983 : BitVec 32 := Scalar.muli v974 c1_i32_624
  let v984 : BitVec 32 := Scalar.addi c0_i32_625 v983
  v984.toNat
def k0_dev37 (d0 : Dev nD) : Nat :=
  let c0_i32_644 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_608 : BitVec 32 := 1#32
  let v970 : BitVec 32 := Scalar.addi v3 c1_i32_608
  let c1_i32_609 : BitVec 32 := 1#32
  let v971 : BitVec 32 := Scalar.addi v970 c1_i32_609
  let c4_i32_610 : BitVec 32 := 4#32
  let v972 : BitVec 32 := Scalar.remsi v971 c4_i32_610
  let c4_i32_630 : BitVec 32 := 4#32
  let v993 : BitVec 32 := Scalar.muli v972 c4_i32_630
  let c1_i32_631 : BitVec 32 := 1#32
  let v994 : BitVec 32 := Scalar.addi v993 c1_i32_631
  let c1_i32_643 : BitVec 32 := 1#32
  let v1003 : BitVec 32 := Scalar.muli v994 c1_i32_643
  let v1004 : BitVec 32 := Scalar.addi c0_i32_644 v1003
  v1004.toNat
def k0_dev38 (d0 : Dev nD) : Nat :=
  let c0_i32_663 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_608 : BitVec 32 := 1#32
  let v970 : BitVec 32 := Scalar.addi v3 c1_i32_608
  let c1_i32_609 : BitVec 32 := 1#32
  let v971 : BitVec 32 := Scalar.addi v970 c1_i32_609
  let c4_i32_610 : BitVec 32 := 4#32
  let v972 : BitVec 32 := Scalar.remsi v971 c4_i32_610
  let c4_i32_649 : BitVec 32 := 4#32
  let v1013 : BitVec 32 := Scalar.muli v972 c4_i32_649
  let c2_i32_650 : BitVec 32 := 2#32
  let v1014 : BitVec 32 := Scalar.addi v1013 c2_i32_650
  let c1_i32_662 : BitVec 32 := 1#32
  let v1023 : BitVec 32 := Scalar.muli v1014 c1_i32_662
  let v1024 : BitVec 32 := Scalar.addi c0_i32_663 v1023
  v1024.toNat
def k0_dev39 (d0 : Dev nD) : Nat :=
  let c0_i32_682 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_608 : BitVec 32 := 1#32
  let v970 : BitVec 32 := Scalar.addi v3 c1_i32_608
  let c1_i32_609 : BitVec 32 := 1#32
  let v971 : BitVec 32 := Scalar.addi v970 c1_i32_609
  let c4_i32_610 : BitVec 32 := 4#32
  let v972 : BitVec 32 := Scalar.remsi v971 c4_i32_610
  let c4_i32_668 : BitVec 32 := 4#32
  let v1033 : BitVec 32 := Scalar.muli v972 c4_i32_668
  let c3_i32_669 : BitVec 32 := 3#32
  let v1034 : BitVec 32 := Scalar.addi v1033 c3_i32_669
  let c1_i32_681 : BitVec 32 := 1#32
  let v1043 : BitVec 32 := Scalar.muli v1034 c1_i32_681
  let v1044 : BitVec 32 := Scalar.addi c0_i32_682 v1043
  v1044.toNat
def k0_dev40 (d0 : Dev nD) : Nat :=
  let c0_i32_704 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_687 : BitVec 32 := 1#32
  let v1053 : BitVec 32 := Scalar.addi v3 c1_i32_687
  let c2_i32_688 : BitVec 32 := 2#32
  let v1054 : BitVec 32 := Scalar.addi v1053 c2_i32_688
  let c4_i32_689 : BitVec 32 := 4#32
  let v1055 : BitVec 32 := Scalar.remsi v1054 c4_i32_689
  let c4_i32_690 : BitVec 32 := 4#32
  let v1056 : BitVec 32 := Scalar.muli v1055 c4_i32_690
  let c0_i32_691 : BitVec 32 := 0#32
  let v1057 : BitVec 32 := Scalar.addi v1056 c0_i32_691
  let c1_i32_703 : BitVec 32 := 1#32
  let v1066 : BitVec 32 := Scalar.muli v1057 c1_i32_703
  let v1067 : BitVec 32 := Scalar.addi c0_i32_704 v1066
  v1067.toNat
def k0_dev41 (d0 : Dev nD) : Nat :=
  let c0_i32_723 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_687 : BitVec 32 := 1#32
  let v1053 : BitVec 32 := Scalar.addi v3 c1_i32_687
  let c2_i32_688 : BitVec 32 := 2#32
  let v1054 : BitVec 32 := Scalar.addi v1053 c2_i32_688
  let c4_i32_689 : BitVec 32 := 4#32
  let v1055 : BitVec 32 := Scalar.remsi v1054 c4_i32_689
  let c4_i32_709 : BitVec 32 := 4#32
  let v1076 : BitVec 32 := Scalar.muli v1055 c4_i32_709
  let c1_i32_710 : BitVec 32 := 1#32
  let v1077 : BitVec 32 := Scalar.addi v1076 c1_i32_710
  let c1_i32_722 : BitVec 32 := 1#32
  let v1086 : BitVec 32 := Scalar.muli v1077 c1_i32_722
  let v1087 : BitVec 32 := Scalar.addi c0_i32_723 v1086
  v1087.toNat
def k0_dev42 (d0 : Dev nD) : Nat :=
  let c0_i32_742 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_687 : BitVec 32 := 1#32
  let v1053 : BitVec 32 := Scalar.addi v3 c1_i32_687
  let c2_i32_688 : BitVec 32 := 2#32
  let v1054 : BitVec 32 := Scalar.addi v1053 c2_i32_688
  let c4_i32_689 : BitVec 32 := 4#32
  let v1055 : BitVec 32 := Scalar.remsi v1054 c4_i32_689
  let c4_i32_728 : BitVec 32 := 4#32
  let v1096 : BitVec 32 := Scalar.muli v1055 c4_i32_728
  let c2_i32_729 : BitVec 32 := 2#32
  let v1097 : BitVec 32 := Scalar.addi v1096 c2_i32_729
  let c1_i32_741 : BitVec 32 := 1#32
  let v1106 : BitVec 32 := Scalar.muli v1097 c1_i32_741
  let v1107 : BitVec 32 := Scalar.addi c0_i32_742 v1106
  v1107.toNat
def k0_dev43 (d0 : Dev nD) : Nat :=
  let c0_i32_761 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_687 : BitVec 32 := 1#32
  let v1053 : BitVec 32 := Scalar.addi v3 c1_i32_687
  let c2_i32_688 : BitVec 32 := 2#32
  let v1054 : BitVec 32 := Scalar.addi v1053 c2_i32_688
  let c4_i32_689 : BitVec 32 := 4#32
  let v1055 : BitVec 32 := Scalar.remsi v1054 c4_i32_689
  let c4_i32_747 : BitVec 32 := 4#32
  let v1116 : BitVec 32 := Scalar.muli v1055 c4_i32_747
  let c3_i32_748 : BitVec 32 := 3#32
  let v1117 : BitVec 32 := Scalar.addi v1116 c3_i32_748
  let c1_i32_760 : BitVec 32 := 1#32
  let v1126 : BitVec 32 := Scalar.muli v1117 c1_i32_760
  let v1127 : BitVec 32 := Scalar.addi c0_i32_761 v1126
  v1127.toNat
def k0_cond5 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_766 : BitVec 32 := 1#32
  let v1136 : BitVec 32 := Scalar.addi v3 c1_i32_766
  let c3_i32_767 : BitVec 32 := 3#32
  let v1137 : BitVec 32 := Scalar.addi v1136 c3_i32_767
  let c4_i32_768 : BitVec 32 := 4#32
  let v1138 : BitVec 32 := Scalar.remsi v1137 c4_i32_768
  let c4_i32_769 : BitVec 32 := 4#32
  let v1139 : BitVec 32 := Scalar.muli v1138 c4_i32_769
  let c0_i32_770 : BitVec 32 := 0#32
  let v1140 : BitVec 32 := Scalar.addi v1139 c0_i32_770
  let v1149 : BitVec 1 := Scalar.cmpi .ne v1140 v2
  let v1150 : BitVec 32 := Scalar.extui v1149
  let c0_i32_782 : BitVec 32 := 0#32
  let v1151 : BitVec 1 := Scalar.cmpi .ne v1150 c0_i32_782
  v1151

def k0_off25 (d0 : Dev nD) : Fin 2 → Nat :=
  let c1_i32_779 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_766 : BitVec 32 := 1#32
  let v1136 : BitVec 32 := Scalar.addi v3 c1_i32_766
  let c3_i32_767 : BitVec 32 := 3#32
  let v1137 : BitVec 32 := Scalar.addi v1136 c3_i32_767
  let c4_i32_768 : BitVec 32 := 4#32
  let v1138 : BitVec 32 := Scalar.remsi v1137 c4_i32_768
  let c4_i32_769 : BitVec 32 := 4#32
  let v1139 : BitVec 32 := Scalar.muli v1138 c4_i32_769
  let c0_i32_770 : BitVec 32 := 0#32
  let v1140 : BitVec 32 := Scalar.addi v1139 c0_i32_770
  let v1145 : BitVec 32 := Scalar.subi v2 v1140
  let c1_i32_774 : BitVec 32 := 1#32
  let v1146 : BitVec 32 := Scalar.subi v1145 c1_i32_774
  let c16_i32_775 : BitVec 32 := 16#32
  let v1147 : BitVec 32 := Scalar.addi v1146 c16_i32_775
  let c16_i32_776 : BitVec 32 := 16#32
  let v1148 : BitVec 32 := Scalar.remsi v1147 c16_i32_776
  ![1, v1148.toNat]
def k0_off26 (d0 : Dev nD) : Fin 4 → Nat :=
  let c1_i32_778 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_766 : BitVec 32 := 1#32
  let v1136 : BitVec 32 := Scalar.addi v3 c1_i32_766
  let c3_i32_767 : BitVec 32 := 3#32
  let v1137 : BitVec 32 := Scalar.addi v1136 c3_i32_767
  let c4_i32_768 : BitVec 32 := 4#32
  let v1138 : BitVec 32 := Scalar.remsi v1137 c4_i32_768
  let c4_i32_769 : BitVec 32 := 4#32
  let v1139 : BitVec 32 := Scalar.muli v1138 c4_i32_769
  let c0_i32_770 : BitVec 32 := 0#32
  let v1140 : BitVec 32 := Scalar.addi v1139 c0_i32_770
  let v1141 : BitVec 32 := Scalar.subi v2 v1140
  let c1_i32_771 : BitVec 32 := 1#32
  let v1142 : BitVec 32 := Scalar.subi v1141 c1_i32_771
  let c16_i32_772 : BitVec 32 := 16#32
  let v1143 : BitVec 32 := Scalar.addi v1142 c16_i32_772
  let c16_i32_773 : BitVec 32 := 16#32
  let v1144 : BitVec 32 := Scalar.remsi v1143 c16_i32_773
  let c0_i32_2490 : BitVec 32 := 0#32
  let c0_i32_2491 : BitVec 32 := 0#32
  ![1, v1144.toNat, 0, 0]
def k0_off27 (d0 : Dev nD) : Fin 4 → Nat :=
  let c1_i32_777 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_766 : BitVec 32 := 1#32
  let v1136 : BitVec 32 := Scalar.addi v3 c1_i32_766
  let c3_i32_767 : BitVec 32 := 3#32
  let v1137 : BitVec 32 := Scalar.addi v1136 c3_i32_767
  let c4_i32_768 : BitVec 32 := 4#32
  let v1138 : BitVec 32 := Scalar.remsi v1137 c4_i32_768
  let c4_i32_769 : BitVec 32 := 4#32
  let v1139 : BitVec 32 := Scalar.muli v1138 c4_i32_769
  let c0_i32_770 : BitVec 32 := 0#32
  let v1140 : BitVec 32 := Scalar.addi v1139 c0_i32_770
  let c0_i32_2492 : BitVec 32 := 0#32
  let c0_i32_2493 : BitVec 32 := 0#32
  ![1, v1140.toNat, 0, 0]
def k0_dev44 (d0 : Dev nD) : Nat :=
  let c0_i32_2489 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_766 : BitVec 32 := 1#32
  let v1136 : BitVec 32 := Scalar.addi v3 c1_i32_766
  let c3_i32_767 : BitVec 32 := 3#32
  let v1137 : BitVec 32 := Scalar.addi v1136 c3_i32_767
  let c4_i32_768 : BitVec 32 := 4#32
  let v1138 : BitVec 32 := Scalar.remsi v1137 c4_i32_768
  let c4_i32_769 : BitVec 32 := 4#32
  let v1139 : BitVec 32 := Scalar.muli v1138 c4_i32_769
  let c0_i32_770 : BitVec 32 := 0#32
  let v1140 : BitVec 32 := Scalar.addi v1139 c0_i32_770
  let c1_i32_2488 : BitVec 32 := 1#32
  let v2417 : BitVec 32 := Scalar.muli v1140 c1_i32_2488
  let v2418 : BitVec 32 := Scalar.addi c0_i32_2489 v2417
  v2418.toNat
def k0_cond6 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_766 : BitVec 32 := 1#32
  let v1136 : BitVec 32 := Scalar.addi v3 c1_i32_766
  let c3_i32_767 : BitVec 32 := 3#32
  let v1137 : BitVec 32 := Scalar.addi v1136 c3_i32_767
  let c4_i32_768 : BitVec 32 := 4#32
  let v1138 : BitVec 32 := Scalar.remsi v1137 c4_i32_768
  let c4_i32_783 : BitVec 32 := 4#32
  let v1152 : BitVec 32 := Scalar.muli v1138 c4_i32_783
  let c1_i32_784 : BitVec 32 := 1#32
  let v1153 : BitVec 32 := Scalar.addi v1152 c1_i32_784
  let v1162 : BitVec 1 := Scalar.cmpi .ne v1153 v2
  let v1163 : BitVec 32 := Scalar.extui v1162
  let c0_i32_796 : BitVec 32 := 0#32
  let v1164 : BitVec 1 := Scalar.cmpi .ne v1163 c0_i32_796
  v1164

def k0_off28 (d0 : Dev nD) : Fin 2 → Nat :=
  let c1_i32_793 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_766 : BitVec 32 := 1#32
  let v1136 : BitVec 32 := Scalar.addi v3 c1_i32_766
  let c3_i32_767 : BitVec 32 := 3#32
  let v1137 : BitVec 32 := Scalar.addi v1136 c3_i32_767
  let c4_i32_768 : BitVec 32 := 4#32
  let v1138 : BitVec 32 := Scalar.remsi v1137 c4_i32_768
  let c4_i32_783 : BitVec 32 := 4#32
  let v1152 : BitVec 32 := Scalar.muli v1138 c4_i32_783
  let c1_i32_784 : BitVec 32 := 1#32
  let v1153 : BitVec 32 := Scalar.addi v1152 c1_i32_784
  let v1158 : BitVec 32 := Scalar.subi v2 v1153
  let c1_i32_788 : BitVec 32 := 1#32
  let v1159 : BitVec 32 := Scalar.subi v1158 c1_i32_788
  let c16_i32_789 : BitVec 32 := 16#32
  let v1160 : BitVec 32 := Scalar.addi v1159 c16_i32_789
  let c16_i32_790 : BitVec 32 := 16#32
  let v1161 : BitVec 32 := Scalar.remsi v1160 c16_i32_790
  ![1, v1161.toNat]
def k0_off29 (d0 : Dev nD) : Fin 4 → Nat :=
  let c1_i32_792 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_766 : BitVec 32 := 1#32
  let v1136 : BitVec 32 := Scalar.addi v3 c1_i32_766
  let c3_i32_767 : BitVec 32 := 3#32
  let v1137 : BitVec 32 := Scalar.addi v1136 c3_i32_767
  let c4_i32_768 : BitVec 32 := 4#32
  let v1138 : BitVec 32 := Scalar.remsi v1137 c4_i32_768
  let c4_i32_783 : BitVec 32 := 4#32
  let v1152 : BitVec 32 := Scalar.muli v1138 c4_i32_783
  let c1_i32_784 : BitVec 32 := 1#32
  let v1153 : BitVec 32 := Scalar.addi v1152 c1_i32_784
  let v1154 : BitVec 32 := Scalar.subi v2 v1153
  let c1_i32_785 : BitVec 32 := 1#32
  let v1155 : BitVec 32 := Scalar.subi v1154 c1_i32_785
  let c16_i32_786 : BitVec 32 := 16#32
  let v1156 : BitVec 32 := Scalar.addi v1155 c16_i32_786
  let c16_i32_787 : BitVec 32 := 16#32
  let v1157 : BitVec 32 := Scalar.remsi v1156 c16_i32_787
  let c0_i32_2490 : BitVec 32 := 0#32
  let c0_i32_2491 : BitVec 32 := 0#32
  ![1, v1157.toNat, 0, 0]
def k0_off30 (d0 : Dev nD) : Fin 4 → Nat :=
  let c1_i32_791 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_766 : BitVec 32 := 1#32
  let v1136 : BitVec 32 := Scalar.addi v3 c1_i32_766
  let c3_i32_767 : BitVec 32 := 3#32
  let v1137 : BitVec 32 := Scalar.addi v1136 c3_i32_767
  let c4_i32_768 : BitVec 32 := 4#32
  let v1138 : BitVec 32 := Scalar.remsi v1137 c4_i32_768
  let c4_i32_783 : BitVec 32 := 4#32
  let v1152 : BitVec 32 := Scalar.muli v1138 c4_i32_783
  let c1_i32_784 : BitVec 32 := 1#32
  let v1153 : BitVec 32 := Scalar.addi v1152 c1_i32_784
  let c0_i32_2492 : BitVec 32 := 0#32
  let c0_i32_2493 : BitVec 32 := 0#32
  ![1, v1153.toNat, 0, 0]
def k0_dev45 (d0 : Dev nD) : Nat :=
  let c0_i32_2489 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_766 : BitVec 32 := 1#32
  let v1136 : BitVec 32 := Scalar.addi v3 c1_i32_766
  let c3_i32_767 : BitVec 32 := 3#32
  let v1137 : BitVec 32 := Scalar.addi v1136 c3_i32_767
  let c4_i32_768 : BitVec 32 := 4#32
  let v1138 : BitVec 32 := Scalar.remsi v1137 c4_i32_768
  let c4_i32_783 : BitVec 32 := 4#32
  let v1152 : BitVec 32 := Scalar.muli v1138 c4_i32_783
  let c1_i32_784 : BitVec 32 := 1#32
  let v1153 : BitVec 32 := Scalar.addi v1152 c1_i32_784
  let c1_i32_2488 : BitVec 32 := 1#32
  let v2417 : BitVec 32 := Scalar.muli v1153 c1_i32_2488
  let v2418 : BitVec 32 := Scalar.addi c0_i32_2489 v2417
  v2418.toNat
def k0_cond7 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_766 : BitVec 32 := 1#32
  let v1136 : BitVec 32 := Scalar.addi v3 c1_i32_766
  let c3_i32_767 : BitVec 32 := 3#32
  let v1137 : BitVec 32 := Scalar.addi v1136 c3_i32_767
  let c4_i32_768 : BitVec 32 := 4#32
  let v1138 : BitVec 32 := Scalar.remsi v1137 c4_i32_768
  let c4_i32_797 : BitVec 32 := 4#32
  let v1165 : BitVec 32 := Scalar.muli v1138 c4_i32_797
  let c2_i32_798 : BitVec 32 := 2#32
  let v1166 : BitVec 32 := Scalar.addi v1165 c2_i32_798
  let v1175 : BitVec 1 := Scalar.cmpi .ne v1166 v2
  let v1176 : BitVec 32 := Scalar.extui v1175
  let c0_i32_810 : BitVec 32 := 0#32
  let v1177 : BitVec 1 := Scalar.cmpi .ne v1176 c0_i32_810
  v1177

def k0_off31 (d0 : Dev nD) : Fin 2 → Nat :=
  let c1_i32_807 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_766 : BitVec 32 := 1#32
  let v1136 : BitVec 32 := Scalar.addi v3 c1_i32_766
  let c3_i32_767 : BitVec 32 := 3#32
  let v1137 : BitVec 32 := Scalar.addi v1136 c3_i32_767
  let c4_i32_768 : BitVec 32 := 4#32
  let v1138 : BitVec 32 := Scalar.remsi v1137 c4_i32_768
  let c4_i32_797 : BitVec 32 := 4#32
  let v1165 : BitVec 32 := Scalar.muli v1138 c4_i32_797
  let c2_i32_798 : BitVec 32 := 2#32
  let v1166 : BitVec 32 := Scalar.addi v1165 c2_i32_798
  let v1171 : BitVec 32 := Scalar.subi v2 v1166
  let c1_i32_802 : BitVec 32 := 1#32
  let v1172 : BitVec 32 := Scalar.subi v1171 c1_i32_802
  let c16_i32_803 : BitVec 32 := 16#32
  let v1173 : BitVec 32 := Scalar.addi v1172 c16_i32_803
  let c16_i32_804 : BitVec 32 := 16#32
  let v1174 : BitVec 32 := Scalar.remsi v1173 c16_i32_804
  ![1, v1174.toNat]
def k0_off32 (d0 : Dev nD) : Fin 4 → Nat :=
  let c1_i32_806 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_766 : BitVec 32 := 1#32
  let v1136 : BitVec 32 := Scalar.addi v3 c1_i32_766
  let c3_i32_767 : BitVec 32 := 3#32
  let v1137 : BitVec 32 := Scalar.addi v1136 c3_i32_767
  let c4_i32_768 : BitVec 32 := 4#32
  let v1138 : BitVec 32 := Scalar.remsi v1137 c4_i32_768
  let c4_i32_797 : BitVec 32 := 4#32
  let v1165 : BitVec 32 := Scalar.muli v1138 c4_i32_797
  let c2_i32_798 : BitVec 32 := 2#32
  let v1166 : BitVec 32 := Scalar.addi v1165 c2_i32_798
  let v1167 : BitVec 32 := Scalar.subi v2 v1166
  let c1_i32_799 : BitVec 32 := 1#32
  let v1168 : BitVec 32 := Scalar.subi v1167 c1_i32_799
  let c16_i32_800 : BitVec 32 := 16#32
  let v1169 : BitVec 32 := Scalar.addi v1168 c16_i32_800
  let c16_i32_801 : BitVec 32 := 16#32
  let v1170 : BitVec 32 := Scalar.remsi v1169 c16_i32_801
  let c0_i32_2490 : BitVec 32 := 0#32
  let c0_i32_2491 : BitVec 32 := 0#32
  ![1, v1170.toNat, 0, 0]
def k0_off33 (d0 : Dev nD) : Fin 4 → Nat :=
  let c1_i32_805 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_766 : BitVec 32 := 1#32
  let v1136 : BitVec 32 := Scalar.addi v3 c1_i32_766
  let c3_i32_767 : BitVec 32 := 3#32
  let v1137 : BitVec 32 := Scalar.addi v1136 c3_i32_767
  let c4_i32_768 : BitVec 32 := 4#32
  let v1138 : BitVec 32 := Scalar.remsi v1137 c4_i32_768
  let c4_i32_797 : BitVec 32 := 4#32
  let v1165 : BitVec 32 := Scalar.muli v1138 c4_i32_797
  let c2_i32_798 : BitVec 32 := 2#32
  let v1166 : BitVec 32 := Scalar.addi v1165 c2_i32_798
  let c0_i32_2492 : BitVec 32 := 0#32
  let c0_i32_2493 : BitVec 32 := 0#32
  ![1, v1166.toNat, 0, 0]
def k0_dev46 (d0 : Dev nD) : Nat :=
  let c0_i32_2489 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_766 : BitVec 32 := 1#32
  let v1136 : BitVec 32 := Scalar.addi v3 c1_i32_766
  let c3_i32_767 : BitVec 32 := 3#32
  let v1137 : BitVec 32 := Scalar.addi v1136 c3_i32_767
  let c4_i32_768 : BitVec 32 := 4#32
  let v1138 : BitVec 32 := Scalar.remsi v1137 c4_i32_768
  let c4_i32_797 : BitVec 32 := 4#32
  let v1165 : BitVec 32 := Scalar.muli v1138 c4_i32_797
  let c2_i32_798 : BitVec 32 := 2#32
  let v1166 : BitVec 32 := Scalar.addi v1165 c2_i32_798
  let c1_i32_2488 : BitVec 32 := 1#32
  let v2417 : BitVec 32 := Scalar.muli v1166 c1_i32_2488
  let v2418 : BitVec 32 := Scalar.addi c0_i32_2489 v2417
  v2418.toNat
def k0_cond8 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_766 : BitVec 32 := 1#32
  let v1136 : BitVec 32 := Scalar.addi v3 c1_i32_766
  let c3_i32_767 : BitVec 32 := 3#32
  let v1137 : BitVec 32 := Scalar.addi v1136 c3_i32_767
  let c4_i32_768 : BitVec 32 := 4#32
  let v1138 : BitVec 32 := Scalar.remsi v1137 c4_i32_768
  let c4_i32_811 : BitVec 32 := 4#32
  let v1178 : BitVec 32 := Scalar.muli v1138 c4_i32_811
  let c3_i32_812 : BitVec 32 := 3#32
  let v1179 : BitVec 32 := Scalar.addi v1178 c3_i32_812
  let v1188 : BitVec 1 := Scalar.cmpi .ne v1179 v2
  let v1189 : BitVec 32 := Scalar.extui v1188
  let c0_i32_824 : BitVec 32 := 0#32
  let v1190 : BitVec 1 := Scalar.cmpi .ne v1189 c0_i32_824
  v1190

def k0_off34 (d0 : Dev nD) : Fin 2 → Nat :=
  let c1_i32_821 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_766 : BitVec 32 := 1#32
  let v1136 : BitVec 32 := Scalar.addi v3 c1_i32_766
  let c3_i32_767 : BitVec 32 := 3#32
  let v1137 : BitVec 32 := Scalar.addi v1136 c3_i32_767
  let c4_i32_768 : BitVec 32 := 4#32
  let v1138 : BitVec 32 := Scalar.remsi v1137 c4_i32_768
  let c4_i32_811 : BitVec 32 := 4#32
  let v1178 : BitVec 32 := Scalar.muli v1138 c4_i32_811
  let c3_i32_812 : BitVec 32 := 3#32
  let v1179 : BitVec 32 := Scalar.addi v1178 c3_i32_812
  let v1184 : BitVec 32 := Scalar.subi v2 v1179
  let c1_i32_816 : BitVec 32 := 1#32
  let v1185 : BitVec 32 := Scalar.subi v1184 c1_i32_816
  let c16_i32_817 : BitVec 32 := 16#32
  let v1186 : BitVec 32 := Scalar.addi v1185 c16_i32_817
  let c16_i32_818 : BitVec 32 := 16#32
  let v1187 : BitVec 32 := Scalar.remsi v1186 c16_i32_818
  ![1, v1187.toNat]
def k0_off35 (d0 : Dev nD) : Fin 4 → Nat :=
  let c1_i32_820 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_766 : BitVec 32 := 1#32
  let v1136 : BitVec 32 := Scalar.addi v3 c1_i32_766
  let c3_i32_767 : BitVec 32 := 3#32
  let v1137 : BitVec 32 := Scalar.addi v1136 c3_i32_767
  let c4_i32_768 : BitVec 32 := 4#32
  let v1138 : BitVec 32 := Scalar.remsi v1137 c4_i32_768
  let c4_i32_811 : BitVec 32 := 4#32
  let v1178 : BitVec 32 := Scalar.muli v1138 c4_i32_811
  let c3_i32_812 : BitVec 32 := 3#32
  let v1179 : BitVec 32 := Scalar.addi v1178 c3_i32_812
  let v1180 : BitVec 32 := Scalar.subi v2 v1179
  let c1_i32_813 : BitVec 32 := 1#32
  let v1181 : BitVec 32 := Scalar.subi v1180 c1_i32_813
  let c16_i32_814 : BitVec 32 := 16#32
  let v1182 : BitVec 32 := Scalar.addi v1181 c16_i32_814
  let c16_i32_815 : BitVec 32 := 16#32
  let v1183 : BitVec 32 := Scalar.remsi v1182 c16_i32_815
  let c0_i32_2490 : BitVec 32 := 0#32
  let c0_i32_2491 : BitVec 32 := 0#32
  ![1, v1183.toNat, 0, 0]
def k0_off36 (d0 : Dev nD) : Fin 4 → Nat :=
  let c1_i32_819 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_766 : BitVec 32 := 1#32
  let v1136 : BitVec 32 := Scalar.addi v3 c1_i32_766
  let c3_i32_767 : BitVec 32 := 3#32
  let v1137 : BitVec 32 := Scalar.addi v1136 c3_i32_767
  let c4_i32_768 : BitVec 32 := 4#32
  let v1138 : BitVec 32 := Scalar.remsi v1137 c4_i32_768
  let c4_i32_811 : BitVec 32 := 4#32
  let v1178 : BitVec 32 := Scalar.muli v1138 c4_i32_811
  let c3_i32_812 : BitVec 32 := 3#32
  let v1179 : BitVec 32 := Scalar.addi v1178 c3_i32_812
  let c0_i32_2492 : BitVec 32 := 0#32
  let c0_i32_2493 : BitVec 32 := 0#32
  ![1, v1179.toNat, 0, 0]
def k0_dev47 (d0 : Dev nD) : Nat :=
  let c0_i32_2489 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_766 : BitVec 32 := 1#32
  let v1136 : BitVec 32 := Scalar.addi v3 c1_i32_766
  let c3_i32_767 : BitVec 32 := 3#32
  let v1137 : BitVec 32 := Scalar.addi v1136 c3_i32_767
  let c4_i32_768 : BitVec 32 := 4#32
  let v1138 : BitVec 32 := Scalar.remsi v1137 c4_i32_768
  let c4_i32_811 : BitVec 32 := 4#32
  let v1178 : BitVec 32 := Scalar.muli v1138 c4_i32_811
  let c3_i32_812 : BitVec 32 := 3#32
  let v1179 : BitVec 32 := Scalar.addi v1178 c3_i32_812
  let c1_i32_2488 : BitVec 32 := 1#32
  let v2417 : BitVec 32 := Scalar.muli v1179 c1_i32_2488
  let v2418 : BitVec 32 := Scalar.addi c0_i32_2489 v2417
  v2418.toNat
def k0_off37 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1191 : Index := Scalar.indexCast v2
  let c0_825 : Index := 0#32
  let c0_826 : Index := 0#32
  ![v1191.toNat, 0, 0]
def k0_off38 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32 : BitVec 32 := 64#32
  let v1376 : BitVec 32 := Scalar.muli v2 c64_i32
  let v1377 : Index := Scalar.indexCast v1376
  let c0_1086 : Index := 0#32
  ![v1377.toNat, 0]
def k0_off39 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_1091 : BitVec 32 := 64#32
  let v1383 : BitVec 32 := Scalar.muli v2 c64_i32_1091
  let c0_i32_1098 : BitVec 32 := 0#32
  ![v1383.toNat, 0]
def k0_dev48 (d0 : Dev nD) : Nat :=
  let c0_i32_1097 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1087 : BitVec 32 := 1#32
  let v1379 : BitVec 32 := Scalar.addi v2 c1_i32_1087
  let c0_i32_1088 : BitVec 32 := 0#32
  let v1380 : BitVec 32 := Scalar.addi v1379 c0_i32_1088
  let c16_i32_1089 : BitVec 32 := 16#32
  let v1381 : BitVec 32 := Scalar.remsi v1380 c16_i32_1089
  let c1_i32_1096 : BitVec 32 := 1#32
  let v1384 : BitVec 32 := Scalar.muli v1381 c1_i32_1096
  let v1385 : BitVec 32 := Scalar.addi c0_i32_1097 v1384
  v1385.toNat
def k0_dev49 (d0 : Dev nD) : Nat :=
  let c0_i32_1110 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1100 : BitVec 32 := 1#32
  let v1392 : BitVec 32 := Scalar.addi v2 c1_i32_1100
  let c1_i32_1101 : BitVec 32 := 1#32
  let v1393 : BitVec 32 := Scalar.addi v1392 c1_i32_1101
  let c16_i32_1102 : BitVec 32 := 16#32
  let v1394 : BitVec 32 := Scalar.remsi v1393 c16_i32_1102
  let c1_i32_1109 : BitVec 32 := 1#32
  let v1397 : BitVec 32 := Scalar.muli v1394 c1_i32_1109
  let v1398 : BitVec 32 := Scalar.addi c0_i32_1110 v1397
  v1398.toNat
def k0_dev50 (d0 : Dev nD) : Nat :=
  let c0_i32_1123 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1113 : BitVec 32 := 1#32
  let v1405 : BitVec 32 := Scalar.addi v2 c1_i32_1113
  let c2_i32_1114 : BitVec 32 := 2#32
  let v1406 : BitVec 32 := Scalar.addi v1405 c2_i32_1114
  let c16_i32_1115 : BitVec 32 := 16#32
  let v1407 : BitVec 32 := Scalar.remsi v1406 c16_i32_1115
  let c1_i32_1122 : BitVec 32 := 1#32
  let v1410 : BitVec 32 := Scalar.muli v1407 c1_i32_1122
  let v1411 : BitVec 32 := Scalar.addi c0_i32_1123 v1410
  v1411.toNat
def k0_dev51 (d0 : Dev nD) : Nat :=
  let c0_i32_1136 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1126 : BitVec 32 := 1#32
  let v1418 : BitVec 32 := Scalar.addi v2 c1_i32_1126
  let c3_i32_1127 : BitVec 32 := 3#32
  let v1419 : BitVec 32 := Scalar.addi v1418 c3_i32_1127
  let c16_i32_1128 : BitVec 32 := 16#32
  let v1420 : BitVec 32 := Scalar.remsi v1419 c16_i32_1128
  let c1_i32_1135 : BitVec 32 := 1#32
  let v1423 : BitVec 32 := Scalar.muli v1420 c1_i32_1135
  let v1424 : BitVec 32 := Scalar.addi c0_i32_1136 v1423
  v1424.toNat
def k0_dev52 (d0 : Dev nD) : Nat :=
  let c0_i32_1149 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1139 : BitVec 32 := 1#32
  let v1431 : BitVec 32 := Scalar.addi v2 c1_i32_1139
  let c4_i32_1140 : BitVec 32 := 4#32
  let v1432 : BitVec 32 := Scalar.addi v1431 c4_i32_1140
  let c16_i32_1141 : BitVec 32 := 16#32
  let v1433 : BitVec 32 := Scalar.remsi v1432 c16_i32_1141
  let c1_i32_1148 : BitVec 32 := 1#32
  let v1436 : BitVec 32 := Scalar.muli v1433 c1_i32_1148
  let v1437 : BitVec 32 := Scalar.addi c0_i32_1149 v1436
  v1437.toNat
def k0_dev53 (d0 : Dev nD) : Nat :=
  let c0_i32_1162 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1152 : BitVec 32 := 1#32
  let v1444 : BitVec 32 := Scalar.addi v2 c1_i32_1152
  let c5_i32_1153 : BitVec 32 := 5#32
  let v1445 : BitVec 32 := Scalar.addi v1444 c5_i32_1153
  let c16_i32_1154 : BitVec 32 := 16#32
  let v1446 : BitVec 32 := Scalar.remsi v1445 c16_i32_1154
  let c1_i32_1161 : BitVec 32 := 1#32
  let v1449 : BitVec 32 := Scalar.muli v1446 c1_i32_1161
  let v1450 : BitVec 32 := Scalar.addi c0_i32_1162 v1449
  v1450.toNat
def k0_dev54 (d0 : Dev nD) : Nat :=
  let c0_i32_1175 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1165 : BitVec 32 := 1#32
  let v1457 : BitVec 32 := Scalar.addi v2 c1_i32_1165
  let c6_i32_1166 : BitVec 32 := 6#32
  let v1458 : BitVec 32 := Scalar.addi v1457 c6_i32_1166
  let c16_i32_1167 : BitVec 32 := 16#32
  let v1459 : BitVec 32 := Scalar.remsi v1458 c16_i32_1167
  let c1_i32_1174 : BitVec 32 := 1#32
  let v1462 : BitVec 32 := Scalar.muli v1459 c1_i32_1174
  let v1463 : BitVec 32 := Scalar.addi c0_i32_1175 v1462
  v1463.toNat
def k0_dev55 (d0 : Dev nD) : Nat :=
  let c0_i32_1188 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1178 : BitVec 32 := 1#32
  let v1470 : BitVec 32 := Scalar.addi v2 c1_i32_1178
  let c7_i32_1179 : BitVec 32 := 7#32
  let v1471 : BitVec 32 := Scalar.addi v1470 c7_i32_1179
  let c16_i32_1180 : BitVec 32 := 16#32
  let v1472 : BitVec 32 := Scalar.remsi v1471 c16_i32_1180
  let c1_i32_1187 : BitVec 32 := 1#32
  let v1475 : BitVec 32 := Scalar.muli v1472 c1_i32_1187
  let v1476 : BitVec 32 := Scalar.addi c0_i32_1188 v1475
  v1476.toNat
def k0_dev56 (d0 : Dev nD) : Nat :=
  let c0_i32_1201 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1191 : BitVec 32 := 1#32
  let v1483 : BitVec 32 := Scalar.addi v2 c1_i32_1191
  let c8_i32_1192 : BitVec 32 := 8#32
  let v1484 : BitVec 32 := Scalar.addi v1483 c8_i32_1192
  let c16_i32_1193 : BitVec 32 := 16#32
  let v1485 : BitVec 32 := Scalar.remsi v1484 c16_i32_1193
  let c1_i32_1200 : BitVec 32 := 1#32
  let v1488 : BitVec 32 := Scalar.muli v1485 c1_i32_1200
  let v1489 : BitVec 32 := Scalar.addi c0_i32_1201 v1488
  v1489.toNat
def k0_dev57 (d0 : Dev nD) : Nat :=
  let c0_i32_1214 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1204 : BitVec 32 := 1#32
  let v1496 : BitVec 32 := Scalar.addi v2 c1_i32_1204
  let c9_i32_1205 : BitVec 32 := 9#32
  let v1497 : BitVec 32 := Scalar.addi v1496 c9_i32_1205
  let c16_i32_1206 : BitVec 32 := 16#32
  let v1498 : BitVec 32 := Scalar.remsi v1497 c16_i32_1206
  let c1_i32_1213 : BitVec 32 := 1#32
  let v1501 : BitVec 32 := Scalar.muli v1498 c1_i32_1213
  let v1502 : BitVec 32 := Scalar.addi c0_i32_1214 v1501
  v1502.toNat
def k0_dev58 (d0 : Dev nD) : Nat :=
  let c0_i32_1227 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1217 : BitVec 32 := 1#32
  let v1509 : BitVec 32 := Scalar.addi v2 c1_i32_1217
  let c10_i32_1218 : BitVec 32 := 10#32
  let v1510 : BitVec 32 := Scalar.addi v1509 c10_i32_1218
  let c16_i32_1219 : BitVec 32 := 16#32
  let v1511 : BitVec 32 := Scalar.remsi v1510 c16_i32_1219
  let c1_i32_1226 : BitVec 32 := 1#32
  let v1514 : BitVec 32 := Scalar.muli v1511 c1_i32_1226
  let v1515 : BitVec 32 := Scalar.addi c0_i32_1227 v1514
  v1515.toNat
def k0_dev59 (d0 : Dev nD) : Nat :=
  let c0_i32_1240 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1230 : BitVec 32 := 1#32
  let v1522 : BitVec 32 := Scalar.addi v2 c1_i32_1230
  let c11_i32_1231 : BitVec 32 := 11#32
  let v1523 : BitVec 32 := Scalar.addi v1522 c11_i32_1231
  let c16_i32_1232 : BitVec 32 := 16#32
  let v1524 : BitVec 32 := Scalar.remsi v1523 c16_i32_1232
  let c1_i32_1239 : BitVec 32 := 1#32
  let v1527 : BitVec 32 := Scalar.muli v1524 c1_i32_1239
  let v1528 : BitVec 32 := Scalar.addi c0_i32_1240 v1527
  v1528.toNat
def k0_dev60 (d0 : Dev nD) : Nat :=
  let c0_i32_1253 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1243 : BitVec 32 := 1#32
  let v1535 : BitVec 32 := Scalar.addi v2 c1_i32_1243
  let c12_i32_1244 : BitVec 32 := 12#32
  let v1536 : BitVec 32 := Scalar.addi v1535 c12_i32_1244
  let c16_i32_1245 : BitVec 32 := 16#32
  let v1537 : BitVec 32 := Scalar.remsi v1536 c16_i32_1245
  let c1_i32_1252 : BitVec 32 := 1#32
  let v1540 : BitVec 32 := Scalar.muli v1537 c1_i32_1252
  let v1541 : BitVec 32 := Scalar.addi c0_i32_1253 v1540
  v1541.toNat
def k0_dev61 (d0 : Dev nD) : Nat :=
  let c0_i32_1266 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1256 : BitVec 32 := 1#32
  let v1548 : BitVec 32 := Scalar.addi v2 c1_i32_1256
  let c13_i32_1257 : BitVec 32 := 13#32
  let v1549 : BitVec 32 := Scalar.addi v1548 c13_i32_1257
  let c16_i32_1258 : BitVec 32 := 16#32
  let v1550 : BitVec 32 := Scalar.remsi v1549 c16_i32_1258
  let c1_i32_1265 : BitVec 32 := 1#32
  let v1553 : BitVec 32 := Scalar.muli v1550 c1_i32_1265
  let v1554 : BitVec 32 := Scalar.addi c0_i32_1266 v1553
  v1554.toNat
def k0_dev62 (d0 : Dev nD) : Nat :=
  let c0_i32_1279 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1269 : BitVec 32 := 1#32
  let v1561 : BitVec 32 := Scalar.addi v2 c1_i32_1269
  let c14_i32_1270 : BitVec 32 := 14#32
  let v1562 : BitVec 32 := Scalar.addi v1561 c14_i32_1270
  let c16_i32_1271 : BitVec 32 := 16#32
  let v1563 : BitVec 32 := Scalar.remsi v1562 c16_i32_1271
  let c1_i32_1278 : BitVec 32 := 1#32
  let v1566 : BitVec 32 := Scalar.muli v1563 c1_i32_1278
  let v1567 : BitVec 32 := Scalar.addi c0_i32_1279 v1566
  v1567.toNat
def k0_off40 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_1554 : BitVec 32 := 64#32
  let v1759 : BitVec 32 := Scalar.muli v2 c64_i32_1554
  let v1760 : Index := Scalar.indexCast v1759
  let c256 : Index := 256#32
  ![v1760.toNat, 256]
def k0_off41 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_1559 : BitVec 32 := 64#32
  let v1766 : BitVec 32 := Scalar.muli v2 c64_i32_1559
  let c256_i32_1566 : BitVec 32 := 256#32
  ![v1766.toNat, 256]
def k0_dev63 (d0 : Dev nD) : Nat :=
  let c0_i32_1565 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1555 : BitVec 32 := 1#32
  let v1762 : BitVec 32 := Scalar.addi v2 c1_i32_1555
  let c0_i32_1556 : BitVec 32 := 0#32
  let v1763 : BitVec 32 := Scalar.addi v1762 c0_i32_1556
  let c16_i32_1557 : BitVec 32 := 16#32
  let v1764 : BitVec 32 := Scalar.remsi v1763 c16_i32_1557
  let c1_i32_1564 : BitVec 32 := 1#32
  let v1767 : BitVec 32 := Scalar.muli v1764 c1_i32_1564
  let v1768 : BitVec 32 := Scalar.addi c0_i32_1565 v1767
  v1768.toNat
def k0_dev64 (d0 : Dev nD) : Nat :=
  let c0_i32_1578 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1568 : BitVec 32 := 1#32
  let v1775 : BitVec 32 := Scalar.addi v2 c1_i32_1568
  let c1_i32_1569 : BitVec 32 := 1#32
  let v1776 : BitVec 32 := Scalar.addi v1775 c1_i32_1569
  let c16_i32_1570 : BitVec 32 := 16#32
  let v1777 : BitVec 32 := Scalar.remsi v1776 c16_i32_1570
  let c1_i32_1577 : BitVec 32 := 1#32
  let v1780 : BitVec 32 := Scalar.muli v1777 c1_i32_1577
  let v1781 : BitVec 32 := Scalar.addi c0_i32_1578 v1780
  v1781.toNat
def k0_dev65 (d0 : Dev nD) : Nat :=
  let c0_i32_1591 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1581 : BitVec 32 := 1#32
  let v1788 : BitVec 32 := Scalar.addi v2 c1_i32_1581
  let c2_i32_1582 : BitVec 32 := 2#32
  let v1789 : BitVec 32 := Scalar.addi v1788 c2_i32_1582
  let c16_i32_1583 : BitVec 32 := 16#32
  let v1790 : BitVec 32 := Scalar.remsi v1789 c16_i32_1583
  let c1_i32_1590 : BitVec 32 := 1#32
  let v1793 : BitVec 32 := Scalar.muli v1790 c1_i32_1590
  let v1794 : BitVec 32 := Scalar.addi c0_i32_1591 v1793
  v1794.toNat
def k0_dev66 (d0 : Dev nD) : Nat :=
  let c0_i32_1604 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1594 : BitVec 32 := 1#32
  let v1801 : BitVec 32 := Scalar.addi v2 c1_i32_1594
  let c3_i32_1595 : BitVec 32 := 3#32
  let v1802 : BitVec 32 := Scalar.addi v1801 c3_i32_1595
  let c16_i32_1596 : BitVec 32 := 16#32
  let v1803 : BitVec 32 := Scalar.remsi v1802 c16_i32_1596
  let c1_i32_1603 : BitVec 32 := 1#32
  let v1806 : BitVec 32 := Scalar.muli v1803 c1_i32_1603
  let v1807 : BitVec 32 := Scalar.addi c0_i32_1604 v1806
  v1807.toNat
def k0_dev67 (d0 : Dev nD) : Nat :=
  let c0_i32_1617 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1607 : BitVec 32 := 1#32
  let v1814 : BitVec 32 := Scalar.addi v2 c1_i32_1607
  let c4_i32_1608 : BitVec 32 := 4#32
  let v1815 : BitVec 32 := Scalar.addi v1814 c4_i32_1608
  let c16_i32_1609 : BitVec 32 := 16#32
  let v1816 : BitVec 32 := Scalar.remsi v1815 c16_i32_1609
  let c1_i32_1616 : BitVec 32 := 1#32
  let v1819 : BitVec 32 := Scalar.muli v1816 c1_i32_1616
  let v1820 : BitVec 32 := Scalar.addi c0_i32_1617 v1819
  v1820.toNat
def k0_dev68 (d0 : Dev nD) : Nat :=
  let c0_i32_1630 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1620 : BitVec 32 := 1#32
  let v1827 : BitVec 32 := Scalar.addi v2 c1_i32_1620
  let c5_i32_1621 : BitVec 32 := 5#32
  let v1828 : BitVec 32 := Scalar.addi v1827 c5_i32_1621
  let c16_i32_1622 : BitVec 32 := 16#32
  let v1829 : BitVec 32 := Scalar.remsi v1828 c16_i32_1622
  let c1_i32_1629 : BitVec 32 := 1#32
  let v1832 : BitVec 32 := Scalar.muli v1829 c1_i32_1629
  let v1833 : BitVec 32 := Scalar.addi c0_i32_1630 v1832
  v1833.toNat
def k0_dev69 (d0 : Dev nD) : Nat :=
  let c0_i32_1643 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1633 : BitVec 32 := 1#32
  let v1840 : BitVec 32 := Scalar.addi v2 c1_i32_1633
  let c6_i32_1634 : BitVec 32 := 6#32
  let v1841 : BitVec 32 := Scalar.addi v1840 c6_i32_1634
  let c16_i32_1635 : BitVec 32 := 16#32
  let v1842 : BitVec 32 := Scalar.remsi v1841 c16_i32_1635
  let c1_i32_1642 : BitVec 32 := 1#32
  let v1845 : BitVec 32 := Scalar.muli v1842 c1_i32_1642
  let v1846 : BitVec 32 := Scalar.addi c0_i32_1643 v1845
  v1846.toNat
def k0_dev70 (d0 : Dev nD) : Nat :=
  let c0_i32_1656 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1646 : BitVec 32 := 1#32
  let v1853 : BitVec 32 := Scalar.addi v2 c1_i32_1646
  let c7_i32_1647 : BitVec 32 := 7#32
  let v1854 : BitVec 32 := Scalar.addi v1853 c7_i32_1647
  let c16_i32_1648 : BitVec 32 := 16#32
  let v1855 : BitVec 32 := Scalar.remsi v1854 c16_i32_1648
  let c1_i32_1655 : BitVec 32 := 1#32
  let v1858 : BitVec 32 := Scalar.muli v1855 c1_i32_1655
  let v1859 : BitVec 32 := Scalar.addi c0_i32_1656 v1858
  v1859.toNat
def k0_dev71 (d0 : Dev nD) : Nat :=
  let c0_i32_1669 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1659 : BitVec 32 := 1#32
  let v1866 : BitVec 32 := Scalar.addi v2 c1_i32_1659
  let c8_i32_1660 : BitVec 32 := 8#32
  let v1867 : BitVec 32 := Scalar.addi v1866 c8_i32_1660
  let c16_i32_1661 : BitVec 32 := 16#32
  let v1868 : BitVec 32 := Scalar.remsi v1867 c16_i32_1661
  let c1_i32_1668 : BitVec 32 := 1#32
  let v1871 : BitVec 32 := Scalar.muli v1868 c1_i32_1668
  let v1872 : BitVec 32 := Scalar.addi c0_i32_1669 v1871
  v1872.toNat
def k0_dev72 (d0 : Dev nD) : Nat :=
  let c0_i32_1682 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1672 : BitVec 32 := 1#32
  let v1879 : BitVec 32 := Scalar.addi v2 c1_i32_1672
  let c9_i32_1673 : BitVec 32 := 9#32
  let v1880 : BitVec 32 := Scalar.addi v1879 c9_i32_1673
  let c16_i32_1674 : BitVec 32 := 16#32
  let v1881 : BitVec 32 := Scalar.remsi v1880 c16_i32_1674
  let c1_i32_1681 : BitVec 32 := 1#32
  let v1884 : BitVec 32 := Scalar.muli v1881 c1_i32_1681
  let v1885 : BitVec 32 := Scalar.addi c0_i32_1682 v1884
  v1885.toNat
def k0_dev73 (d0 : Dev nD) : Nat :=
  let c0_i32_1695 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1685 : BitVec 32 := 1#32
  let v1892 : BitVec 32 := Scalar.addi v2 c1_i32_1685
  let c10_i32_1686 : BitVec 32 := 10#32
  let v1893 : BitVec 32 := Scalar.addi v1892 c10_i32_1686
  let c16_i32_1687 : BitVec 32 := 16#32
  let v1894 : BitVec 32 := Scalar.remsi v1893 c16_i32_1687
  let c1_i32_1694 : BitVec 32 := 1#32
  let v1897 : BitVec 32 := Scalar.muli v1894 c1_i32_1694
  let v1898 : BitVec 32 := Scalar.addi c0_i32_1695 v1897
  v1898.toNat
def k0_dev74 (d0 : Dev nD) : Nat :=
  let c0_i32_1708 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1698 : BitVec 32 := 1#32
  let v1905 : BitVec 32 := Scalar.addi v2 c1_i32_1698
  let c11_i32_1699 : BitVec 32 := 11#32
  let v1906 : BitVec 32 := Scalar.addi v1905 c11_i32_1699
  let c16_i32_1700 : BitVec 32 := 16#32
  let v1907 : BitVec 32 := Scalar.remsi v1906 c16_i32_1700
  let c1_i32_1707 : BitVec 32 := 1#32
  let v1910 : BitVec 32 := Scalar.muli v1907 c1_i32_1707
  let v1911 : BitVec 32 := Scalar.addi c0_i32_1708 v1910
  v1911.toNat
def k0_dev75 (d0 : Dev nD) : Nat :=
  let c0_i32_1721 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1711 : BitVec 32 := 1#32
  let v1918 : BitVec 32 := Scalar.addi v2 c1_i32_1711
  let c12_i32_1712 : BitVec 32 := 12#32
  let v1919 : BitVec 32 := Scalar.addi v1918 c12_i32_1712
  let c16_i32_1713 : BitVec 32 := 16#32
  let v1920 : BitVec 32 := Scalar.remsi v1919 c16_i32_1713
  let c1_i32_1720 : BitVec 32 := 1#32
  let v1923 : BitVec 32 := Scalar.muli v1920 c1_i32_1720
  let v1924 : BitVec 32 := Scalar.addi c0_i32_1721 v1923
  v1924.toNat
def k0_dev76 (d0 : Dev nD) : Nat :=
  let c0_i32_1734 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1724 : BitVec 32 := 1#32
  let v1931 : BitVec 32 := Scalar.addi v2 c1_i32_1724
  let c13_i32_1725 : BitVec 32 := 13#32
  let v1932 : BitVec 32 := Scalar.addi v1931 c13_i32_1725
  let c16_i32_1726 : BitVec 32 := 16#32
  let v1933 : BitVec 32 := Scalar.remsi v1932 c16_i32_1726
  let c1_i32_1733 : BitVec 32 := 1#32
  let v1936 : BitVec 32 := Scalar.muli v1933 c1_i32_1733
  let v1937 : BitVec 32 := Scalar.addi c0_i32_1734 v1936
  v1937.toNat
def k0_dev77 (d0 : Dev nD) : Nat :=
  let c0_i32_1747 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1737 : BitVec 32 := 1#32
  let v1944 : BitVec 32 := Scalar.addi v2 c1_i32_1737
  let c14_i32_1738 : BitVec 32 := 14#32
  let v1945 : BitVec 32 := Scalar.addi v1944 c14_i32_1738
  let c16_i32_1739 : BitVec 32 := 16#32
  let v1946 : BitVec 32 := Scalar.remsi v1945 c16_i32_1739
  let c1_i32_1746 : BitVec 32 := 1#32
  let v1949 : BitVec 32 := Scalar.muli v1946 c1_i32_1746
  let v1950 : BitVec 32 := Scalar.addi c0_i32_1747 v1949
  v1950.toNat
def k0_cond9 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_433 : BitVec 32 := 1#32
  let v709 : BitVec 32 := Scalar.addi v3 c1_i32_433
  let c3_i32_434 : BitVec 32 := 3#32
  let v710 : BitVec 32 := Scalar.addi v709 c3_i32_434
  let c4_i32_435 : BitVec 32 := 4#32
  let v711 : BitVec 32 := Scalar.remsi v710 c4_i32_435
  let c4_i32_468 : BitVec 32 := 4#32
  let v820 : BitVec 32 := Scalar.muli v711 c4_i32_468
  let c0_i32_477 : BitVec 32 := 0#32
  let v839 : BitVec 32 := Scalar.addi v820 c0_i32_477
  let v848 : BitVec 1 := Scalar.cmpi .ne v839 v2
  let v2029 : BitVec 32 := Scalar.extui v848
  let c0_i32_1875 : BitVec 32 := 0#32
  let v2030 : BitVec 1 := Scalar.cmpi .ne v2029 c0_i32_1875
  v2030

def k0_off42 (d0 : Dev nD) : Fin 4 → Nat :=
  let c0_i32_1871 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_433 : BitVec 32 := 1#32
  let v709 : BitVec 32 := Scalar.addi v3 c1_i32_433
  let c3_i32_434 : BitVec 32 := 3#32
  let v710 : BitVec 32 := Scalar.addi v709 c3_i32_434
  let c4_i32_435 : BitVec 32 := 4#32
  let v711 : BitVec 32 := Scalar.remsi v710 c4_i32_435
  let c4_i32_468 : BitVec 32 := 4#32
  let v820 : BitVec 32 := Scalar.muli v711 c4_i32_468
  let c0_i32_477 : BitVec 32 := 0#32
  let v839 : BitVec 32 := Scalar.addi v820 c0_i32_477
  let c0_i32_2489 : BitVec 32 := 0#32
  let c0_i32_2490 : BitVec 32 := 0#32
  ![0, v839.toNat, 0, 0]
def k0_off43 (d0 : Dev nD) : Fin 4 → Nat :=
  let c0_i32_1870 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_433 : BitVec 32 := 1#32
  let v709 : BitVec 32 := Scalar.addi v3 c1_i32_433
  let c3_i32_434 : BitVec 32 := 3#32
  let v710 : BitVec 32 := Scalar.addi v709 c3_i32_434
  let c4_i32_435 : BitVec 32 := 4#32
  let v711 : BitVec 32 := Scalar.remsi v710 c4_i32_435
  let c4_i32_468 : BitVec 32 := 4#32
  let v820 : BitVec 32 := Scalar.muli v711 c4_i32_468
  let c0_i32_477 : BitVec 32 := 0#32
  let v839 : BitVec 32 := Scalar.addi v820 c0_i32_477
  let v840 : BitVec 32 := Scalar.subi v2 v839
  let c1_i32_478 : BitVec 32 := 1#32
  let v841 : BitVec 32 := Scalar.subi v840 c1_i32_478
  let c16_i32_479 : BitVec 32 := 16#32
  let v842 : BitVec 32 := Scalar.addi v841 c16_i32_479
  let c16_i32_480 : BitVec 32 := 16#32
  let v843 : BitVec 32 := Scalar.remsi v842 c16_i32_480
  let c0_i32_2491 : BitVec 32 := 0#32
  let c0_i32_2492 : BitVec 32 := 0#32
  ![0, v843.toNat, 0, 0]
def k0_cond10 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_433 : BitVec 32 := 1#32
  let v709 : BitVec 32 := Scalar.addi v3 c1_i32_433
  let c3_i32_434 : BitVec 32 := 3#32
  let v710 : BitVec 32 := Scalar.addi v709 c3_i32_434
  let c4_i32_435 : BitVec 32 := 4#32
  let v711 : BitVec 32 := Scalar.remsi v710 c4_i32_435
  let c4_i32_468 : BitVec 32 := 4#32
  let v820 : BitVec 32 := Scalar.muli v711 c4_i32_468
  let c1_i32_490 : BitVec 32 := 1#32
  let v851 : BitVec 32 := Scalar.addi v820 c1_i32_490
  let v860 : BitVec 1 := Scalar.cmpi .ne v851 v2
  let v2031 : BitVec 32 := Scalar.extui v860
  let c0_i32_1881 : BitVec 32 := 0#32
  let v2032 : BitVec 1 := Scalar.cmpi .ne v2031 c0_i32_1881
  v2032

def k0_off44 (d0 : Dev nD) : Fin 4 → Nat :=
  let c0_i32_1877 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_433 : BitVec 32 := 1#32
  let v709 : BitVec 32 := Scalar.addi v3 c1_i32_433
  let c3_i32_434 : BitVec 32 := 3#32
  let v710 : BitVec 32 := Scalar.addi v709 c3_i32_434
  let c4_i32_435 : BitVec 32 := 4#32
  let v711 : BitVec 32 := Scalar.remsi v710 c4_i32_435
  let c4_i32_468 : BitVec 32 := 4#32
  let v820 : BitVec 32 := Scalar.muli v711 c4_i32_468
  let c1_i32_490 : BitVec 32 := 1#32
  let v851 : BitVec 32 := Scalar.addi v820 c1_i32_490
  let c0_i32_2489 : BitVec 32 := 0#32
  let c0_i32_2490 : BitVec 32 := 0#32
  ![0, v851.toNat, 0, 0]
def k0_off45 (d0 : Dev nD) : Fin 4 → Nat :=
  let c0_i32_1876 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_433 : BitVec 32 := 1#32
  let v709 : BitVec 32 := Scalar.addi v3 c1_i32_433
  let c3_i32_434 : BitVec 32 := 3#32
  let v710 : BitVec 32 := Scalar.addi v709 c3_i32_434
  let c4_i32_435 : BitVec 32 := 4#32
  let v711 : BitVec 32 := Scalar.remsi v710 c4_i32_435
  let c4_i32_468 : BitVec 32 := 4#32
  let v820 : BitVec 32 := Scalar.muli v711 c4_i32_468
  let c1_i32_490 : BitVec 32 := 1#32
  let v851 : BitVec 32 := Scalar.addi v820 c1_i32_490
  let v852 : BitVec 32 := Scalar.subi v2 v851
  let c1_i32_491 : BitVec 32 := 1#32
  let v853 : BitVec 32 := Scalar.subi v852 c1_i32_491
  let c16_i32_492 : BitVec 32 := 16#32
  let v854 : BitVec 32 := Scalar.addi v853 c16_i32_492
  let c16_i32_493 : BitVec 32 := 16#32
  let v855 : BitVec 32 := Scalar.remsi v854 c16_i32_493
  let c0_i32_2491 : BitVec 32 := 0#32
  let c0_i32_2492 : BitVec 32 := 0#32
  ![0, v855.toNat, 0, 0]
def k0_cond11 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_433 : BitVec 32 := 1#32
  let v709 : BitVec 32 := Scalar.addi v3 c1_i32_433
  let c3_i32_434 : BitVec 32 := 3#32
  let v710 : BitVec 32 := Scalar.addi v709 c3_i32_434
  let c4_i32_435 : BitVec 32 := 4#32
  let v711 : BitVec 32 := Scalar.remsi v710 c4_i32_435
  let c4_i32_468 : BitVec 32 := 4#32
  let v820 : BitVec 32 := Scalar.muli v711 c4_i32_468
  let c2_i32_503 : BitVec 32 := 2#32
  let v863 : BitVec 32 := Scalar.addi v820 c2_i32_503
  let v872 : BitVec 1 := Scalar.cmpi .ne v863 v2
  let v2033 : BitVec 32 := Scalar.extui v872
  let c0_i32_1887 : BitVec 32 := 0#32
  let v2034 : BitVec 1 := Scalar.cmpi .ne v2033 c0_i32_1887
  v2034

def k0_off46 (d0 : Dev nD) : Fin 4 → Nat :=
  let c0_i32_1883 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_433 : BitVec 32 := 1#32
  let v709 : BitVec 32 := Scalar.addi v3 c1_i32_433
  let c3_i32_434 : BitVec 32 := 3#32
  let v710 : BitVec 32 := Scalar.addi v709 c3_i32_434
  let c4_i32_435 : BitVec 32 := 4#32
  let v711 : BitVec 32 := Scalar.remsi v710 c4_i32_435
  let c4_i32_468 : BitVec 32 := 4#32
  let v820 : BitVec 32 := Scalar.muli v711 c4_i32_468
  let c2_i32_503 : BitVec 32 := 2#32
  let v863 : BitVec 32 := Scalar.addi v820 c2_i32_503
  let c0_i32_2489 : BitVec 32 := 0#32
  let c0_i32_2490 : BitVec 32 := 0#32
  ![0, v863.toNat, 0, 0]
def k0_off47 (d0 : Dev nD) : Fin 4 → Nat :=
  let c0_i32_1882 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_433 : BitVec 32 := 1#32
  let v709 : BitVec 32 := Scalar.addi v3 c1_i32_433
  let c3_i32_434 : BitVec 32 := 3#32
  let v710 : BitVec 32 := Scalar.addi v709 c3_i32_434
  let c4_i32_435 : BitVec 32 := 4#32
  let v711 : BitVec 32 := Scalar.remsi v710 c4_i32_435
  let c4_i32_468 : BitVec 32 := 4#32
  let v820 : BitVec 32 := Scalar.muli v711 c4_i32_468
  let c2_i32_503 : BitVec 32 := 2#32
  let v863 : BitVec 32 := Scalar.addi v820 c2_i32_503
  let v864 : BitVec 32 := Scalar.subi v2 v863
  let c1_i32_504 : BitVec 32 := 1#32
  let v865 : BitVec 32 := Scalar.subi v864 c1_i32_504
  let c16_i32_505 : BitVec 32 := 16#32
  let v866 : BitVec 32 := Scalar.addi v865 c16_i32_505
  let c16_i32_506 : BitVec 32 := 16#32
  let v867 : BitVec 32 := Scalar.remsi v866 c16_i32_506
  let c0_i32_2491 : BitVec 32 := 0#32
  let c0_i32_2492 : BitVec 32 := 0#32
  ![0, v867.toNat, 0, 0]
def k0_cond12 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_433 : BitVec 32 := 1#32
  let v709 : BitVec 32 := Scalar.addi v3 c1_i32_433
  let c3_i32_434 : BitVec 32 := 3#32
  let v710 : BitVec 32 := Scalar.addi v709 c3_i32_434
  let c4_i32_435 : BitVec 32 := 4#32
  let v711 : BitVec 32 := Scalar.remsi v710 c4_i32_435
  let c4_i32_468 : BitVec 32 := 4#32
  let v820 : BitVec 32 := Scalar.muli v711 c4_i32_468
  let c3_i32_516 : BitVec 32 := 3#32
  let v875 : BitVec 32 := Scalar.addi v820 c3_i32_516
  let v884 : BitVec 1 := Scalar.cmpi .ne v875 v2
  let v2035 : BitVec 32 := Scalar.extui v884
  let c0_i32_1893 : BitVec 32 := 0#32
  let v2036 : BitVec 1 := Scalar.cmpi .ne v2035 c0_i32_1893
  v2036

def k0_off48 (d0 : Dev nD) : Fin 4 → Nat :=
  let c0_i32_1889 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_433 : BitVec 32 := 1#32
  let v709 : BitVec 32 := Scalar.addi v3 c1_i32_433
  let c3_i32_434 : BitVec 32 := 3#32
  let v710 : BitVec 32 := Scalar.addi v709 c3_i32_434
  let c4_i32_435 : BitVec 32 := 4#32
  let v711 : BitVec 32 := Scalar.remsi v710 c4_i32_435
  let c4_i32_468 : BitVec 32 := 4#32
  let v820 : BitVec 32 := Scalar.muli v711 c4_i32_468
  let c3_i32_516 : BitVec 32 := 3#32
  let v875 : BitVec 32 := Scalar.addi v820 c3_i32_516
  let c0_i32_2489 : BitVec 32 := 0#32
  let c0_i32_2490 : BitVec 32 := 0#32
  ![0, v875.toNat, 0, 0]
def k0_off49 (d0 : Dev nD) : Fin 4 → Nat :=
  let c0_i32_1888 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_433 : BitVec 32 := 1#32
  let v709 : BitVec 32 := Scalar.addi v3 c1_i32_433
  let c3_i32_434 : BitVec 32 := 3#32
  let v710 : BitVec 32 := Scalar.addi v709 c3_i32_434
  let c4_i32_435 : BitVec 32 := 4#32
  let v711 : BitVec 32 := Scalar.remsi v710 c4_i32_435
  let c4_i32_468 : BitVec 32 := 4#32
  let v820 : BitVec 32 := Scalar.muli v711 c4_i32_468
  let c3_i32_516 : BitVec 32 := 3#32
  let v875 : BitVec 32 := Scalar.addi v820 c3_i32_516
  let v876 : BitVec 32 := Scalar.subi v2 v875
  let c1_i32_517 : BitVec 32 := 1#32
  let v877 : BitVec 32 := Scalar.subi v876 c1_i32_517
  let c16_i32_518 : BitVec 32 := 16#32
  let v878 : BitVec 32 := Scalar.addi v877 c16_i32_518
  let c16_i32_519 : BitVec 32 := 16#32
  let v879 : BitVec 32 := Scalar.remsi v878 c16_i32_519
  let c0_i32_2491 : BitVec 32 := 0#32
  let c0_i32_2492 : BitVec 32 := 0#32
  ![0, v879.toNat, 0, 0]
def k0_cond13 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_766 : BitVec 32 := 1#32
  let v1136 : BitVec 32 := Scalar.addi v3 c1_i32_766
  let c3_i32_767 : BitVec 32 := 3#32
  let v1137 : BitVec 32 := Scalar.addi v1136 c3_i32_767
  let c4_i32_768 : BitVec 32 := 4#32
  let v1138 : BitVec 32 := Scalar.remsi v1137 c4_i32_768
  let c4_i32_769 : BitVec 32 := 4#32
  let v1139 : BitVec 32 := Scalar.muli v1138 c4_i32_769
  let c0_i32_770 : BitVec 32 := 0#32
  let v1140 : BitVec 32 := Scalar.addi v1139 c0_i32_770
  let v1149 : BitVec 1 := Scalar.cmpi .ne v1140 v2
  let v2109 : BitVec 32 := Scalar.extui v1149
  let c0_i32_2019 : BitVec 32 := 0#32
  let v2110 : BitVec 1 := Scalar.cmpi .ne v2109 c0_i32_2019
  v2110

def k0_off50 (d0 : Dev nD) : Fin 4 → Nat :=
  let c1_i32_2015 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_766 : BitVec 32 := 1#32
  let v1136 : BitVec 32 := Scalar.addi v3 c1_i32_766
  let c3_i32_767 : BitVec 32 := 3#32
  let v1137 : BitVec 32 := Scalar.addi v1136 c3_i32_767
  let c4_i32_768 : BitVec 32 := 4#32
  let v1138 : BitVec 32 := Scalar.remsi v1137 c4_i32_768
  let c4_i32_769 : BitVec 32 := 4#32
  let v1139 : BitVec 32 := Scalar.muli v1138 c4_i32_769
  let c0_i32_770 : BitVec 32 := 0#32
  let v1140 : BitVec 32 := Scalar.addi v1139 c0_i32_770
  let c0_i32_2489 : BitVec 32 := 0#32
  let c0_i32_2490 : BitVec 32 := 0#32
  ![1, v1140.toNat, 0, 0]
def k0_off51 (d0 : Dev nD) : Fin 4 → Nat :=
  let c1_i32_2014 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_766 : BitVec 32 := 1#32
  let v1136 : BitVec 32 := Scalar.addi v3 c1_i32_766
  let c3_i32_767 : BitVec 32 := 3#32
  let v1137 : BitVec 32 := Scalar.addi v1136 c3_i32_767
  let c4_i32_768 : BitVec 32 := 4#32
  let v1138 : BitVec 32 := Scalar.remsi v1137 c4_i32_768
  let c4_i32_769 : BitVec 32 := 4#32
  let v1139 : BitVec 32 := Scalar.muli v1138 c4_i32_769
  let c0_i32_770 : BitVec 32 := 0#32
  let v1140 : BitVec 32 := Scalar.addi v1139 c0_i32_770
  let v1141 : BitVec 32 := Scalar.subi v2 v1140
  let c1_i32_771 : BitVec 32 := 1#32
  let v1142 : BitVec 32 := Scalar.subi v1141 c1_i32_771
  let c16_i32_772 : BitVec 32 := 16#32
  let v1143 : BitVec 32 := Scalar.addi v1142 c16_i32_772
  let c16_i32_773 : BitVec 32 := 16#32
  let v1144 : BitVec 32 := Scalar.remsi v1143 c16_i32_773
  let c0_i32_2491 : BitVec 32 := 0#32
  let c0_i32_2492 : BitVec 32 := 0#32
  ![1, v1144.toNat, 0, 0]
def k0_cond14 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_766 : BitVec 32 := 1#32
  let v1136 : BitVec 32 := Scalar.addi v3 c1_i32_766
  let c3_i32_767 : BitVec 32 := 3#32
  let v1137 : BitVec 32 := Scalar.addi v1136 c3_i32_767
  let c4_i32_768 : BitVec 32 := 4#32
  let v1138 : BitVec 32 := Scalar.remsi v1137 c4_i32_768
  let c4_i32_783 : BitVec 32 := 4#32
  let v1152 : BitVec 32 := Scalar.muli v1138 c4_i32_783
  let c1_i32_784 : BitVec 32 := 1#32
  let v1153 : BitVec 32 := Scalar.addi v1152 c1_i32_784
  let v1162 : BitVec 1 := Scalar.cmpi .ne v1153 v2
  let v2111 : BitVec 32 := Scalar.extui v1162
  let c0_i32_2025 : BitVec 32 := 0#32
  let v2112 : BitVec 1 := Scalar.cmpi .ne v2111 c0_i32_2025
  v2112

def k0_off52 (d0 : Dev nD) : Fin 4 → Nat :=
  let c1_i32_2021 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_766 : BitVec 32 := 1#32
  let v1136 : BitVec 32 := Scalar.addi v3 c1_i32_766
  let c3_i32_767 : BitVec 32 := 3#32
  let v1137 : BitVec 32 := Scalar.addi v1136 c3_i32_767
  let c4_i32_768 : BitVec 32 := 4#32
  let v1138 : BitVec 32 := Scalar.remsi v1137 c4_i32_768
  let c4_i32_783 : BitVec 32 := 4#32
  let v1152 : BitVec 32 := Scalar.muli v1138 c4_i32_783
  let c1_i32_784 : BitVec 32 := 1#32
  let v1153 : BitVec 32 := Scalar.addi v1152 c1_i32_784
  let c0_i32_2489 : BitVec 32 := 0#32
  let c0_i32_2490 : BitVec 32 := 0#32
  ![1, v1153.toNat, 0, 0]
def k0_off53 (d0 : Dev nD) : Fin 4 → Nat :=
  let c1_i32_2020 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_766 : BitVec 32 := 1#32
  let v1136 : BitVec 32 := Scalar.addi v3 c1_i32_766
  let c3_i32_767 : BitVec 32 := 3#32
  let v1137 : BitVec 32 := Scalar.addi v1136 c3_i32_767
  let c4_i32_768 : BitVec 32 := 4#32
  let v1138 : BitVec 32 := Scalar.remsi v1137 c4_i32_768
  let c4_i32_783 : BitVec 32 := 4#32
  let v1152 : BitVec 32 := Scalar.muli v1138 c4_i32_783
  let c1_i32_784 : BitVec 32 := 1#32
  let v1153 : BitVec 32 := Scalar.addi v1152 c1_i32_784
  let v1154 : BitVec 32 := Scalar.subi v2 v1153
  let c1_i32_785 : BitVec 32 := 1#32
  let v1155 : BitVec 32 := Scalar.subi v1154 c1_i32_785
  let c16_i32_786 : BitVec 32 := 16#32
  let v1156 : BitVec 32 := Scalar.addi v1155 c16_i32_786
  let c16_i32_787 : BitVec 32 := 16#32
  let v1157 : BitVec 32 := Scalar.remsi v1156 c16_i32_787
  let c0_i32_2491 : BitVec 32 := 0#32
  let c0_i32_2492 : BitVec 32 := 0#32
  ![1, v1157.toNat, 0, 0]
def k0_cond15 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_766 : BitVec 32 := 1#32
  let v1136 : BitVec 32 := Scalar.addi v3 c1_i32_766
  let c3_i32_767 : BitVec 32 := 3#32
  let v1137 : BitVec 32 := Scalar.addi v1136 c3_i32_767
  let c4_i32_768 : BitVec 32 := 4#32
  let v1138 : BitVec 32 := Scalar.remsi v1137 c4_i32_768
  let c4_i32_797 : BitVec 32 := 4#32
  let v1165 : BitVec 32 := Scalar.muli v1138 c4_i32_797
  let c2_i32_798 : BitVec 32 := 2#32
  let v1166 : BitVec 32 := Scalar.addi v1165 c2_i32_798
  let v1175 : BitVec 1 := Scalar.cmpi .ne v1166 v2
  let v2113 : BitVec 32 := Scalar.extui v1175
  let c0_i32_2031 : BitVec 32 := 0#32
  let v2114 : BitVec 1 := Scalar.cmpi .ne v2113 c0_i32_2031
  v2114

def k0_off54 (d0 : Dev nD) : Fin 4 → Nat :=
  let c1_i32_2027 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_766 : BitVec 32 := 1#32
  let v1136 : BitVec 32 := Scalar.addi v3 c1_i32_766
  let c3_i32_767 : BitVec 32 := 3#32
  let v1137 : BitVec 32 := Scalar.addi v1136 c3_i32_767
  let c4_i32_768 : BitVec 32 := 4#32
  let v1138 : BitVec 32 := Scalar.remsi v1137 c4_i32_768
  let c4_i32_797 : BitVec 32 := 4#32
  let v1165 : BitVec 32 := Scalar.muli v1138 c4_i32_797
  let c2_i32_798 : BitVec 32 := 2#32
  let v1166 : BitVec 32 := Scalar.addi v1165 c2_i32_798
  let c0_i32_2489 : BitVec 32 := 0#32
  let c0_i32_2490 : BitVec 32 := 0#32
  ![1, v1166.toNat, 0, 0]
def k0_off55 (d0 : Dev nD) : Fin 4 → Nat :=
  let c1_i32_2026 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_766 : BitVec 32 := 1#32
  let v1136 : BitVec 32 := Scalar.addi v3 c1_i32_766
  let c3_i32_767 : BitVec 32 := 3#32
  let v1137 : BitVec 32 := Scalar.addi v1136 c3_i32_767
  let c4_i32_768 : BitVec 32 := 4#32
  let v1138 : BitVec 32 := Scalar.remsi v1137 c4_i32_768
  let c4_i32_797 : BitVec 32 := 4#32
  let v1165 : BitVec 32 := Scalar.muli v1138 c4_i32_797
  let c2_i32_798 : BitVec 32 := 2#32
  let v1166 : BitVec 32 := Scalar.addi v1165 c2_i32_798
  let v1167 : BitVec 32 := Scalar.subi v2 v1166
  let c1_i32_799 : BitVec 32 := 1#32
  let v1168 : BitVec 32 := Scalar.subi v1167 c1_i32_799
  let c16_i32_800 : BitVec 32 := 16#32
  let v1169 : BitVec 32 := Scalar.addi v1168 c16_i32_800
  let c16_i32_801 : BitVec 32 := 16#32
  let v1170 : BitVec 32 := Scalar.remsi v1169 c16_i32_801
  let c0_i32_2491 : BitVec 32 := 0#32
  let c0_i32_2492 : BitVec 32 := 0#32
  ![1, v1170.toNat, 0, 0]
def k0_cond16 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_766 : BitVec 32 := 1#32
  let v1136 : BitVec 32 := Scalar.addi v3 c1_i32_766
  let c3_i32_767 : BitVec 32 := 3#32
  let v1137 : BitVec 32 := Scalar.addi v1136 c3_i32_767
  let c4_i32_768 : BitVec 32 := 4#32
  let v1138 : BitVec 32 := Scalar.remsi v1137 c4_i32_768
  let c4_i32_811 : BitVec 32 := 4#32
  let v1178 : BitVec 32 := Scalar.muli v1138 c4_i32_811
  let c3_i32_812 : BitVec 32 := 3#32
  let v1179 : BitVec 32 := Scalar.addi v1178 c3_i32_812
  let v1188 : BitVec 1 := Scalar.cmpi .ne v1179 v2
  let v2115 : BitVec 32 := Scalar.extui v1188
  let c0_i32_2037 : BitVec 32 := 0#32
  let v2116 : BitVec 1 := Scalar.cmpi .ne v2115 c0_i32_2037
  v2116

def k0_off56 (d0 : Dev nD) : Fin 4 → Nat :=
  let c1_i32_2033 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_766 : BitVec 32 := 1#32
  let v1136 : BitVec 32 := Scalar.addi v3 c1_i32_766
  let c3_i32_767 : BitVec 32 := 3#32
  let v1137 : BitVec 32 := Scalar.addi v1136 c3_i32_767
  let c4_i32_768 : BitVec 32 := 4#32
  let v1138 : BitVec 32 := Scalar.remsi v1137 c4_i32_768
  let c4_i32_811 : BitVec 32 := 4#32
  let v1178 : BitVec 32 := Scalar.muli v1138 c4_i32_811
  let c3_i32_812 : BitVec 32 := 3#32
  let v1179 : BitVec 32 := Scalar.addi v1178 c3_i32_812
  let c0_i32_2489 : BitVec 32 := 0#32
  let c0_i32_2490 : BitVec 32 := 0#32
  ![1, v1179.toNat, 0, 0]
def k0_off57 (d0 : Dev nD) : Fin 4 → Nat :=
  let c1_i32_2032 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_766 : BitVec 32 := 1#32
  let v1136 : BitVec 32 := Scalar.addi v3 c1_i32_766
  let c3_i32_767 : BitVec 32 := 3#32
  let v1137 : BitVec 32 := Scalar.addi v1136 c3_i32_767
  let c4_i32_768 : BitVec 32 := 4#32
  let v1138 : BitVec 32 := Scalar.remsi v1137 c4_i32_768
  let c4_i32_811 : BitVec 32 := 4#32
  let v1178 : BitVec 32 := Scalar.muli v1138 c4_i32_811
  let c3_i32_812 : BitVec 32 := 3#32
  let v1179 : BitVec 32 := Scalar.addi v1178 c3_i32_812
  let v1180 : BitVec 32 := Scalar.subi v2 v1179
  let c1_i32_813 : BitVec 32 := 1#32
  let v1181 : BitVec 32 := Scalar.subi v1180 c1_i32_813
  let c16_i32_814 : BitVec 32 := 16#32
  let v1182 : BitVec 32 := Scalar.addi v1181 c16_i32_814
  let c16_i32_815 : BitVec 32 := 16#32
  let v1183 : BitVec 32 := Scalar.remsi v1182 c16_i32_815
  let c0_i32_2491 : BitVec 32 := 0#32
  let c0_i32_2492 : BitVec 32 := 0#32
  ![1, v1183.toNat, 0, 0]
abbrev stage0_0 : Fin 1 → Memref sig .tc .vmem S1024x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x2 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S1024x256 : Shape := ⟨2, ![1024, 256]⟩
abbrev S256x64 : Shape := ⟨2, ![256, 64]⟩
abbrev S1024x2 : Shape := ⟨2, ![1024, 2]⟩
abbrev S64x256x512 : Shape := ⟨3, ![64, 256, 512]⟩
abbrev S1024x64 : Shape := ⟨2, ![1024, 64]⟩
abbrev S_ : Shape := ⟨0, ![]⟩
abbrev S1024 : Shape := ⟨1, ![1024]⟩
abbrev S1024x1 : Shape := ⟨2, ![1024, 1]⟩
abbrev S1024x1x1 : Shape := ⟨3, ![1024, 1, 1]⟩
abbrev S1 : Shape := ⟨1, ![1]⟩
abbrev S1x1x1 : Shape := ⟨3, ![1, 1, 1]⟩
abbrev S1024x256x512 : Shape := ⟨3, ![1024, 256, 512]⟩
abbrev S1024x512 : Shape := ⟨2, ![1024, 512]⟩

abbrev nBuf : Space → Nat
  | .hbm => 98
  | .vmem => 0
  | .smem => 0
  | _ => 0

abbrev bufTy : (tb : Table) → Fin (tcTables nBuf tb) → BufTy
  | .hbm, ⟨0, _⟩ => ⟨S1024x256, .bf16⟩
  | .hbm, ⟨1, _⟩ => ⟨S256x64, .bf16⟩
  | .hbm, ⟨2, _⟩ => ⟨S1024x2, .i32⟩
  | .hbm, ⟨3, _⟩ => ⟨S64x256x512, .bf16⟩
  | .hbm, ⟨4, _⟩ => ⟨S1024x256, .f32⟩
  | .hbm, ⟨5, _⟩ => ⟨S256x64, .f32⟩
  | .hbm, ⟨6, _⟩ => ⟨S1024x64, .f32⟩
  | .hbm, ⟨7, _⟩ => ⟨S_, .f32⟩
  | .hbm, ⟨8, _⟩ => ⟨S1024, .f32⟩
  | .hbm, ⟨9, _⟩ => ⟨S1024x1, .f32⟩
  | .hbm, ⟨10, _⟩ => ⟨S1024x64, .f32⟩
  | .hbm, ⟨11, _⟩ => ⟨S1024x64, .f32⟩
  | .hbm, ⟨12, _⟩ => ⟨S1024x64, .f32⟩
  | .hbm, ⟨13, _⟩ => ⟨S_, .f32⟩
  | .hbm, ⟨14, _⟩ => ⟨S1024, .f32⟩
  | .hbm, ⟨15, _⟩ => ⟨S1024x1, .f32⟩
  | .hbm, ⟨16, _⟩ => ⟨S1024x64, .f32⟩
  | .hbm, ⟨17, _⟩ => ⟨S1024x64, .f32⟩
  | .hbm, ⟨18, _⟩ => ⟨S1024x1, .i32⟩
  | .hbm, ⟨19, _⟩ => ⟨S1024, .i32⟩
  | .hbm, ⟨20, _⟩ => ⟨S1024x1, .i32⟩
  | .hbm, ⟨21, _⟩ => ⟨S1024, .i32⟩
  | .hbm, ⟨22, _⟩ => ⟨S1024x1, .i32⟩
  | .hbm, ⟨23, _⟩ => ⟨S_, .i32⟩
  | .hbm, ⟨24, _⟩ => ⟨S1024x1, .i32⟩
  | .hbm, ⟨25, _⟩ => ⟨S1024x1, .i1⟩
  | .hbm, ⟨26, _⟩ => ⟨S_, .i32⟩
  | .hbm, ⟨27, _⟩ => ⟨S1024x1, .i32⟩
  | .hbm, ⟨28, _⟩ => ⟨S1024x1, .i32⟩
  | .hbm, ⟨29, _⟩ => ⟨S1024x1, .i32⟩
  | .hbm, ⟨30, _⟩ => ⟨S1024x1x1, .i32⟩
  | .hbm, ⟨31, _⟩ => ⟨S1, .i32⟩
  | .hbm, ⟨32, _⟩ => ⟨S_, .i32⟩
  | .hbm, ⟨33, _⟩ => ⟨S1024x1x1, .i32⟩
  | .hbm, ⟨34, _⟩ => ⟨S1024x1x1, .i1⟩
  | .hbm, ⟨35, _⟩ => ⟨S1x1x1, .i32⟩
  | .hbm, ⟨36, _⟩ => ⟨S1024x1x1, .i32⟩
  | .hbm, ⟨37, _⟩ => ⟨S1024x1x1, .i1⟩
  | .hbm, ⟨38, _⟩ => ⟨S1024x1x1, .i1⟩
  | .hbm, ⟨39, _⟩ => ⟨S_, .i1⟩
  | .hbm, ⟨40, _⟩ => ⟨S1024x1, .i1⟩
  | .hbm, ⟨41, _⟩ => ⟨S1024x1, .f32⟩
  | .hbm, ⟨42, _⟩ => ⟨S_, .f32⟩
  | .hbm, ⟨43, _⟩ => ⟨S1024x1, .f32⟩
  | .hbm, ⟨44, _⟩ => ⟨S1024x1, .f32⟩
  | .hbm, ⟨45, _⟩ => ⟨S1024x1, .i32⟩
  | .hbm, ⟨46, _⟩ => ⟨S_, .i32⟩
  | .hbm, ⟨47, _⟩ => ⟨S1024x1, .i32⟩
  | .hbm, ⟨48, _⟩ => ⟨S1024x1, .i1⟩
  | .hbm, ⟨49, _⟩ => ⟨S_, .i32⟩
  | .hbm, ⟨50, _⟩ => ⟨S1024x1, .i32⟩
  | .hbm, ⟨51, _⟩ => ⟨S1024x1, .i32⟩
  | .hbm, ⟨52, _⟩ => ⟨S1024x1, .i32⟩
  | .hbm, ⟨53, _⟩ => ⟨S1024x1x1, .i32⟩
  | .hbm, ⟨54, _⟩ => ⟨S1, .i32⟩
  | .hbm, ⟨55, _⟩ => ⟨S_, .i32⟩
  | .hbm, ⟨56, _⟩ => ⟨S1024x1x1, .i32⟩
  | .hbm, ⟨57, _⟩ => ⟨S1024x1x1, .i1⟩
  | .hbm, ⟨58, _⟩ => ⟨S1x1x1, .i32⟩
  | .hbm, ⟨59, _⟩ => ⟨S1024x1x1, .i32⟩
  | .hbm, ⟨60, _⟩ => ⟨S1024x1x1, .i1⟩
  | .hbm, ⟨61, _⟩ => ⟨S1024x1x1, .i1⟩
  | .hbm, ⟨62, _⟩ => ⟨S_, .i1⟩
  | .hbm, ⟨63, _⟩ => ⟨S1024x1, .i1⟩
  | .hbm, ⟨64, _⟩ => ⟨S1024x1, .f32⟩
  | .hbm, ⟨65, _⟩ => ⟨S_, .f32⟩
  | .hbm, ⟨66, _⟩ => ⟨S1024x1, .f32⟩
  | .hbm, ⟨67, _⟩ => ⟨S1024x1, .f32⟩
  | .hbm, ⟨68, _⟩ => ⟨S1024x1, .f32⟩
  | .hbm, ⟨69, _⟩ => ⟨S64x256x512, .f32⟩
  | .hbm, ⟨70, _⟩ => ⟨S_, .i32⟩
  | .hbm, ⟨71, _⟩ => ⟨S1024, .i32⟩
  | .hbm, ⟨72, _⟩ => ⟨S1024, .i1⟩
  | .hbm, ⟨73, _⟩ => ⟨S_, .i32⟩
  | .hbm, ⟨74, _⟩ => ⟨S1024, .i32⟩
  | .hbm, ⟨75, _⟩ => ⟨S1024, .i32⟩
  | .hbm, ⟨76, _⟩ => ⟨S1024, .i32⟩
  | .hbm, ⟨77, _⟩ => ⟨S1024x1, .i32⟩
  | .hbm, ⟨78, _⟩ => ⟨S1024x256x512, .f32⟩
  | .hbm, ⟨79, _⟩ => ⟨S1024x512, .f32⟩
  | .hbm, ⟨80, _⟩ => ⟨S_, .i32⟩
  | .hbm, ⟨81, _⟩ => ⟨S1024, .i32⟩
  | .hbm, ⟨82, _⟩ => ⟨S1024, .i1⟩
  | .hbm, ⟨83, _⟩ => ⟨S_, .i32⟩
  | .hbm, ⟨84, _⟩ => ⟨S1024, .i32⟩
  | .hbm, ⟨85, _⟩ => ⟨S1024, .i32⟩
  | .hbm, ⟨86, _⟩ => ⟨S1024, .i32⟩
  | .hbm, ⟨87, _⟩ => ⟨S1024x1, .i32⟩
  | .hbm, ⟨88, _⟩ => ⟨S1024x256x512, .f32⟩
  | .hbm, ⟨89, _⟩ => ⟨S1024x512, .f32⟩
  | .hbm, ⟨90, _⟩ => ⟨S1024x1, .f32⟩
  | .hbm, ⟨91, _⟩ => ⟨S1024x512, .f32⟩
  | .hbm, ⟨92, _⟩ => ⟨S1024x512, .f32⟩
  | .hbm, ⟨93, _⟩ => ⟨S1024x1, .f32⟩
  | .hbm, ⟨94, _⟩ => ⟨S1024x512, .f32⟩
  | .hbm, ⟨95, _⟩ => ⟨S1024x512, .f32⟩
  | .hbm, ⟨96, _⟩ => ⟨S1024x512, .f32⟩
  | .hbm, ⟨97, _⟩ => ⟨S1024x512, .bf16⟩
  | _, _ => ⟨S1024x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_call0_c : Ref sig .tc := ⟨.hbm, 23, rfl⟩
abbrev main_call0_v0 : Ref sig .tc := ⟨.hbm, 24, rfl⟩
abbrev main_call0_v1 : Ref sig .tc := ⟨.hbm, 25, rfl⟩
abbrev main_call0_c_0 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_v5 : Ref sig .tc := ⟨.hbm, 30, rfl⟩
abbrev main_call0_c_1 : Ref sig .tc := ⟨.hbm, 31, rfl⟩
abbrev main_call0_c_2 : Ref sig .tc := ⟨.hbm, 32, rfl⟩
abbrev main_call0_v6 : Ref sig .tc := ⟨.hbm, 33, rfl⟩
abbrev main_call0_v7 : Ref sig .tc := ⟨.hbm, 34, rfl⟩
abbrev main_call0_v8 : Ref sig .tc := ⟨.hbm, 35, rfl⟩
abbrev main_call0_v9 : Ref sig .tc := ⟨.hbm, 36, rfl⟩
abbrev main_call0_v10 : Ref sig .tc := ⟨.hbm, 37, rfl⟩
abbrev main_call0_v11 : Ref sig .tc := ⟨.hbm, 38, rfl⟩
abbrev main_call0_c_3 : Ref sig .tc := ⟨.hbm, 39, rfl⟩
abbrev main_call0_v12 : Ref sig .tc := ⟨.hbm, 40, rfl⟩
abbrev main_call0_v13 : Ref sig .tc := ⟨.hbm, 41, rfl⟩
abbrev main_call0_cst : Ref sig .tc := ⟨.hbm, 42, rfl⟩
abbrev main_call0_v14 : Ref sig .tc := ⟨.hbm, 43, rfl⟩
abbrev main_v17 : Ref sig .tc := ⟨.hbm, 44, rfl⟩
abbrev main_v18 : Ref sig .tc := ⟨.hbm, 45, rfl⟩
abbrev main_call1_c : Ref sig .tc := ⟨.hbm, 46, rfl⟩
abbrev main_call1_v0 : Ref sig .tc := ⟨.hbm, 47, rfl⟩
abbrev main_call1_v1 : Ref sig .tc := ⟨.hbm, 48, rfl⟩
abbrev main_call1_c_0 : Ref sig .tc := ⟨.hbm, 49, rfl⟩
abbrev main_call1_v2 : Ref sig .tc := ⟨.hbm, 50, rfl⟩
abbrev main_call1_v3 : Ref sig .tc := ⟨.hbm, 51, rfl⟩
abbrev main_call1_v4 : Ref sig .tc := ⟨.hbm, 52, rfl⟩
abbrev main_call1_v5 : Ref sig .tc := ⟨.hbm, 53, rfl⟩
abbrev main_call1_c_1 : Ref sig .tc := ⟨.hbm, 54, rfl⟩
abbrev main_call1_c_2 : Ref sig .tc := ⟨.hbm, 55, rfl⟩
abbrev main_call1_v6 : Ref sig .tc := ⟨.hbm, 56, rfl⟩
abbrev main_call1_v7 : Ref sig .tc := ⟨.hbm, 57, rfl⟩
abbrev main_call1_v8 : Ref sig .tc := ⟨.hbm, 58, rfl⟩
abbrev main_call1_v9 : Ref sig .tc := ⟨.hbm, 59, rfl⟩
abbrev main_call1_v10 : Ref sig .tc := ⟨.hbm, 60, rfl⟩
abbrev main_call1_v11 : Ref sig .tc := ⟨.hbm, 61, rfl⟩
abbrev main_call1_c_3 : Ref sig .tc := ⟨.hbm, 62, rfl⟩
abbrev main_call1_v12 : Ref sig .tc := ⟨.hbm, 63, rfl⟩
abbrev main_call1_v13 : Ref sig .tc := ⟨.hbm, 64, rfl⟩
abbrev main_call1_cst : Ref sig .tc := ⟨.hbm, 65, rfl⟩
abbrev main_call1_v14 : Ref sig .tc := ⟨.hbm, 66, rfl⟩
abbrev main_v19 : Ref sig .tc := ⟨.hbm, 67, rfl⟩
abbrev main_v20 : Ref sig .tc := ⟨.hbm, 68, rfl⟩
abbrev main_v21 : Ref sig .tc := ⟨.hbm, 69, rfl⟩
abbrev main_c : Ref sig .tc := ⟨.hbm, 70, rfl⟩
abbrev main_v22 : Ref sig .tc := ⟨.hbm, 71, rfl⟩
abbrev main_v23 : Ref sig .tc := ⟨.hbm, 72, rfl⟩
abbrev main_c_1 : Ref sig .tc := ⟨.hbm, 73, rfl⟩
abbrev main_v24 : Ref sig .tc := ⟨.hbm, 74, rfl⟩
abbrev main_v25 : Ref sig .tc := ⟨.hbm, 75, rfl⟩
abbrev main_v26 : Ref sig .tc := ⟨.hbm, 76, rfl⟩
abbrev main_v27 : Ref sig .tc := ⟨.hbm, 77, rfl⟩
abbrev main_v28 : Ref sig .tc := ⟨.hbm, 78, rfl⟩
abbrev main_v29 : Ref sig .tc := ⟨.hbm, 79, rfl⟩
abbrev main_c_2 : Ref sig .tc := ⟨.hbm, 80, rfl⟩
abbrev main_v30 : Ref sig .tc := ⟨.hbm, 81, rfl⟩
abbrev main_v31 : Ref sig .tc := ⟨.hbm, 82, rfl⟩
abbrev main_c_3 : Ref sig .tc := ⟨.hbm, 83, rfl⟩
abbrev main_v32 : Ref sig .tc := ⟨.hbm, 84, rfl⟩
abbrev main_v33 : Ref sig .tc := ⟨.hbm, 85, rfl⟩
abbrev main_v34 : Ref sig .tc := ⟨.hbm, 86, rfl⟩
abbrev main_v35 : Ref sig .tc := ⟨.hbm, 87, rfl⟩
abbrev main_v36 : Ref sig .tc := ⟨.hbm, 88, rfl⟩
abbrev main_v37 : Ref sig .tc := ⟨.hbm, 89, rfl⟩
abbrev main_v38 : Ref sig .tc := ⟨.hbm, 90, rfl⟩
abbrev main_v39 : Ref sig .tc := ⟨.hbm, 91, rfl⟩
abbrev main_v40 : Ref sig .tc := ⟨.hbm, 92, rfl⟩
abbrev main_v41 : Ref sig .tc := ⟨.hbm, 93, rfl⟩
abbrev main_v42 : Ref sig .tc := ⟨.hbm, 94, rfl⟩
abbrev main_v43 : Ref sig .tc := ⟨.hbm, 95, rfl⟩
abbrev main_v44 : Ref sig .tc := ⟨.hbm, 96, rfl⟩
abbrev main_v45 : Ref sig .tc := ⟨.hbm, 97, rfl⟩

abbrev nD : Nat := 1
abbrev τ : Topo := Topo.v7x

variable {F : FTy → Type} [FloatOps F]
-- ==== Proof.Proto.lean ====
/-
# The protocol of the kernel

Sixteen devices exchange the blocks of a grouped product. Every device `c` first signals the barrier of every other
device, handing it the two landing slots and the output rows it will write on `c`. After the barrier it copies its
partial block of chunk `q` into its own slot on device `q` (reduce-scatter), adds the fifteen blocks that land on it, and
copies the sum into its rows of the output of every other device (all-gather). Both halves of the columns go the same way.

Cells of device `c`, by kind `kd`, column half `col` and slot `k`:
* barrier: signalled once by every other device `d`, which hands over what `c` will write on `d`;
* `kd = 0`, reduce-scatter send `k`: `c`'s own copy of its chunk `ch c k` has been read; the chunk comes back;
* `kd = 1`, reduce-scatter receive `k`: the chunk `c` of device `c + 1 + k` has landed in slot `k`;
* `kd = 2`, all-gather send `k`: a share of `c`'s own output rows comes back;
* `kd = 3`, all-gather receive `k`: the output rows of device `c + 1 + k` have landed.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Ring
public import Idealize.ShloMosaic.Lib.Transfers
public import Idealize.ShloMosaic.Lib.Tactic

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the exchange's, whose duties are named by devices -/

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

/-! ## Peers, chunks and slots -/

/-- The peer `k + 1` places after `c`. -/
def pr (c : Dev nD) (k : ℕ) : Dev nD := ⟨(c.val + 1 + k) % 16, Nat.mod_lt _ (by decide)⟩
/-- The chunk `c` sends in step `i`. -/
def ch (c : Dev nD) (i : ℕ) : Dev nD := ⟨((c.val / 4 + 1 + i / 4) % 4) * 4 + i % 4, by have := Nat.mod_lt (c.val / 4 + 1 + i / 4) (show 0 < 4 by decide); have := Nat.mod_lt i (show 0 < 4 by decide); show _ < 16; omega⟩
/-- The slot on `q` that `c` writes. -/
def sl (c q : Dev nD) : ℕ := (c.val + 15 - q.val) % 16

theorem pr_ne (c : Dev nD) {k : ℕ} (h : k < 15) : pr c k ≠ c := fun e => by
  have := congrArg Fin.val e; simp only [pr] at this; have : c.val < 16 := c.isLt; omega
theorem sl_lt (c q : Dev nD) (h : q ≠ c) : sl c q < 15 := by
  have h1 : q.val ≠ c.val := fun e => h (Fin.ext e)
  have : c.val < 16 := c.isLt; have : q.val < 16 := q.isLt; unfold sl; omega
theorem pr_sl (c q : Dev nD) : pr q (sl c q) = c := by
  apply Fin.ext; simp only [pr, sl]; have : c.val < 16 := c.isLt; have : q.val < 16 := q.isLt; omega
theorem sl_pr (c : Dev nD) {k : ℕ} (h : k < 15) : sl c (pr c k) = 14 - k := by
  simp only [pr, sl]; have : c.val < 16 := c.isLt; omega
theorem sl_pr_self (c : Dev nD) {k : ℕ} (h : k < 15) : sl (pr c k) c = k := by
  simp only [pr, sl]; have : c.val < 16 := c.isLt; omega

/-! ## Cells -/

def barS : Sem sig := (SemArray.scalar (sig.barrier 0 rfl) : Sems sig S_).sem
/-- The number of the semaphore of kind `kd`, half `col`, slot `k`. -/
def sidx (kd col k : ℕ) : DmaSem sig := ⟨(5 + 32 * kd + 16 * col + k) % 133, Nat.mod_lt _ (by decide)⟩

abbrev barCell (c : Dev nD) : GSem nD τ sig := ((c : Thread nD τ), .reg barS)
abbrev dcell (c : Dev nD) (kd col k : ℕ) : GSem nD τ sig := ((c : Thread nD τ), .dma (sidx kd col k))

def kdOf (s : DmaSem sig) : ℕ := (s.val - 5) / 32
def colOf (s : DmaSem sig) : ℕ := (s.val - 5) % 32 / 16
def slotOf (s : DmaSem sig) : ℕ := (s.val - 5) % 16

section
variable {kd col k : ℕ} (hkd : kd < 4) (hcol : col < 2) (hk : k < 16)
include hkd hcol hk
theorem sidx_val : (sidx kd col k).val = 5 + 32 * kd + 16 * col + k := Nat.mod_eq_of_lt (by omega)
theorem kdOf_sidx : kdOf (sidx kd col k) = kd := by unfold kdOf; rw [sidx_val hkd hcol hk]; omega
theorem colOf_sidx : colOf (sidx kd col k) = col := by unfold colOf; rw [sidx_val hkd hcol hk]; omega
theorem slotOf_sidx : slotOf (sidx kd col k) = k := by unfold slotOf; rw [sidx_val hkd hcol hk]; omega
theorem sidx_ge : ¬ (sidx kd col k).val < 5 := by rw [sidx_val hkd hcol hk]; omega
end

/-! ## Regions of the buffers -/

/-- Chunk (or slot) `j` of the column half `col` of a send or landing buffer. -/
def sreg (col j : ℕ) : Finset S2x16x64x256.Idx := Finset.univ.filter fun i => (i 0).val = col ∧ (i 1).val = j
/-- Device `q`'s rows of the column half `col` of the output. -/
def oreg (col : ℕ) (q : Dev nD) : Finset S1024x512.Idx := Finset.univ.filter fun i => (i 0).val / 64 = q.val ∧ (i 1).val / 256 = col

abbrev BufS (F : FTy → Type) : Type := (cc0_scratch1 : Ref sig .tc).ty.Contents (Elt F)
abbrev BufR (F : FTy → Type) : Type := (cc0_scratch2 : Ref sig .tc).ty.Contents (Elt F)
abbrev BufO (F : FTy → Type) : Type := (cc0_stg4_0 : Ref sig .tc).ty.Contents (Elt F)

def sPts (c : Dev nD) (col j : ℕ) (f : BufS F) : sProp 𝕄 := (c : Thread nD τ).loc cc0_scratch1 ↦[sreg col j]{fullShare} f
def rPts (c : Dev nD) (col j : ℕ) (f : BufR F) : sProp 𝕄 := (c : Thread nD τ).loc cc0_scratch2 ↦[sreg col j]{fullShare} f
def oPts (c : Dev nD) (col : ℕ) (q : Dev nD) (sh : PosShare TreeShare) (f : BufO F) : sProp 𝕄 :=
  (c : Thread nD τ).loc cc0_stg4_0 ↦[oreg col q]{sh} f

/-- The share of its own rows a device lends to the copy with slot `k`. -/
def shr (k : ℕ) : PosShare TreeShare := Transfers.dealOf fullShare (Finset.range 15) k

/-! ## The schedule -/

/-- The credit of one block. -/
abbrev NB : ℕ := (Memref.whole cc0_stg4_0 : Memref sig .tc .vmem S1024x512 .bf16).view.dmaCredit / 32

variable (SB : Dev nD → BufS F) (OUT : BufO F)

/-- What lands on `c`: slot `k` holds chunk `c` of device `c + 1 + k`. -/
def RB (c : Dev nD) : BufR F := fun i => SB (pr c (i 1).val) (fun a => match a with | ⟨1, _⟩ => c | ⟨0, _⟩ => i 0 | ⟨2, _⟩ => i 2 | ⟨3, _⟩ => i 3)

/-- What device `d` hands `c` by its barrier signal: `c`'s slots and `c`'s output rows on `d`. -/
def barPay (c d : Dev nD) : sProp 𝕄 :=
  iprop((∃ f, rPts d 0 (sl c d) f) ∗ (∃ f, rPts d 1 (sl c d) f) ∗ (∃ f, oPts d 0 c fullShare f) ∗ (∃ f, oPts d 1 c fullShare f))

def dPay (c : Dev nD) (kd col k : ℕ) : sProp 𝕄 :=
  if kd = 0 then sPts c col (ch c k).val (SB c)
  else if kd = 1 then rPts c col k (RB SB c)
  else if kd = 2 then oPts c col c (shr k) OUT
  else oPts c col (pr c k) fullShare OUT

/-- The cells that anything is ever copied onto. -/
def live (c : Dev nD) (kd k : ℕ) : Prop := if kd = 0 then ch c k ≠ c else k < 15
instance (c : Dev nD) (kd k : ℕ) : Decidable (live c kd k) := by unfold live; infer_instance

theorem NB_pos : 0 < NB := by decide

def rd : Rounds.Schedule (GSem nD τ sig) (Dev nD) 𝕄 where
  duties g r :=
    if r = 0 ∧ g.1.2 = .tc then
      match g.2 with
      | .reg s => if s = barS then Finset.univ.erase g.1.1 else ∅
      | .dma s => if 5 ≤ s.val ∧ live g.1.1 (kdOf s) (slotOf s) then {0} else ∅
    else ∅
  unitless _ := False
  amount g _ _ := match g.2 with | .reg _ => 1 | .dma _ => NB
  payload g _ d :=
    match g.2 with
    | .reg _ => barPay g.1.1 d
    | .dma s => dPay SB OUT g.1.1 (kdOf s) (colOf s) (slotOf s)
  amount_pos g _ _ _ := by
    rcases g with ⟨t, s | s⟩
    · exact Nat.one_pos
    · exact NB_pos

instance rd_payload_storable (g : GSem nD τ sig) (r : ℕ) (d : Dev nD) :
    BI.Storable (upEmb : UEmb _ 𝕄) ((rd (F := F) SB OUT).payload g r d) := by
  rcases g with ⟨t, s | s⟩
  · show BI.Storable upEmb (barPay t.1 d)
    unfold barPay rPts oPts; infer_instance
  · show BI.Storable upEmb (dPay SB OUT t.1 (kdOf s) (colOf s) (slotOf s))
    unfold dPay sPts rPts oPts
    (repeat' split) <;> infer_instance

section Sched
variable (c : Dev nD)

omit [FloatOps F] in
theorem duties_later (g : GSem nD τ sig) : ∀ r, 1 ≤ r → (rd SB OUT).duties g r = ∅ :=
  fun r hr => by dsimp only [rd]; exact if_neg fun h => by omega

omit [FloatOps F] in
theorem duties_bar : (rd SB OUT).duties (barCell c) 0 = Finset.univ.erase c := by
  dsimp only [rd]; rw [if_pos ⟨rfl, rfl⟩]; exact if_pos rfl
omit [FloatOps F] in
theorem amount_bar (d : Dev nD) : (rd SB OUT).amount (barCell c) 0 d = 1 := rfl
omit [FloatOps F] in
theorem expect_bar : (rd SB OUT).expect (barCell c) 0 = 15 := by
  unfold Schedule.expect Schedule.amountOf
  rw [duties_bar, Finset.sum_congr rfl fun d _ => amount_bar SB OUT c d, Finset.sum_const, Finset.card_erase_of_mem (Finset.mem_univ _)]
  rfl
omit [FloatOps F] in
theorem payload_bar (d : Dev nD) : (rd SB OUT).payload (barCell c) 0 d = barPay c d := rfl

variable {kd col k : ℕ} (hkd : kd < 4) (hcol : col < 2) (hk : k < 16)
include hkd hcol hk

omit [FloatOps F] in
theorem duties_dma (hl : live c kd k) : (rd SB OUT).duties (dcell c kd col k) 0 = {0} := by
  dsimp only [rd]; rw [if_pos ⟨rfl, rfl⟩, kdOf_sidx hkd hcol hk, slotOf_sidx hkd hcol hk]
  exact if_pos ⟨Nat.le_of_not_lt (sidx_ge hkd hcol hk), hl⟩
omit [FloatOps F] in
theorem duties_dead (hl : ¬ live c kd k) (r : ℕ) : (rd SB OUT).duties (dcell c kd col k) r = ∅ := by
  dsimp only [rd]; rw [kdOf_sidx hkd hcol hk, slotOf_sidx hkd hcol hk]
  split
  · exact if_neg fun h => hl h.2
  · rfl
omit [FloatOps F] in
theorem expect_dma (hl : live c kd k) : (rd SB OUT).expect (dcell c kd col k) 0 = NB := by
  unfold Schedule.expect Schedule.amountOf; rw [duties_dma SB OUT c hkd hcol hk hl, Finset.sum_singleton]; rfl
omit [FloatOps F] in
theorem payload_dma (d : Dev nD) : (rd SB OUT).payload (dcell c kd col k) 0 d = dPay SB OUT c kd col k := by
  show dPay SB OUT c (kdOf (sidx kd col k)) (colOf (sidx kd col k)) (slotOf (sidx kd col k)) = _
  rw [kdOf_sidx hkd hcol hk, colOf_sidx hkd hcol hk, slotOf_sidx hkd hcol hk]
omit [FloatOps F] in
theorem rest_dma (hl : live c kd k) :
    bigSep ((rd SB OUT).duties (dcell c kd col k) 0 \ ∅) (fun d => (rd SB OUT).payload (dcell c kd col k) 0 d) = dPay SB OUT c kd col k := by
  rw [Finset.sdiff_empty, duties_dma SB OUT c hkd hcol hk hl, bigSep_singleton, payload_dma SB OUT c hkd hcol hk]

end Sched

/-! ## What a device owes, and the levels -/

/-- The signals still to be sent from the `n`-th on. -/
def OB (c : Dev nD) (n : ℕ) : CellTallies nD τ sig Unit := ∑ k ∈ Finset.Ico n 15, tallyAt (barCell (pr c k)) () 1
/-- The reduce-scatter copies of half `col` still to be sent from the `n`-th on. -/
def OR (c : Dev nD) (col n : ℕ) : CellTallies nD τ sig Unit :=
  ∑ i ∈ Finset.Ico n 16, if ch c i = c then 0 else tallyAt (dcell (ch c i) 1 col (sl c (ch c i))) () NB
/-- The all-gather copies of half `col` still to be sent from the `n`-th on. -/
def OA (c : Dev nD) (col n : ℕ) : CellTallies nD τ sig Unit :=
  ∑ j ∈ Finset.Ico n 15, tallyAt (dcell (pr c j) 3 col (14 - j)) () NB

def Owe (c : Dev nD) (b r0 r1 a0 a1 : ℕ) : CellTallies nD τ sig Unit :=
  OB c b + (OR c 0 r0 + (OR c 1 r1 + (OA c 0 a0 + OA c 1 a1)))

def L (g : GSem nD τ sig) : Finset Unit := if g.1.2 = .tc then {()} else ∅
/-- Barrier cells at 1, reduce-scatter receive cells at 2, all-gather receive cells at 3, everything else at 0. -/
def lv (g : GSem nD τ sig) (_ : Unit) : ℕ :=
  match g.2 with
  | .reg _ => 1
  | .dma s => if 5 ≤ s.val then (if kdOf s = 1 then 2 else if kdOf s = 3 then 3 else 0) else 0

theorem L_of_ne (g : GSem nD τ sig) (h : g.1.2 ≠ .tc) : L g = ∅ := if_neg h
theorem L_tc (c : Dev nD) (sm : SemLoc sig) : L ((c : Thread nD τ), sm) = {()} := if_pos rfl

theorem lv_dma (c : Dev nD) {kd col k : ℕ} (hkd : kd < 4) (hcol : col < 2) (hk : k < 16) (u : Unit) :
    lv (dcell c kd col k) u = if kd = 1 then 2 else if kd = 3 then 3 else 0 := by
  show (if 5 ≤ (sidx kd col k).val then _ else _) = _
  rw [if_pos (Nat.le_of_not_lt (sidx_ge hkd hcol hk)), kdOf_sidx hkd hcol hk]

theorem sum_pos {ι : Type} (s : Finset ι) (T : ι → CellTallies nD τ sig Unit) {g : GSem nD τ sig} {u : Unit}
    (h : 0 < (∑ i ∈ s, T i) g u) : ∃ i ∈ s, 0 < T i g u := by
  classical
  by_contra hn
  have hz : ∀ i ∈ s, T i g u = 0 := fun i hi => Nat.eq_zero_of_not_pos fun hp => hn ⟨i, hi, hp⟩
  have : ∀ t : Finset ι, t ⊆ s → (∑ i ∈ t, T i) g u = 0 := by
    intro t
    induction t using Finset.induction_on with
    | empty => intro _; rw [Finset.sum_empty]; rfl
    | insert a t ha ih =>
      intro hs
      rw [Finset.sum_insert ha, Pi.add_apply, Finsupp.add_apply, hz a (hs (Finset.mem_insert_self a t)),
        ih fun x hx => hs (Finset.mem_insert_of_mem hx)]
  rw [this s (Finset.Subset.refl s)] at h
  exact Nat.lt_irrefl 0 h

theorem tally_pos {g' g : GSem nD τ sig} {n : ℕ} {u : Unit} (h : 0 < (tallyAt g' () n : CellTallies nD τ sig Unit) g u) : g = g' := by
  rw [tallyAt_apply] at h
  by_contra hn
  rw [if_neg fun h' => hn h'.1] at h
  exact Nat.lt_irrefl 0 h

/-- Whatever a device owes lies on a TensorCore's cell, above the levels of what it has finished sending. -/
theorem Owe_pos {c : Dev nD} {b r0 r1 a0 a1 : ℕ} {g : GSem nD τ sig} {u : Unit} (h : 0 < Owe c b r0 r1 a0 a1 g u) :
    g.1.2 = .tc ∧ ((b < 15 ∧ lv g u = 1) ∨ ((r0 < 16 ∨ r1 < 16) ∧ lv g u = 2) ∨ ((a0 < 15 ∨ a1 < 15) ∧ lv g u = 3)) := by
  unfold Owe at h
  rw [Pi.add_apply, Finsupp.add_apply, Pi.add_apply, Finsupp.add_apply, Pi.add_apply, Finsupp.add_apply, Pi.add_apply, Finsupp.add_apply] at h
  have hR : ∀ (col n : ℕ), col < 2 → 0 < OR c col n g u → g.1.2 = .tc ∧ n < 16 ∧ lv g u = 2 := by
    intro col n hcol h
    obtain ⟨i, hi, hp⟩ := sum_pos _ _ h
    have hi' := Finset.mem_Ico.mp hi
    by_cases hc : ch c i = c
    · rw [if_pos hc] at hp; exact absurd hp (Nat.lt_irrefl 0)
    · rw [if_neg hc] at hp
      have hg := tally_pos hp
      have hs := sl_lt c (ch c i) hc
      rw [hg, lv_dma _ (by decide) hcol (by omega)]
      exact ⟨rfl, by omega, rfl⟩
  have hA : ∀ (col n : ℕ), col < 2 → 0 < OA c col n g u → g.1.2 = .tc ∧ n < 15 ∧ lv g u = 3 := by
    intro col n hcol h
    obtain ⟨i, hi, hp⟩ := sum_pos _ _ h
    have hi' := Finset.mem_Ico.mp hi
    have hg := tally_pos hp
    rw [hg, lv_dma _ (by decide) hcol (by omega)]
    exact ⟨rfl, by omega, rfl⟩
  by_cases h0 : 0 < OB c b g u
  · obtain ⟨i, hi, hp⟩ := sum_pos _ _ h0
    have hi' := Finset.mem_Ico.mp hi
    have hg := tally_pos hp
    rw [hg]
    exact ⟨rfl, .inl ⟨by omega, rfl⟩⟩
  by_cases h1 : 0 < OR c 0 r0 g u
  · have := hR _ _ (by decide) h1; exact ⟨this.1, .inr (.inl ⟨.inl this.2.1, this.2.2⟩)⟩
  by_cases h2 : 0 < OR c 1 r1 g u
  · have := hR _ _ (by decide) h2; exact ⟨this.1, .inr (.inl ⟨.inr this.2.1, this.2.2⟩)⟩
  by_cases h3 : 0 < OA c 0 a0 g u
  · have := hA _ _ (by decide) h3; exact ⟨this.1, .inr (.inr ⟨.inl this.2.1, this.2.2⟩)⟩
  have h4 : 0 < OA c 1 a1 g u := by omega
  have := hA _ _ (by decide) h4
  exact ⟨this.1, .inr (.inr ⟨.inr this.2.1, this.2.2⟩)⟩

omit [FloatOps F] in
/-- A wait on a cell whose level is below everything still owed. -/
theorem mayWait (c : Dev nD) (sm : SemLoc sig) {b r0 r1 a0 a1 : ℕ}
    (h1 : b < 15 → lv ((c : Thread nD τ), sm) () < 1) (h2 : r0 < 16 ∨ r1 < 16 → lv ((c : Thread nD τ), sm) () < 2)
    (h3 : a0 < 15 ∨ a1 < 15 → lv ((c : Thread nD τ), sm) () < 3) :
    (levAts L lv : sProp 𝕄) ⊢ MayWait (c : Thread nD τ) sm () (Owe c b r0 r1 a0 a1) :=
  MayOwe.of_cut (L := L) (lev := lv) (lv ((c : Thread nD τ), sm) ())
    (fun p hp => by rw [Finset.mem_singleton.mp hp, L_tc]; exact Finset.mem_singleton_self _)
    (fun g u hg => by unfold L; rw [if_pos (Owe_pos hg).1]; exact Finset.mem_singleton_self _)
    (fun p hp => by rw [Finset.mem_singleton.mp hp])
    (fun g u hg => by
      rcases (Owe_pos hg).2 with ⟨h, e⟩ | ⟨h, e⟩ | ⟨h, e⟩ <;> rw [e]
      exacts [h1 h, h2 h, h3 h])

/-- Nothing is owed once everything is sent. -/
theorem Owe_end (c : Dev nD) : Owe c 15 16 16 15 15 = 0 := by
  unfold Owe OB OR OA; simp only [Finset.Ico_self, Finset.sum_empty, add_zero]

theorem Ico_peel {α : Type} [AddCommMonoid α] (f : ℕ → α) {a b : ℕ} (h : a < b) :
    ∑ i ∈ Finset.Ico a b, f i = f a + ∑ i ∈ Finset.Ico (a + 1) b, f i := by
  rw [show Finset.Ico a b = insert a (Finset.Ico (a + 1) b) from by ext x; simp only [Finset.mem_insert, Finset.mem_Ico]; omega,
    Finset.sum_insert (by simp only [Finset.mem_Ico]; omega)]

end Cert.Moe
-- ==== Proof.Geo.lean ====
/-
# Where the kernel's slices lie

The views of the body's copies, loads and stores as regions of the buffers (`sreg`, `oreg`), their semaphores as cells of
the protocol (`sidx`), and what a copy leaves at its destination.
-/
module

public import proofs.«01_k».proof.Proof.Proto

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- A fact that holds of every device, decided once for all of them. -/
theorem atDev {P : Dev nD → Prop} [DecidablePred P] (h : decide (∀ c, P c) = true) (c : Dev nD) : P c := of_decide_eq_true h c

/-! ## The buffers and slices of the body -/

abbrev xM : Memref sig .tc .vmem S1024x256 .bf16 := Memref.whole cc0_stg0_0
abbrev rM : Memref sig .tc .vmem S256x64 .bf16 := Memref.whole cc0_stg1_0
abbrev iM : Memref sig .tc .vmem S1024x2 .i32 := Memref.whole cc0_stg2_0
abbrev wM : Memref sig .tc .vmem S4x256x512 .bf16 := Memref.whole cc0_stg3_0
abbrev oM : Memref sig .tc .vmem S1024x512 .bf16 := Memref.whole cc0_stg4_0
abbrev aM : Memref sig .tc .vmem S16x64x512 .f32 := Memref.whole cc0_scratch0
abbrev sM : Memref sig .tc .vmem S2x16x64x256 .bf16 := Memref.whole cc0_scratch1
abbrev lM : Memref sig .tc .vmem S2x16x64x256 .bf16 := Memref.whole cc0_scratch2

abbrev InB4 (o : Fin 4 → ℕ) : Prop := ∀ a : Fin S2x16x64x256.rank, o a + S1x1x64x256.size a ≤ S2x16x64x256.size a
abbrev InB2 (o : Fin 2 → ℕ) : Prop := ∀ a : Fin S1024x512.rank, o a + S64x256.size a ≤ S1024x512.size a
abbrev InBS (o : Fin 2 → ℕ) : Prop := ∀ a : Fin S2x16.rank, o a + S1x1.size a ≤ S2x16.size a

/-- One block of a send or landing buffer. -/
abbrev blk (M : Memref sig .tc .vmem S2x16x64x256 .bf16) (o : Fin 4 → ℕ) (h : InB4 o) : Memref sig .tc .vmem S64x256 .bf16 :=
  (M.slice (Rect.unit (s := S2x16x64x256) o S1x1x64x256.size h) (fun _ => rfl)).squeeze S64x256 squeezes_S1x1x64x256_S64x256
/-- One block of the output. -/
abbrev oblk (o : Fin 2 → ℕ) (h : InB2 o) : Memref sig .tc .vmem S64x256 .bf16 :=
  oM.slice (Rect.unit (s := S1024x512) o S64x256.size h) (fun _ => rfl)
/-- One semaphore of an array. -/
abbrev semA (A : DmaSems sig S2x16) (o : Fin 2 → ℕ) (h : InBS o) : DmaSem sig :=
  ((A.slice (Rect.unit (s := S2x16) o S1x1.size h)).squeeze S_ squeezes_S1x1_S_).sem

theorem inbS (col : Fin 2) (k : Fin 16) : InBS ![col.val, k.val] := by revert col k; decide

theorem sem_all : ∀ (col : Fin 2) (k : Fin 16),
    semA cc0_scratch3 ![col.val, k.val] (inbS col k) = sidx 0 col k ∧ semA cc0_scratch4 ![col.val, k.val] (inbS col k) = sidx 1 col k
      ∧ semA cc0_scratch5 ![col.val, k.val] (inbS col k) = sidx 2 col k ∧ semA cc0_scratch6 ![col.val, k.val] (inbS col k) = sidx 3 col k := by
  decide +kernel

/-- The array of semaphores of kind `kd`. -/
abbrev arr (kd : ℕ) : DmaSems sig S2x16 := match kd with | 0 => cc0_scratch3 | 1 => cc0_scratch4 | 2 => cc0_scratch5 | _ => cc0_scratch6

theorem semA_eq {kd col k : ℕ} (hkd : kd < 4) (hcol : col < 2) (hk : k < 16) {o : Fin 2 → ℕ} {h : InBS o} (e : o = ![col, k]) :
    semA (arr kd) o h = sidx kd col k := by
  subst e
  have := sem_all ⟨col, hcol⟩ ⟨k, hk⟩
  match kd, hkd with
  | 0, _ => exact this.1
  | 1, _ => exact this.2.1
  | 2, _ => exact this.2.2.1
  | 3, _ => exact this.2.2.2

theorem barS_eq : ((SemArray.scalar (sig.barrier 0 rfl) : Sems sig S_)).sem = barS := rfl

theorem credit_blk (M : Memref sig .tc .vmem S2x16x64x256 .bf16) (o : Fin 4 → ℕ) (h : InB4 o) : (blk M o h).view.dmaCredit = NB := rfl
theorem credit_oblk (o : Fin 2 → ℕ) (h : InB2 o) : (oblk o h).view.dmaCredit = NB := rfl

/-! ## Regions -/

theorem mem_sreg {col j : ℕ} {i : S2x16x64x256.Idx} : i ∈ sreg col j ↔ (i 0).val = col ∧ (i 1).val = j := by
  unfold sreg; rw [Finset.mem_filter]; exact ⟨fun h => h.2, fun h => ⟨Finset.mem_univ _, h⟩⟩
theorem mem_oreg {col : ℕ} {q : Dev nD} {i : S1024x512.Idx} : i ∈ oreg col q ↔ (i 0).val / 64 = q.val ∧ (i 1).val / 256 = col := by
  unfold oreg; rw [Finset.mem_filter]; exact ⟨fun h => h.2, fun h => ⟨Finset.mem_univ _, h⟩⟩

theorem rect_sreg {o : Fin 4 → ℕ} {h : InB4 o} {col j : ℕ} (e : o = ![col, j, 0, 0]) :
    (Rect.unit (s := S2x16x64x256) o S1x1x64x256.size h).set = sreg col j := by
  subst e
  ext i
  rw [Rect.mem_set_unit, mem_sreg]
  constructor
  · intro hi
    have h0 := hi 0
    have h1 := hi 1
    change col ≤ (i 0).val ∧ (i 0).val < col + 1 at h0
    change j ≤ (i 1).val ∧ (i 1).val < j + 1 at h1
    omega
  · rintro ⟨e0, e1⟩ a
    have h2 : (i 2).val < 64 := (i 2).isLt
    have h3 : (i 3).val < 256 := (i 3).isLt
    fin_cases a
    · show col ≤ (i 0).val ∧ (i 0).val < col + 1; omega
    · show j ≤ (i 1).val ∧ (i 1).val < j + 1; omega
    · show 0 ≤ (i 2).val ∧ (i 2).val < 0 + 64; omega
    · show 0 ≤ (i 3).val ∧ (i 3).val < 0 + 256; omega

theorem rect_oreg {o : Fin 2 → ℕ} {h : InB2 o} {col : ℕ} {q : Dev nD} (e : o = ![64 * q.val, 256 * col]) :
    (Rect.unit (s := S1024x512) o S64x256.size h).set = oreg col q := by
  subst e
  ext i
  rw [Rect.mem_set_unit, mem_oreg]
  constructor
  · intro hi
    have h0 := hi 0
    have h1 := hi 1
    change 64 * q.val ≤ (i 0).val ∧ (i 0).val < 64 * q.val + 64 at h0
    change 256 * col ≤ (i 1).val ∧ (i 1).val < 256 * col + 256 at h1
    omega
  · rintro ⟨e0, e1⟩ a
    fin_cases a
    · show 64 * q.val ≤ (i 0).val ∧ (i 0).val < 64 * q.val + 64; omega
    · show 256 * col ≤ (i 1).val ∧ (i 1).val < 256 * col + 256; omega

theorem set_sblk {o : Fin 4 → ℕ} {h : InB4 o} {col j : ℕ} (e : o = ![col, j, 0, 0]) : (blk sM o h).view.set = sreg col j := by
  simp only [Memref.view_squeeze, Memref.view_slice, View.set_reshape]
  exact (View.set_slice_whole cc0_scratch1 _).trans (rect_sreg e)
theorem set_lblk {o : Fin 4 → ℕ} {h : InB4 o} {col j : ℕ} (e : o = ![col, j, 0, 0]) : (blk lM o h).view.set = sreg col j := by
  simp only [Memref.view_squeeze, Memref.view_slice, View.set_reshape]
  exact (View.set_slice_whole cc0_scratch2 _).trans (rect_sreg e)
theorem set_oblk {o : Fin 2 → ℕ} {h : InB2 o} {col : ℕ} {q : Dev nD} (e : o = ![64 * q.val, 256 * col]) : (oblk o h).view.set = oreg col q :=
  (View.set_slice_whole cc0_stg4_0 _).trans (rect_oreg e)

/-! ## What a copy leaves -/

omit [FloatOps F] in
/-- A block copied from chunk `j` of a send buffer to slot `k` of a landing buffer. -/
theorem copy_blk {o o' : Fin 4 → ℕ} {h : InB4 o} {h' : InB4 o'} {col j k : ℕ} (e : o = ![col, j, 0, 0]) (e' : o' = ![col, k, 0, 0])
    (fs : BufS F) (fd : BufR F) (i : S2x16x64x256.Idx) (hi : i ∈ sreg col k) (hj : j < 16) :
    ((blk lM o' h').view.write (Elt F) fd ((blk sM o h).view.read (Elt F) fs) Finset.univ : BufR F) i
      = fs (fun a => match a with | ⟨1, _⟩ => ⟨j, hj⟩ | ⟨0, _⟩ => i 0 | ⟨2, _⟩ => i 2 | ⟨3, _⟩ => i 3) := by
  rw [← set_lblk (h := h') e'] at hi
  obtain ⟨x, -, rfl⟩ := Finset.mem_map.mp hi
  refine (View.write_emb_of_mem (v := (blk lM o' h').view) fd ((blk sM o h).view.read (Elt F) fs) (Finset.mem_univ x)).trans ?_
  show fs ((blk sM o h).view.emb x) = fs _
  subst e e'
  congr 1
  funext a
  apply Fin.ext
  fin_cases a
  · rfl
  · have h1 : ((Shape.reshapeEquiv (show S64x256.numel = S1x1x64x256.numel from rfl) x) 1).val < 1 := ((Shape.reshapeEquiv (show S64x256.numel = S1x1x64x256.numel from rfl) x) 1).isLt
    show j + 1 * ((Shape.reshapeEquiv (show S64x256.numel = S1x1x64x256.numel from rfl) x) 1).val = j
    omega
  · rfl
  · rfl

omit [FloatOps F] in
/-- A block copied from an output to the same block of another: the contents there are the source's. -/
theorem copy_oblk {o : Fin 2 → ℕ} {h h' : InB2 o} {col : ℕ} {q : Dev nD} (e : o = ![64 * q.val, 256 * col])
    (fs fd : BufO F) (i : S1024x512.Idx) (hi : i ∈ oreg col q) :
    ((oblk o h').view.write (Elt F) fd ((oblk o h).view.read (Elt F) fs) Finset.univ : BufO F) i = fs i := by
  rw [← set_oblk (h := h') e] at hi
  obtain ⟨x, -, rfl⟩ := Finset.mem_map.mp hi
  exact (View.write_emb_of_mem (v := (oblk o h').view) fd ((oblk o h).view.read (Elt F) fs) (Finset.mem_univ x)).trans rfl

end Cert.Moe
-- ==== Proof.State.lean ====
/-
# The state of a device's body

What a device owns at a point of its body, as a function of how far it has come: which signals it has sent, which blocks
it has stored, sent and received. Every step of the body is a lemma that advances one of these counters.
-/
module

public import proofs.«01_k».proof.Proof.Geo

@[expose] public section

set_option maxRecDepth 16384

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- What a run that returns an `α` ends in. -/
abbrev Post (F : FTy → Type) (α : Type) : Type := α → sProp (MT nD τ sig Unit (Elt F) ℕ UU ℕ)

/-- Running `p` on device `c` ends in `Q`. -/
abbrev WP (c : Dev nD) {α : Type} (p : Prog (TpuEff nD τ sig (Elt F) Λ₀ .tc) α) (Q : Post F α) : sProp 𝕄 :=
  wp frame (wpE (defs₀ (F := F)) 𝒱₀ (c : Thread nD τ) none) Set.univ p Q

/-! ## Runs of naturals -/

theorem bs_peel (Φ : ℕ → sProp 𝕄) {a b : ℕ} (h : a < b) :
    bigSep (Finset.Ico a b) Φ = iprop(Φ a ∗ bigSep (Finset.Ico (a + 1) b) Φ) := by
  rw [show Finset.Ico a b = insert a (Finset.Ico (a + 1) b) from by ext x; simp only [Finset.mem_insert, Finset.mem_Ico]; omega,
    bigSep_insert (by simp only [Finset.mem_Ico]; omega)]
  rfl
theorem bs_snoc (Φ : ℕ → sProp 𝕄) {a b : ℕ} (h : a ≤ b) :
    bigSep (Finset.Ico a (b + 1)) Φ = iprop(Φ b ∗ bigSep (Finset.Ico a b) Φ) := by
  rw [show Finset.Ico a (b + 1) = insert b (Finset.Ico a b) from by ext x; simp only [Finset.mem_insert, Finset.mem_Ico]; omega,
    bigSep_insert (by simp only [Finset.mem_Ico]; omega)]
  rfl

/-! ## The shared facts -/

abbrev CellIx : Type := Option (Fin 4 × Fin 2 × Fin 16)
/-- The cells of the protocol. -/
def kcell (p : Dev nD × CellIx) : GSem nD τ sig :=
  match p.2 with
  | none => barCell p.1
  | some (kd, col, k) => dcell p.1 kd col k

variable (SB : Dev nD → BufS F) (OUT : BufO F) (K : Dev nD × CellIx → ℕ)

/-- The invariants of all cells, that each has reached round 0, and the levels. -/
def Ctx : sProp 𝕄 :=
  iprop(bigSep Finset.univ (fun p : Dev nD × CellIx => cellInv ER (rd SB OUT) (K p) (kcell p))
    ∗ bigSep Finset.univ (fun p : Dev nD × CellIx => reached ER (kcell p) 0) ∗ levAts L lv)

instance Ctx_persistent : BI.Persistent (Ctx SB OUT K) := by unfold Ctx; infer_instance

omit [FloatOps F] in
theorem ctx_inv (p : Dev nD × CellIx) : Ctx SB OUT K ⊢ cellInv ER (rd SB OUT) (K p) (kcell p) := by
  unfold Ctx
  exact (BI.sep_and.trans BI.and_elimL).trans (bigSep_elim (Finset.mem_univ p))
omit [FloatOps F] in
theorem ctx_reached (p : Dev nD × CellIx) : Ctx SB OUT K ⊢ reached ER (kcell p) 0 := by
  unfold Ctx
  exact (BI.sep_and.trans BI.and_elimR).trans ((BI.sep_and.trans BI.and_elimL).trans (bigSep_elim (Finset.mem_univ p)))
omit [FloatOps F] in
theorem ctx_lev : Ctx SB OUT K ⊢ levAts L lv := by
  unfold Ctx
  iintro ⟨-, -, H⟩
  iexact H

/-! ## The components -/

/-- The device's record of debts. -/
def OwnT (c : Dev nD) (T : CellTallies nD τ sig Unit) : sProp 𝕄 := iprop(∃ W, owes (c : Thread nD τ) T W)

/-- The signals still to be sent and what goes with them. -/
def Sig (c : Dev nD) (n : ℕ) : sProp 𝕄 :=
  bigSep (Finset.Ico n 15) fun k => iprop(dutyTok ER (barCell (pr c k)) 0 c ∗ barPay (pr c k) c)

/-- The device's own barrier, before (`0`) and after its wait. -/
def Bar (c : Dev nD) (bw : ℕ) : sProp 𝕄 :=
  if bw = 0 then iprop(cred (tallyAt (barCell c) () 15) ∗ atPos ER (barCell c) 0 ∅ 0) else semVal (barCell c) 0

/-- The send buffer: `g` groups of four chunks stored, `s` chunks sent, `w` sends waited for; and the send cells. -/
def Cs (c : Dev nD) (col g s w : ℕ) : sProp 𝕄 :=
  iprop((bigSep (Finset.Ico (4 * g) 16) fun i => iprop(∃ f, sPts c col (ch c i).val f))
    ∗ (bigSep (Finset.Ico s (4 * g)) fun i => sPts c col (ch c i).val (SB c))
    ∗ (bigSep (Finset.Ico w s) fun i => if ch c i = c then sPts c col (ch c i).val (SB c) else cred (tallyAt (dcell c 0 col i) () NB))
    ∗ (bigSep (Finset.Ico 0 w) fun i => sPts c col (ch c i).val (SB c))
    ∗ (bigSep (Finset.Ico w 16) fun i => atPos ER (dcell c 0 col i) 0 ∅ 0)
    ∗ (bigSep (Finset.Ico 0 w) fun i => semVal (dcell c 0 col i) 0))

/-- A landing slot on a peer, once the barrier has been waited for. -/
def slotAt (c : Dev nD) (bw col : ℕ) (q : Dev nD) : sProp 𝕄 := if bw = 0 then iprop(emp) else iprop(∃ f, rPts q col (sl c q) f)
/-- The device's rows on a peer, once the barrier has been waited for. -/
def rowsAt (c : Dev nD) (bw col : ℕ) (q : Dev nD) : sProp 𝕄 := if bw = 0 then iprop(emp) else iprop(∃ f, oPts q col c fullShare f)

/-- What the reduce-scatter copies still to be sent need. -/
def Ct (c : Dev nD) (bw col s : ℕ) : sProp 𝕄 :=
  bigSep (Finset.Ico s 16) fun i => if ch c i = c then iprop(emp) else
    iprop((dutyTok ER (dcell c 0 col i) 0 0 ∗ dutyTok ER (dcell (ch c i) 1 col (sl c (ch c i))) 0 0) ∗ slotAt c bw col (ch c i))

/-- The reduce-scatter receive cells: `v` waited for. -/
def Cv (c : Dev nD) (col v : ℕ) : sProp 𝕄 :=
  iprop((bigSep (Finset.Ico v 15) fun k => iprop(cred (tallyAt (dcell c 1 col k) () NB) ∗ atPos ER (dcell c 1 col k) 0 ∅ 0))
    ∗ (bigSep (Finset.Ico 0 v) fun k => iprop(semVal (dcell c 1 col k) 0 ∗ rPts c col k (RB SB c))))

/-- The device's own rows: not stored (`o = 0`) or stored and lent to `a` copies, `x` of them waited for; and the send cells. -/
def Co (c : Dev nD) (col o a x : ℕ) : sProp 𝕄 :=
  iprop((if o = 0 then iprop(∃ f, oPts c col c fullShare f) else bigSep (Finset.Ico a 15) fun j => oPts c col c (shr (14 - j)) OUT)
    ∗ (bigSep (Finset.Ico x a) fun j => cred (tallyAt (dcell c 2 col (14 - j)) () NB))
    ∗ (bigSep (Finset.Ico 0 x) fun j => oPts c col c (shr (14 - j)) OUT)
    ∗ (bigSep (Finset.Ico x 15) fun j => atPos ER (dcell c 2 col (14 - j)) 0 ∅ 0)
    ∗ (bigSep (Finset.Ico 0 x) fun j => semVal (dcell c 2 col (14 - j)) 0))

/-- What the all-gather copies still to be sent need. -/
def Cq (c : Dev nD) (bw col a : ℕ) : sProp 𝕄 :=
  bigSep (Finset.Ico a 15) fun j =>
    iprop((dutyTok ER (dcell c 2 col (14 - j)) 0 0 ∗ dutyTok ER (dcell (pr c j) 3 col (14 - j)) 0 0) ∗ rowsAt c bw col (pr c j))

/-- The all-gather receive cells: `y` waited for. -/
def Cy (c : Dev nD) (col y : ℕ) : sProp 𝕄 :=
  iprop((bigSep (Finset.Ico y 15) fun j => iprop(cred (tallyAt (dcell c 3 col (14 - j)) () NB) ∗ atPos ER (dcell c 3 col (14 - j)) 0 ∅ 0))
    ∗ (bigSep (Finset.Ico 0 y) fun j => iprop(semVal (dcell c 3 col (14 - j)) 0 ∗ oPts c col (pr c (14 - j)) fullShare OUT)))

/-- How far one column half has come. -/
structure Cst where
  g : ℕ
  s : ℕ
  v : ℕ
  o : ℕ
  a : ℕ
  w : ℕ
  x : ℕ
  y : ℕ

/-- One column half. -/
def Col (c : Dev nD) (bw col : ℕ) (t : Cst) : sProp 𝕄 :=
  iprop(Cs SB c col t.g t.s t.w ∗ Ct c bw col t.s ∗ Cv SB c col t.v ∗ Co OUT c col t.o t.a t.x ∗ Cq c bw col t.a ∗ Cy OUT c col t.y)

/-! ## Local steps -/

section Steps

variable (c : Dev nD) {α : Type} {Q : Post F α}

/-- A step on part of what the device owns. -/
theorem frame_step {e : TpuEff nD τ sig (Elt F) Λ₀ .tc PUnit} {k : PUnit → Prog (TpuEff nD τ sig (Elt F) Λ₀ .tc) α} {C P P' R : sProp 𝕄}
    [BI.Persistent C] (hloc : iprop(C ∗ P) ⊢ iprop((P' -∗ WP c (k ⟨⟩) Q) -∗ WP c (.op e k) Q)) (h : iprop(C ∗ P' ∗ R) ⊢ WP c (k ⟨⟩) Q) :
    iprop(C ∗ P ∗ R) ⊢ WP c (.op e k) Q := by
  iintro ⟨#HC, HP, HR⟩
  iapply hloc $$ [HP]
  · isplitr
    · iexact HC
    · iexact HP
  iintro HP
  iapply h
  isplitr
  · iexact HC
  isplitl [HP] <;> iassumption

omit [FloatOps F] in
theorem Owe_sig {n r0 r1 a0 a1 : ℕ} (hn : n < 15) : Owe c n r0 r1 a0 a1 = Owe c (n + 1) r0 r1 a0 a1 + tallyAt (barCell (pr c n)) () 1 := by
  unfold Owe OB; rw [Ico_peel _ hn, add_assoc, add_comm]

/-- The `n`-th signal: to the peer `n + 1` places on, with what that peer will write here. -/
theorem sig_loc {n r0 r1 a0 a1 k' : ℕ} {q : Dev nD} (hn : n < 15) (hq : q = pr c n) (hk : k' = 1)
    {k : PUnit → Prog (TpuEff nD τ sig (Elt F) Λ₀ .tc) α} :
    iprop(Ctx SB OUT K ∗ (OwnT c (Owe c n r0 r1 a0 a1) ∗ Sig c n))
      ⊢ iprop(((OwnT c (Owe c (n + 1) r0 r1 a0 a1) ∗ Sig c (n + 1)) -∗ WP c (k ⟨⟩) Q)
          -∗ WP c (.op (.semSignal (q : Thread nD τ) barS k') k) Q) := by
  subst hq hk
  unfold OwnT Sig
  rw [bs_peel _ hn]
  iintro ⟨#HC, ⟨%W, HO⟩, ⟨Ht, Hp⟩, HS⟩ Hk
  iapply (Rounds.wp_signal 𝒱₀ ER (rd SB OUT) (c : Thread nD τ) none (dst := (pr c n : Thread nD τ)) (κ := K (pr c n, none))
      (d := c) (by rw [duties_bar]; exact Finset.mem_erase.mpr ⟨(pr_ne c hn).symm, Finset.mem_univ _⟩) (amount_bar SB OUT (pr c n) c) ()
      (Owe c (n + 1) r0 r1 a0 a1) (Owe_sig c hn)) $$ [HO Ht Hp]
  · isplitr; · iapply (ctx_inv SB OUT K (pr c n, none)); iexact HC
    isplitl [HO]; · iexact HO
    isplitl [Ht]; · iexact Ht
    isplitl [Hp]; · rw [payload_bar]; iexact Hp
    iapply (ctx_reached SB OUT K (pr c n, none)); iexact HC
  iintro HO
  iapply Hk
  isplitl [HO]
  · iexists W; iexact HO
  · iexact HS

variable {kd col i : ℕ} (hkd : kd < 4) (hcol : col < 2) (hi : i < 16)

/-- A wait for what lands on a cell of the device; the cell is done with. -/
theorem wait_loc (hkd : kd < 4) (hcol : col < 2) (hi : i < 16) (hl : live c kd i) {w : TpuEff nD τ sig (Elt F) Λ₀ .tc PUnit}
    (hw : ∀ X : PUnit → sProp 𝕄, wpE (defs₀ (F := F)) 𝒱₀ (c : Thread nD τ) none Set.univ w X = waitSpec (c : Thread nD τ) Set.univ (.dma (sidx kd col i)) NB X)
    {T : CellTallies nD τ sig Unit} (hmw : (levAts L lv : sProp 𝕄) ⊢ MayWait (c : Thread nD τ) (.dma (sidx kd col i)) () T)
    {k : PUnit → Prog (TpuEff nD τ sig (Elt F) Λ₀ .tc) α} :
    iprop(Ctx SB OUT K ∗ (OwnT c T ∗ cred (tallyAt (dcell c kd col i) () NB) ∗ atPos ER (dcell c kd col i) 0 ∅ 0))
      ⊢ iprop(((OwnT c T ∗ semVal (dcell c kd col i) 0 ∗ dPay SB OUT c kd col i) -∗ WP c (k ⟨⟩) Q)
          -∗ WP c (.op w k) Q) := by
  unfold OwnT
  iintro ⟨#HC, ⟨%W, HO⟩, Hc, Ha⟩ Hk
  iapply (Rounds.wp_wait_rest_token 𝒱₀ ER (rd SB OUT) (c : Thread nD τ) none (κ := K (c, some (⟨kd, hkd⟩, ⟨col, hcol⟩, ⟨i, hi⟩)))
      hw (Set.mem_univ _) () (O := T) (W := W) (R := 0) (m := 0) (T := ∅)
      (by rw [expect_dma SB OUT c hkd hcol hi hl, Nat.zero_add])) $$ [Hc HO Ha]
  · isplitr; · iapply (ctx_inv SB OUT K (c, some (⟨kd, hkd⟩, ⟨col, hcol⟩, ⟨i, hi⟩))); iexact HC
    isplitl [Hc]; · iexact Hc
    isplitl [HO]; · iexact HO
    isplitr; · iapply hmw; iapply (ctx_lev SB OUT K); iexact HC
    iexact Ha
  iintro ⟨HO, Ha, -, Hp⟩
  ihave Hp := (Entails.of_eq (rest_dma SB OUT c hkd hcol hi hl)) $$ Hp
  ihave #HI := (ctx_inv SB OUT K (c, some (⟨kd, hkd⟩, ⟨col, hcol⟩, ⟨i, hi⟩))) $$ HC
  imod (Rounds.cell_close ER (rd SB OUT) (Set.mem_univ (K (c, some (⟨kd, hkd⟩, ⟨col, hcol⟩, ⟨i, hi⟩)))) (fun h => h) (R := 0 + 1) (duties_later SB OUT (dcell c kd col i))) $$ [Ha] with Hs
  · isplitr
    · iexact HI
    · iexact Ha
  iapply Hk
  isplitl [HO]
  · iexists _; iexact HO
  isplitl [Hs] <;> iassumption

/-- A cell that nothing is copied onto is done with from the start. -/
theorem close_dead (hkd : kd < 4) (hcol : col < 2) (hi : i < 16) (hl : ¬ live c kd i) {p : Prog (TpuEff nD τ sig (Elt F) Λ₀ .tc) α} :
    iprop(Ctx SB OUT K ∗ atPos ER (dcell c kd col i) 0 ∅ 0) ⊢ iprop((semVal (dcell c kd col i) 0 -∗ WP c p Q) -∗ WP c p Q) := by
  iintro ⟨#HC, Ha⟩ Hk
  ihave #HI := (ctx_inv SB OUT K (c, some (⟨kd, hkd⟩, ⟨col, hcol⟩, ⟨i, hi⟩))) $$ HC
  imod (Rounds.cell_close ER (rd SB OUT) (Set.mem_univ (K (c, some (⟨kd, hkd⟩, ⟨col, hcol⟩, ⟨i, hi⟩)))) (fun h => h) (R := 0) (fun r _ => duties_dead SB OUT c hkd hcol hi hl r)) $$ [Ha] with Hs
  · isplitr
    · iexact HI
    · iexact Ha
  iapply Hk
  iexact Hs

end Steps

end Cert.Moe
-- ==== Proof.Steps.lean ====
/-
# The steps of one column half

The copies and waits of the body, each advancing one counter of a column half (`Col`).
-/
module

public import proofs.«01_k».proof.Proof.State

@[expose] public section

set_option maxRecDepth 16384

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (SB : Dev nD → BufS F) (OUT : BufO F) (K : Dev nD × CellIx → ℕ)
variable (c : Dev nD) {α : Type} {Q : Post F α}

/-! ## What is paid by a copy -/

omit [FloatOps F] in
theorem OR_peel {col n : ℕ} (hn : n < 16) (hc : ch c n ≠ c) :
    OR c col n = OR c col (n + 1) + tallyAt (dcell (ch c n) 1 col (sl c (ch c n))) () NB := by
  unfold OR; rw [Ico_peel _ hn, if_neg hc, add_comm]
omit [FloatOps F] in
theorem OR_skip {col n : ℕ} (hn : n < 16) (hc : ch c n = c) : OR c col n = OR c col (n + 1) := by
  unfold OR; rw [Ico_peel _ hn, if_pos hc, zero_add]
omit [FloatOps F] in
theorem OA_peel {col n : ℕ} (hn : n < 15) :
    OA c col n = OA c col (n + 1) + tallyAt (dcell (pr c n) 3 col (14 - n)) () NB := by
  unfold OA; rw [Ico_peel _ hn, add_comm]
theorem peel0 {M : Type} [AddCommMonoid M] {a r r' b x y t : M} (h : r = r' + t) : a + (r + (b + (x + y))) = a + (r' + (b + (x + y))) + t := by
  subst h; rw [add_right_comm r' t, ← add_assoc]
theorem peel1 {M : Type} [AddCommMonoid M] {a r r' b x y t : M} (h : r = r' + t) : a + (b + (r + (x + y))) = a + (b + (r' + (x + y))) + t := by
  subst h; rw [add_right_comm r' t, ← add_assoc b, ← add_assoc a]
theorem peel2 {M : Type} [AddCommMonoid M] {a r r' b x y t : M} (h : r = r' + t) : a + (x + (b + (r + y))) = a + (x + (b + (r' + y))) + t := by
  subst h; rw [add_right_comm r' t, ← add_assoc b, ← add_assoc x, ← add_assoc a]
theorem peel3 {M : Type} [AddCommMonoid M] {a r r' b x y t : M} (h : r = r' + t) : a + (x + (b + (y + r))) = a + (x + (b + (y + r'))) + t := by
  subst h; rw [← add_assoc y, ← add_assoc b, ← add_assoc x, ← add_assoc a]

/-! ## Reduce-scatter sends -/

/-- Chunk `i` of a stored group is sent to the device it belongs to. -/
theorem send_loc {T T' : CellTallies nD τ sig Unit} {col g s w : ℕ} (hcol : col < 2) (hs : s < 4 * g) (hg : g ≤ 4) (hw : w ≤ s)
    {q : Dev nD} (hq : q = ch c s) (hne : ch c s ≠ c) (hT : T = T' + tallyAt (dcell (ch c s) 1 col (sl c (ch c s))) () NB)
    {o o' : Fin 4 → ℕ} {h : InB4 o} {h' : InB4 o'} (ho : o = ![col, (ch c s).val, 0, 0]) (ho' : o' = ![col, sl c (ch c s), 0, 0])
    {sS sR : DmaSem sig} (hsS : sS = sidx 0 col s) (hsR : sR = sidx 1 col (sl c (ch c s)))
    {hsc : (blk lM o' h').view.ref.isScScratch = false} {hsrc : (blk sM o h).view.WordExact} {hdst : (blk lM o' h').view.WordExact}
    {hsem : DmaTarget.Typed .vmem (.dma sR) (.remote (Dev.tc q : Thread nD τ) (blk lM o' h') (.dma sS) hsc)}
    {k : PUnit → Prog (TpuEff nD τ sig (Elt F) Λ₀ .tc) α} :
    iprop(Ctx SB OUT K ∗ (OwnT c T ∗ Cs SB c col g s w ∗ Ct c 1 col s))
      ⊢ iprop(((OwnT c T' ∗ Cs SB c col g (s + 1) w ∗ Ct c 1 col (s + 1)) -∗ WP c (k ⟨⟩) Q)
          -∗ WP c (.op (.enqueueDma (blk sM o h) (.remote (Dev.tc q : Thread nD τ) (blk lM o' h') (.dma sS) hsc) (.dma sR) hsrc hdst hsem) k) Q) := by
  subst hq hsS hsR
  have hs16 : s < 16 := by omega
  have hsl := sl_lt c (ch c s) hne
  unfold OwnT Cs Ct
  rw [bs_peel _ hs, bs_snoc _ hw, bs_peel (fun i => if ch c i = c then iprop(emp) else _) hs16, if_neg hne, if_neg hne]
  unfold slotAt
  rw [if_neg (by decide)]
  iintro ⟨#HC, ⟨%W, HO⟩, ⟨HA, ⟨Hsrc, HB⟩, HCr, HD, HE, HF⟩, ⟨⟨Ht1, Ht2⟩, ⟨%fd, Hdst⟩⟩, HT⟩ Hk
  ihave Hsrc := (Entails.of_eq (show sPts c col (ch c s).val (SB c) = ((blk sM o h).view.loc (c : Thread nD τ) ↦[(blk sM o h).view.set]{fullShare} (SB c) : sProp 𝕄) from by
    rw [set_sblk ho]; rfl)) $$ Hsrc
  ihave Hdst := (Entails.of_eq (show rPts (ch c s) col (sl c (ch c s)) fd = ((blk lM o' h').view.loc ((ch c s : Dev nD) : Thread nD τ) ↦[(blk lM o' h').view.set]{fullShare} fd : sProp 𝕄) from by
    rw [set_lblk ho']; rfl)) $$ Hdst
  iapply (Rounds.wp_send_pointsTo 𝒱₀ ER (rd SB OUT) (c : Thread nD τ) none (κ₁ := K (c, some (0, ⟨col, hcol⟩, ⟨s, hs16⟩)))
      (κ₂ := K (ch c s, some (1, ⟨col, hcol⟩, ⟨sl c (ch c s), by omega⟩))) (r₁ := 0) (r₂ := 0) (d₁ := 0) (d₂ := 0) (fd := fd)
      (by rw [duties_dma SB OUT c (kd := 0) (by decide) hcol hs16 hne]; exact Finset.mem_singleton_self _)
      (by rw [duties_dma SB OUT (ch c s) (kd := 1) (by decide) hcol (by omega) hsl]; exact Finset.mem_singleton_self _)
      () () NB rfl rfl rfl T' hT (W := W)
      (by
        rw [payload_dma SB OUT c (by decide) hcol hs16, set_sblk ho]
        exact Entails.of_eq rfl)
      (by
        rw [payload_dma SB OUT (ch c s) (by decide) hcol (by omega), set_lblk ho']
        refine Entails.of_eq (pointsTo_congr fun i hi => ?_)
        rw [copy_blk ho ho' (SB c) fd i hi (ch c s).isLt]
        unfold RB
        rw [(mem_sreg.mp hi).2, pr_sl]
        rfl)) $$ [Hsrc Hdst HO Ht1 Ht2]
  · isplitr; · iapply (ctx_inv SB OUT K (c, some (0, ⟨col, hcol⟩, ⟨s, hs16⟩))); iexact HC
    isplitr; · iapply (ctx_inv SB OUT K (ch c s, some (1, ⟨col, hcol⟩, ⟨sl c (ch c s), by omega⟩))); iexact HC
    isplitl [Hsrc]; · iexact Hsrc
    isplitl [Hdst]; · iexact Hdst
    isplitl [HO]; · iexact HO
    isplitl [Ht1]; · iexact Ht1
    isplitr; · iapply (ctx_reached SB OUT K (c, some (0, ⟨col, hcol⟩, ⟨s, hs16⟩))); iexact HC
    isplitl [Ht2]; · iexact Ht2
    iapply (ctx_reached SB OUT K (ch c s, some (1, ⟨col, hcol⟩, ⟨sl c (ch c s), by omega⟩))); iexact HC
  iintro ⟨Hcr, HO⟩
  iapply Hk
  isplitl [HO]; · iexists W; iexact HO
  isplitr [HT]
  · isplitl [HA]; · iexact HA
    isplitl [HB]; · iexact HB
    isplitl [Hcr HCr]
    · isplitl [Hcr] <;> iassumption
    isplitl [HD]; · iexact HD
    isplitl [HE] <;> iassumption
  · iexact HT

/-- The device's own chunk is not sent. -/
theorem skip_loc {T : CellTallies nD τ sig Unit} {col g s w : ℕ} (hs : s < 4 * g) (hg : g ≤ 4) (hw : w ≤ s) (he : ch c s = c) :
    iprop(Cs SB c col g s w ∗ Ct c 1 col s) ⊢ iprop(Cs SB c col g (s + 1) w ∗ Ct c 1 col (s + 1)) := by
  unfold Cs Ct
  rw [bs_peel _ hs, bs_snoc _ hw, bs_peel (fun i => if ch c i = c then iprop(emp) else _) (show s < 16 by omega), if_pos he, if_pos he]
  iintro ⟨⟨HA, ⟨Hsrc, HB⟩, HCr, HD, HE, HF⟩, -, HT⟩
  isplitr [HT]
  · isplitl [HA]; · iexact HA
    isplitl [HB]; · iexact HB
    isplitl [Hsrc HCr]
    · isplitl [Hsrc] <;> iassumption
    isplitl [HD]; · iexact HD
    isplitl [HE] <;> iassumption
  · iexact HT

/-! ## Waits -/

/-- The wait for a sent chunk to have been read. -/
theorem waitS_loc {T : CellTallies nD τ sig Unit} {col g s w : ℕ} (hcol : col < 2) (hs : w < s) (hs' : s ≤ 16) (hne : ch c w ≠ c)
    (hmw : (levAts L lv : sProp 𝕄) ⊢ MayWait (c : Thread nD τ) (.dma (sidx 0 col w)) () T)
    {e : TpuEff nD τ sig (Elt F) Λ₀ .tc PUnit}
    (he : ∀ X : PUnit → sProp 𝕄, wpE (defs₀ (F := F)) 𝒱₀ (c : Thread nD τ) none Set.univ e X = waitSpec (c : Thread nD τ) Set.univ (.dma (sidx 0 col w)) NB X)
    {k : PUnit → Prog (TpuEff nD τ sig (Elt F) Λ₀ .tc) α} :
    iprop(Ctx SB OUT K ∗ (OwnT c T ∗ Cs SB c col g s w))
      ⊢ iprop(((OwnT c T ∗ Cs SB c col g s (w + 1)) -∗ WP c (k ⟨⟩) Q) -∗ WP c (.op e k) Q) := by
  unfold Cs
  rw [bs_peel _ hs, bs_snoc (fun i => sPts c col (ch c i).val (SB c)) (Nat.zero_le w), bs_peel _ (show w < 16 by omega),
    bs_snoc (fun i => semVal (dcell c 0 col i) 0) (Nat.zero_le w), if_neg hne]
  iintro ⟨#HC, HO, HA, HB, ⟨Hc, HCr⟩, HD, ⟨Ha, HE⟩, HF⟩ Hk
  iapply (wait_loc SB OUT K c (kd := 0) (by decide) hcol (show w < 16 by omega) hne he hmw) $$ [HO Hc Ha]
  · isplitr; · iexact HC
    isplitl [HO]; · iexact HO
    isplitl [Hc] <;> iassumption
  iintro ⟨HO, Hs, Hp⟩
  ihave Hp := (Entails.of_eq (show dPay SB OUT c 0 col (w) = sPts c col (ch c w).val (SB c) from rfl)) $$ Hp
  iapply Hk
  isplitl [HO]; · iexact HO
  isplitl [HA]; · iexact HA
  isplitl [HB]; · iexact HB
  isplitl [HCr]; · iexact HCr
  isplitl [HD Hp]
  · isplitl [Hp]
    · iexact Hp
    · iexact HD
  isplitl [HE]; · iexact HE
  isplitl [Hs] <;> iassumption

/-- The cell of a chunk that was not sent is done with. -/
theorem waitS_skip {T : CellTallies nD τ sig Unit} {col g s w : ℕ} (hcol : col < 2) (hs : w < s) (hs' : s ≤ 16) (he : ch c w = c)
    {p : Prog (TpuEff nD τ sig (Elt F) Λ₀ .tc) α} :
    iprop(Ctx SB OUT K ∗ Cs SB c col g s w) ⊢ iprop((Cs SB c col g s (w + 1) -∗ WP c p Q) -∗ WP c p Q) := by
  unfold Cs
  rw [bs_peel _ hs, bs_snoc (fun i => sPts c col (ch c i).val (SB c)) (Nat.zero_le w), bs_peel _ (show w < 16 by omega),
    bs_snoc (fun i => semVal (dcell c 0 col i) 0) (Nat.zero_le w), if_pos he]
  iintro ⟨#HC, HA, HB, ⟨Hc, HCr⟩, HD, ⟨Ha, HE⟩, HF⟩ Hk
  iapply (close_dead SB OUT K c (kd := 0) (by decide) hcol (show w < 16 by omega) (fun h => h he)) $$ [Ha]
  · isplitr; · iexact HC
    iexact Ha
  iintro Hs
  iapply Hk
  isplitl [HA]; · iexact HA
  isplitl [HB]; · iexact HB
  isplitl [HCr]; · iexact HCr
  isplitl [HD Hc]
  · isplitl [Hc] <;> iassumption
  isplitl [HE]; · iexact HE
  isplitl [Hs] <;> iassumption

/-- The wait for a block of the reduce-scatter. -/
theorem waitV_loc {T : CellTallies nD τ sig Unit} {col v : ℕ} (hcol : col < 2) (hv : v < 15)
    (hmw : (levAts L lv : sProp 𝕄) ⊢ MayWait (c : Thread nD τ) (.dma (sidx 1 col v)) () T)
    {e : TpuEff nD τ sig (Elt F) Λ₀ .tc PUnit}
    (he : ∀ X : PUnit → sProp 𝕄, wpE (defs₀ (F := F)) 𝒱₀ (c : Thread nD τ) none Set.univ e X = waitSpec (c : Thread nD τ) Set.univ (.dma (sidx 1 col v)) NB X)
    {k : PUnit → Prog (TpuEff nD τ sig (Elt F) Λ₀ .tc) α} :
    iprop(Ctx SB OUT K ∗ (OwnT c T ∗ Cv SB c col v))
      ⊢ iprop(((OwnT c T ∗ Cv SB c col (v + 1)) -∗ WP c (k ⟨⟩) Q) -∗ WP c (.op e k) Q) := by
  unfold Cv
  rw [bs_peel _ hv, bs_snoc _ (Nat.zero_le v)]
  iintro ⟨#HC, HO, ⟨⟨Hc, Ha⟩, HA⟩, HB⟩ Hk
  iapply (wait_loc SB OUT K c (kd := 1) (by decide) hcol (show v < 16 by omega) hv he hmw) $$ [HO Hc Ha]
  · isplitr; · iexact HC
    isplitl [HO]; · iexact HO
    isplitl [Hc] <;> iassumption
  iintro ⟨HO, Hs, Hp⟩
  ihave Hp := (Entails.of_eq (show dPay SB OUT c 1 col (v) = rPts c col v (RB SB c) from rfl)) $$ Hp
  iapply Hk
  isplitl [HO]; · iexact HO
  isplitl [HA]; · iexact HA
  isplitr [HB]
  · isplitl [Hs]; · iexact Hs
    iexact Hp
  · iexact HB

/-- The wait for a copy of the device's own rows to have been read. -/
theorem waitX_loc {T : CellTallies nD τ sig Unit} {col o a x : ℕ} (hcol : col < 2) (hx : x < a) (ha : a ≤ 15)
    (hmw : (levAts L lv : sProp 𝕄) ⊢ MayWait (c : Thread nD τ) (.dma (sidx 2 col (14 - x))) () T)
    {e : TpuEff nD τ sig (Elt F) Λ₀ .tc PUnit}
    (he : ∀ X : PUnit → sProp 𝕄, wpE (defs₀ (F := F)) 𝒱₀ (c : Thread nD τ) none Set.univ e X = waitSpec (c : Thread nD τ) Set.univ (.dma (sidx 2 col (14 - x))) NB X)
    {k : PUnit → Prog (TpuEff nD τ sig (Elt F) Λ₀ .tc) α} :
    iprop(Ctx SB OUT K ∗ (OwnT c T ∗ Co OUT c col o a x))
      ⊢ iprop(((OwnT c T ∗ Co OUT c col o a (x + 1)) -∗ WP c (k ⟨⟩) Q) -∗ WP c (.op e k) Q) := by
  unfold Co
  rw [bs_peel _ hx, bs_snoc (fun j => oPts c col c (shr (14 - j)) OUT) (Nat.zero_le x), bs_peel (fun j => atPos ER (dcell c 2 col (14 - j)) 0 ∅ 0) (show x < 15 by omega),
    bs_snoc (fun j => semVal (dcell c 2 col (14 - j)) 0) (Nat.zero_le x)]
  iintro ⟨#HC, HO, HA, ⟨Hc, HB⟩, HD, ⟨Ha, HE⟩, HF⟩ Hk
  iapply (wait_loc SB OUT K c (kd := 2) (by decide) hcol (show 14 - x < 16 by omega) (show 14 - x < 15 by omega) he hmw) $$ [HO Hc Ha]
  · isplitr; · iexact HC
    isplitl [HO]; · iexact HO
    isplitl [Hc] <;> iassumption
  iintro ⟨HO, Hs, Hp⟩
  ihave Hp := (Entails.of_eq (show dPay SB OUT c 2 col (14 - x) = oPts c col c (shr (14 - x)) OUT from rfl)) $$ Hp
  iapply Hk
  isplitl [HO]; · iexact HO
  isplitl [HA]; · iexact HA
  isplitl [HB]; · iexact HB
  isplitl [HD Hp]
  · isplitl [Hp]
    · iexact Hp
    · iexact HD
  isplitl [HE]; · iexact HE
  isplitl [Hs] <;> iassumption

/-- The wait for another device's rows. -/
theorem waitY_loc {T : CellTallies nD τ sig Unit} {col y : ℕ} (hcol : col < 2) (hy : y < 15)
    (hmw : (levAts L lv : sProp 𝕄) ⊢ MayWait (c : Thread nD τ) (.dma (sidx 3 col (14 - y))) () T)
    {e : TpuEff nD τ sig (Elt F) Λ₀ .tc PUnit}
    (he : ∀ X : PUnit → sProp 𝕄, wpE (defs₀ (F := F)) 𝒱₀ (c : Thread nD τ) none Set.univ e X = waitSpec (c : Thread nD τ) Set.univ (.dma (sidx 3 col (14 - y))) NB X)
    {k : PUnit → Prog (TpuEff nD τ sig (Elt F) Λ₀ .tc) α} :
    iprop(Ctx SB OUT K ∗ (OwnT c T ∗ Cy OUT c col y))
      ⊢ iprop(((OwnT c T ∗ Cy OUT c col (y + 1)) -∗ WP c (k ⟨⟩) Q) -∗ WP c (.op e k) Q) := by
  unfold Cy
  rw [bs_peel _ hy, bs_snoc _ (Nat.zero_le y)]
  iintro ⟨#HC, HO, ⟨⟨Hc, Ha⟩, HA⟩, HB⟩ Hk
  iapply (wait_loc SB OUT K c (kd := 3) (by decide) hcol (show 14 - y < 16 by omega) (show 14 - y < 15 by omega) he hmw) $$ [HO Hc Ha]
  · isplitr; · iexact HC
    isplitl [HO]; · iexact HO
    isplitl [Hc] <;> iassumption
  iintro ⟨HO, Hs, Hp⟩
  ihave Hp := (Entails.of_eq (show dPay SB OUT c 3 col (14 - y) = oPts c col (pr c (14 - y)) fullShare OUT from rfl)) $$ Hp
  iapply Hk
  isplitl [HO]; · iexact HO
  isplitl [HA]; · iexact HA
  isplitr [HB]
  · isplitl [Hs]; · iexact Hs
    iexact Hp
  · iexact HB

/-! ## All-gather sends -/

/-- The device's own rows are sent to the peer `a + 1` places on. -/
theorem gather_loc {T T' : CellTallies nD τ sig Unit} {col a x : ℕ} (hcol : col < 2) (ha : a < 15) (hx : x ≤ a)
    {q : Dev nD} (hq : q = pr c a) (hT : T = T' + tallyAt (dcell (pr c a) 3 col (14 - a)) () NB)
    {o : Fin 2 → ℕ} {h h' : InB2 o} (ho : o = ![64 * c.val, 256 * col])
    {sS sR : DmaSem sig} (hsS : sS = sidx 2 col (14 - a)) (hsR : sR = sidx 3 col (14 - a))
    {hsc : (oblk o h').view.ref.isScScratch = false} {hsrc : (oblk o h).view.WordExact} {hdst : (oblk o h').view.WordExact}
    {hsem : DmaTarget.Typed .vmem (.dma sR) (.remote (Dev.tc q : Thread nD τ) (oblk o h') (.dma sS) hsc)}
    {k : PUnit → Prog (TpuEff nD τ sig (Elt F) Λ₀ .tc) α} :
    iprop(Ctx SB OUT K ∗ (OwnT c T ∗ Co OUT c col 1 a x ∗ Cq c 1 col a))
      ⊢ iprop(((OwnT c T' ∗ Co OUT c col 1 (a + 1) x ∗ Cq c 1 col (a + 1)) -∗ WP c (k ⟨⟩) Q)
          -∗ WP c (.op (.enqueueDma (oblk o h) (.remote (Dev.tc q : Thread nD τ) (oblk o h') (.dma sS) hsc) (.dma sR) hsrc hdst hsem) k) Q) := by
  subst hq hsS hsR
  unfold OwnT Co Cq
  rw [if_neg (by decide), if_neg (by decide), bs_peel (fun j => oPts c col c (shr (14 - j)) OUT) ha,
    bs_snoc (fun j => cred (tallyAt (dcell c 2 col (14 - j)) () NB)) hx, bs_peel (fun j => iprop((_ ∗ _) ∗ _)) ha]
  unfold rowsAt
  rw [if_neg (by decide)]
  iintro ⟨#HC, ⟨%W, HO⟩, ⟨⟨Hsrc, HA⟩, HB, HD, HE, HF⟩, ⟨⟨Ht1, Ht2⟩, ⟨%fd, Hdst⟩⟩, HT⟩ Hk
  ihave Hsrc := (Entails.of_eq (show oPts c col c (shr (14 - a)) OUT = ((oblk o h).view.loc (c : Thread nD τ) ↦[(oblk o h).view.set]{shr (14 - a)} OUT : sProp 𝕄) from by
    rw [set_oblk ho]; rfl)) $$ Hsrc
  ihave Hdst := (Entails.of_eq (show oPts (pr c a) col c fullShare fd = ((oblk o h').view.loc ((pr c a : Dev nD) : Thread nD τ) ↦[(oblk o h').view.set]{fullShare} fd : sProp 𝕄) from by
    rw [set_oblk ho]; rfl)) $$ Hdst
  iapply (Rounds.wp_send_pointsTo 𝒱₀ ER (rd SB OUT) (c : Thread nD τ) none (κ₁ := K (c, some (2, ⟨col, hcol⟩, ⟨14 - a, by omega⟩)))
      (κ₂ := K (pr c a, some (3, ⟨col, hcol⟩, ⟨14 - a, by omega⟩))) (r₁ := 0) (r₂ := 0) (d₁ := 0) (d₂ := 0) (fd := fd)
      (by rw [duties_dma SB OUT c (kd := 2) (by decide) hcol (by omega) (show 14 - a < 15 by omega)]; exact Finset.mem_singleton_self _)
      (by rw [duties_dma SB OUT (pr c a) (kd := 3) (by decide) hcol (by omega) (show 14 - a < 15 by omega)]; exact Finset.mem_singleton_self _)
      () () NB rfl rfl rfl T' hT (W := W)
      (by
        rw [payload_dma SB OUT c (by decide) hcol (by omega), set_oblk ho]
        exact Entails.of_eq rfl)
      (by
        rw [payload_dma SB OUT (pr c a) (by decide) hcol (by omega), set_oblk ho]
        unfold dPay
        rw [if_neg (by decide), if_neg (by decide), if_neg (by decide), ← sl_pr c ha, pr_sl]
        exact Entails.of_eq (pointsTo_congr fun i hi => copy_oblk ho OUT fd i hi))) $$ [Hsrc Hdst HO Ht1 Ht2]
  · isplitr; · iapply (ctx_inv SB OUT K (c, some (2, ⟨col, hcol⟩, ⟨14 - a, by omega⟩))); iexact HC
    isplitr; · iapply (ctx_inv SB OUT K (pr c a, some (3, ⟨col, hcol⟩, ⟨14 - a, by omega⟩))); iexact HC
    isplitl [Hsrc]; · iexact Hsrc
    isplitl [Hdst]; · iexact Hdst
    isplitl [HO]; · iexact HO
    isplitl [Ht1]; · iexact Ht1
    isplitr; · iapply (ctx_reached SB OUT K (c, some (2, ⟨col, hcol⟩, ⟨14 - a, by omega⟩))); iexact HC
    isplitl [Ht2]; · iexact Ht2
    iapply (ctx_reached SB OUT K (pr c a, some (3, ⟨col, hcol⟩, ⟨14 - a, by omega⟩))); iexact HC
  iintro ⟨Hcr, HO⟩
  iapply Hk
  isplitl [HO]; · iexists W; iexact HO
  isplitr [HT]
  · isplitl [HA]; · iexact HA
    isplitl [Hcr HB]
    · isplitl [Hcr] <;> iassumption
    isplitl [HD]; · iexact HD
    isplitl [HE] <;> iassumption
  · iexact HT

end Cert.Moe
-- ==== Proof.Vals.lean ====
/-
# The values of the kernel

What every device computes, stores and sends, as functions of what all devices are given. `grp c t` is the product of the
four experts of `c` with the rows of the group of tokens taken up in step `t`; `SB c` is the send buffer once all groups
are stored, `own c` the part of the sum that `c` keeps, `sum0 c` and `sum1 c` the two column halves of the rows of the
result that `c` computes, and `OUT` the result.
-/
module

public import proofs.«01_k».proof.Proof.Geo

@[expose] public section

set_option maxRecDepth 16384

noncomputable section

namespace Cert.Moe

open Cert.KernelIdeal Cert.KernelIdeal.Gen

open Idealize.ShloMosaic
open Idealize.ShloMosaic.TcCoe

variable {F : FTy → Type} [FloatOps F]

/-- What the devices are given: tokens, router weights, chosen experts, and the experts' weights. -/
structure Inp (F : FTy → Type) where
  x : Dev nD → (cc0_stg0_0 : Ref sig .tc).ty.Contents (Elt F)
  r : Dev nD → (cc0_stg1_0 : Ref sig .tc).ty.Contents (Elt F)
  i : Dev nD → (cc0_stg2_0 : Ref sig .tc).ty.Contents (Elt F)
  w : Dev nD → (cc0_stg3_0 : Ref sig .tc).ty.Contents (Elt F)

variable (inp : Inp F) (c : Dev nD)

/-- The device's number as a word. -/
def vw : BitVec 32 := Scalar.remsi (Scalar.divsi (Dev.word c) 1#32) 16#32

/-- The rows of the group taken up in step `t`. -/
def lx (t : Fin 4) : Vec F S256x256 .bf16 :=
  xM.view.readAt (Elt F) (Rect.unit (s := S1024x256) (k0_off1 c (BitVec.ofNat 32 t.val)) S256x256.size (k0_off1_inb c t)).toLoadRect (inp.x c)
/-- Their first chosen experts. -/
def li0 (t : Fin 4) : Vec F S256x1 .i32 :=
  iM.view.readAt (Elt F) (Rect.unit (s := S1024x2) (k0_off2 c (BitVec.ofNat 32 t.val)) S256x1.size (k0_off2_inb c t)).toLoadRect (inp.i c)
/-- Their second chosen experts. -/
def li1 (t : Fin 4) : Vec F S256x1 .i32 :=
  iM.view.readAt (Elt F) (Rect.unit (s := S1024x2) (k0_off3 c (BitVec.ofNat 32 t.val)) S256x1.size (k0_off3_inb c t)).toLoadRect (inp.i c)
def lr : Vec F S256x64 .bf16 :=
  rM.view.readAt (Elt F) (Rect.unit (s := S256x64) ![0, 0] S256x64.size inb_S256x64_S256x64_0_0).toLoadRect (inp.r c)
def lw0 : Vec F S1x256x512 .bf16 :=
  wM.view.readAt (Elt F) (Rect.unit (s := S4x256x512) ![0, 0, 0] S1x256x512.size inb_S4x256x512_S1x256x512_0_0_0).toLoadRect (inp.w c)
def lw1 : Vec F S1x256x512 .bf16 :=
  wM.view.readAt (Elt F) (Rect.unit (s := S4x256x512) ![1, 0, 0] S1x256x512.size inb_S4x256x512_S1x256x512_1_0_0).toLoadRect (inp.w c)
def lw2 : Vec F S1x256x512 .bf16 :=
  wM.view.readAt (Elt F) (Rect.unit (s := S4x256x512) ![2, 0, 0] S1x256x512.size inb_S4x256x512_S1x256x512_2_0_0).toLoadRect (inp.w c)
def lw3 : Vec F S1x256x512 .bf16 :=
  wM.view.readAt (Elt F) (Rect.unit (s := S4x256x512) ![3, 0, 0] S1x256x512.size inb_S4x256x512_S1x256x512_3_0_0).toLoadRect (inp.w c)

def lane : IVec S256x64 32 := iota .tc S256x64 32 [1] iota_S256x64_d1_w32

/-- The product of one group of rows with the four experts of a device, each row weighted by its two chosen experts. -/
def prodOf (v2 : BitVec 32) (w0 w1 w2 w3 : Vec F S1x256x512 .bf16) (r : Vec F S256x64 .bf16) (x : Vec F S256x256 .bf16) (i0 i1 : Vec F S256x1 .i32) :
    FVec F S256x512 .f32 :=
  k0_pay17 v2 (k0_pay2 w1) (k0_pay3 w2) (k0_pay4 w3) (k0_pay6 x) (k0_pay8 i0) (k0_pay9 i1) (k0_pay13 lane (k0_pay7 r x) i0 i1)
    (k0_pay14 lane (k0_pay7 r x) i0 i1) (k0_pay15 v2 (k0_pay1 w0) lane (k0_pay6 x) (k0_pay7 r x) i0 i1)
    (Scalar.addi (Scalar.muli v2 4#32) 1#32) (k0_pay16 v2 lane (k0_pay7 r x) i0 i1)

def grp (t : Fin 4) : FVec F S256x512 .f32 :=
  prodOf (vw c) (lw0 inp c) (lw1 inp c) (lw2 inp c) (lw3 inp c) (lr inp c) (lx inp c t) (li0 inp c t) (li1 inp c t)

/-- The step in which `c` takes up the group of chunk `j`. -/
def stepOf (j : ℕ) : Fin 4 := ⟨(j / 4 + 3 - c.val / 4) % 4, Nat.mod_lt _ (by decide)⟩

/-- Row `r`, column `h` of chunk `j` in a group of four chunks. -/
def ix4 (j : Fin 4) (r : Fin 64) (h : Fin 256) : S1x4x64x256.Idx :=
  fun a => match a with | ⟨0, _⟩ => (0 : Fin 1) | ⟨1, _⟩ => j | ⟨2, _⟩ => r | ⟨3, _⟩ => h

/-- What `c` has in its send buffer. -/
def SB : BufS F := fun i =>
  (if (i 0).val = 0 then k0_pay20 (grp inp c (stepOf c (i 1).val)) else k0_pay21 (grp inp c (stepOf c (i 1).val)))
    (ix4 ⟨(i 1).val % 4, Nat.mod_lt _ (by decide)⟩ (i 2) (i 3))

/-- Chunk `c` of the sum of its own experts. -/
def own : Vec F S1x64x512 .f32 := fun i =>
  k0_pay18 (grp inp c 3) (fun a => match a with | ⟨0, _⟩ => (⟨c.val % 4, Nat.mod_lt _ (by decide)⟩ : Fin 4) | ⟨1, _⟩ => i 1 | ⟨2, _⟩ => i 2)

theorem inb_ld (col : Fin 2) (k : Fin 16) : InB4 ![col.val, k.val, 0, 0] := by revert col k; decide
/-- What `c` reads from slot `k` of half `col`. -/
def ld (col : Fin 2) (k : Fin 16) : Vec F S1x1x64x256 .bf16 :=
  lM.view.readAt (Elt F) (Rect.unit (s := S2x16x64x256) ![col.val, k.val, 0, 0] S1x1x64x256.size (inb_ld col k)).toLoadRect (RB (SB inp) c)

/-- The left half of the columns of the device's rows. -/
def sum0 : FVec F S64x256 .bf16 :=
  k0_pay84 (k0_pay83 (k0_pay82 (k0_pay81 (k0_pay80 (k0_pay79 (k0_pay78 (k0_pay77 (own inp c) (ld inp c 0 0)) (ld inp c 0 1) (ld inp c 0 2))
    (ld inp c 0 3) (ld inp c 0 4)) (ld inp c 0 5) (ld inp c 0 6)) (ld inp c 0 7) (ld inp c 0 8)) (ld inp c 0 9) (ld inp c 0 10))
    (ld inp c 0 11) (ld inp c 0 12)) (ld inp c 0 13) (ld inp c 0 14)
/-- The right half. -/
def sum1 : FVec F S64x256 .bf16 :=
  k0_pay94 (k0_pay93 (k0_pay91 (k0_pay90 (k0_pay89 (k0_pay88 (k0_pay87 (k0_pay86 (k0_pay85 (own inp c)) (ld inp c 1 0) (ld inp c 1 1))
    (ld inp c 1 2) (ld inp c 1 3)) (ld inp c 1 4) (ld inp c 1 5)) (ld inp c 1 6) (ld inp c 1 7)) (ld inp c 1 8) (ld inp c 1 9)) (ld inp c 1 10))
    (k0_pay92 (ld inp c 1 11)) (ld inp c 1 12)) (ld inp c 1 13) (ld inp c 1 14)

/-- The result. -/
def OUT : BufO F := fun i =>
  (if (i 1).val / 256 = 0 then sum0 inp ⟨(i 0).val / 64, by have : (i 0).val < 1024 := (i 0).isLt; show _ < 16; omega⟩
    else sum1 inp ⟨(i 0).val / 64, by have : (i 0).val < 1024 := (i 0).isLt; show _ < 16; omega⟩)
    (fun a => match a with | ⟨0, _⟩ => (⟨(i 0).val % 64, Nat.mod_lt _ (by decide)⟩ : Fin 64) | ⟨1, _⟩ => (⟨(i 1).val % 256, Nat.mod_lt _ (by decide)⟩ : Fin 256))

/-! ## The later groups are computed the same way -/

section Same
variable (v2 : BitVec 32) (w0 w1 w2 w3 : Vec F S1x256x512 .bf16) (r : Vec F S256x64 .bf16) (x : Vec F S256x256 .bf16) (i0 i1 : Vec F S256x1 .i32)

/-- Step 1: what is kept, and what is sent. -/
theorem same1 {g29 g30 : FVec F S256 .f32} {v371 : FVec F S256x512 .f32} {v377 v381 : FVec F S256 .f32}
    (h29 : g29 = k0_pay29 (k0_pay5 r) lane x i0 i1) (h30 : g30 = k0_pay30 (k0_pay5 r) lane x i0 i1)
    (h371 : v371 = k0_pay32 v2 (k0_pay1 w0) (k0_pay2 w1) (k0_pay22 x) (k0_pay24 i0) (k0_pay25 i1) g29 g30 (k0_pay31 (F := F)))
    (h377 : v377 = k0_pay33 v2 (k0_pay24 i0) g29) (h381 : v381 = k0_pay34 v2 (k0_pay25 i1) g30) :
    k0_pay36 v2 (k0_pay3 w2) (k0_pay4 w3) (k0_pay22 x) (k0_pay24 i0) (k0_pay25 i1) g29 g30 v371 v377 v381 = k0_pay18 (prodOf v2 w0 w1 w2 w3 r x i0 i1)
    ∧ k0_pay38 v2 (k0_pay3 w2) (k0_pay4 w3) (k0_pay22 x) (k0_pay24 i0) (k0_pay25 i1) g29 g30 v371 v377 v381 = k0_pay20 (prodOf v2 w0 w1 w2 w3 r x i0 i1)
    ∧ k0_pay40 (k0_pay39 v2 (k0_pay3 w2) (k0_pay4 w3) (k0_pay22 x) (k0_pay24 i0) (k0_pay25 i1) g29 g30 v371 v377 v381) = k0_pay21 (prodOf v2 w0 w1 w2 w3 r x i0 i1) := by
  subst h29 h30 h371 h377 h381
  exact ⟨rfl, rfl, rfl⟩

/-- Step 2. -/
theorem same2 {v519 : FVec F S256x64 .f32} {g48 g49 : FVec F S256 .f32} {v595 v612 : FVec F S256x512 .f32}
    (h519 : v519 = k0_pay42 (k0_pay5 r) x) (h48 : g48 = k0_pay48 lane v519 i0 i1) (h49 : g49 = k0_pay49 lane v519 i0 i1)
    (h595 : v595 = k0_pay53 v2 (k0_pay2 w1) (k0_pay3 w2) (k0_pay41 x) (k0_pay43 i0) (k0_pay44 i1) g48 g49
      (k0_pay50 v2 (k0_pay1 w0) lane (k0_pay41 x) v519 i0 i1) (Scalar.addi (Scalar.muli v2 4#32) 1#32) (k0_pay51 v2 i0) (k0_pay52 (F := F)))
    (h612 : v612 = k0_pay54 v2 (k0_pay4 w3) (k0_pay41 x) (k0_pay43 i0) (k0_pay44 i1) g48 g49) :
    k0_pay56 v595 v612 = k0_pay18 (prodOf v2 w0 w1 w2 w3 r x i0 i1)
    ∧ k0_pay58 v595 v612 = k0_pay20 (prodOf v2 w0 w1 w2 w3 r x i0 i1)
    ∧ k0_pay59 v595 v612 = k0_pay21 (prodOf v2 w0 w1 w2 w3 r x i0 i1) := by
  subst h519 h48 h49 h595 h612
  exact ⟨rfl, rfl, rfl⟩

/-- Step 3. -/
theorem same3 {g67 g68 : FVec F S256 .f32} {v783 : FVec F S256x512 .f32} {v795 : FVec F S256x1 .f32}
    (h67 : g67 = k0_pay67 (k0_pay5 r) lane x i0 i1) (h68 : g68 = k0_pay68 (k0_pay5 r) lane x i0 i1)
    (h783 : v783 = k0_pay70 v2 (k0_pay1 w0) (k0_pay2 w1) (k0_pay60 x) (k0_pay62 i0) (k0_pay63 i1) g67 g68 (k0_pay69 (F := F)) (Scalar.muli v2 4#32))
    (h795 : v795 = k0_pay71 v2 (k0_pay62 i0) (k0_pay63 i1) g67 g68) :
    k0_pay73 v2 (k0_pay3 w2) (k0_pay4 w3) (k0_pay60 x) (k0_pay62 i0) (k0_pay63 i1) g67 g68 v783 v795 = k0_pay18 (prodOf v2 w0 w1 w2 w3 r x i0 i1)
    ∧ k0_pay75 v2 (k0_pay3 w2) (k0_pay4 w3) (k0_pay60 x) (k0_pay62 i0) (k0_pay63 i1) g67 g68 v783 v795 = k0_pay20 (prodOf v2 w0 w1 w2 w3 r x i0 i1)
    ∧ k0_pay76 v2 (k0_pay3 w2) (k0_pay4 w3) (k0_pay60 x) (k0_pay62 i0) (k0_pay63 i1) g67 g68 v783 v795 = k0_pay21 (prodOf v2 w0 w1 w2 w3 r x i0 i1) := by
  subst h67 h68 h783 h795
  exact ⟨rfl, rfl, rfl⟩

end Same

end Cert.Moe
-- ==== Proof.Mem.lean ====
/-
# The barrier and the loads and stores of one column half

The barrier wait hands out the landing slots and rows on the peers; a group of four chunks is loaded and stored as one
rectangle; a landed block is read; the device's own rows are stored and then lent out in fifteen shares.
-/
module

public import proofs.«01_k».proof.Proof.Steps
public import proofs.«01_k».proof.Proof.Vals

@[expose] public section

set_option maxRecDepth 16384

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (SB : Dev nD → BufS F) (OUT : BufO F) (K : Dev nD × CellIx → ℕ)
variable (c : Dev nD) {α : Type} {Q : Post F α}

omit [FloatOps F] in
theorem assocE (P R S : sProp 𝕄) : iprop((P ∗ R) ∗ S) = iprop(P ∗ R ∗ S) := equiv_iff.mp ⟨BI.sep_assoc, BI.sep_assoc'⟩

/-! ## Peers, listed in two orders -/

omit [FloatOps F] in
theorem peers_pr (Φ : Dev nD → sProp 𝕄) : bigSep (Finset.univ.erase c) Φ = bigSep (Finset.Ico 0 15) fun j => Φ (pr c j) := by
  have h1 : Finset.univ.erase c = (Finset.Ico 0 15).image (pr c) := atDev (P := fun c => Finset.univ.erase c = (Finset.Ico 0 15).image (pr c)) (by decide +kernel) c
  rw [h1]
  exact Finset.fold_image (atDev (P := fun c => ∀ x ∈ Finset.Ico 0 15, ∀ y ∈ Finset.Ico 0 15, pr c x = pr c y → x = y) (by decide +kernel) c)

omit [FloatOps F] in
theorem peers_ch (Φ : Dev nD → sProp 𝕄) :
    bigSep (Finset.univ.erase c) Φ = bigSep (Finset.Ico 0 16) fun i => if ch c i = c then iprop(emp) else Φ (ch c i) := by
  have h1 : Finset.univ.erase c = ((Finset.Ico 0 16).filter fun i => ch c i ≠ c).image (ch c) :=
    atDev (P := fun c => Finset.univ.erase c = ((Finset.Ico 0 16).filter fun i => ch c i ≠ c).image (ch c)) (by decide +kernel) c
  rw [h1]
  refine (Finset.fold_image (fun x hx y hy => atDev (P := fun c => ∀ x ∈ Finset.Ico 0 16, ∀ y ∈ Finset.Ico 0 16, ch c x = ch c y → x = y) (by decide +kernel) c x
    (Finset.mem_filter.mp hx).1 y (Finset.mem_filter.mp hy).1)).trans ?_
  refine (bigSep_filter (Finset.Ico 0 16) (fun i => ch c i ≠ c) (fun i => Φ (ch c i))).trans (bigSep_congr fun i _ => ?_)
  by_cases h : ch c i = c
  · rw [if_neg (not_not.mpr h), if_pos h]; rfl
  · rw [if_pos h, if_neg h]

/-! ## The barrier -/

omit [FloatOps F] in
theorem Ct_open (col : ℕ) :
    iprop(Ct c 0 col 0 ∗ bigSep (Finset.univ.erase c) fun d => iprop(∃ f, rPts (F := F) d col (sl c d) f)) = Ct c 1 col 0 := by
  rw [peers_ch]
  unfold Ct slotAt
  refine (bigSep_sep _ _ _).symm.trans (bigSep_congr fun i _ => ?_)
  by_cases h : ch c i = c
  · rw [if_pos h, if_pos h, if_pos h]; exact sep_emp_eq _
  · rw [if_neg h, if_neg h, if_neg h, if_pos rfl, if_neg (by decide)]
    exact congrArg (fun X => BI.sep X _) (sep_emp_eq _)

omit [FloatOps F] in
theorem Cq_open (col : ℕ) :
    iprop(Cq c 0 col 0 ∗ bigSep (Finset.univ.erase c) fun d => iprop(∃ f, oPts (F := F) d col c fullShare f)) = Cq c 1 col 0 := by
  rw [peers_pr]
  unfold Cq rowsAt
  refine (bigSep_sep _ _ _).symm.trans (bigSep_congr fun i _ => ?_)
  rw [if_pos rfl, if_neg (by decide)]
  exact congrArg (fun X => BI.sep X _) (sep_emp_eq _)

omit [FloatOps F] in
theorem bar_deal : bigSep (Finset.univ.erase c) (fun d => barPay (F := F) c d)
    = iprop((bigSep (Finset.univ.erase c) fun d => iprop(∃ f, rPts (F := F) d 0 (sl c d) f))
      ∗ (bigSep (Finset.univ.erase c) fun d => iprop(∃ f, rPts (F := F) d 1 (sl c d) f))
      ∗ (bigSep (Finset.univ.erase c) fun d => iprop(∃ f, oPts (F := F) d 0 c fullShare f))
      ∗ (bigSep (Finset.univ.erase c) fun d => iprop(∃ f, oPts (F := F) d 1 c fullShare f))) := by
  exact (bigSep_sep _ _ _).trans (congrArg (BI.sep _) ((bigSep_sep _ _ _).trans (congrArg (BI.sep _) (bigSep_sep _ _ _))))

theorem bar_rest : bigSep ((rd SB OUT).duties (barCell c) 0 \ ∅) (fun d => (rd SB OUT).payload (barCell c) 0 d)
    = iprop((bigSep (Finset.univ.erase c) fun d => iprop(∃ f, rPts (F := F) d 0 (sl c d) f))
      ∗ (bigSep (Finset.univ.erase c) fun d => iprop(∃ f, rPts (F := F) d 1 (sl c d) f))
      ∗ (bigSep (Finset.univ.erase c) fun d => iprop(∃ f, oPts (F := F) d 0 c fullShare f))
      ∗ (bigSep (Finset.univ.erase c) fun d => iprop(∃ f, oPts (F := F) d 1 c fullShare f))) := by
  rw [Finset.sdiff_empty, duties_bar]
  exact (bigSep_congr fun d _ => payload_bar SB OUT c d).trans (bar_deal c)

/-- The wait for the fifteen signals. -/
theorem bar_loc {T : CellTallies nD τ sig Unit} (hmw : (levAts L lv : sProp 𝕄) ⊢ MayWait (c : Thread nD τ) (.reg barS) () T) {n : ℕ} (hn : n = 15)
    {k : PUnit → Prog (TpuEff nD τ sig (Elt F) Λ₀ .tc) α} :
    iprop(Ctx SB OUT K ∗ (OwnT c T ∗ Bar c 0 ∗ Ct c 0 0 0 ∗ Ct c 0 1 0 ∗ Cq c 0 0 0 ∗ Cq c 0 1 0))
      ⊢ iprop(((OwnT c T ∗ Bar c 1 ∗ Ct c 1 0 0 ∗ Ct c 1 1 0 ∗ Cq c 1 0 0 ∗ Cq c 1 1 0) -∗ WP c (k ⟨⟩) Q)
          -∗ WP c (.op (.semWait barS n) k) Q) := by
  subst hn
  rw [← Ct_open c 0, ← Ct_open c 1, ← Cq_open c 0, ← Cq_open c 1]
  unfold OwnT Bar
  rw [if_pos rfl, if_neg (by decide)]
  iintro ⟨#HC, ⟨%W, HO⟩, ⟨Hc, Ha⟩, H1, H2, H3, H4⟩ Hk
  iapply (Rounds.wp_wait_rest_token 𝒱₀ ER (rd SB OUT) (c : Thread nD τ) none (κ := K (c, none))
      (wpE_semWait_eq 𝒱₀ (c : Thread nD τ) none Set.univ) (Set.mem_univ _) () (O := T) (W := W) (R := 0) (m := 0) (T := ∅)
      (by rw [expect_bar])) $$ [Hc HO Ha]
  · isplitr; · iapply (ctx_inv SB OUT K (c, none)); iexact HC
    isplitl [Hc]; · iexact Hc
    isplitl [HO]; · iexact HO
    isplitr; · iapply hmw; iapply (ctx_lev SB OUT K); iexact HC
    iexact Ha
  iintro ⟨HO, Ha, -, Hp⟩
  ihave Hp := (Entails.of_eq (bar_rest SB OUT c)) $$ Hp
  icases Hp with ⟨P1, P2, P3, P4⟩
  ihave #HI := (ctx_inv SB OUT K (c, none)) $$ HC
  imod (Rounds.cell_close ER (rd SB OUT) (Set.mem_univ (K (c, none))) (fun h => h) (R := 0 + 1) (duties_later SB OUT (barCell c))) $$ [Ha] with Hs
  · isplitr
    · iexact HI
    · iexact Ha
  iapply Hk
  isplitl [HO]
  · iexists _; iexact HO
  isplitl [Hs]; · iexact Hs
  isplitl [H1 P1]; · isplitl [H1] <;> iassumption
  isplitl [H2 P2]; · isplitl [H2] <;> iassumption
  isplitl [H3 P3]; · isplitl [H3] <;> iassumption
  isplitl [H4] <;> iassumption

/-! ## A group of four chunks -/

theorem ch_group {g j : ℕ} (hj : j < 4) : (ch c (4 * g + j)).val = 4 * ((c.val / 4 + g + 1) % 4) + j := by
  show ((c.val / 4 + 1 + (4 * g + j) / 4) % 4) * 4 + (4 * g + j) % 4 = _
  omega

/-- Four chunks as one region. -/
def greg (col m : ℕ) : Finset S2x16x64x256.Idx := sreg col (m + 0) ∪ (sreg col (m + 1) ∪ (sreg col (m + 2) ∪ sreg col (m + 3)))

theorem sreg_disj {col a b : ℕ} (h : a ≠ b) : Disjoint (sreg col a) (sreg col b) := by
  rw [Finset.disjoint_left]; intro i hi hj; exact h ((mem_sreg.mp hi).2.symm.trans (mem_sreg.mp hj).2)

theorem greg_d1 (col m : ℕ) : Disjoint (sreg col (m + 2)) (sreg col (m + 3)) := sreg_disj (by omega)
theorem greg_d2 (col m : ℕ) : Disjoint (sreg col (m + 1)) (sreg col (m + 2) ∪ sreg col (m + 3)) :=
  Finset.disjoint_union_right.mpr ⟨sreg_disj (by omega), sreg_disj (by omega)⟩
theorem greg_d3 (col m : ℕ) : Disjoint (sreg col (m + 0)) (sreg col (m + 1) ∪ (sreg col (m + 2) ∪ sreg col (m + 3))) :=
  Finset.disjoint_union_right.mpr ⟨sreg_disj (by omega), Finset.disjoint_union_right.mpr ⟨sreg_disj (by omega), sreg_disj (by omega)⟩⟩

abbrev InB4g (o : Fin 4 → ℕ) : Prop := ∀ a : Fin S2x16x64x256.rank, o a + S1x4x64x256.size a ≤ S2x16x64x256.size a

theorem rect_greg {o : Fin 4 → ℕ} {h : InB4g o} {col m : ℕ} (e : o = ![col, m, 0, 0]) :
    (Rect.unit (s := S2x16x64x256) o S1x4x64x256.size h).set = greg col m := by
  subst e
  ext i
  unfold greg
  rw [Rect.mem_set_unit, Finset.mem_union, Finset.mem_union, Finset.mem_union, mem_sreg, mem_sreg, mem_sreg, mem_sreg]
  constructor
  · intro hi
    have h0 := hi 0
    have h1 := hi 1
    change col ≤ (i 0).val ∧ (i 0).val < col + 1 at h0
    change m ≤ (i 1).val ∧ (i 1).val < m + 4 at h1
    omega
  · intro hi a
    have h2 : (i 2).val < 64 := (i 2).isLt
    have h3 : (i 3).val < 256 := (i 3).isLt
    fin_cases a
    · show col ≤ (i 0).val ∧ (i 0).val < col + 1; omega
    · show m ≤ (i 1).val ∧ (i 1).val < m + 4; omega
    · show 0 ≤ (i 2).val ∧ (i 2).val < 0 + 64; omega
    · show 0 ≤ (i 3).val ∧ (i 3).val < 0 + 256; omega

omit [FloatOps F] in
theorem greg_join (col m : ℕ) :
    iprop((∃ f, sPts (F := F) c col (m + 0) f) ∗ (∃ f, sPts (F := F) c col (m + 1) f) ∗ (∃ f, sPts (F := F) c col (m + 2) f) ∗ (∃ f, sPts (F := F) c col (m + 3) f))
      ⊢ iprop(∃ f : BufS F, (c : Thread nD τ).loc cc0_scratch1 ↦[greg col m]{fullShare} f) := by
  unfold sPts greg
  iintro ⟨⟨%f0, H0⟩, ⟨%f1, H1⟩, ⟨%f2, H2⟩, ⟨%f3, H3⟩⟩
  iexists _
  iapply (pointsTo_join (greg_d3 col m))
  isplitl [H0]; · iexact H0
  iapply (pointsTo_join (greg_d2 col m))
  isplitl [H1]; · iexact H1
  iapply (pointsTo_join (greg_d1 col m))
  isplitl [H2] <;> iassumption

omit [FloatOps F] in
theorem greg_split (col m : ℕ) (f : BufS F) :
    ((c : Thread nD τ).loc cc0_scratch1 ↦[greg col m]{fullShare} f : sProp 𝕄)
      ⊢ iprop(sPts c col (m + 0) f ∗ sPts c col (m + 1) f ∗ sPts c col (m + 2) f ∗ sPts c col (m + 3) f) := by
  unfold sPts greg
  iintro H
  ihave H := (pointsTo_union (greg_d3 col m)).1 $$ H
  icases H with ⟨H0, H⟩
  ihave H := (pointsTo_union (greg_d2 col m)).1 $$ H
  icases H with ⟨H1, H⟩
  ihave H := (pointsTo_union (greg_d1 col m)).1 $$ H
  icases H with ⟨H2, H3⟩
  isplitl [H0]; · iexact H0
  isplitl [H1]; · iexact H1
  isplitl [H2] <;> iassumption

/-- The chunks of one group, stored or not. -/
theorem group_peel (Φ : ℕ → sProp 𝕄) {g : ℕ} (hg : g < 4) :
    bigSep (Finset.Ico (4 * g) 16) (fun i => Φ (ch c i).val)
      = iprop((Φ (4 * ((c.val / 4 + g + 1) % 4) + 0) ∗ Φ (4 * ((c.val / 4 + g + 1) % 4) + 1) ∗ Φ (4 * ((c.val / 4 + g + 1) % 4) + 2) ∗ Φ (4 * ((c.val / 4 + g + 1) % 4) + 3))
        ∗ bigSep (Finset.Ico (4 * (g + 1)) 16) (fun i => Φ (ch c i).val)) := by
  rw [bs_peel _ (show 4 * g < 16 by omega), bs_peel _ (show 4 * g + 1 < 16 by omega), bs_peel _ (show 4 * g + 1 + 1 < 16 by omega),
    bs_peel _ (show 4 * g + 1 + 1 + 1 < 16 by omega), ← ch_group c (g := g) (j := 0) (by decide), ← ch_group c (g := g) (j := 1) (by decide),
    ← ch_group c (g := g) (j := 2) (by decide), ← ch_group c (g := g) (j := 3) (by decide)]
  rw [assocE, assocE, assocE]
  rfl

theorem group_put (Φ : ℕ → sProp 𝕄) {g s : ℕ} (hs : s ≤ 4 * g) :
    bigSep (Finset.Ico s (4 * (g + 1))) (fun i => Φ (ch c i).val)
      = iprop((Φ (4 * ((c.val / 4 + g + 1) % 4) + 3) ∗ Φ (4 * ((c.val / 4 + g + 1) % 4) + 2) ∗ Φ (4 * ((c.val / 4 + g + 1) % 4) + 1) ∗ Φ (4 * ((c.val / 4 + g + 1) % 4) + 0))
        ∗ bigSep (Finset.Ico s (4 * g)) (fun i => Φ (ch c i).val)) := by
  rw [show 4 * (g + 1) = 4 * g + 1 + 1 + 1 + 1 from by omega, bs_snoc _ (show s ≤ 4 * g + 1 + 1 + 1 by omega), bs_snoc _ (show s ≤ 4 * g + 1 + 1 by omega), bs_snoc _ (show s ≤ 4 * g + 1 by omega),
    bs_snoc _ (show s ≤ 4 * g by omega), ← ch_group c (g := g) (j := 0) (by decide), ← ch_group c (g := g) (j := 1) (by decide),
    ← ch_group c (g := g) (j := 2) (by decide), ← ch_group c (g := g) (j := 3) (by decide)]
  rw [assocE, assocE, assocE]
  rfl

/-- A group that is not stored yet is read; what is read does not matter. -/
theorem loadG_loc {col g s w : ℕ} (hg : g < 4) {o : Fin 4 → ℕ} {h : InB4g o} (ho : o = ![col, 4 * ((c.val / 4 + g + 1) % 4), 0, 0])
    {hl : sM.view.LoadsAt (Rect.unit (s := S2x16x64x256) o S1x4x64x256.size h).toLoadRect}
    {k : Vec F S1x4x64x256 .bf16 → Prog (TpuEff nD τ sig (Elt F) Λ₀ .tc) α} :
    Cs SB c col g s w ⊢ iprop((∀ x, Cs SB c col g s w -∗ WP c (k x) Q)
          -∗ WP c (.op (.load sM (Rect.unit (s := S2x16x64x256) o S1x4x64x256.size h).toLoadRect hl) k) Q) := by
  unfold Cs
  rw [group_peel c (fun j => iprop(∃ f, sPts c col j f)) hg]
  iintro ⟨⟨HG, HA⟩, HR⟩ Hk
  ihave HG := (greg_join c col _) $$ HG
  icases HG with ⟨%f, HG⟩
  iapply (wp_load_rect 𝒱₀ (c : Thread nD τ) none Set.univ (m := sM) (r := Rect.unit (s := S2x16x64x256) o S1x4x64x256.size h) (S := greg col (4 * ((c.val / 4 + g + 1) % 4)))
    (by rw [← rect_greg (h := h) ho]; exact (View.set_slice_whole cc0_scratch1 _).subset)) $$ HG
  iintro HG
  ihave HG := (greg_split c col _ f) $$ HG
  icases HG with ⟨H0, H1, H2, H3⟩
  iapply Hk
  isplitr [HR]
  · isplitr [HA]
    · isplitl [H0]; · iexists f; iexact H0
      isplitl [H1]; · iexists f; iexact H1
      isplitl [H2]; · iexists f; iexact H2
      iexists f; iexact H3
    · iexact HA
  · iexact HR

/-- The stored group holds what the send buffer is to hold. -/
theorem store_val {inp : Inp F} {col m : ℕ} {t : Fin 4} (hcol : col < 2) {o : Fin 4 → ℕ} {h : InB4g o} (hm : m = 4 * ((c.val / 4 + t.val + 1) % 4)) (ho : o = ![col, m, 0, 0])
    {v : FVec F S1x4x64x256 .bf16} (hv : v = if col = 0 then k0_pay20 (grp inp c t) else k0_pay21 (grp inp c t)) (f : BufS F)
    (i : S2x16x64x256.Idx) (hi : i ∈ greg col m) :
    ((sM.access (Rect.unit (s := S2x16x64x256) o S1x4x64x256.size h)).write (Elt F) f v Finset.univ : BufS F) i = Moe.SB inp c i := by
  rw [← rect_greg (h := h) ho, ← View.set_slice_whole cc0_scratch1] at hi
  obtain ⟨x, -, rfl⟩ := Finset.mem_map.mp hi
  refine (View.write_emb_of_mem (v := (sM.access (Rect.unit (s := S2x16x64x256) o S1x4x64x256.size h))) f v (Finset.mem_univ x)).trans ?_
  subst ho
  have h0 : (x 0).val < 1 := (x 0).isLt
  have h1 : (x 1).val < 4 := (x 1).isLt
  have hc : c.val < 16 := c.isLt
  have ht : t.val < 4 := t.isLt
  have e0 : ((Rect.unit (s := S2x16x64x256) ![col, m, 0, 0] S1x4x64x256.size h).emb x 0).val = col := by
    show col + 1 * (x 0).val = col; omega
  have e1 : ((Rect.unit (s := S2x16x64x256) ![col, m, 0, 0] S1x4x64x256.size h).emb x 1).val = m + (x 1).val := by
    show m + 1 * (x 1).val = _; omega
  show v x = Moe.SB inp c ((Rect.unit (s := S2x16x64x256) ![col, m, 0, 0] S1x4x64x256.size h).emb x)
  unfold Moe.SB
  have et : stepOf c ((Rect.unit (s := S2x16x64x256) ![col, m, 0, 0] S1x4x64x256.size h).emb x 1).val = t := by
    rw [e1]; apply Fin.ext; show ((m + (x 1).val) / 4 + 3 - c.val / 4) % 4 = t.val; omega
  rw [hv, e0, et]
  refine congrArg _ ?_
  funext a
  apply Fin.ext
  fin_cases a
  · show (x 0).val = 0; omega
  · show (x 1).val = ((Rect.unit (s := S2x16x64x256) ![col, m, 0, 0] S1x4x64x256.size h).emb x 1).val % 4; rw [e1]; omega
  · show (x 2).val = 0 + 1 * (x 2).val; omega
  · show (x 3).val = 0 + 1 * (x 3).val; omega

/-- A group is stored. -/
theorem storeG_loc {inp : Inp F} {col s w : ℕ} (hcol : col < 2) {t : Fin 4} (hs : s ≤ 4 * t.val) {o : Fin 4 → ℕ} {h : InB4g o}
    (ho : o = ![col, 4 * ((c.val / 4 + t.val + 1) % 4), 0, 0])
    {v : FVec F S1x4x64x256 .bf16} (hv : v = if col = 0 then k0_pay20 (grp inp c t) else k0_pay21 (grp inp c t))
    {hx : (sM.access (Rect.unit (s := S2x16x64x256) o S1x4x64x256.size h)).Stores Finset.univ} {hm}
    {k : PUnit → Prog (TpuEff nD τ sig (Elt F) Λ₀ .tc) α} :
    Cs (Moe.SB inp) c col t.val s w ⊢ iprop((Cs (Moe.SB inp) c col (t.val + 1) s w -∗ WP c (k ⟨⟩) Q)
          -∗ WP c (.op (.store sM (Rect.unit (s := S2x16x64x256) o S1x4x64x256.size h) v Finset.univ hx hm) k) Q) := by
  unfold Cs
  rw [group_peel c (fun j => iprop(∃ f, sPts c col j f)) t.isLt, group_put c (fun j => sPts c col j (Moe.SB inp c)) hs]
  iintro ⟨⟨HG, HA⟩, HB, HR⟩ Hk
  ihave HG := (greg_join c col _) $$ HG
  icases HG with ⟨%f, HG⟩
  iapply (wp_store 𝒱₀ (c : Thread nD τ) none Set.univ (m := sM) (r := Rect.unit (s := S2x16x64x256) o S1x4x64x256.size h) (S := greg col (4 * ((c.val / 4 + t.val + 1) % 4)))
    (by rw [← rect_greg (h := h) ho, View.setOn_univ]; exact (View.set_slice_whole cc0_scratch1 _).subset)) $$ HG
  iintro HG
  ihave HG := (Entails.of_eq (pointsTo_congr (g := (Moe.SB inp c : BufS F)) fun i hi => store_val c hcol rfl ho hv f i hi)) $$ HG
  ihave HG := (greg_split c col _ _) $$ HG
  icases HG with ⟨H0, H1, H2, H3⟩
  iapply Hk
  isplitl [HA]; · iexact HA
  isplitr [HR]
  · isplitr [HB]
    · isplitl [H3]; · iexact H3
      isplitl [H2]; · iexact H2
      isplitl [H1]; · iexact H1
      iexact H0
    · iexact HB
  · iexact HR

/-! ## Landed blocks and own rows -/

/-- A landed block is read. -/
theorem loadL_loc {col v n : ℕ} (hcol : col < 2) (hv : n < v) {o : Fin 4 → ℕ} {h : InB4 o} (ho : o = ![col, n, 0, 0])
    {hl : lM.view.LoadsAt (Rect.unit (s := S2x16x64x256) o S1x1x64x256.size h).toLoadRect}
    {k : Vec F S1x1x64x256 .bf16 → Prog (TpuEff nD τ sig (Elt F) Λ₀ .tc) α} :
    Cv SB c col v ⊢ iprop((Cv SB c col v -∗ WP c (k (lM.view.readAt (Elt F) (Rect.unit (s := S2x16x64x256) o S1x1x64x256.size h).toLoadRect (RB SB c))) Q)
          -∗ WP c (.op (.load lM (Rect.unit (s := S2x16x64x256) o S1x1x64x256.size h).toLoadRect hl) k) Q) := by
  unfold Cv
  rw [show (bigSep (Finset.Ico 0 v) fun k => iprop(semVal (dcell c 1 col k) 0 ∗ rPts c col k (RB SB c)))
      = iprop((semVal (dcell c 1 col n) 0 ∗ rPts c col n (RB SB c)) ∗ bigSep ((Finset.Ico 0 v).erase n) fun k => iprop(semVal (dcell c 1 col k) 0 ∗ rPts c col k (RB SB c)))
    from bigSep_erase (Finset.mem_Ico.mpr ⟨Nat.zero_le n, hv⟩)]
  iintro ⟨HA, ⟨Hs, HG⟩, HR⟩ Hk
  unfold rPts
  iapply (wp_load_rect 𝒱₀ (c : Thread nD τ) none Set.univ (m := lM) (r := Rect.unit (s := S2x16x64x256) o S1x1x64x256.size h) (S := sreg col n)
    (by rw [← rect_sreg (h := h) ho]; exact (View.set_slice_whole cc0_scratch2 _).subset)) $$ HG
  iintro HG
  iapply Hk
  isplitl [HA]; · iexact HA
  isplitr [HR]
  · isplitl [Hs] <;> iassumption
  · iexact HR

/-- The device's own rows are read before they are stored; what is read does not matter. -/
theorem loadO_loc {col a x : ℕ} {o : Fin 2 → ℕ} {h : InB2 o} (ho : o = ![64 * c.val, 256 * col])
    {hl : oM.view.LoadsAt (Rect.unit (s := S1024x512) o S64x256.size h).toLoadRect}
    {k : Vec F S64x256 .bf16 → Prog (TpuEff nD τ sig (Elt F) Λ₀ .tc) α} :
    Co OUT c col 0 a x ⊢ iprop((∀ v, Co OUT c col 0 a x -∗ WP c (k v) Q)
          -∗ WP c (.op (.load oM (Rect.unit (s := S1024x512) o S64x256.size h).toLoadRect hl) k) Q) := by
  unfold Co
  rw [if_pos rfl]
  iintro ⟨⟨%f, HG⟩, HR⟩ Hk
  unfold oPts
  iapply (wp_load_rect 𝒱₀ (c : Thread nD τ) none Set.univ (m := oM) (r := Rect.unit (s := S1024x512) o S64x256.size h) (S := oreg col c)
    (by rw [← rect_oreg (h := h) ho]; exact (View.set_slice_whole cc0_stg4_0 _).subset)) $$ HG
  iintro HG
  iapply Hk
  isplitl [HG]
  · iexists f; iexact HG
  · iexact HR

omit [FloatOps F] in
theorem own_deal (col : ℕ) : oPts c col c fullShare OUT = bigSep (Finset.Ico 0 15) fun j => oPts c col c (shr (14 - j)) OUT := by
  unfold oPts
  rw [Transfers.pointsTo_deal (Finset.range 15) ⟨0, by decide⟩ fullShare]
  rw [show Finset.range 15 = (Finset.Ico 0 15).image (fun j => 14 - j) from by decide]
  exact Finset.fold_image (by decide)

/-- The device's own rows are stored, and then lent to the copies. -/
theorem storeO_loc {inp : Inp F} {col : ℕ} (hcol : col < 2) {o : Fin 2 → ℕ} {h : InB2 o} (ho : o = ![64 * c.val, 256 * col])
    {v : FVec F S64x256 .bf16} (hv : v = if col = 0 then sum0 inp c else sum1 inp c)
    {hx : (oM.access (Rect.unit (s := S1024x512) o S64x256.size h)).Stores Finset.univ} {hm}
    {k : PUnit → Prog (TpuEff nD τ sig (Elt F) Λ₀ .tc) α} :
    Co (Moe.OUT inp) c col 0 0 0 ⊢ iprop((Co (Moe.OUT inp) c col 1 0 0 -∗ WP c (k ⟨⟩) Q)
          -∗ WP c (.op (.store oM (Rect.unit (s := S1024x512) o S64x256.size h) v Finset.univ hx hm) k) Q) := by
  unfold Co
  rw [if_pos rfl, if_neg (by decide), ← own_deal]
  iintro ⟨⟨%f, HG⟩, HR⟩ Hk
  unfold oPts
  iapply (wp_store 𝒱₀ (c : Thread nD τ) none Set.univ (m := oM) (r := Rect.unit (s := S1024x512) o S64x256.size h) (S := oreg col c)
    (by rw [← rect_oreg (h := h) ho, View.setOn_univ]; exact (View.set_slice_whole cc0_stg4_0 _).subset)) $$ HG
  iintro HG
  ihave HG := (Entails.of_eq (pointsTo_congr (g := (Moe.OUT inp : BufO F)) fun i hi => by
    rw [← rect_oreg (h := h) ho, ← View.set_slice_whole cc0_stg4_0] at hi
    obtain ⟨x, -, rfl⟩ := Finset.mem_map.mp hi
    refine (View.write_emb_of_mem (v := (oM.access (Rect.unit (s := S1024x512) o S64x256.size h))) f v (Finset.mem_univ x)).trans ?_
    subst ho
    have h0 : (x 0).val < 64 := (x 0).isLt
    have h1 : (x 1).val < 256 := (x 1).isLt
    have e0 : ((Rect.unit (s := S1024x512) ![64 * c.val, 256 * col] S64x256.size h).emb x 0).val = 64 * c.val + (x 0).val := by
      show 64 * c.val + 1 * (x 0).val = _; omega
    have e1 : ((Rect.unit (s := S1024x512) ![64 * c.val, 256 * col] S64x256.size h).emb x 1).val = 256 * col + (x 1).val := by
      show 256 * col + 1 * (x 1).val = _; omega
    show v x = Moe.OUT inp ((Rect.unit (s := S1024x512) ![64 * c.val, 256 * col] S64x256.size h).emb x)
    unfold Moe.OUT
    rw [hv, show ((Rect.unit (s := S1024x512) ![64 * c.val, 256 * col] S64x256.size h).emb x 1).val / 256 = col from by rw [e1]; omega]
    have ed : ∀ p, (⟨((Rect.unit (s := S1024x512) ![64 * c.val, 256 * col] S64x256.size h).emb x 0).val / 64, p⟩ : Dev nD) = c := fun p => by
      apply Fin.ext; show ((Rect.unit (s := S1024x512) ![64 * c.val, 256 * col] S64x256.size h).emb x 0).val / 64 = c.val; rw [e0]; omega
    rw [ed]
    refine congrArg _ ?_
    funext a
    apply Fin.ext
    fin_cases a
    · show (x 0).val = ((Rect.unit (s := S1024x512) ![64 * c.val, 256 * col] S64x256.size h).emb x 0).val % 64; rw [e0]; omega
    · show (x 1).val = ((Rect.unit (s := S1024x512) ![64 * c.val, 256 * col] S64x256.size h).emb x 1).val % 256; rw [e1]; omega)) $$ HG
  iapply Hk
  isplitl [HG] <;> iassumption

end Cert.Moe
-- ==== Proof.Glob.lean ====
/-
# The whole state of a device

What a device owns at a point of its body, and one rule for every operation of the body.
-/
module

public import proofs.«01_k».proof.Proof.Mem

@[expose] public section

set_option maxRecDepth 16384

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {inp : Inp F} {K : Dev nD × CellIx → ℕ} {c : Dev nD} {α : Type} {Q : Post F α}

/-! ## The state -/

/-- The four inputs, whole. -/
def Ins (inp : Inp F) (c : Dev nD) : sProp 𝕄 :=
  iprop(((c : Thread nD τ).loc cc0_stg0_0 ↦[Finset.univ]{fullShare} inp.x c) ∗ ((c : Thread nD τ).loc cc0_stg1_0 ↦[Finset.univ]{fullShare} inp.r c)
    ∗ ((c : Thread nD τ).loc cc0_stg2_0 ↦[Finset.univ]{fullShare} inp.i c) ∗ ((c : Thread nD τ).loc cc0_stg3_0 ↦[Finset.univ]{fullShare} inp.w c))

/-- The buffer of the device's own sums; once the last group is in, it holds the device's own chunk. -/
def Acc (inp : Inp F) (c : Dev nD) (ga : ℕ) : sProp 𝕄 :=
  iprop(∃ f : (cc0_scratch0 : Ref sig .tc).ty.Contents (Elt F),
    ⌜ga = 4 → aM.view.readAt (Elt F) (Rect.unit (s := S16x64x512) (k0_off37 c) S1x64x512.size (k0_off37_inb c)).toLoadRect f = own inp c⌝
      ∗ ((c : Thread nD τ).loc cc0_scratch0 ↦[Finset.univ]{fullShare} f))

/-- What a device owns in the middle of its body: `n` signals sent, the barrier waited for (`bw = 1`) or not, `ga` groups added up, and the two
    column halves at `p` and `q`. -/
def S (inp : Inp F) (K : Dev nD × CellIx → ℕ) (c : Dev nD) (n bw ga : ℕ) (p q : Cst) : sProp 𝕄 :=
  iprop(Ctx (SB inp) (OUT inp) K ∗ OwnT c (Owe c n p.s q.s p.a q.a) ∗ Col (SB inp) (OUT inp) c bw 0 p ∗ Col (SB inp) (OUT inp) c bw 1 q
    ∗ Sig c n ∗ Bar c bw ∗ Acc inp c ga ∗ Ins inp c)

/-- A step of the first half. -/
theorem lift0 {n bw ga : ℕ} {p q p' : Cst} {G G' : sProp 𝕄}
    (hloc : iprop(Ctx (SB inp) (OUT inp) K ∗ (OwnT c (Owe c n p.s q.s p.a q.a) ∗ Col (SB inp) (OUT inp) c bw 0 p))
      ⊢ iprop(((OwnT c (Owe c n p'.s q.s p'.a q.a) ∗ Col (SB inp) (OUT inp) c bw 0 p') -∗ G') -∗ G))
    (h : S inp K c n bw ga p' q ⊢ G') : S inp K c n bw ga p q ⊢ G := by
  unfold S at *
  iintro ⟨#HC, HO, HP, HR⟩
  iapply hloc $$ [HO HP]
  · isplitr; · iexact HC
    isplitl [HO] <;> iassumption
  iintro ⟨HO, HP⟩
  iapply h
  isplitr; · iexact HC
  isplitl [HO]; · iexact HO
  isplitl [HP] <;> iassumption

/-- A step of the second half. -/
theorem lift1 {n bw ga : ℕ} {p q q' : Cst} {G G' : sProp 𝕄}
    (hloc : iprop(Ctx (SB inp) (OUT inp) K ∗ (OwnT c (Owe c n p.s q.s p.a q.a) ∗ Col (SB inp) (OUT inp) c bw 1 q))
      ⊢ iprop(((OwnT c (Owe c n p.s q'.s p.a q'.a) ∗ Col (SB inp) (OUT inp) c bw 1 q') -∗ G') -∗ G))
    (h : S inp K c n bw ga p q' ⊢ G') : S inp K c n bw ga p q ⊢ G := by
  unfold S at *
  iintro ⟨#HC, HO, HP, HQ, HR⟩
  iapply hloc $$ [HO HQ]
  · isplitr; · iexact HC
    isplitl [HO] <;> iassumption
  iintro ⟨HO, HQ⟩
  iapply h
  isplitr; · iexact HC
  isplitl [HO]; · iexact HO
  isplitl [HP]; · iexact HP
  isplitl [HQ] <;> iassumption

/-! ## A step of one component as a step of the column half -/

section On
variable {bw col g s v o a w x y : ℕ} {T T' : CellTallies nD τ sig Unit}

theorem onST {G G' : sProp 𝕄} {g' s' w' : ℕ} (hloc : iprop(Ctx (SB inp) (OUT inp) K ∗ (OwnT c T ∗ Cs (SB inp) c col g s w ∗ Ct c bw col s))
      ⊢ iprop(((OwnT c T' ∗ Cs (SB inp) c col g' s' w' ∗ Ct c bw col s') -∗ G') -∗ G)) :
    iprop(Ctx (SB inp) (OUT inp) K ∗ (OwnT c T ∗ Col (SB inp) (OUT inp) c bw col ⟨g, s, v, o, a, w, x, y⟩))
      ⊢ iprop(((OwnT c T' ∗ Col (SB inp) (OUT inp) c bw col ⟨g', s', v, o, a, w', x, y⟩) -∗ G') -∗ G) := by
  unfold Col
  iintro ⟨#HC, HO, H1, H2, HR⟩ Hk
  iapply hloc $$ [HO H1 H2]
  · isplitr; · iexact HC
    isplitl [HO]; · iexact HO
    isplitl [H1] <;> iassumption
  iintro ⟨HO, H1, H2⟩
  iapply Hk
  isplitl [HO]; · iexact HO
  isplitl [H1]; · iexact H1
  isplitl [H2] <;> iassumption

theorem onS {G G' : sProp 𝕄} {g' w' : ℕ} (hloc : iprop(Ctx (SB inp) (OUT inp) K ∗ (OwnT c T ∗ Cs (SB inp) c col g s w))
      ⊢ iprop(((OwnT c T ∗ Cs (SB inp) c col g' s w') -∗ G') -∗ G)) :
    iprop(Ctx (SB inp) (OUT inp) K ∗ (OwnT c T ∗ Col (SB inp) (OUT inp) c bw col ⟨g, s, v, o, a, w, x, y⟩))
      ⊢ iprop(((OwnT c T ∗ Col (SB inp) (OUT inp) c bw col ⟨g', s, v, o, a, w', x, y⟩) -∗ G') -∗ G) := by
  unfold Col
  iintro ⟨#HC, HO, H1, HR⟩ Hk
  iapply hloc $$ [HO H1]
  · isplitr; · iexact HC
    isplitl [HO] <;> iassumption
  iintro ⟨HO, H1⟩
  iapply Hk
  isplitl [HO]; · iexact HO
  isplitl [H1] <;> iassumption

theorem onV {G G' : sProp 𝕄} {v' : ℕ} (hloc : iprop(Ctx (SB inp) (OUT inp) K ∗ (OwnT c T ∗ Cv (SB inp) c col v))
      ⊢ iprop(((OwnT c T ∗ Cv (SB inp) c col v') -∗ G') -∗ G)) :
    iprop(Ctx (SB inp) (OUT inp) K ∗ (OwnT c T ∗ Col (SB inp) (OUT inp) c bw col ⟨g, s, v, o, a, w, x, y⟩))
      ⊢ iprop(((OwnT c T ∗ Col (SB inp) (OUT inp) c bw col ⟨g, s, v', o, a, w, x, y⟩) -∗ G') -∗ G) := by
  unfold Col
  iintro ⟨#HC, HO, H1, H2, H3, HR⟩ Hk
  iapply hloc $$ [HO H3]
  · isplitr; · iexact HC
    isplitl [HO] <;> iassumption
  iintro ⟨HO, H3⟩
  iapply Hk
  isplitl [HO]; · iexact HO
  isplitl [H1]; · iexact H1
  isplitl [H2]; · iexact H2
  isplitl [H3] <;> iassumption

theorem onO {G G' : sProp 𝕄} {o' x' : ℕ} (hloc : iprop(Ctx (SB inp) (OUT inp) K ∗ (OwnT c T ∗ Co (OUT inp) c col o a x))
      ⊢ iprop(((OwnT c T ∗ Co (OUT inp) c col o' a x') -∗ G') -∗ G)) :
    iprop(Ctx (SB inp) (OUT inp) K ∗ (OwnT c T ∗ Col (SB inp) (OUT inp) c bw col ⟨g, s, v, o, a, w, x, y⟩))
      ⊢ iprop(((OwnT c T ∗ Col (SB inp) (OUT inp) c bw col ⟨g, s, v, o', a, w, x', y⟩) -∗ G') -∗ G) := by
  unfold Col
  iintro ⟨#HC, HO, H1, H2, H3, H4, HR⟩ Hk
  iapply hloc $$ [HO H4]
  · isplitr; · iexact HC
    isplitl [HO] <;> iassumption
  iintro ⟨HO, H4⟩
  iapply Hk
  isplitl [HO]; · iexact HO
  isplitl [H1]; · iexact H1
  isplitl [H2]; · iexact H2
  isplitl [H3]; · iexact H3
  isplitl [H4] <;> iassumption

theorem onOQ {G G' : sProp 𝕄} {a' : ℕ} (hloc : iprop(Ctx (SB inp) (OUT inp) K ∗ (OwnT c T ∗ Co (OUT inp) c col o a x ∗ Cq c bw col a))
      ⊢ iprop(((OwnT c T' ∗ Co (OUT inp) c col o a' x ∗ Cq c bw col a') -∗ G') -∗ G)) :
    iprop(Ctx (SB inp) (OUT inp) K ∗ (OwnT c T ∗ Col (SB inp) (OUT inp) c bw col ⟨g, s, v, o, a, w, x, y⟩))
      ⊢ iprop(((OwnT c T' ∗ Col (SB inp) (OUT inp) c bw col ⟨g, s, v, o, a', w, x, y⟩) -∗ G') -∗ G) := by
  unfold Col
  iintro ⟨#HC, HO, H1, H2, H3, H4, H5, HR⟩ Hk
  iapply hloc $$ [HO H4 H5]
  · isplitr; · iexact HC
    isplitl [HO]; · iexact HO
    isplitl [H4] <;> iassumption
  iintro ⟨HO, H4, H5⟩
  iapply Hk
  isplitl [HO]; · iexact HO
  isplitl [H1]; · iexact H1
  isplitl [H2]; · iexact H2
  isplitl [H3]; · iexact H3
  isplitl [H4]; · iexact H4
  isplitl [H5] <;> iassumption

theorem onY {G G' : sProp 𝕄} {y' : ℕ} (hloc : iprop(Ctx (SB inp) (OUT inp) K ∗ (OwnT c T ∗ Cy (OUT inp) c col y))
      ⊢ iprop(((OwnT c T ∗ Cy (OUT inp) c col y') -∗ G') -∗ G)) :
    iprop(Ctx (SB inp) (OUT inp) K ∗ (OwnT c T ∗ Col (SB inp) (OUT inp) c bw col ⟨g, s, v, o, a, w, x, y⟩))
      ⊢ iprop(((OwnT c T ∗ Col (SB inp) (OUT inp) c bw col ⟨g, s, v, o, a, w, x, y'⟩) -∗ G') -∗ G) := by
  unfold Col
  iintro ⟨#HC, HO, H1, H2, H3, H4, H5, H6⟩ Hk
  iapply hloc $$ [HO H6]
  · isplitr; · iexact HC
    isplitl [HO] <;> iassumption
  iintro ⟨HO, H6⟩
  iapply Hk
  isplitl [HO]; · iexact HO
  isplitl [H1]; · iexact H1
  isplitl [H2]; · iexact H2
  isplitl [H3]; · iexact H3
  isplitl [H4]; · iexact H4
  isplitl [H5] <;> iassumption

end On

/-! ## The steps, as rules for the column half -/

section Rules
variable {bw col : ℕ} {g s v o a w x y : ℕ} {T T' : CellTallies nD τ sig Unit}

/-- What a column half is, together with the debts. -/
abbrev CT (inp : Inp F) (K : Dev nD × CellIx → ℕ) (c : Dev nD) (T : CellTallies nD τ sig Unit) (bw col : ℕ) (t : Cst) : sProp 𝕄 :=
  iprop(Ctx (SB inp) (OUT inp) K ∗ (OwnT c T ∗ Col (SB inp) (OUT inp) c bw col t))
abbrev CT' (inp : Inp F) (c : Dev nD) (T : CellTallies nD τ sig Unit) (bw col : ℕ) (t : Cst) : sProp 𝕄 :=
  iprop(OwnT c T ∗ Col (SB inp) (OUT inp) c bw col t)

theorem send_c {q : Dev nD} {o₁ o₂ : Fin 4 → ℕ} {h₁ : InB4 o₁} {h₂ : InB4 o₂} {oS oR : Fin 2 → ℕ} {hS : InBS oS} {hR : InBS oR}
    (hh : (q = ch c s ∧ oS = ![col, s]) ∧ oR = ![col, sl c (ch c s)] ∧ o₁ = ![col, (ch c s).val, 0, 0] ∧ o₂ = ![col, sl c (ch c s), 0, 0])
    (hb : (col < 2 ∧ s < 4 * g) ∧ g ≤ 4 ∧ w ≤ s) (hne : ch c s ≠ c)
    (hT : T = T' + tallyAt (dcell (ch c s) 1 col (sl c (ch c s))) () NB)
    {hsc : (blk lM o₂ h₂).view.ref.isScScratch = false} {hsrc : (blk sM o₁ h₁).view.WordExact} {hdst : (blk lM o₂ h₂).view.WordExact}
    {hsem : DmaTarget.Typed .vmem (.dma (semA cc0_scratch4 oR hR)) (.remote (Dev.tc q : Thread nD τ) (blk lM o₂ h₂) (.dma (semA cc0_scratch3 oS hS)) hsc)}
    {k : PUnit → Prog (TpuEff nD τ sig (Elt F) Λ₀ .tc) α} :
    CT inp K c T 1 col ⟨g, s, v, o, a, w, x, y⟩
      ⊢ iprop((CT' inp c T' 1 col ⟨g, s + 1, v, o, a, w, x, y⟩ -∗ WP c (k ⟨⟩) Q)
          -∗ WP c (.op (.enqueueDma (blk sM o₁ h₁) (.remote (Dev.tc q : Thread nD τ) (blk lM o₂ h₂) (.dma (semA cc0_scratch3 oS hS)) hsc) (.dma (semA cc0_scratch4 oR hR)) hsrc hdst hsem) k) Q) :=
  have hsl := sl_lt c (ch c s) hne
  onST (send_loc (SB inp) (OUT inp) K c hb.1.1 hb.1.2 hb.2.1 hb.2.2 hh.1.1 hne hT hh.2.2.1 hh.2.2.2 (semA_eq (kd := 0) (by decide) hb.1.1 (by have := hb.1.2; have := hb.2.1; omega) hh.1.2)
    (semA_eq (kd := 1) (by decide) hb.1.1 (by omega) hh.2.1))

theorem skip_c (hb : s < 4 * g ∧ g ≤ 4 ∧ w ≤ s) (he : ch c s = c) {G : sProp 𝕄} :
    CT inp K c T 1 col ⟨g, s, v, o, a, w, x, y⟩ ⊢ iprop((CT' inp c T 1 col ⟨g, s + 1, v, o, a, w, x, y⟩ -∗ G) -∗ G) :=
  onST (by
    iintro ⟨-, HO, H⟩ Hk
    iapply Hk
    isplitl [HO]; · iexact HO
    iapply (skip_loc (SB inp) c (T := T) hb.1 hb.2.1 hb.2.2 he)
    iexact H)

variable {sp sp' : Space} {s₁ s₂ : Shape} {e₁ e₂ : EltTy} {κ' : Kind} {src : Memref sig .tc sp' s₁ e₁} {dst : Memref sig κ' sp s₂ e₂}
  {hsrc : src.view.WordExact} {hdst : dst.view.WordExact} {oS : Fin 2 → ℕ} {hS : InBS oS} {k : PUnit → Prog (TpuEff nD τ sig (Elt F) Λ₀ .tc) α}

theorem wait_eq {sm sm' : DmaSem sig} (h : sm = sm') (hd : dst.view.dmaCredit = NB) (X : PUnit → sProp 𝕄) :
    wpE (defs₀ (F := F)) 𝒱₀ (c : Thread nD τ) none Set.univ (.waitDma2 sm src dst hsrc hdst) X = waitSpec (c : Thread nD τ) Set.univ (.dma sm') NB X := by
  subst h; rw [← hd]; rfl

omit [FloatOps F] in
/-- The waits for one's own copies are below everything. -/
theorem mw0 {kd i b r0 r1 a0 a1 : ℕ} (hkd : kd = 0 ∨ kd = 2) (hcol : col < 2) (hi : i < 16) :
    (levAts L lv : sProp 𝕄) ⊢ MayWait (c : Thread nD τ) (.dma (sidx kd col i)) () (Owe c b r0 r1 a0 a1) := by
  have h0 : lv (dcell c kd col i) () = 0 := by
    rw [lv_dma c (by omega) hcol hi, if_neg (by omega), if_neg (by omega)]
  exact mayWait c _ (fun _ => by rw [h0]; decide) (fun _ => by rw [h0]; decide) (fun _ => by rw [h0]; decide)

omit [FloatOps F] in
/-- Before the wait for what others send, everything on that level is sent. -/
theorem mw1 {kd i b r0 r1 a0 a1 : ℕ} (hkd : kd = 1 ∨ kd = 3) (hcol : col < 2) (hi : i < 16)
    (hb : 15 ≤ b ∧ 16 ≤ r0 ∧ 16 ≤ r1 ∧ (kd = 3 → 15 ≤ a0 ∧ 15 ≤ a1)) :
    (levAts L lv : sProp 𝕄) ⊢ MayWait (c : Thread nD τ) (.dma (sidx kd col i)) () (Owe c b r0 r1 a0 a1) := by
  have h0 : lv (dcell c kd col i) () = if kd = 1 then 2 else 3 := by
    rw [lv_dma c (by omega) hcol hi]; rcases hkd with h | h <;> subst h <;> rfl
  refine mayWait c _ (fun h => absurd h (by omega)) (fun h => absurd h (by omega)) (fun h => ?_)
  rw [h0]
  rcases hkd with e | e
  · rw [if_pos e]; decide
  · have := hb.2.2.2 e; omega

variable {b r0 r1 a0 a1 : ℕ}

theorem waitS_c (ho : oS = ![col, w]) (hb : (col < 2 ∧ w < s) ∧ s ≤ 16) (hne : ch c w ≠ c) (hd : dst.view.dmaCredit = NB) :
    CT inp K c (Owe c b r0 r1 a0 a1) bw col ⟨g, s, v, o, a, w, x, y⟩
      ⊢ iprop((CT' inp c (Owe c b r0 r1 a0 a1) bw col ⟨g, s, v, o, a, w + 1, x, y⟩ -∗ WP c (k ⟨⟩) Q)
          -∗ WP c (.op (.waitDma2 (semA cc0_scratch3 oS hS) src dst hsrc hdst) k) Q) :=
  onS (waitS_loc (SB inp) (OUT inp) K c hb.1.1 hb.1.2 hb.2 hne (mw0 (.inl rfl) hb.1.1 (by omega))
    (wait_eq (semA_eq (kd := 0) (by decide) hb.1.1 (by omega) ho) hd))

theorem waitS_skip_c (hb : (col < 2 ∧ w < s) ∧ s ≤ 16) (he : ch c w = c) {p : Prog (TpuEff nD τ sig (Elt F) Λ₀ .tc) α} :
    CT inp K c T bw col ⟨g, s, v, o, a, w, x, y⟩
      ⊢ iprop((CT' inp c T bw col ⟨g, s, v, o, a, w + 1, x, y⟩ -∗ WP c p Q) -∗ WP c p Q) :=
  onS (by
    iintro ⟨#HC, HO, H⟩ Hk
    iapply (waitS_skip (SB inp) (OUT inp) K c (T := T) hb.1.1 hb.1.2 hb.2 he) $$ [H]
    · isplitr; · iexact HC
      iexact H
    iintro H
    iapply Hk
    isplitl [HO] <;> iassumption)

theorem waitV_c (ho : oS = ![col, v]) (hb : col < 2 ∧ v < 15) (hd : dst.view.dmaCredit = NB) (hw : 15 ≤ b ∧ 16 ≤ r0 ∧ 16 ≤ r1) :
    CT inp K c (Owe c b r0 r1 a0 a1) bw col ⟨g, s, v, o, a, w, x, y⟩
      ⊢ iprop((CT' inp c (Owe c b r0 r1 a0 a1) bw col ⟨g, s, v + 1, o, a, w, x, y⟩ -∗ WP c (k ⟨⟩) Q)
          -∗ WP c (.op (.waitDma2 (semA cc0_scratch4 oS hS) src dst hsrc hdst) k) Q) :=
  onV (waitV_loc (SB inp) (OUT inp) K c hb.1 hb.2 (mw1 (.inl rfl) hb.1 (by omega) ⟨hw.1, hw.2.1, hw.2.2, fun h => absurd h (by decide)⟩)
    (wait_eq (semA_eq (kd := 1) (by decide) hb.1 (by omega) ho) hd))

theorem waitX_c (ho : oS = ![col, 14 - x]) (hb : (col < 2 ∧ x < a) ∧ a ≤ 15) (hd : dst.view.dmaCredit = NB) :
    CT inp K c (Owe c b r0 r1 a0 a1) bw col ⟨g, s, v, o, a, w, x, y⟩
      ⊢ iprop((CT' inp c (Owe c b r0 r1 a0 a1) bw col ⟨g, s, v, o, a, w, x + 1, y⟩ -∗ WP c (k ⟨⟩) Q)
          -∗ WP c (.op (.waitDma2 (semA cc0_scratch5 oS hS) src dst hsrc hdst) k) Q) :=
  onO (waitX_loc (SB inp) (OUT inp) K c hb.1.1 hb.1.2 hb.2 (mw0 (.inr rfl) hb.1.1 (by omega))
    (wait_eq (semA_eq (kd := 2) (by decide) hb.1.1 (by omega) ho) hd))

theorem waitY_c (ho : oS = ![col, 14 - y]) (hb : col < 2 ∧ y < 15) (hd : dst.view.dmaCredit = NB)
    (hw : 15 ≤ b ∧ 16 ≤ r0 ∧ 16 ≤ r1 ∧ 15 ≤ a0 ∧ 15 ≤ a1) :
    CT inp K c (Owe c b r0 r1 a0 a1) bw col ⟨g, s, v, o, a, w, x, y⟩
      ⊢ iprop((CT' inp c (Owe c b r0 r1 a0 a1) bw col ⟨g, s, v, o, a, w, x, y + 1⟩ -∗ WP c (k ⟨⟩) Q)
          -∗ WP c (.op (.waitDma2 (semA cc0_scratch6 oS hS) src dst hsrc hdst) k) Q) :=
  onY (waitY_loc (SB inp) (OUT inp) K c hb.1 hb.2 (mw1 (.inr rfl) hb.1 (by omega) ⟨hw.1, hw.2.1, hw.2.2.1, fun _ => hw.2.2.2⟩)
    (wait_eq (semA_eq (kd := 3) (by decide) hb.1 (by omega) ho) hd))

theorem gather_c {q : Dev nD} {o₁ : Fin 2 → ℕ} {h₁ h₂ : InB2 o₁} {oR : Fin 2 → ℕ} {hR : InBS oR}
    (hh : q = pr c a ∧ o₁ = ![64 * c.val, 256 * col]) (hs : oS = ![col, 14 - a] ∧ oR = ![col, 14 - a])
    (hb : (col < 2 ∧ a < 15) ∧ x ≤ a) (hT : T = T' + tallyAt (dcell (pr c a) 3 col (14 - a)) () NB)
    {hsc : (oblk o₁ h₂).view.ref.isScScratch = false} {hsrc : (oblk o₁ h₁).view.WordExact} {hdst : (oblk o₁ h₂).view.WordExact}
    {hsem : DmaTarget.Typed .vmem (.dma (semA cc0_scratch6 oR hR)) (.remote (Dev.tc q : Thread nD τ) (oblk o₁ h₂) (.dma (semA cc0_scratch5 oS hS)) hsc)} :
    CT inp K c T 1 col ⟨g, s, v, 1, a, w, x, y⟩
      ⊢ iprop((CT' inp c T' 1 col ⟨g, s, v, 1, a + 1, w, x, y⟩ -∗ WP c (k ⟨⟩) Q)
          -∗ WP c (.op (.enqueueDma (oblk o₁ h₁) (.remote (Dev.tc q : Thread nD τ) (oblk o₁ h₂) (.dma (semA cc0_scratch5 oS hS)) hsc) (.dma (semA cc0_scratch6 oR hR)) hsrc hdst hsem) k) Q) :=
  onOQ (gather_loc (SB inp) (OUT inp) K c hb.1.1 hb.1.2 hb.2 hh.1 hT hh.2
    (semA_eq (kd := 2) (by decide) hb.1.1 (by omega) hs.1) (semA_eq (kd := 3) (by decide) hb.1.1 (by omega) hs.2))

theorem loadG_c {o₁ : Fin 4 → ℕ} {h : InB4g o₁} (ho : o₁ = ![col, 4 * ((c.val / 4 + g + 1) % 4), 0, 0]) (hg : g < 4)
    {hl : sM.view.LoadsAt (Rect.unit (s := S2x16x64x256) o₁ S1x4x64x256.size h).toLoadRect}
    {k : Vec F S1x4x64x256 .bf16 → Prog (TpuEff nD τ sig (Elt F) Λ₀ .tc) α} :
    CT inp K c T bw col ⟨g, s, v, o, a, w, x, y⟩
      ⊢ iprop((CT' inp c T bw col ⟨g, s, v, o, a, w, x, y⟩ -∗ ∀ z, WP c (k z) Q)
          -∗ WP c (.op (.load sM (Rect.unit (s := S2x16x64x256) o₁ S1x4x64x256.size h).toLoadRect hl) k) Q) :=
  onS (by
    iintro ⟨-, HO, H⟩ Hk
    iapply (loadG_loc (SB inp) c hg ho) $$ H
    iintro %z H
    ihave Hk := Hk $$ [HO H]
    · isplitl [HO] <;> iassumption
    iapply Hk)

theorem storeG_c {t : Fin 4} {o₁ : Fin 4 → ℕ} {h : InB4g o₁} (ho : o₁ = ![col, 4 * ((c.val / 4 + t.val + 1) % 4), 0, 0]) (hb : col < 2 ∧ s ≤ 4 * t.val)
    {z : FVec F S1x4x64x256 .bf16} (hv : z = if col = 0 then k0_pay20 (grp inp c t) else k0_pay21 (grp inp c t))
    {hx : (sM.access (Rect.unit (s := S2x16x64x256) o₁ S1x4x64x256.size h)).Stores Finset.univ} {hm} :
    CT inp K c T bw col ⟨t.val, s, v, o, a, w, x, y⟩
      ⊢ iprop((CT' inp c T bw col ⟨t.val + 1, s, v, o, a, w, x, y⟩ -∗ WP c (k ⟨⟩) Q)
          -∗ WP c (.op (.store sM (Rect.unit (s := S2x16x64x256) o₁ S1x4x64x256.size h) z Finset.univ hx hm) k) Q) :=
  onS (by
    iintro ⟨-, HO, H⟩ Hk
    iapply (storeG_loc c hb.1 hb.2 ho hv) $$ H
    iintro H
    iapply Hk
    isplitl [HO] <;> iassumption)

theorem loadL_c {n : ℕ} {o₁ : Fin 4 → ℕ} {h : InB4 o₁} (ho : o₁ = ![col, n, 0, 0]) (hb : col < 2 ∧ n < v)
    {hl : lM.view.LoadsAt (Rect.unit (s := S2x16x64x256) o₁ S1x1x64x256.size h).toLoadRect}
    {k : Vec F S1x1x64x256 .bf16 → Prog (TpuEff nD τ sig (Elt F) Λ₀ .tc) α} :
    CT inp K c T bw col ⟨g, s, v, o, a, w, x, y⟩
      ⊢ iprop((CT' inp c T bw col ⟨g, s, v, o, a, w, x, y⟩
            -∗ WP c (k (lM.view.readAt (Elt F) (Rect.unit (s := S2x16x64x256) o₁ S1x1x64x256.size h).toLoadRect (RB (SB inp) c))) Q)
          -∗ WP c (.op (.load lM (Rect.unit (s := S2x16x64x256) o₁ S1x1x64x256.size h).toLoadRect hl) k) Q) :=
  onV (by
    iintro ⟨-, HO, H⟩ Hk
    iapply (loadL_loc (SB inp) c hb.1 hb.2 ho) $$ H
    iintro H
    iapply Hk
    isplitl [HO] <;> iassumption)

theorem loadO_c {o₁ : Fin 2 → ℕ} {h : InB2 o₁} (ho : o₁ = ![64 * c.val, 256 * col])
    {hl : oM.view.LoadsAt (Rect.unit (s := S1024x512) o₁ S64x256.size h).toLoadRect}
    {k : Vec F S64x256 .bf16 → Prog (TpuEff nD τ sig (Elt F) Λ₀ .tc) α} :
    CT inp K c T bw col ⟨g, s, v, 0, a, w, x, y⟩
      ⊢ iprop((CT' inp c T bw col ⟨g, s, v, 0, a, w, x, y⟩ -∗ ∀ z, WP c (k z) Q)
          -∗ WP c (.op (.load oM (Rect.unit (s := S1024x512) o₁ S64x256.size h).toLoadRect hl) k) Q) :=
  onO (by
    iintro ⟨-, HO, H⟩ Hk
    iapply (loadO_loc (OUT inp) c ho) $$ H
    iintro %z H
    ihave Hk := Hk $$ [HO H]
    · isplitl [HO] <;> iassumption
    iapply Hk)

theorem storeO_c {o₁ : Fin 2 → ℕ} {h : InB2 o₁} (ho : o₁ = ![64 * c.val, 256 * col]) (hb : col < 2)
    {z : FVec F S64x256 .bf16} (hv : z = if col = 0 then sum0 inp c else sum1 inp c)
    {hx : (oM.access (Rect.unit (s := S1024x512) o₁ S64x256.size h)).Stores Finset.univ} {hm} :
    CT inp K c T bw col ⟨g, s, v, 0, 0, w, 0, y⟩
      ⊢ iprop((CT' inp c T bw col ⟨g, s, v, 1, 0, w, 0, y⟩ -∗ WP c (k ⟨⟩) Q)
          -∗ WP c (.op (.store oM (Rect.unit (s := S1024x512) o₁ S64x256.size h) z Finset.univ hx hm) k) Q) :=
  onO (by
    iintro ⟨-, HO, H⟩ Hk
    iapply (storeO_loc c hb ho hv) $$ H
    iintro H
    iapply Hk
    isplitl [HO] <;> iassumption)

end Rules

/-! ## Rules for the whole state -/

section Whole
variable {n bw ga : ℕ} {p q : Cst}

theorem all_z {β : Type} {P : sProp 𝕄} {Φ : β → sProp 𝕄} (h : ∀ z, P ⊢ Φ z) : P ⊢ iprop(∀ z, Φ z) := by
  iintro H %z
  iapply (h z)
  iexact H

theorem end_s {P : sProp 𝕄} {r : α} (h : P ⊢ Q r) : P ⊢ WP c (.ret r) Q := by
  iintro H
  iapply (Entails.of_eq (wp_ret (Fr := frame) (wpE := wpE (defs₀ (F := F)) 𝒱₀ (c : Thread nD τ) none) (E := Set.univ) r Q).symm)
  imodintro
  iapply h
  iexact H

theorem bind_s {P : sProp 𝕄} {β : Type} {p : Prog (TpuEff nD τ sig (Elt F) Λ₀ .tc) β} {k : β → Prog (TpuEff nD τ sig (Elt F) Λ₀ .tc) α}
    (h : P ⊢ WP c p (fun r => WP c (k r) Q)) : P ⊢ WP c (p >>= k) Q :=
  h.trans (Entails.of_eq (wp_bind _ _ _ p k Q).symm)

theorem sig_s {r : Dev nD} {k' : ℕ} (hr : r = pr c n) (hn : n < 15) (hk : k' = 1) {k : PUnit → Prog (TpuEff nD τ sig (Elt F) Λ₀ .tc) α}
    (h : S inp K c (n + 1) bw ga p q ⊢ WP c (k ⟨⟩) Q) :
    S inp K c n bw ga p q ⊢ WP c (.op (.semSignal (r : Thread nD τ) barS k') k) Q := by
  unfold S at *
  iintro ⟨#HC, HO, HP, HQ, HS, HR⟩
  iapply (sig_loc (SB inp) (OUT inp) K c hn hr hk) $$ [HO HS]
  · isplitr; · iexact HC
    isplitl [HO] <;> iassumption
  iintro ⟨HO, HS⟩
  iapply h
  isplitr; · iexact HC
  isplitl [HO]; · iexact HO
  isplitl [HP]; · iexact HP
  isplitl [HQ]; · iexact HQ
  isplitl [HS] <;> iassumption

theorem bar_s {g g' o o' w w' x x' y y' v v' k' : ℕ} (hk : k' = 15) {k : PUnit → Prog (TpuEff nD τ sig (Elt F) Λ₀ .tc) α}
    (h : S inp K c 15 1 ga ⟨g, 0, v, o, 0, w, x, y⟩ ⟨g', 0, v', o', 0, w', x', y'⟩ ⊢ WP c (k ⟨⟩) Q) :
    S inp K c 15 0 ga ⟨g, 0, v, o, 0, w, x, y⟩ ⟨g', 0, v', o', 0, w', x', y'⟩ ⊢ WP c (.op (.semWait barS k') k) Q := by
  unfold S Col at *
  iintro ⟨#HC, HO, ⟨P1, P2, P3, P4, P5, P6⟩, ⟨Q1, Q2, Q3, Q4, Q5, Q6⟩, HS, HB, HR⟩
  iapply (bar_loc (SB inp) (OUT inp) K c (mayWait c _ (fun h => absurd h (show ¬ (15 : ℕ) < 15 by decide)) (fun _ => (by decide : (1 : ℕ) < 2)) (fun _ => (by decide : (1 : ℕ) < 3))) hk) $$ [HO HB P2 Q2 P5 Q5]
  · isplitr; · iexact HC
    isplitl [HO]; · iexact HO
    isplitl [HB]; · iexact HB
    isplitl [P2]; · iexact P2
    isplitl [Q2]; · iexact Q2
    isplitl [P5] <;> iassumption
  iintro ⟨HO, HB, P2, Q2, P5, Q5⟩
  iapply h
  isplitr; · iexact HC
  isplitl [HO]; · iexact HO
  isplitl [P1 P2 P3 P4 P5 P6]
  · isplitl [P1]; · iexact P1
    isplitl [P2]; · iexact P2
    isplitl [P3]; · iexact P3
    isplitl [P4]; · iexact P4
    isplitl [P5] <;> iassumption
  isplitl [Q1 Q2 Q3 Q4 Q5 Q6]
  · isplitl [Q1]; · iexact Q1
    isplitl [Q2]; · iexact Q2
    isplitl [Q3]; · iexact Q3
    isplitl [Q4]; · iexact Q4
    isplitl [Q5] <;> iassumption
  isplitl [HS]; · iexact HS
  isplitl [HB] <;> iassumption

/-- A load from the buffer of the device's own sums. -/
theorem acc_in {ga' : ℕ} {G G' : sProp 𝕄} (hloc : Acc inp c ga ⊢ iprop((Acc inp c ga' -∗ G') -∗ G)) (h : S inp K c n bw ga' p q ⊢ G') :
    S inp K c n bw ga p q ⊢ G := by
  unfold S at *
  iintro ⟨#HC, HO, HP, HQ, HS, HB, HA, HI⟩
  iapply hloc $$ HA
  iintro HA
  iapply h
  isplitr; · iexact HC
  isplitl [HO]; · iexact HO
  isplitl [HP]; · iexact HP
  isplitl [HQ]; · iexact HQ
  isplitl [HS]; · iexact HS
  isplitl [HB]; · iexact HB
  isplitl [HA] <;> iassumption

theorem ins_in {G G' : sProp 𝕄} (hloc : Ins inp c ⊢ iprop((Ins inp c -∗ G') -∗ G)) (h : S inp K c n bw ga p q ⊢ G') :
    S inp K c n bw ga p q ⊢ G := by
  unfold S at *
  iintro ⟨#HC, HO, HP, HQ, HS, HB, HA, HI⟩
  iapply hloc $$ HI
  iintro HI
  iapply h
  isplitr; · iexact HC
  isplitl [HO]; · iexact HO
  isplitl [HP]; · iexact HP
  isplitl [HQ]; · iexact HQ
  isplitl [HS]; · iexact HS
  isplitl [HB]; · iexact HB
  isplitl [HA] <;> iassumption

variable {e : EltTy}

theorem loadA_s {r : Rect S16x64x512} {hl : aM.view.LoadsAt r.toLoadRect} {k : (r.shape.Idx → Elt F .f32) → Prog (TpuEff nD τ sig (Elt F) Λ₀ .tc) α}
    (h : ∀ z, S inp K c n bw ga p q ⊢ WP c (k z) Q) : S inp K c n bw ga p q ⊢ WP c (.op (.load aM r.toLoadRect hl) k) Q :=
  acc_in (G' := iprop(∀ z, WP c (k z) Q)) (by
    unfold Acc
    iintro ⟨%f, %hf, HA⟩ Hk
    iapply (wp_load_rect 𝒱₀ (c : Thread nD τ) none Set.univ (m := aM) (r := r) (Finset.subset_univ _)) $$ HA
    iintro HA
    ihave Hk := Hk $$ [HA]
    · iexists f
      isplitr
      · ipureintro; exact hf
      · iexact HA
    iapply Hk) (all_z h)

theorem loadOwn_s {hl : aM.view.LoadsAt (Rect.unit (s := S16x64x512) (k0_off37 c) S1x64x512.size (k0_off37_inb c)).toLoadRect}
    {k : Vec F S1x64x512 .f32 → Prog (TpuEff nD τ sig (Elt F) Λ₀ .tc) α}
    (h : S inp K c n bw 4 p q ⊢ WP c (k (own inp c)) Q) :
    S inp K c n bw 4 p q ⊢ WP c (.op (.load aM (Rect.unit (s := S16x64x512) (k0_off37 c) S1x64x512.size (k0_off37_inb c)).toLoadRect hl) k) Q :=
  acc_in (by
    unfold Acc
    iintro ⟨%f, %hf, HA⟩ Hk
    rw [← hf rfl]
    iapply (wp_load 𝒱₀ (c : Thread nD τ) none Set.univ (m := aM) (Finset.subset_univ _)) $$ HA
    iintro HA
    iapply Hk
    iexists f
    isplitr
    · ipureintro; exact fun _ => rfl
    · iexact HA) h

/-- A row of the chunk, in its group. -/
def ownRow (c : Dev nD) (j : S1x64x512.Idx) : S4x64x512.Idx :=
  fun a => match a with | ⟨0, _⟩ => (⟨c.val % 4, Nat.mod_lt _ (by decide)⟩ : Fin 4) | ⟨1, _⟩ => j 1 | ⟨2, _⟩ => j 2

theorem own_apply (j : S1x64x512.Idx) : own inp c j = k0_pay18 (grp inp c 3) (ownRow c j) := rfl

/-- After the last group is stored, the buffer holds the device's own chunk. -/
theorem own_read {t : Fin 4} (ht : t = 3) {o₁ : Fin 3 → ℕ} {hi : ∀ a : Fin S16x64x512.rank, o₁ a + S4x64x512.size a ≤ S16x64x512.size a}
    (ho : o₁ = ![4 * ((c.val / 4 + t.val + 1) % 4), 0, 0]) {z : FVec F S4x64x512 .f32} (hz : z = k0_pay18 (grp inp c t))
    (f : (cc0_scratch0 : Ref sig .tc).ty.Contents (Elt F)) :
    aM.view.readAt (Elt F) (Rect.unit (s := S16x64x512) (k0_off37 c) S1x64x512.size (k0_off37_inb c)).toLoadRect
      ((aM.access (Rect.unit (s := S16x64x512) o₁ S4x64x512.size hi)).write (Elt F) f z Finset.univ) = own inp c := by
  subst ht ho
  funext j
  have hj0 : (j 0).val < 1 := (j 0).isLt
  have hc : c.val < 16 := c.isLt
  have hx : (Rect.unit (s := S16x64x512) (k0_off37 c) S1x64x512.size (k0_off37_inb c)).toLoadRect.idx j
      = (Rect.unit (s := S16x64x512) ![4 * ((c.val / 4 + (3 : Fin 4).val + 1) % 4), 0, 0] S4x64x512.size hi).emb
        (ownRow c j) := by
    have e37 := congrFun (k0_off37_eq c)
    funext a
    apply Fin.ext
    match a with
    | ⟨0, _⟩ =>
      show (k0_off37 c) 0 + 1 * (j 0).val = 4 * ((c.val / 4 + 3 + 1) % 4) + 1 * (c.val % 4)
      rw [show k0_off37 c 0 = c.val from e37 0]; omega
    | ⟨1, _⟩ =>
      show (k0_off37 c) 1 + 1 * (j 1).val = 0 + 1 * (j 1).val
      rw [show k0_off37 c 1 = 0 from e37 1]
    | ⟨2, _⟩ =>
      show (k0_off37 c) 2 + 1 * (j 2).val = 0 + 1 * (j 2).val
      rw [show k0_off37 c 2 = 0 from e37 2]
  rw [View.readAt_apply, hx]
  refine Eq.trans (b := z (ownRow c j)) ?_ ?_
  · exact View.read_slice_write_emb (v := aM.view) (Rect.unit (s := S16x64x512) _ S4x64x512.size hi) f z (Finset.mem_univ _)
  · have h₁ := congrFun hz (ownRow c j)
    have h₂ := own_apply (inp := inp) (c := c) j
    exact Eq.trans h₁ h₂.symm

/-- A group goes into the buffer of sums. -/
theorem storeA_s {t : Fin 4} {o₁ : Fin 3 → ℕ} {hi : ∀ a : Fin S16x64x512.rank, o₁ a + S4x64x512.size a ≤ S16x64x512.size a}
    (ho : o₁ = ![4 * ((c.val / 4 + t.val + 1) % 4), 0, 0]) {z : FVec F S4x64x512 .f32} (hz : z = k0_pay18 (grp inp c t))
    {hx : (aM.access (Rect.unit (s := S16x64x512) o₁ S4x64x512.size hi)).Stores Finset.univ} {hm} {k : PUnit → Prog (TpuEff nD τ sig (Elt F) Λ₀ .tc) α}
    (h : S inp K c n bw (t.val + 1) p q ⊢ WP c (k ⟨⟩) Q) :
    S inp K c n bw t.val p q ⊢ WP c (.op (.store aM (Rect.unit (s := S16x64x512) o₁ S4x64x512.size hi) z Finset.univ hx hm) k) Q :=
  acc_in (by
    unfold Acc
    iintro ⟨%f, %hf, HA⟩ Hk
    iapply (wp_store 𝒱₀ (c : Thread nD τ) none Set.univ (m := aM) (r := Rect.unit (s := S16x64x512) o₁ S4x64x512.size hi) (Finset.subset_univ _)) $$ HA
    iintro HA
    iapply Hk
    iexists _
    isplitr
    rotate_left
    · iexact HA
    · ipureintro
      intro ht
      exact own_read (Fin.ext (by show t.val = 3; omega)) ho hz f) h

theorem loadX_s {r : Rect S1024x256} {hl : xM.view.LoadsAt r.toLoadRect} {k : (r.shape.Idx → Elt F .bf16) → Prog (TpuEff nD τ sig (Elt F) Λ₀ .tc) α}
    (h : S inp K c n bw ga p q ⊢ WP c (k (xM.view.readAt (Elt F) r.toLoadRect (inp.x c))) Q) : S inp K c n bw ga p q ⊢ WP c (.op (.load xM r.toLoadRect hl) k) Q :=
  ins_in (by
    unfold Ins
    iintro ⟨H1, H2, H3, H4⟩ Hk
    iapply (wp_load 𝒱₀ (c : Thread nD τ) none Set.univ (m := xM) (Finset.subset_univ _)) $$ H1
    iintro H1
    iapply Hk
    isplitl [H1]; · iexact H1
    isplitl [H2]; · iexact H2
    isplitl [H3] <;> iassumption) h

theorem loadR_s {r : Rect S256x64} {hl : rM.view.LoadsAt r.toLoadRect} {k : (r.shape.Idx → Elt F .bf16) → Prog (TpuEff nD τ sig (Elt F) Λ₀ .tc) α}
    (h : S inp K c n bw ga p q ⊢ WP c (k (rM.view.readAt (Elt F) r.toLoadRect (inp.r c))) Q) : S inp K c n bw ga p q ⊢ WP c (.op (.load rM r.toLoadRect hl) k) Q :=
  ins_in (by
    unfold Ins
    iintro ⟨H1, H2, H3, H4⟩ Hk
    iapply (wp_load 𝒱₀ (c : Thread nD τ) none Set.univ (m := rM) (Finset.subset_univ _)) $$ H2
    iintro H2
    iapply Hk
    isplitl [H1]; · iexact H1
    isplitl [H2]; · iexact H2
    isplitl [H3] <;> iassumption) h

theorem loadI_s {r : Rect S1024x2} {hl : iM.view.LoadsAt r.toLoadRect} {k : (r.shape.Idx → Elt F .i32) → Prog (TpuEff nD τ sig (Elt F) Λ₀ .tc) α}
    (h : S inp K c n bw ga p q ⊢ WP c (k (iM.view.readAt (Elt F) r.toLoadRect (inp.i c))) Q) : S inp K c n bw ga p q ⊢ WP c (.op (.load iM r.toLoadRect hl) k) Q :=
  ins_in (by
    unfold Ins
    iintro ⟨H1, H2, H3, H4⟩ Hk
    iapply (wp_load 𝒱₀ (c : Thread nD τ) none Set.univ (m := iM) (Finset.subset_univ _)) $$ H3
    iintro H3
    iapply Hk
    isplitl [H1]; · iexact H1
    isplitl [H2]; · iexact H2
    isplitl [H3] <;> iassumption) h

theorem loadW_s {r : Rect S4x256x512} {hl : wM.view.LoadsAt r.toLoadRect} {k : (r.shape.Idx → Elt F .bf16) → Prog (TpuEff nD τ sig (Elt F) Λ₀ .tc) α}
    (h : S inp K c n bw ga p q ⊢ WP c (k (wM.view.readAt (Elt F) r.toLoadRect (inp.w c))) Q) : S inp K c n bw ga p q ⊢ WP c (.op (.load wM r.toLoadRect hl) k) Q :=
  ins_in (by
    unfold Ins
    iintro ⟨H1, H2, H3, H4⟩ Hk
    iapply (wp_load 𝒱₀ (c : Thread nD τ) none Set.univ (m := wM) (Finset.subset_univ _)) $$ H4
    iintro H4
    iapply Hk
    isplitl [H1]; · iexact H1
    isplitl [H2]; · iexact H2
    isplitl [H3] <;> iassumption) h

end Whole

end Cert.Moe
-- ==== Proof.Ops.lean ====
/-
# One rule for every operation of the body

The rules of the two column halves, as rules for the whole state of a device. Side conditions on the counters are closed where a rule is used.
-/
module

public import proofs.«01_k».proof.Proof.Glob

@[expose] public section

set_option maxRecDepth 16384

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable {inp : Inp F} {K : Dev nD × CellIx → ℕ} {c : Dev nD} {α : Type} {Q : Post F α}

theorem ch_ne (c : Dev nD) {s : ℕ} (hs : s < 12) : ch c s ≠ c :=
  (atDev (P := fun c => ∀ s : Fin 12, ch c s.val ≠ c) (by decide +kernel) c) ⟨s, hs⟩

/-- A body under a condition. -/
theorem if_s {P : sProp (MT nD τ sig Unit (Elt F) ℕ UU ℕ)} {b : Prop} [Decidable b] {p : b → Prog (TpuEff nD τ sig (Elt F) Λ₀ .tc) α}
    {p' : ¬b → Prog (TpuEff nD τ sig (Elt F) Λ₀ .tc) α} (ht : ∀ h, P ⊢ WP c (p h) Q) (he : ∀ h, P ⊢ WP c (p' h) Q) :
    P ⊢ WP c (dite b p p') Q := by
  by_cases h : b
  · rw [dif_pos h]; exact ht h
  · rw [dif_neg h]; exact he h

/-- A body under a condition, with what follows it: both ways lead to the same state. -/
theorem cond_s {P P' : sProp (MT nD τ sig Unit (Elt F) ℕ UU ℕ)} {b : Prop} [Decidable b] {p : b → Prog (TpuEff nD τ sig (Elt F) Λ₀ .tc) α}
    {p₀ : Prog (TpuEff nD τ sig (Elt F) Λ₀ .tc) α} (ht : ∀ h, (P' ⊢ WP c p₀ Q) → (P ⊢ WP c (p h) Q)) (he : ¬b → (P' ⊢ WP c p₀ Q) → (P ⊢ WP c p₀ Q))
    (hk : P' ⊢ WP c p₀ Q) : P ⊢ WP c (dite b p (fun _ => p₀)) Q :=
  if_s (fun h => ht h hk) (fun h => he h hk)

/-- A part that is followed by another. -/
theorem seq_s {P : sProp (MT nD τ sig Unit (Elt F) ℕ UU ℕ)} {β : Type} {p : Prog (TpuEff nD τ sig (Elt F) Λ₀ .tc) β}
    {k : β → Prog (TpuEff nD τ sig (Elt F) Λ₀ .tc) α} (h : P ⊢ WP c p (fun r => WP c (k r) Q)) : P ⊢ WP c (p.bind k) Q :=
  bind_s h

section Halves
variable {n bw ga : ℕ} {g s v o a w x y : ℕ} {z : Cst}

/-- What the addresses and semaphores of a reduce-scatter copy are. -/
abbrev SendFacts (c : Dev nD) (col s : ℕ) (r : Dev nD) (oS oR : Fin 2 → ℕ) (o₁ o₂ : Fin 4 → ℕ) : Prop :=
  ((r = ch c s ∧ oS = ![col, s]) ∧ oR = ![col, sl c (ch c s)] ∧ o₁ = ![col, (ch c s).val, 0, 0] ∧ o₂ = ![col, sl c (ch c s), 0, 0]) ∧ ch c s ≠ c

variable {r : Dev nD} {o₁ o₂ : Fin 4 → ℕ} {h₁ : InB4 o₁} {h₂ : InB4 o₂} {oS oR : Fin 2 → ℕ} {hS : InBS oS} {hR : InBS oR}
  {hsc : (blk lM o₂ h₂).view.ref.isScScratch = false} {hsrc : (blk sM o₁ h₁).view.WordExact} {hdst : (blk lM o₂ h₂).view.WordExact}
  {hsem : DmaTarget.Typed .vmem (.dma (semA cc0_scratch4 oR hR)) (.remote (Dev.tc r : Thread nD τ) (blk lM o₂ h₂) (.dma (semA cc0_scratch3 oS hS)) hsc)}
  {k : PUnit → Prog (TpuEff nD τ sig (Elt F) Λ₀ .tc) α}

theorem send0 (hh : SendFacts c 0 s r oS oR o₁ o₂) (h : S inp K c n 1 ga ⟨g, s + 1, v, o, a, w, x, y⟩ z ⊢ WP c (k ⟨⟩) Q)
    (hb : s < 4 * g ∧ g ≤ 4 ∧ w ≤ s := by decide) :
    S inp K c n 1 ga ⟨g, s, v, o, a, w, x, y⟩ z
      ⊢ WP c (.op (.enqueueDma (blk sM o₁ h₁) (.remote (Dev.tc r : Thread nD τ) (blk lM o₂ h₂) (.dma (semA cc0_scratch3 oS hS)) hsc) (.dma (semA cc0_scratch4 oR hR)) hsrc hdst hsem) k) Q :=
  lift0 (p' := ⟨g, s + 1, v, o, a, w, x, y⟩) (send_c hh.1 ⟨⟨by decide, hb.1⟩, hb.2⟩ hh.2 (peel0 (OR_peel c (by omega) hh.2))) h

theorem send1 (hh : SendFacts c 1 s r oS oR o₁ o₂) (h : S inp K c n 1 ga z ⟨g, s + 1, v, o, a, w, x, y⟩ ⊢ WP c (k ⟨⟩) Q)
    (hb : s < 4 * g ∧ g ≤ 4 ∧ w ≤ s := by decide) :
    S inp K c n 1 ga z ⟨g, s, v, o, a, w, x, y⟩
      ⊢ WP c (.op (.enqueueDma (blk sM o₁ h₁) (.remote (Dev.tc r : Thread nD τ) (blk lM o₂ h₂) (.dma (semA cc0_scratch3 oS hS)) hsc) (.dma (semA cc0_scratch4 oR hR)) hsrc hdst hsem) k) Q :=
  lift1 (q' := ⟨g, s + 1, v, o, a, w, x, y⟩) (send_c hh.1 ⟨⟨by decide, hb.1⟩, hb.2⟩ hh.2 (peel1 (OR_peel c (by omega) hh.2))) h

/-- The chunk that stays is not sent. -/
theorem skip0 (he : ch c s = c) {G : sProp (MT nD τ sig Unit (Elt F) ℕ UU ℕ)} (h : S inp K c n bw ga ⟨g, s + 1, v, o, a, w, x, y⟩ z ⊢ G)
    (hb : s < 4 * g ∧ g ≤ 4 ∧ w ≤ s := by decide) (hbw : bw = 1 := by rfl) : S inp K c n bw ga ⟨g, s, v, o, a, w, x, y⟩ z ⊢ G := by
  subst hbw
  refine lift0 (p' := ⟨g, s + 1, v, o, a, w, x, y⟩) ?_ h
  have e : Owe c n (s + 1) z.s a z.a = Owe c n s z.s a z.a := by unfold Owe; rw [OR_skip c (n := s) (by omega) he]
  show _ ⊢ iprop(((OwnT c (Owe c n (s + 1) z.s a z.a) ∗ _) -∗ G) -∗ G)
  rw [e]
  exact skip_c hb he

theorem skip1 (he : ch c s = c) {G : sProp (MT nD τ sig Unit (Elt F) ℕ UU ℕ)} (h : S inp K c n bw ga z ⟨g, s + 1, v, o, a, w, x, y⟩ ⊢ G)
    (hb : s < 4 * g ∧ g ≤ 4 ∧ w ≤ s := by decide) (hbw : bw = 1 := by rfl) : S inp K c n bw ga z ⟨g, s, v, o, a, w, x, y⟩ ⊢ G := by
  subst hbw
  refine lift1 (q' := ⟨g, s + 1, v, o, a, w, x, y⟩) ?_ h
  have e : Owe c n z.s (s + 1) z.a a = Owe c n z.s s z.a a := by unfold Owe; rw [OR_skip c (n := s) (by omega) he]
  show _ ⊢ iprop(((OwnT c (Owe c n z.s (s + 1) z.a a) ∗ _) -∗ G) -∗ G)
  rw [e]
  exact skip_c hb he

end Halves

section Waits
variable {n bw ga : ℕ} {g s v o a w x y : ℕ} {z : Cst}
variable {sp sp' : Space} {s₁ s₂ : Shape} {e₁ e₂ : EltTy} {κ' : Kind} {src : Memref sig .tc sp' s₁ e₁} {dst : Memref sig κ' sp s₂ e₂}
  {hsrc : src.view.WordExact} {hdst : dst.view.WordExact} {oS : Fin 2 → ℕ} {hS : InBS oS} {k : PUnit → Prog (TpuEff nD τ sig (Elt F) Λ₀ .tc) α}

theorem waitS0 (hne : ch c w ≠ c) (h : S inp K c n bw ga ⟨g, s, v, o, a, w + 1, x, y⟩ z ⊢ WP c (k ⟨⟩) Q)
    (ho : oS = ![0, w] := by decide) (hb : w < s ∧ s ≤ 16 := by decide) (hd : dst.view.dmaCredit = NB := by rfl) :
    S inp K c n bw ga ⟨g, s, v, o, a, w, x, y⟩ z ⊢ WP c (.op (.waitDma2 (semA cc0_scratch3 oS hS) src dst hsrc hdst) k) Q :=
  lift0 (p' := ⟨g, s, v, o, a, w + 1, x, y⟩) (waitS_c ho ⟨⟨by decide, hb.1⟩, hb.2⟩ hne hd) h

theorem waitS1 (hne : ch c w ≠ c) (h : S inp K c n bw ga z ⟨g, s, v, o, a, w + 1, x, y⟩ ⊢ WP c (k ⟨⟩) Q)
    (ho : oS = ![1, w] := by decide) (hb : w < s ∧ s ≤ 16 := by decide) (hd : dst.view.dmaCredit = NB := by rfl) :
    S inp K c n bw ga z ⟨g, s, v, o, a, w, x, y⟩ ⊢ WP c (.op (.waitDma2 (semA cc0_scratch3 oS hS) src dst hsrc hdst) k) Q :=
  lift1 (q' := ⟨g, s, v, o, a, w + 1, x, y⟩) (waitS_c ho ⟨⟨by decide, hb.1⟩, hb.2⟩ hne hd) h

theorem waitSkip0 (he : ch c w = c) {p : Prog (TpuEff nD τ sig (Elt F) Λ₀ .tc) α} (h : S inp K c n bw ga ⟨g, s, v, o, a, w + 1, x, y⟩ z ⊢ WP c p Q)
    (hb : w < s ∧ s ≤ 16 := by decide) : S inp K c n bw ga ⟨g, s, v, o, a, w, x, y⟩ z ⊢ WP c p Q :=
  lift0 (p' := ⟨g, s, v, o, a, w + 1, x, y⟩) (waitS_skip_c ⟨⟨by decide, hb.1⟩, hb.2⟩ he) h

theorem waitSkip1 (he : ch c w = c) {p : Prog (TpuEff nD τ sig (Elt F) Λ₀ .tc) α} (h : S inp K c n bw ga z ⟨g, s, v, o, a, w + 1, x, y⟩ ⊢ WP c p Q)
    (hb : w < s ∧ s ≤ 16 := by decide) : S inp K c n bw ga z ⟨g, s, v, o, a, w, x, y⟩ ⊢ WP c p Q :=
  lift1 (q' := ⟨g, s, v, o, a, w + 1, x, y⟩) (waitS_skip_c ⟨⟨by decide, hb.1⟩, hb.2⟩ he) h

theorem waitV0 (h : S inp K c n bw ga ⟨g, s, v + 1, o, a, w, x, y⟩ z ⊢ WP c (k ⟨⟩) Q)
    (ho : oS = ![0, v] := by decide) (hb : v < 15 := by decide) (hd : dst.view.dmaCredit = NB := by rfl) (hw : 15 ≤ n ∧ 16 ≤ s ∧ 16 ≤ z.s := by decide) :
    S inp K c n bw ga ⟨g, s, v, o, a, w, x, y⟩ z ⊢ WP c (.op (.waitDma2 (semA cc0_scratch4 oS hS) src dst hsrc hdst) k) Q :=
  lift0 (p' := ⟨g, s, v + 1, o, a, w, x, y⟩) (waitV_c ho ⟨by decide, hb⟩ hd hw) h

theorem waitV1 (h : S inp K c n bw ga z ⟨g, s, v + 1, o, a, w, x, y⟩ ⊢ WP c (k ⟨⟩) Q)
    (ho : oS = ![1, v] := by decide) (hb : v < 15 := by decide) (hd : dst.view.dmaCredit = NB := by rfl) (hw : 15 ≤ n ∧ 16 ≤ z.s ∧ 16 ≤ s := by decide) :
    S inp K c n bw ga z ⟨g, s, v, o, a, w, x, y⟩ ⊢ WP c (.op (.waitDma2 (semA cc0_scratch4 oS hS) src dst hsrc hdst) k) Q :=
  lift1 (q' := ⟨g, s, v + 1, o, a, w, x, y⟩) (waitV_c ho ⟨by decide, hb⟩ hd hw) h

theorem waitX0 (h : S inp K c n bw ga ⟨g, s, v, o, a, w, x + 1, y⟩ z ⊢ WP c (k ⟨⟩) Q)
    (ho : oS = ![0, 14 - x] := by decide) (hb : x < a ∧ a ≤ 15 := by decide) (hd : dst.view.dmaCredit = NB := by rfl) :
    S inp K c n bw ga ⟨g, s, v, o, a, w, x, y⟩ z ⊢ WP c (.op (.waitDma2 (semA cc0_scratch5 oS hS) src dst hsrc hdst) k) Q :=
  lift0 (p' := ⟨g, s, v, o, a, w, x + 1, y⟩) (waitX_c ho ⟨⟨by decide, hb.1⟩, hb.2⟩ hd) h

theorem waitX1 (h : S inp K c n bw ga z ⟨g, s, v, o, a, w, x + 1, y⟩ ⊢ WP c (k ⟨⟩) Q)
    (ho : oS = ![1, 14 - x] := by decide) (hb : x < a ∧ a ≤ 15 := by decide) (hd : dst.view.dmaCredit = NB := by rfl) :
    S inp K c n bw ga z ⟨g, s, v, o, a, w, x, y⟩ ⊢ WP c (.op (.waitDma2 (semA cc0_scratch5 oS hS) src dst hsrc hdst) k) Q :=
  lift1 (q' := ⟨g, s, v, o, a, w, x + 1, y⟩) (waitX_c ho ⟨⟨by decide, hb.1⟩, hb.2⟩ hd) h

theorem waitY0 (h : S inp K c n bw ga ⟨g, s, v, o, a, w, x, y + 1⟩ z ⊢ WP c (k ⟨⟩) Q)
    (ho : oS = ![0, 14 - y] := by decide) (hb : y < 15 := by decide) (hd : dst.view.dmaCredit = NB := by rfl)
    (hw : 15 ≤ n ∧ 16 ≤ s ∧ 16 ≤ z.s ∧ 15 ≤ a ∧ 15 ≤ z.a := by decide) :
    S inp K c n bw ga ⟨g, s, v, o, a, w, x, y⟩ z ⊢ WP c (.op (.waitDma2 (semA cc0_scratch6 oS hS) src dst hsrc hdst) k) Q :=
  lift0 (p' := ⟨g, s, v, o, a, w, x, y + 1⟩) (waitY_c ho ⟨by decide, hb⟩ hd hw) h

theorem waitY1 (h : S inp K c n bw ga z ⟨g, s, v, o, a, w, x, y + 1⟩ ⊢ WP c (k ⟨⟩) Q)
    (ho : oS = ![1, 14 - y] := by decide) (hb : y < 15 := by decide) (hd : dst.view.dmaCredit = NB := by rfl)
    (hw : 15 ≤ n ∧ 16 ≤ z.s ∧ 16 ≤ s ∧ 15 ≤ z.a ∧ 15 ≤ a := by decide) :
    S inp K c n bw ga z ⟨g, s, v, o, a, w, x, y⟩ ⊢ WP c (.op (.waitDma2 (semA cc0_scratch6 oS hS) src dst hsrc hdst) k) Q :=
  lift1 (q' := ⟨g, s, v, o, a, w, x, y + 1⟩) (waitY_c ho ⟨by decide, hb⟩ hd hw) h

/-- What the addresses and semaphores of an all-gather copy are. -/
abbrev GatherFacts (c : Dev nD) (col a : ℕ) (r : Dev nD) (o₁ oS oR : Fin 2 → ℕ) : Prop :=
  (r = pr c a ∧ o₁ = ![64 * c.val, 256 * col]) ∧ oS = ![col, 14 - a] ∧ oR = ![col, 14 - a]

variable {r : Dev nD} {o₁ oR : Fin 2 → ℕ} {h₁ h₂ : InB2 o₁} {hR : InBS oR}
  {hsc : (oblk o₁ h₂).view.ref.isScScratch = false} {hsrc' : (oblk o₁ h₁).view.WordExact} {hdst' : (oblk o₁ h₂).view.WordExact}
  {hsem : DmaTarget.Typed .vmem (.dma (semA cc0_scratch6 oR hR)) (.remote (Dev.tc r : Thread nD τ) (oblk o₁ h₂) (.dma (semA cc0_scratch5 oS hS)) hsc)}

theorem gather0 (hh : GatherFacts c 0 a r o₁ oS oR) (h : S inp K c n 1 ga ⟨g, s, v, 1, a + 1, w, x, y⟩ z ⊢ WP c (k ⟨⟩) Q)
    (hb : a < 15 ∧ x ≤ a := by decide) :
    S inp K c n 1 ga ⟨g, s, v, 1, a, w, x, y⟩ z
      ⊢ WP c (.op (.enqueueDma (oblk o₁ h₁) (.remote (Dev.tc r : Thread nD τ) (oblk o₁ h₂) (.dma (semA cc0_scratch5 oS hS)) hsc) (.dma (semA cc0_scratch6 oR hR)) hsrc' hdst' hsem) k) Q :=
  lift0 (p' := ⟨g, s, v, 1, a + 1, w, x, y⟩) (gather_c hh.1 hh.2 ⟨⟨by decide, hb.1⟩, hb.2⟩ (peel2 (OA_peel c hb.1))) h

theorem gather1 (hh : GatherFacts c 1 a r o₁ oS oR) (h : S inp K c n 1 ga z ⟨g, s, v, 1, a + 1, w, x, y⟩ ⊢ WP c (k ⟨⟩) Q)
    (hb : a < 15 ∧ x ≤ a := by decide) :
    S inp K c n 1 ga z ⟨g, s, v, 1, a, w, x, y⟩
      ⊢ WP c (.op (.enqueueDma (oblk o₁ h₁) (.remote (Dev.tc r : Thread nD τ) (oblk o₁ h₂) (.dma (semA cc0_scratch5 oS hS)) hsc) (.dma (semA cc0_scratch6 oR hR)) hsrc' hdst' hsem) k) Q :=
  lift1 (q' := ⟨g, s, v, 1, a + 1, w, x, y⟩) (gather_c hh.1 hh.2 ⟨⟨by decide, hb.1⟩, hb.2⟩ (peel3 (OA_peel c hb.1))) h

end Waits

section Moves
variable {n bw ga : ℕ} {g s v o a w x y : ℕ} {z : Cst}

theorem loadG0 {o₁ : Fin 4 → ℕ} {h : InB4g o₁} {hl : sM.view.LoadsAt (Rect.unit (s := S2x16x64x256) o₁ S1x4x64x256.size h).toLoadRect}
    {k : Vec F S1x4x64x256 .bf16 → Prog (TpuEff nD τ sig (Elt F) Λ₀ .tc) α}
    (ho : o₁ = ![0, 4 * ((c.val / 4 + g + 1) % 4), 0, 0]) (hk : ∀ u, S inp K c n bw ga ⟨g, s, v, o, a, w, x, y⟩ z ⊢ WP c (k u) Q) (hg : g < 4 := by decide) :
    S inp K c n bw ga ⟨g, s, v, o, a, w, x, y⟩ z ⊢ WP c (.op (.load sM (Rect.unit (s := S2x16x64x256) o₁ S1x4x64x256.size h).toLoadRect hl) k) Q :=
  lift0 (p' := ⟨g, s, v, o, a, w, x, y⟩) (loadG_c ho hg) (all_z hk)

theorem loadG1 {o₁ : Fin 4 → ℕ} {h : InB4g o₁} {hl : sM.view.LoadsAt (Rect.unit (s := S2x16x64x256) o₁ S1x4x64x256.size h).toLoadRect}
    {k : Vec F S1x4x64x256 .bf16 → Prog (TpuEff nD τ sig (Elt F) Λ₀ .tc) α}
    (ho : o₁ = ![1, 4 * ((c.val / 4 + g + 1) % 4), 0, 0]) (hk : ∀ u, S inp K c n bw ga z ⟨g, s, v, o, a, w, x, y⟩ ⊢ WP c (k u) Q) (hg : g < 4 := by decide) :
    S inp K c n bw ga z ⟨g, s, v, o, a, w, x, y⟩ ⊢ WP c (.op (.load sM (Rect.unit (s := S2x16x64x256) o₁ S1x4x64x256.size h).toLoadRect hl) k) Q :=
  lift1 (q' := ⟨g, s, v, o, a, w, x, y⟩) (loadG_c ho hg) (all_z hk)

theorem storeG0 {t : Fin 4} {o₁ : Fin 4 → ℕ} {h : InB4g o₁} {u : FVec F S1x4x64x256 .bf16}
    {hx : (sM.access (Rect.unit (s := S2x16x64x256) o₁ S1x4x64x256.size h)).Stores Finset.univ} {hm} {k : PUnit → Prog (TpuEff nD τ sig (Elt F) Λ₀ .tc) α}
    (ho : o₁ = ![0, 4 * ((c.val / 4 + t.val + 1) % 4), 0, 0]) (hv : u = k0_pay20 (grp inp c t))
    (hk : S inp K c n bw ga ⟨t.val + 1, s, v, o, a, w, x, y⟩ z ⊢ WP c (k ⟨⟩) Q) (hb : s ≤ 4 * t.val := by decide) :
    S inp K c n bw ga ⟨t.val, s, v, o, a, w, x, y⟩ z ⊢ WP c (.op (.store sM (Rect.unit (s := S2x16x64x256) o₁ S1x4x64x256.size h) u Finset.univ hx hm) k) Q :=
  lift0 (p' := ⟨t.val + 1, s, v, o, a, w, x, y⟩) (storeG_c ho ⟨by decide, hb⟩ (by rw [if_pos rfl]; exact hv)) hk

theorem storeG1 {t : Fin 4} {o₁ : Fin 4 → ℕ} {h : InB4g o₁} {u : FVec F S1x4x64x256 .bf16}
    {hx : (sM.access (Rect.unit (s := S2x16x64x256) o₁ S1x4x64x256.size h)).Stores Finset.univ} {hm} {k : PUnit → Prog (TpuEff nD τ sig (Elt F) Λ₀ .tc) α}
    (ho : o₁ = ![1, 4 * ((c.val / 4 + t.val + 1) % 4), 0, 0]) (hv : u = k0_pay21 (grp inp c t))
    (hk : S inp K c n bw ga z ⟨t.val + 1, s, v, o, a, w, x, y⟩ ⊢ WP c (k ⟨⟩) Q) (hb : s ≤ 4 * t.val := by decide) :
    S inp K c n bw ga z ⟨t.val, s, v, o, a, w, x, y⟩ ⊢ WP c (.op (.store sM (Rect.unit (s := S2x16x64x256) o₁ S1x4x64x256.size h) u Finset.univ hx hm) k) Q :=
  lift1 (q' := ⟨t.val + 1, s, v, o, a, w, x, y⟩) (storeG_c ho ⟨by decide, hb⟩ (by rw [if_neg (by decide)]; exact hv)) hk

/-- What is read from slot `j` of the landing buffer. -/
theorem loadL0 {j : Fin 16} {h : InB4 ![0, j.val, 0, 0]} {hl : lM.view.LoadsAt (Rect.unit (s := S2x16x64x256) ![0, j.val, 0, 0] S1x1x64x256.size h).toLoadRect}
    {k : Vec F S1x1x64x256 .bf16 → Prog (TpuEff nD τ sig (Elt F) Λ₀ .tc) α}
    (hk : S inp K c n bw ga ⟨g, s, v, o, a, w, x, y⟩ z ⊢ WP c (k (ld inp c 0 j)) Q) (hb : j.val < v := by decide) :
    S inp K c n bw ga ⟨g, s, v, o, a, w, x, y⟩ z ⊢ WP c (.op (.load lM (Rect.unit (s := S2x16x64x256) ![0, j.val, 0, 0] S1x1x64x256.size h).toLoadRect hl) k) Q :=
  lift0 (p' := ⟨g, s, v, o, a, w, x, y⟩) (loadL_c rfl ⟨by decide, hb⟩) hk

theorem loadL1 {j : Fin 16} {h : InB4 ![1, j.val, 0, 0]} {hl : lM.view.LoadsAt (Rect.unit (s := S2x16x64x256) ![1, j.val, 0, 0] S1x1x64x256.size h).toLoadRect}
    {k : Vec F S1x1x64x256 .bf16 → Prog (TpuEff nD τ sig (Elt F) Λ₀ .tc) α}
    (hk : S inp K c n bw ga z ⟨g, s, v, o, a, w, x, y⟩ ⊢ WP c (k (ld inp c 1 j)) Q) (hb : j.val < v := by decide) :
    S inp K c n bw ga z ⟨g, s, v, o, a, w, x, y⟩ ⊢ WP c (.op (.load lM (Rect.unit (s := S2x16x64x256) ![1, j.val, 0, 0] S1x1x64x256.size h).toLoadRect hl) k) Q :=
  lift1 (q' := ⟨g, s, v, o, a, w, x, y⟩) (loadL_c rfl ⟨by decide, hb⟩) hk

theorem loadO0 {o₁ : Fin 2 → ℕ} {h : InB2 o₁} {hl : oM.view.LoadsAt (Rect.unit (s := S1024x512) o₁ S64x256.size h).toLoadRect}
    {k : Vec F S64x256 .bf16 → Prog (TpuEff nD τ sig (Elt F) Λ₀ .tc) α}
    (ho : o₁ = ![64 * c.val, 256 * 0]) (hk : ∀ u, S inp K c n bw ga ⟨g, s, v, 0, a, w, x, y⟩ z ⊢ WP c (k u) Q) :
    S inp K c n bw ga ⟨g, s, v, 0, a, w, x, y⟩ z ⊢ WP c (.op (.load oM (Rect.unit (s := S1024x512) o₁ S64x256.size h).toLoadRect hl) k) Q :=
  lift0 (p' := ⟨g, s, v, 0, a, w, x, y⟩) (loadO_c ho) (all_z hk)

theorem loadO1 {o₁ : Fin 2 → ℕ} {h : InB2 o₁} {hl : oM.view.LoadsAt (Rect.unit (s := S1024x512) o₁ S64x256.size h).toLoadRect}
    {k : Vec F S64x256 .bf16 → Prog (TpuEff nD τ sig (Elt F) Λ₀ .tc) α}
    (ho : o₁ = ![64 * c.val, 256 * 1]) (hk : ∀ u, S inp K c n bw ga z ⟨g, s, v, 0, a, w, x, y⟩ ⊢ WP c (k u) Q) :
    S inp K c n bw ga z ⟨g, s, v, 0, a, w, x, y⟩ ⊢ WP c (.op (.load oM (Rect.unit (s := S1024x512) o₁ S64x256.size h).toLoadRect hl) k) Q :=
  lift1 (q' := ⟨g, s, v, 0, a, w, x, y⟩) (loadO_c ho) (all_z hk)

theorem storeO0 {o₁ : Fin 2 → ℕ} {h : InB2 o₁} {u : FVec F S64x256 .bf16}
    {hx : (oM.access (Rect.unit (s := S1024x512) o₁ S64x256.size h)).Stores Finset.univ} {hm} {k : PUnit → Prog (TpuEff nD τ sig (Elt F) Λ₀ .tc) α}
    (ho : o₁ = ![64 * c.val, 256 * 0]) (hv : u = sum0 inp c) (hk : S inp K c n bw ga ⟨g, s, v, 1, 0, w, 0, y⟩ z ⊢ WP c (k ⟨⟩) Q) :
    S inp K c n bw ga ⟨g, s, v, 0, 0, w, 0, y⟩ z ⊢ WP c (.op (.store oM (Rect.unit (s := S1024x512) o₁ S64x256.size h) u Finset.univ hx hm) k) Q :=
  lift0 (p' := ⟨g, s, v, 1, 0, w, 0, y⟩) (storeO_c ho (by decide) (by rw [if_pos rfl]; exact hv)) hk

theorem storeO1 {o₁ : Fin 2 → ℕ} {h : InB2 o₁} {u : FVec F S64x256 .bf16}
    {hx : (oM.access (Rect.unit (s := S1024x512) o₁ S64x256.size h)).Stores Finset.univ} {hm} {k : PUnit → Prog (TpuEff nD τ sig (Elt F) Λ₀ .tc) α}
    (ho : o₁ = ![64 * c.val, 256 * 1]) (hv : u = sum1 inp c) (hk : S inp K c n bw ga z ⟨g, s, v, 1, 0, w, 0, y⟩ ⊢ WP c (k ⟨⟩) Q) :
    S inp K c n bw ga z ⟨g, s, v, 0, 0, w, 0, y⟩ ⊢ WP c (.op (.store oM (Rect.unit (s := S1024x512) o₁ S64x256.size h) u Finset.univ hx hm) k) Q :=
  lift1 (q' := ⟨g, s, v, 1, 0, w, 0, y⟩) (storeO_c ho (by decide) (by rw [if_neg (by decide)]; exact hv)) hk

end Moves

end Cert.Moe
-- ==== Proof.PartsOne.lean ====
/-
# The parts of the body, 1 to 24

Each part of the body takes the state of the device from one point of the protocol to the next.
-/
module

public import proofs.«01_k».proof.Proof.Ops

@[expose] public section

set_option maxRecDepth 16384

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable {inp : Inp F} {K : Dev nD × CellIx → ℕ} {c : Dev nD}

/-- A part of the body, on the buffers and semaphores of the kernel. -/
abbrev onBufs {β : Type 1} (f : (a0 : Memref sig .tc .vmem S1024x256 .bf16) → a0.IsWhole → (a1 : Memref sig .tc .vmem S256x64 .bf16) → a1.IsWhole →
    (a2 : Memref sig .tc .vmem S1024x2 .i32) → a2.IsWhole → (a3 : Memref sig .tc .vmem S4x256x512 .bf16) → a3.IsWhole →
    (a4 : Memref sig .tc .vmem S1024x512 .bf16) → a4.IsWhole → (a5 : Memref sig .tc .vmem S16x64x512 .f32) → a5.IsWhole →
    (a6 : Memref sig .tc .vmem S2x16x64x256 .bf16) → a6.IsWhole → (a7 : Memref sig .tc .vmem S2x16x64x256 .bf16) → a7.IsWhole →
    DmaSems sig S2x16 → DmaSems sig S2x16 → DmaSems sig S2x16 → DmaSems sig S2x16 → β) : β :=
  f xM (Memref.isWhole_whole _) rM (Memref.isWhole_whole _) iM (Memref.isWhole_whole _) wM (Memref.isWhole_whole _) oM (Memref.isWhole_whole _)
    aM (Memref.isWhole_whole _) sM (Memref.isWhole_whole _) lM (Memref.isWhole_whole _) cc0_scratch3 cc0_scratch4 cc0_scratch5 cc0_scratch6

/-- The barrier semaphore of the body. -/
abbrev bsem : Sems sig S_ := SemArray.scalar (sig.barrier 0 rfl)

attribute [local irreducible] k0_cond1 k0_cond2

theorem p1 {Q : Post F _}
    (h : ∀ u4 u5, S inp K c 4 0 0 ⟨0, 0, 0, 0, 0, 0, 0, 0⟩ ⟨0, 0, 0, 0, 0, 0, 0, 0⟩ ⊢ Q ⟨c, vw c, Scalar.divsi (vw c) 4#32, bsem, u4, u5⟩) :
    S inp K c 0 0 0 ⟨0, 0, 0, 0, 0, 0, 0, 0⟩ ⟨0, 0, 0, 0, 0, 0, 0, 0⟩ ⊢ WP c (onBufs (k0_part1 (F := F))) Q := by
  rw [k0_part1_eq_skeleton]
  unfold onBufs k0_part1_skel
  simp only [semSignalWord, semWaitWord, Prog.lift, Prog.bind_op, Prog.bind_ret, Prog.pure_eq_ret, wp_deviceId]
  iterate 4 refine sig_s (by clear * - c; revert c; decide +kernel) (by decide) rfl ?_
  exact end_s (h _ _)

theorem p2 {Q : Post F _} {v2 : BitVec 32} {v25 : BitVec 32} {c4_i32_22 : BitVec 32}
    (h : ∀ u0 u1, S inp K c 9 0 0 ⟨0, 0, 0, 0, 0, 0, 0, 0⟩ ⟨0, 0, 0, 0, 0, 0, 0, 0⟩ ⊢ Q ⟨u0, u1⟩) :
    S inp K c 4 0 0 ⟨0, 0, 0, 0, 0, 0, 0, 0⟩ ⟨0, 0, 0, 0, 0, 0, 0, 0⟩ ⊢ WP c (onBufs (k0_part2 (F := F)) c v2 bsem v25 c4_i32_22) Q := by
  rw [k0_part2_eq_skeleton]
  unfold onBufs k0_part2_skel
  simp only [semSignalWord, semWaitWord, Prog.lift, Prog.bind_op, Prog.bind_ret, Prog.pure_eq_ret, wp_deviceId]
  iterate 5 refine sig_s (by clear * - c; revert c; decide +kernel) (by decide) rfl ?_
  exact end_s (h _ _)

theorem p3 {Q : Post F _} {v2 : BitVec 32} {v50 : BitVec 32} {c9_i32 : BitVec 32}
    (h : ∀ u0 u1, S inp K c 14 0 0 ⟨0, 0, 0, 0, 0, 0, 0, 0⟩ ⟨0, 0, 0, 0, 0, 0, 0, 0⟩ ⊢ Q ⟨u0, u1⟩) :
    S inp K c 9 0 0 ⟨0, 0, 0, 0, 0, 0, 0, 0⟩ ⟨0, 0, 0, 0, 0, 0, 0, 0⟩ ⊢ WP c (onBufs (k0_part3 (F := F)) c v2 bsem v50 c9_i32) Q := by
  rw [k0_part3_eq_skeleton]
  unfold onBufs k0_part3_skel
  simp only [semSignalWord, semWaitWord, Prog.lift, Prog.bind_op, Prog.bind_ret, Prog.pure_eq_ret, wp_deviceId]
  iterate 5 refine sig_s (by clear * - c; revert c; decide +kernel) (by decide) rfl ?_
  exact end_s (h _ _)

theorem p4 {Q : Post F _} {v3 : BitVec 32} {v75 : BitVec 32} {c14_i32 : BitVec 32}
    (h : ∀ u6 u7, S inp K c 15 0 0 ⟨0, 0, 0, 0, 0, 0, 0, 0⟩ ⟨0, 0, 0, 0, 0, 0, 0, 0⟩ ⊢ Q ⟨k0_pay1 (lw0 inp c), k0_pay2 (lw1 inp c), k0_pay3 (lw2 inp c), k0_pay4 (lw3 inp c), k0_pay5 (lr inp c), lane, u6, u7, k0_pay6 (lx inp c 0), k0_pay7 (lr inp c) (lx inp c 0)⟩) :
    S inp K c 14 0 0 ⟨0, 0, 0, 0, 0, 0, 0, 0⟩ ⟨0, 0, 0, 0, 0, 0, 0, 0⟩ ⊢ WP c (onBufs (k0_part4 (F := F)) c v3 bsem v75 c14_i32) Q := by
  rw [k0_part4_eq_skeleton]
  unfold onBufs k0_part4_skel
  simp only [semSignalWord, semWaitWord, Prog.lift, Prog.bind_op, Prog.bind_ret, Prog.pure_eq_ret, wp_deviceId]
  refine sig_s (by clear * - c; revert c; decide +kernel) (by decide) rfl ?_
  iterate 4 refine loadW_s ?_
  refine loadR_s ?_
  refine loadX_s ?_
  exact end_s (h _ _)

theorem p5 {Q : Post F _} {v2 : BitVec 32} {v81 : FVec F S256x512 .bf16} {v90 : IVec S256x64 32} {v94 : BitVec 32} {v97 : FVec F S256x256 .bf16} {v107 : FVec F S256x64 .f32}
    (h : S inp K c 15 0 0 ⟨0, 0, 0, 0, 0, 0, 0, 0⟩ ⟨0, 0, 0, 0, 0, 0, 0, 0⟩ ⊢ Q ⟨k0_pay8 (li0 inp c 0), k0_pay9 (li1 inp c 0), k0_pay13 v90 v107 (li0 inp c 0) (li1 inp c 0), k0_pay14 v90 v107 (li0 inp c 0) (li1 inp c 0), k0_pay15 v2 v81 v90 v97 v107 (li0 inp c 0) (li1 inp c 0), (Scalar.addi (Scalar.muli v2 4#32) 1#32), k0_pay16 v2 v90 v107 (li0 inp c 0) (li1 inp c 0)⟩) :
    S inp K c 15 0 0 ⟨0, 0, 0, 0, 0, 0, 0, 0⟩ ⟨0, 0, 0, 0, 0, 0, 0, 0⟩ ⊢ WP c (onBufs (k0_part5 (F := F)) c v2 v81 v90 v94 v97 v107) Q := by
  rw [k0_part5_eq_skeleton]
  unfold onBufs k0_part5_skel
  simp only [semSignalWord, semWaitWord, Prog.lift, Prog.bind_op, Prog.bind_ret, Prog.pure_eq_ret, wp_deviceId]
  iterate 2 refine loadI_s ?_
  exact end_s (h)

theorem p6 {Q : Post F _} {v2 : BitVec 32} {v83 : FVec F S256x512 .bf16} {v85 : FVec F S256x512 .bf16} {v87 : FVec F S256x512 .bf16} {v97 : FVec F S256x256 .bf16} {v110 : IVec S256 32} {v113 : IVec S256 32} {v127 : FVec F S256 .f32} {v128 : FVec F S256 .f32} {v147 : FVec F S256x512 .f32} {v149 : BitVec 32} {v153 : FVec F S256 .f32}
    (h : S inp K c 15 0 0 ⟨0, 0, 0, 0, 0, 0, 0, 0⟩ ⟨0, 0, 0, 0, 0, 0, 0, 0⟩ ⊢ Q (k0_pay17 v2 v83 v85 v87 v97 v110 v113 v127 v128 v147 v149 v153)) :
    S inp K c 15 0 0 ⟨0, 0, 0, 0, 0, 0, 0, 0⟩ ⟨0, 0, 0, 0, 0, 0, 0, 0⟩ ⊢ WP c (onBufs (k0_part6 (F := F)) v2 v83 v85 v87 v97 v110 v113 v127 v128 v147 v149 v153) Q := by
  rw [k0_part6_eq_skeleton]
  unfold onBufs k0_part6_skel
  simp only [semSignalWord, semWaitWord, Prog.lift, Prog.bind_op, Prog.bind_ret, Prog.pure_eq_ret, wp_deviceId]
  exact end_s (h)

theorem p7 {Q : Post F _} {v2 : BitVec 32} {v93 : BitVec 32} {v201 : FVec F S256x512 .f32} (hv0 : (k0_pay18 v201) = k0_pay18 (grp inp c 0)) (hv1 : (k0_pay20 v201) = k0_pay20 (grp inp c 0)) (hv2 : (k0_pay21 v201) = k0_pay21 (grp inp c 0))
    (h : ∀ u0, S inp K c 15 1 1 ⟨1, 0, 0, 0, 0, 0, 0, 0⟩ ⟨1, 0, 0, 0, 0, 0, 0, 0⟩ ⊢ Q u0) :
    S inp K c 15 0 0 ⟨0, 0, 0, 0, 0, 0, 0, 0⟩ ⟨0, 0, 0, 0, 0, 0, 0, 0⟩ ⊢ WP c (onBufs (k0_part7 (F := F)) c v2 bsem v93 v201) Q := by
  rw [k0_part7_eq_skeleton]
  unfold onBufs k0_part7_skel
  simp only [semSignalWord, semWaitWord, Prog.lift, Prog.bind_op, Prog.bind_ret, Prog.pure_eq_ret, wp_deviceId]
  refine loadA_s fun _ => ?_
  refine storeA_s (t := 0) (by clear * - c; revert c; decide +kernel) hv0 ?_
  refine loadG0 (by clear * - c; revert c; decide +kernel) fun uv212 => ?_
  refine storeG0 (t := 0) (by clear * - c; revert c; decide +kernel) hv1 ?_
  refine loadG1 (by clear * - c; revert c; decide +kernel) fun uv218 => ?_
  refine storeG1 (t := 0) (by clear * - c; revert c; decide +kernel) hv2 ?_
  refine bar_s (by decide) ?_
  exact end_s (h _)

theorem p8 {Q : Post F _} {v2 : BitVec 32} {v202 : BitVec 32}
    (h : ∀ u0 u1, S inp K c 15 1 1 ⟨1, 2, 0, 0, 0, 0, 0, 0⟩ ⟨1, 0, 0, 0, 0, 0, 0, 0⟩ ⊢ Q ⟨u0, u1⟩) :
    S inp K c 15 1 1 ⟨1, 0, 0, 0, 0, 0, 0, 0⟩ ⟨1, 0, 0, 0, 0, 0, 0, 0⟩ ⊢ WP c (onBufs (k0_part8 (F := F)) c v2 v202) Q := by
  rw [k0_part8_eq_skeleton]
  unfold onBufs k0_part8_skel
  simp only [semSignalWord, semWaitWord, Prog.lift, Prog.bind_op, Prog.bind_ret, Prog.pure_eq_ret, wp_deviceId]
  iterate 2 refine send0 (by clear * - c; revert c; decide +kernel) ?_
  exact end_s (h _ _)

theorem p9 {Q : Post F _} {v2 : BitVec 32} {v202 : BitVec 32} {v259 : BitVec 32} {v264 : BitVec 32}
    (h : S inp K c 15 1 1 ⟨1, 3, 0, 0, 0, 0, 0, 0⟩ ⟨1, 0, 0, 0, 0, 0, 0, 0⟩ ⊢ Q ⟨⟩) :
    S inp K c 15 1 1 ⟨1, 2, 0, 0, 0, 0, 0, 0⟩ ⟨1, 0, 0, 0, 0, 0, 0, 0⟩ ⊢ WP c (onBufs (k0_part9 (F := F)) c v2 v202 v259 v264) Q := by
  rw [k0_part9_eq_skeleton]
  unfold onBufs k0_part9_skel
  simp only [semSignalWord, semWaitWord, Prog.lift, Prog.bind_op, Prog.bind_ret, Prog.pure_eq_ret, wp_deviceId]
  refine send0 (by clear * - c; revert c; decide +kernel) ?_
  exact end_s (h)

theorem p10 {Q : Post F _} {v3 : BitVec 32} {v89 : FVec F S256x64 .bf16} {v90 : IVec S256x64 32}
    (h : ∀ u0, S inp K c 15 1 1 ⟨1, 4, 0, 0, 0, 0, 0, 0⟩ ⟨1, 0, 0, 0, 0, 0, 0, 0⟩ ⊢ Q ⟨u0, k0_pay22 (lx inp c 1), k0_pay24 (li0 inp c 1), k0_pay25 (li1 inp c 1), k0_pay29 v89 v90 (lx inp c 1) (li0 inp c 1) (li1 inp c 1), k0_pay30 v89 v90 (lx inp c 1) (li0 inp c 1) (li1 inp c 1), k0_pay31 (F := F)⟩) :
    S inp K c 15 1 1 ⟨1, 3, 0, 0, 0, 0, 0, 0⟩ ⟨1, 0, 0, 0, 0, 0, 0, 0⟩ ⊢ WP c (onBufs (k0_part10 (F := F)) c v3 v89 v90) Q := by
  rw [k0_part10_eq_skeleton]
  unfold onBufs k0_part10_skel
  simp only [semSignalWord, semWaitWord, Prog.lift, Prog.bind_op, Prog.bind_ret, Prog.pure_eq_ret, wp_deviceId]
  refine send0 (by clear * - c; revert c; decide +kernel) ?_
  refine loadX_s ?_
  iterate 2 refine loadI_s ?_
  exact end_s (h _)

theorem p11 {Q : Post F _} {v2 : BitVec 32} {v81 : FVec F S256x512 .bf16} {v83 : FVec F S256x512 .bf16} {v303 : FVec F S256x256 .bf16} {v316 : IVec S256 32} {v319 : IVec S256 32} {v333 : FVec F S256 .f32} {v334 : FVec F S256 .f32} {v335 : FVec F S256x512 .f32}
    (h : S inp K c 15 1 1 ⟨1, 4, 0, 0, 0, 0, 0, 0⟩ ⟨1, 0, 0, 0, 0, 0, 0, 0⟩ ⊢ Q ⟨k0_pay32 v2 v81 v83 v303 v316 v319 v333 v334 v335, k0_pay33 v2 v316 v333, k0_pay34 v2 v319 v334⟩) :
    S inp K c 15 1 1 ⟨1, 4, 0, 0, 0, 0, 0, 0⟩ ⟨1, 0, 0, 0, 0, 0, 0, 0⟩ ⊢ WP c (onBufs (k0_part11 (F := F)) v2 v81 v83 v303 v316 v319 v333 v334 v335) Q := by
  rw [k0_part11_eq_skeleton]
  unfold onBufs k0_part11_skel
  simp only [semSignalWord, semWaitWord, Prog.lift, Prog.bind_op, Prog.bind_ret, Prog.pure_eq_ret, wp_deviceId]
  exact end_s (h)

theorem p12 {Q : Post F _} {v2 : BitVec 32} {v85 : FVec F S256x512 .bf16} {v87 : FVec F S256x512 .bf16} {v299 : BitVec 32} {v303 : FVec F S256x256 .bf16} {v316 : IVec S256 32} {v319 : IVec S256 32} {v333 : FVec F S256 .f32} {v334 : FVec F S256 .f32} {v371 : FVec F S256x512 .f32} {v377 : FVec F S256 .f32} {v381 : FVec F S256 .f32} (hv0 : (k0_pay36 v2 v85 v87 v303 v316 v319 v333 v334 v371 v377 v381) = k0_pay18 (grp inp c 1)) (hv1 : (k0_pay38 v2 v85 v87 v303 v316 v319 v333 v334 v371 v377 v381) = k0_pay20 (grp inp c 1))
    (h : ∀ u0 u2, S inp K c 15 1 2 ⟨2, 4, 0, 0, 0, 0, 0, 0⟩ ⟨1, 0, 0, 0, 0, 0, 0, 0⟩ ⊢ Q ⟨u0, k0_pay39 v2 v85 v87 v303 v316 v319 v333 v334 v371 v377 v381, u2⟩) :
    S inp K c 15 1 1 ⟨1, 4, 0, 0, 0, 0, 0, 0⟩ ⟨1, 0, 0, 0, 0, 0, 0, 0⟩ ⊢ WP c (onBufs (k0_part12 (F := F)) c v2 v85 v87 v299 v303 v316 v319 v333 v334 v371 v377 v381) Q := by
  rw [k0_part12_eq_skeleton]
  unfold onBufs k0_part12_skel
  simp only [semSignalWord, semWaitWord, Prog.lift, Prog.bind_op, Prog.bind_ret, Prog.pure_eq_ret, wp_deviceId]
  refine loadA_s fun _ => ?_
  refine storeA_s (t := 1) (by clear * - c; revert c; decide +kernel) hv0 ?_
  refine loadG0 (by clear * - c; revert c; decide +kernel) fun uv418 => ?_
  refine storeG0 (t := 1) (by clear * - c; revert c; decide +kernel) hv1 ?_
  refine loadG1 (by clear * - c; revert c; decide +kernel) fun uv424 => ?_
  exact end_s (h _ _)

theorem p13 {Q : Post F _} {v2 : BitVec 32} {v408 : BitVec 32} {v422 : FVec F S4x64x256 .bf16} {v424 : Vec F S1x4x64x256 .bf16} (hv0 : (k0_pay40 v422) = k0_pay21 (grp inp c 1))
    (h : ∀ u0, S inp K c 15 1 2 ⟨2, 5, 0, 0, 0, 0, 0, 0⟩ ⟨2, 0, 0, 0, 0, 0, 0, 0⟩ ⊢ Q u0) :
    S inp K c 15 1 2 ⟨2, 4, 0, 0, 0, 0, 0, 0⟩ ⟨1, 0, 0, 0, 0, 0, 0, 0⟩ ⊢ WP c (onBufs (k0_part13 (F := F)) c v2 v408 v422 v424) Q := by
  rw [k0_part13_eq_skeleton]
  unfold onBufs k0_part13_skel
  simp only [semSignalWord, semWaitWord, Prog.lift, Prog.bind_op, Prog.bind_ret, Prog.pure_eq_ret, wp_deviceId]
  refine storeG1 (t := 1) (by clear * - c; revert c; decide +kernel) hv0 ?_
  refine send0 (by clear * - c; revert c; decide +kernel) ?_
  exact end_s (h _)

theorem p14 {Q : Post F _} {v2 : BitVec 32} {v408 : BitVec 32} {v446 : BitVec 32}
    (h : ∀ u0 u1, S inp K c 15 1 2 ⟨2, 7, 0, 0, 0, 0, 0, 0⟩ ⟨2, 0, 0, 0, 0, 0, 0, 0⟩ ⊢ Q ⟨u0, u1⟩) :
    S inp K c 15 1 2 ⟨2, 5, 0, 0, 0, 0, 0, 0⟩ ⟨2, 0, 0, 0, 0, 0, 0, 0⟩ ⊢ WP c (onBufs (k0_part14 (F := F)) c v2 v408 v446) Q := by
  rw [k0_part14_eq_skeleton]
  unfold onBufs k0_part14_skel
  simp only [semSignalWord, semWaitWord, Prog.lift, Prog.bind_op, Prog.bind_ret, Prog.pure_eq_ret, wp_deviceId]
  iterate 2 refine send0 (by clear * - c; revert c; decide +kernel) ?_
  exact end_s (h _ _)

theorem p15 {Q : Post F _} {v2 : BitVec 32} {v3 : BitVec 32} {v89 : FVec F S256x64 .bf16} {v484 : BitVec 32} {v485 : BitVec 32}
    (h : ∀ u0 u1, S inp K c 15 1 2 ⟨2, 8, 0, 0, 0, 0, 0, 0⟩ ⟨2, 0, 0, 0, 0, 0, 0, 0⟩ ⊢ Q ⟨u0, u1, k0_pay41 (lx inp c 2), k0_pay42 v89 (lx inp c 2)⟩) :
    S inp K c 15 1 2 ⟨2, 7, 0, 0, 0, 0, 0, 0⟩ ⟨2, 0, 0, 0, 0, 0, 0, 0⟩ ⊢ WP c (onBufs (k0_part15 (F := F)) c v2 v3 v89 v484 v485) Q := by
  rw [k0_part15_eq_skeleton]
  unfold onBufs k0_part15_skel
  simp only [semSignalWord, semWaitWord, Prog.lift, Prog.bind_op, Prog.bind_ret, Prog.pure_eq_ret, wp_deviceId]
  refine send0 (by clear * - c; revert c; decide +kernel) ?_
  refine loadX_s ?_
  exact end_s (h _ _)

theorem p16 {Q : Post F _} {v2 : BitVec 32} {v81 : FVec F S256x512 .bf16} {v90 : IVec S256x64 32} {v506 : BitVec 32} {v509 : FVec F S256x256 .bf16} {v519 : FVec F S256x64 .f32}
    (h : S inp K c 15 1 2 ⟨2, 8, 0, 0, 0, 0, 0, 0⟩ ⟨2, 0, 0, 0, 0, 0, 0, 0⟩ ⊢ Q ⟨k0_pay43 (li0 inp c 2), k0_pay44 (li1 inp c 2), k0_pay48 v90 v519 (li0 inp c 2) (li1 inp c 2), k0_pay49 v90 v519 (li0 inp c 2) (li1 inp c 2), k0_pay50 v2 v81 v90 v509 v519 (li0 inp c 2) (li1 inp c 2), (Scalar.addi (Scalar.muli v2 4#32) 1#32), k0_pay51 v2 (li0 inp c 2), k0_pay52 (F := F)⟩) :
    S inp K c 15 1 2 ⟨2, 8, 0, 0, 0, 0, 0, 0⟩ ⟨2, 0, 0, 0, 0, 0, 0, 0⟩ ⊢ WP c (onBufs (k0_part16 (F := F)) c v2 v81 v90 v506 v509 v519) Q := by
  rw [k0_part16_eq_skeleton]
  unfold onBufs k0_part16_skel
  simp only [semSignalWord, semWaitWord, Prog.lift, Prog.bind_op, Prog.bind_ret, Prog.pure_eq_ret, wp_deviceId]
  iterate 2 refine loadI_s ?_
  exact end_s (h)

theorem p17 {Q : Post F _} {v2 : BitVec 32} {v83 : FVec F S256x512 .bf16} {v85 : FVec F S256x512 .bf16} {v87 : FVec F S256x512 .bf16} {v509 : FVec F S256x256 .bf16} {v522 : IVec S256 32} {v525 : IVec S256 32} {v539 : FVec F S256 .f32} {v540 : FVec F S256 .f32} {v559 : FVec F S256x512 .f32} {v561 : BitVec 32} {v563 : IVec S256 1} {v564 : FVec F S256 .f32}
    (h : S inp K c 15 1 2 ⟨2, 8, 0, 0, 0, 0, 0, 0⟩ ⟨2, 0, 0, 0, 0, 0, 0, 0⟩ ⊢ Q ⟨k0_pay53 v2 v83 v85 v509 v522 v525 v539 v540 v559 v561 v563 v564, k0_pay54 v2 v87 v509 v522 v525 v539 v540⟩) :
    S inp K c 15 1 2 ⟨2, 8, 0, 0, 0, 0, 0, 0⟩ ⟨2, 0, 0, 0, 0, 0, 0, 0⟩ ⊢ WP c (onBufs (k0_part17 (F := F)) v2 v83 v85 v87 v509 v522 v525 v539 v540 v559 v561 v563 v564) Q := by
  rw [k0_part17_eq_skeleton]
  unfold onBufs k0_part17_skel
  simp only [semSignalWord, semWaitWord, Prog.lift, Prog.bind_op, Prog.bind_ret, Prog.pure_eq_ret, wp_deviceId]
  exact end_s (h)

theorem p18 {Q : Post F _} {v2 : BitVec 32} {v505 : BitVec 32} {v595 : FVec F S256x512 .f32} {v612 : FVec F S256x512 .f32} (hv0 : (k0_pay56 v595 v612) = k0_pay18 (grp inp c 2)) (hv1 : (k0_pay58 v595 v612) = k0_pay20 (grp inp c 2)) (hv2 : (k0_pay59 v595 v612) = k0_pay21 (grp inp c 2))
    (h : ∀ u0, S inp K c 15 1 3 ⟨3, 8, 0, 0, 0, 0, 0, 0⟩ ⟨3, 0, 0, 0, 0, 0, 0, 0⟩ ⊢ Q u0) :
    S inp K c 15 1 2 ⟨2, 8, 0, 0, 0, 0, 0, 0⟩ ⟨2, 0, 0, 0, 0, 0, 0, 0⟩ ⊢ WP c (onBufs (k0_part18 (F := F)) c v2 v505 v595 v612) Q := by
  rw [k0_part18_eq_skeleton]
  unfold onBufs k0_part18_skel
  simp only [semSignalWord, semWaitWord, Prog.lift, Prog.bind_op, Prog.bind_ret, Prog.pure_eq_ret, wp_deviceId]
  refine loadA_s fun _ => ?_
  refine storeA_s (t := 2) (by clear * - c; revert c; decide +kernel) hv0 ?_
  refine loadG0 (by clear * - c; revert c; decide +kernel) fun uv624 => ?_
  refine storeG0 (t := 2) (by clear * - c; revert c; decide +kernel) hv1 ?_
  refine loadG1 (by clear * - c; revert c; decide +kernel) fun uv630 => ?_
  refine storeG1 (t := 2) (by clear * - c; revert c; decide +kernel) hv2 ?_
  exact end_s (h _)

theorem p19 {Q : Post F _} {v2 : BitVec 32} {v614 : BitVec 32}
    (h : ∀ u0 u1, S inp K c 15 1 3 ⟨3, 10, 0, 0, 0, 0, 0, 0⟩ ⟨3, 0, 0, 0, 0, 0, 0, 0⟩ ⊢ Q ⟨u0, u1⟩) :
    S inp K c 15 1 3 ⟨3, 8, 0, 0, 0, 0, 0, 0⟩ ⟨3, 0, 0, 0, 0, 0, 0, 0⟩ ⊢ WP c (onBufs (k0_part19 (F := F)) c v2 v614) Q := by
  rw [k0_part19_eq_skeleton]
  unfold onBufs k0_part19_skel
  simp only [semSignalWord, semWaitWord, Prog.lift, Prog.bind_op, Prog.bind_ret, Prog.pure_eq_ret, wp_deviceId]
  iterate 2 refine send0 (by clear * - c; revert c; decide +kernel) ?_
  exact end_s (h _ _)

theorem p20 {Q : Post F _} {v2 : BitVec 32} {v614 : BitVec 32} {v671 : BitVec 32} {v677 : BitVec 32}
    (h : S inp K c 15 1 3 ⟨3, 11, 0, 0, 0, 0, 0, 0⟩ ⟨3, 0, 0, 0, 0, 0, 0, 0⟩ ⊢ Q ⟨⟩) :
    S inp K c 15 1 3 ⟨3, 10, 0, 0, 0, 0, 0, 0⟩ ⟨3, 0, 0, 0, 0, 0, 0, 0⟩ ⊢ WP c (onBufs (k0_part20 (F := F)) c v2 v614 v671 v677) Q := by
  rw [k0_part20_eq_skeleton]
  unfold onBufs k0_part20_skel
  simp only [semSignalWord, semWaitWord, Prog.lift, Prog.bind_op, Prog.bind_ret, Prog.pure_eq_ret, wp_deviceId]
  refine send0 (by clear * - c; revert c; decide +kernel) ?_
  exact end_s (h)

theorem p21 {Q : Post F _} {v2 : BitVec 32} {v3 : BitVec 32} {v89 : FVec F S256x64 .bf16} {v90 : IVec S256x64 32}
    (h : ∀ u0, S inp K c 15 1 3 ⟨3, 12, 0, 0, 0, 0, 0, 0⟩ ⟨3, 0, 0, 0, 0, 0, 0, 0⟩ ⊢ Q ⟨u0, k0_pay60 (lx inp c 3), k0_pay62 (li0 inp c 3), k0_pay63 (li1 inp c 3), k0_pay67 v89 v90 (lx inp c 3) (li0 inp c 3) (li1 inp c 3), k0_pay68 v89 v90 (lx inp c 3) (li0 inp c 3) (li1 inp c 3), k0_pay69 (F := F), (Scalar.muli v2 4#32)⟩) :
    S inp K c 15 1 3 ⟨3, 11, 0, 0, 0, 0, 0, 0⟩ ⟨3, 0, 0, 0, 0, 0, 0, 0⟩ ⊢ WP c (onBufs (k0_part21 (F := F)) c v2 v3 v89 v90) Q := by
  rw [k0_part21_eq_skeleton]
  unfold onBufs k0_part21_skel
  simp only [semSignalWord, semWaitWord, Prog.lift, Prog.bind_op, Prog.bind_ret, Prog.pure_eq_ret, wp_deviceId]
  refine send0 (by clear * - c; revert c; decide +kernel) ?_
  refine loadX_s ?_
  iterate 2 refine loadI_s ?_
  exact end_s (h _)

theorem p22 {Q : Post F _} {v2 : BitVec 32} {v81 : FVec F S256x512 .bf16} {v83 : FVec F S256x512 .bf16} {v715 : FVec F S256x256 .bf16} {v728 : IVec S256 32} {v731 : IVec S256 32} {v745 : FVec F S256 .f32} {v746 : FVec F S256 .f32} {v747 : FVec F S256x512 .f32} {v748 : BitVec 32}
    (h : S inp K c 15 1 3 ⟨3, 12, 0, 0, 0, 0, 0, 0⟩ ⟨3, 0, 0, 0, 0, 0, 0, 0⟩ ⊢ Q ⟨k0_pay70 v2 v81 v83 v715 v728 v731 v745 v746 v747 v748, k0_pay71 v2 v728 v731 v745 v746⟩) :
    S inp K c 15 1 3 ⟨3, 12, 0, 0, 0, 0, 0, 0⟩ ⟨3, 0, 0, 0, 0, 0, 0, 0⟩ ⊢ WP c (onBufs (k0_part22 (F := F)) v2 v81 v83 v715 v728 v731 v745 v746 v747 v748) Q := by
  rw [k0_part22_eq_skeleton]
  unfold onBufs k0_part22_skel
  simp only [semSignalWord, semWaitWord, Prog.lift, Prog.bind_op, Prog.bind_ret, Prog.pure_eq_ret, wp_deviceId]
  exact end_s (h)

theorem p23 {Q : Post F _} {v2 : BitVec 32} {v85 : FVec F S256x512 .bf16} {v87 : FVec F S256x512 .bf16} {v711 : BitVec 32} {v715 : FVec F S256x256 .bf16} {v728 : IVec S256 32} {v731 : IVec S256 32} {v745 : FVec F S256 .f32} {v746 : FVec F S256 .f32} {v783 : FVec F S256x512 .f32} {v795 : FVec F S256x1 .f32} (hv0 : (k0_pay73 v2 v85 v87 v715 v728 v731 v745 v746 v783 v795) = k0_pay18 (grp inp c 3)) (hv1 : (k0_pay75 v2 v85 v87 v715 v728 v731 v745 v746 v783 v795) = k0_pay20 (grp inp c 3))
    (h : ∀ u0, S inp K c 15 1 4 ⟨4, 12, 0, 0, 0, 0, 0, 0⟩ ⟨3, 0, 0, 0, 0, 0, 0, 0⟩ ⊢ Q ⟨u0, k0_pay76 v2 v85 v87 v715 v728 v731 v745 v746 v783 v795⟩) :
    S inp K c 15 1 3 ⟨3, 12, 0, 0, 0, 0, 0, 0⟩ ⟨3, 0, 0, 0, 0, 0, 0, 0⟩ ⊢ WP c (onBufs (k0_part23 (F := F)) c v2 v85 v87 v711 v715 v728 v731 v745 v746 v783 v795) Q := by
  rw [k0_part23_eq_skeleton]
  unfold onBufs k0_part23_skel
  simp only [semSignalWord, semWaitWord, Prog.lift, Prog.bind_op, Prog.bind_ret, Prog.pure_eq_ret, wp_deviceId]
  refine loadA_s fun _ => ?_
  refine storeA_s (t := 3) (by clear * - c; revert c; decide +kernel) hv0 ?_
  refine loadG0 (by clear * - c; revert c; decide +kernel) fun uv830 => ?_
  refine storeG0 (t := 3) (by clear * - c; revert c; decide +kernel) hv1 ?_
  refine loadG1 (by clear * - c; revert c; decide +kernel) fun uv836 => ?_
  exact end_s (h _)

theorem p24 {Q : Post F _} {v2 : BitVec 32} {v820 : BitVec 32} {v838 : FVec F S1x4x64x256 .bf16} (hv0 : v838 = k0_pay21 (grp inp c 3))
    (h : ∀ u0 u1 u2 u3, S inp K c 15 1 4 ⟨4, 14, 0, 0, 0, 0, 0, 0⟩ ⟨4, 0, 0, 0, 0, 0, 0, 0⟩ ⊢ Q ⟨u0, u1, u2, u3⟩) :
    S inp K c 15 1 4 ⟨4, 12, 0, 0, 0, 0, 0, 0⟩ ⟨3, 0, 0, 0, 0, 0, 0, 0⟩ ⊢ WP c (onBufs (k0_part24 (F := F)) c v2 v820 v838) Q := by
  rw [k0_part24_eq_skeleton]
  unfold onBufs k0_part24_skel
  simp only [semSignalWord, semWaitWord, Prog.lift, Prog.bind_op, Prog.bind_ret, Prog.pure_eq_ret, wp_deviceId]
  refine storeG1 (t := 3) (by clear * - c; revert c; decide +kernel) hv0 ?_
  iterate 2 refine cond_s (fun hc h => send0 (by clear * - hc; revert c; decide +kernel) h) (fun hc h => skip0 (by clear * - hc; revert c; decide +kernel) h) ?_
  exact end_s (h _ _ _ _)

end Cert.Moe
-- ==== Proof.PartsTwo.lean ====
/-
# The parts of the body, 25 to 43

Each part of the body takes the state of the device from one point of the protocol to the next.
-/
module

public import proofs.«01_k».proof.Proof.PartsOne

@[expose] public section

set_option maxRecDepth 16384

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable {inp : Inp F} {K : Dev nD × CellIx → ℕ} {c : Dev nD}

attribute [local irreducible] k0_cond3 k0_cond4 k0_cond5 k0_cond6 k0_cond7 k0_cond8

theorem p25 {Q : Post F _} {v2 : BitVec 32} {v3 : BitVec 32} {v820 : BitVec 32} {v863 : BitVec 32} {v866 : BitVec 32}
    (h : ∀ u0 u1 u2 u3 u4, S inp K c 15 1 4 ⟨4, 16, 0, 0, 0, 0, 0, 0⟩ ⟨4, 0, 0, 0, 0, 0, 0, 0⟩ ⊢ Q ⟨u0, u1, u2, u3, u4⟩) :
    S inp K c 15 1 4 ⟨4, 14, 0, 0, 0, 0, 0, 0⟩ ⟨4, 0, 0, 0, 0, 0, 0, 0⟩ ⊢ WP c (onBufs (k0_part25 (F := F)) c v2 v3 v820 v863 v866) Q := by
  rw [k0_part25_eq_skeleton]
  unfold onBufs k0_part25_skel
  simp only [semSignalWord, semWaitWord, Prog.lift, Prog.bind_op, Prog.bind_ret, Prog.pure_eq_ret, wp_deviceId]
  iterate 2 refine cond_s (fun hc h => send0 (by clear * - hc; revert c; decide +kernel) h) (fun hc h => skip0 (by clear * - hc; revert c; decide +kernel) h) ?_
  exact end_s (h _ _ _ _ _)

theorem p26 {Q : Post F _} {v2 : BitVec 32} {v889 : BitVec 32} {v891 : BitVec 32} {v894 : BitVec 32}
    (h : S inp K c 15 1 4 ⟨4, 16, 0, 0, 0, 0, 0, 0⟩ ⟨4, 1, 0, 0, 0, 0, 0, 0⟩ ⊢ Q ⟨⟩) :
    S inp K c 15 1 4 ⟨4, 16, 0, 0, 0, 0, 0, 0⟩ ⟨4, 0, 0, 0, 0, 0, 0, 0⟩ ⊢ WP c (onBufs (k0_part26 (F := F)) c v2 v889 v891 v894) Q := by
  rw [k0_part26_eq_skeleton]
  unfold onBufs k0_part26_skel
  simp only [semSignalWord, semWaitWord, Prog.lift, Prog.bind_op, Prog.bind_ret, Prog.pure_eq_ret, wp_deviceId]
  refine send1 (by clear * - c; revert c; decide +kernel) ?_
  exact end_s (h)

theorem p27 {Q : Post F _} {v2 : BitVec 32} {v889 : BitVec 32}
    (h : ∀ u0 u1, S inp K c 15 1 4 ⟨4, 16, 0, 0, 0, 0, 0, 0⟩ ⟨4, 3, 0, 0, 0, 0, 0, 0⟩ ⊢ Q ⟨u0, u1⟩) :
    S inp K c 15 1 4 ⟨4, 16, 0, 0, 0, 0, 0, 0⟩ ⟨4, 1, 0, 0, 0, 0, 0, 0⟩ ⊢ WP c (onBufs (k0_part27 (F := F)) c v2 v889) Q := by
  rw [k0_part27_eq_skeleton]
  unfold onBufs k0_part27_skel
  simp only [semSignalWord, semWaitWord, Prog.lift, Prog.bind_op, Prog.bind_ret, Prog.pure_eq_ret, wp_deviceId]
  iterate 2 refine send1 (by clear * - c; revert c; decide +kernel) ?_
  exact end_s (h _ _)

theorem p28 {Q : Post F _} {v2 : BitVec 32} {v3 : BitVec 32} {v951 : BitVec 32} {v954 : BitVec 32}
    (h : ∀ u0 u1, S inp K c 15 1 4 ⟨4, 16, 0, 0, 0, 0, 0, 0⟩ ⟨4, 4, 0, 0, 0, 0, 0, 0⟩ ⊢ Q ⟨u0, u1⟩) :
    S inp K c 15 1 4 ⟨4, 16, 0, 0, 0, 0, 0, 0⟩ ⟨4, 3, 0, 0, 0, 0, 0, 0⟩ ⊢ WP c (onBufs (k0_part28 (F := F)) c v2 v3 v951 v954) Q := by
  rw [k0_part28_eq_skeleton]
  unfold onBufs k0_part28_skel
  simp only [semSignalWord, semWaitWord, Prog.lift, Prog.bind_op, Prog.bind_ret, Prog.pure_eq_ret, wp_deviceId]
  refine send1 (by clear * - c; revert c; decide +kernel) ?_
  exact end_s (h _ _)

theorem p29 {Q : Post F _} {v2 : BitVec 32} {v972 : BitVec 32} {v974 : BitVec 32}
    (h : ∀ u0 u1, S inp K c 15 1 4 ⟨4, 16, 0, 0, 0, 0, 0, 0⟩ ⟨4, 6, 0, 0, 0, 0, 0, 0⟩ ⊢ Q ⟨u0, u1⟩) :
    S inp K c 15 1 4 ⟨4, 16, 0, 0, 0, 0, 0, 0⟩ ⟨4, 4, 0, 0, 0, 0, 0, 0⟩ ⊢ WP c (onBufs (k0_part29 (F := F)) c v2 v972 v974) Q := by
  rw [k0_part29_eq_skeleton]
  unfold onBufs k0_part29_skel
  simp only [semSignalWord, semWaitWord, Prog.lift, Prog.bind_op, Prog.bind_ret, Prog.pure_eq_ret, wp_deviceId]
  iterate 2 refine send1 (by clear * - c; revert c; decide +kernel) ?_
  exact end_s (h _ _)

theorem p30 {Q : Post F _} {v2 : BitVec 32} {v972 : BitVec 32} {v1013 : BitVec 32} {c2_i32_650 : BitVec 32}
    (h : ∀ u0, S inp K c 15 1 4 ⟨4, 16, 0, 0, 0, 0, 0, 0⟩ ⟨4, 7, 0, 0, 0, 0, 0, 0⟩ ⊢ Q u0) :
    S inp K c 15 1 4 ⟨4, 16, 0, 0, 0, 0, 0, 0⟩ ⟨4, 6, 0, 0, 0, 0, 0, 0⟩ ⊢ WP c (onBufs (k0_part30 (F := F)) c v2 v972 v1013 c2_i32_650) Q := by
  rw [k0_part30_eq_skeleton]
  unfold onBufs k0_part30_skel
  simp only [semSignalWord, semWaitWord, Prog.lift, Prog.bind_op, Prog.bind_ret, Prog.pure_eq_ret, wp_deviceId]
  refine send1 (by clear * - c; revert c; decide +kernel) ?_
  exact end_s (h _)

theorem p31 {Q : Post F _} {v2 : BitVec 32} {v3 : BitVec 32} {v1034 : BitVec 32}
    (h : ∀ u0, S inp K c 15 1 4 ⟨4, 16, 0, 0, 0, 0, 0, 0⟩ ⟨4, 8, 0, 0, 0, 0, 0, 0⟩ ⊢ Q u0) :
    S inp K c 15 1 4 ⟨4, 16, 0, 0, 0, 0, 0, 0⟩ ⟨4, 7, 0, 0, 0, 0, 0, 0⟩ ⊢ WP c (onBufs (k0_part31 (F := F)) c v2 v3 v1034) Q := by
  rw [k0_part31_eq_skeleton]
  unfold onBufs k0_part31_skel
  simp only [semSignalWord, semWaitWord, Prog.lift, Prog.bind_op, Prog.bind_ret, Prog.pure_eq_ret, wp_deviceId]
  refine send1 (by clear * - c; revert c; decide +kernel) ?_
  exact end_s (h _)

theorem p32 {Q : Post F _} {v2 : BitVec 32} {v1055 : BitVec 32}
    (h : ∀ u0 u1 u2, S inp K c 15 1 4 ⟨4, 16, 0, 0, 0, 0, 0, 0⟩ ⟨4, 10, 0, 0, 0, 0, 0, 0⟩ ⊢ Q ⟨u0, u1, u2⟩) :
    S inp K c 15 1 4 ⟨4, 16, 0, 0, 0, 0, 0, 0⟩ ⟨4, 8, 0, 0, 0, 0, 0, 0⟩ ⊢ WP c (onBufs (k0_part32 (F := F)) c v2 v1055) Q := by
  rw [k0_part32_eq_skeleton]
  unfold onBufs k0_part32_skel
  simp only [semSignalWord, semWaitWord, Prog.lift, Prog.bind_op, Prog.bind_ret, Prog.pure_eq_ret, wp_deviceId]
  iterate 2 refine send1 (by clear * - c; revert c; decide +kernel) ?_
  exact end_s (h _ _ _)

theorem p33 {Q : Post F _} {v2 : BitVec 32} {v1055 : BitVec 32} {v1097 : BitVec 32} {v1104 : BitVec 32} {c16_i32_735 : BitVec 32}
    (h : S inp K c 15 1 4 ⟨4, 16, 0, 0, 0, 0, 0, 0⟩ ⟨4, 11, 0, 0, 0, 0, 0, 0⟩ ⊢ Q ⟨⟩) :
    S inp K c 15 1 4 ⟨4, 16, 0, 0, 0, 0, 0, 0⟩ ⟨4, 10, 0, 0, 0, 0, 0, 0⟩ ⊢ WP c (onBufs (k0_part33 (F := F)) c v2 v1055 v1097 v1104 c16_i32_735) Q := by
  rw [k0_part33_eq_skeleton]
  unfold onBufs k0_part33_skel
  simp only [semSignalWord, semWaitWord, Prog.lift, Prog.bind_op, Prog.bind_ret, Prog.pure_eq_ret, wp_deviceId]
  refine send1 (by clear * - c; revert c; decide +kernel) ?_
  exact end_s (h)

theorem p34 {Q : Post F _} {v2 : BitVec 32} {v3 : BitVec 32}
    (h : ∀ u0 u1 u2 u3 u4, S inp K c 15 1 4 ⟨4, 16, 0, 0, 0, 0, 0, 0⟩ ⟨4, 13, 0, 0, 0, 0, 0, 0⟩ ⊢ Q ⟨u0, u1, u2, u3, u4⟩) :
    S inp K c 15 1 4 ⟨4, 16, 0, 0, 0, 0, 0, 0⟩ ⟨4, 11, 0, 0, 0, 0, 0, 0⟩ ⊢ WP c (onBufs (k0_part34 (F := F)) c v2 v3) Q := by
  rw [k0_part34_eq_skeleton]
  unfold onBufs k0_part34_skel
  simp only [semSignalWord, semWaitWord, Prog.lift, Prog.bind_op, Prog.bind_ret, Prog.pure_eq_ret, wp_deviceId]
  refine send1 (by clear * - c; revert c; decide +kernel) ?_
  refine cond_s (fun hc h => send1 (by clear * - hc; revert c; decide +kernel) h) (fun hc h => skip1 (by clear * - hc; revert c; decide +kernel) h) ?_
  exact end_s (h _ _ _ _ _)

theorem p35 {Q : Post F _} {v2 : BitVec 32} {v1138 : BitVec 32} {v1153 : BitVec 32} {v1163 : BitVec 32}
    (h : ∀ u0 u1 u2, S inp K c 15 1 4 ⟨4, 16, 0, 0, 0, 0, 0, 0⟩ ⟨4, 15, 0, 0, 0, 0, 0, 0⟩ ⊢ Q ⟨u0, u1, u2⟩) :
    S inp K c 15 1 4 ⟨4, 16, 0, 0, 0, 0, 0, 0⟩ ⟨4, 13, 0, 0, 0, 0, 0, 0⟩ ⊢ WP c (onBufs (k0_part35 (F := F)) c v2 v1138 v1153 v1163) Q := by
  rw [k0_part35_eq_skeleton]
  unfold onBufs k0_part35_skel
  simp only [semSignalWord, semWaitWord, Prog.lift, Prog.bind_op, Prog.bind_ret, Prog.pure_eq_ret, wp_deviceId]
  iterate 2 refine cond_s (fun hc h => send1 (by clear * - hc; revert c; decide +kernel) h) (fun hc h => skip1 (by clear * - hc; revert c; decide +kernel) h) ?_
  exact end_s (h _ _ _)

theorem p36 {Q : Post F _} {v2 : BitVec 32} {v1179 : BitVec 32}
    (h : S inp K c 15 1 4 ⟨4, 16, 1, 0, 0, 0, 0, 0⟩ ⟨4, 16, 0, 0, 0, 0, 0, 0⟩ ⊢ Q (k0_pay77 (own inp c) (ld inp c 0 0))) :
    S inp K c 15 1 4 ⟨4, 16, 0, 0, 0, 0, 0, 0⟩ ⟨4, 15, 0, 0, 0, 0, 0, 0⟩ ⊢ WP c (onBufs (k0_part36 (F := F)) c v2 v1179) Q := by
  rw [k0_part36_eq_skeleton]
  unfold onBufs k0_part36_skel
  simp only [semSignalWord, semWaitWord, Prog.lift, Prog.bind_op, Prog.bind_ret, Prog.pure_eq_ret, wp_deviceId]
  refine cond_s (fun hc h => send1 (by clear * - hc; revert c; decide +kernel) h) (fun hc h => skip1 (by clear * - hc; revert c; decide +kernel) h) ?_
  refine loadOwn_s ?_
  refine waitV0 ?_
  refine loadL0 (j := 0) ?_
  exact end_s (h)

theorem p37 {Q : Post F _} {v2 : BitVec 32} {v1206 : FVec F S64x256 .f32}
    (h : S inp K c 15 1 4 ⟨4, 16, 3, 0, 0, 0, 0, 0⟩ ⟨4, 16, 0, 0, 0, 0, 0, 0⟩ ⊢ Q (k0_pay78 v1206 (ld inp c 0 1) (ld inp c 0 2))) :
    S inp K c 15 1 4 ⟨4, 16, 1, 0, 0, 0, 0, 0⟩ ⟨4, 16, 0, 0, 0, 0, 0, 0⟩ ⊢ WP c (onBufs (k0_part37 (F := F)) v2 v1206) Q := by
  rw [k0_part37_eq_skeleton]
  unfold onBufs k0_part37_skel
  simp only [semSignalWord, semWaitWord, Prog.lift, Prog.bind_op, Prog.bind_ret, Prog.pure_eq_ret, wp_deviceId]
  refine waitV0 ?_
  refine loadL0 (j := 1) ?_
  refine waitV0 ?_
  refine loadL0 (j := 2) ?_
  exact end_s (h)

theorem p38 {Q : Post F _} {v2 : BitVec 32} {v1230 : FVec F S64x256 .f32}
    (h : S inp K c 15 1 4 ⟨4, 16, 5, 0, 0, 0, 0, 0⟩ ⟨4, 16, 0, 0, 0, 0, 0, 0⟩ ⊢ Q (k0_pay79 v1230 (ld inp c 0 3) (ld inp c 0 4))) :
    S inp K c 15 1 4 ⟨4, 16, 3, 0, 0, 0, 0, 0⟩ ⟨4, 16, 0, 0, 0, 0, 0, 0⟩ ⊢ WP c (onBufs (k0_part38 (F := F)) v2 v1230) Q := by
  rw [k0_part38_eq_skeleton]
  unfold onBufs k0_part38_skel
  simp only [semSignalWord, semWaitWord, Prog.lift, Prog.bind_op, Prog.bind_ret, Prog.pure_eq_ret, wp_deviceId]
  refine waitV0 ?_
  refine loadL0 (j := 3) ?_
  refine waitV0 ?_
  refine loadL0 (j := 4) ?_
  exact end_s (h)

theorem p39 {Q : Post F _} {v2 : BitVec 32} {v1254 : FVec F S64x256 .f32}
    (h : S inp K c 15 1 4 ⟨4, 16, 7, 0, 0, 0, 0, 0⟩ ⟨4, 16, 0, 0, 0, 0, 0, 0⟩ ⊢ Q (k0_pay80 v1254 (ld inp c 0 5) (ld inp c 0 6))) :
    S inp K c 15 1 4 ⟨4, 16, 5, 0, 0, 0, 0, 0⟩ ⟨4, 16, 0, 0, 0, 0, 0, 0⟩ ⊢ WP c (onBufs (k0_part39 (F := F)) v2 v1254) Q := by
  rw [k0_part39_eq_skeleton]
  unfold onBufs k0_part39_skel
  simp only [semSignalWord, semWaitWord, Prog.lift, Prog.bind_op, Prog.bind_ret, Prog.pure_eq_ret, wp_deviceId]
  refine waitV0 ?_
  refine loadL0 (j := 5) ?_
  refine waitV0 ?_
  refine loadL0 (j := 6) ?_
  exact end_s (h)

theorem p40 {Q : Post F _} {v2 : BitVec 32} {v1278 : FVec F S64x256 .f32}
    (h : S inp K c 15 1 4 ⟨4, 16, 9, 0, 0, 0, 0, 0⟩ ⟨4, 16, 0, 0, 0, 0, 0, 0⟩ ⊢ Q (k0_pay81 v1278 (ld inp c 0 7) (ld inp c 0 8))) :
    S inp K c 15 1 4 ⟨4, 16, 7, 0, 0, 0, 0, 0⟩ ⟨4, 16, 0, 0, 0, 0, 0, 0⟩ ⊢ WP c (onBufs (k0_part40 (F := F)) v2 v1278) Q := by
  rw [k0_part40_eq_skeleton]
  unfold onBufs k0_part40_skel
  simp only [semSignalWord, semWaitWord, Prog.lift, Prog.bind_op, Prog.bind_ret, Prog.pure_eq_ret, wp_deviceId]
  refine waitV0 ?_
  refine loadL0 (j := 7) ?_
  refine waitV0 ?_
  refine loadL0 (j := 8) ?_
  exact end_s (h)

theorem p41 {Q : Post F _} {v2 : BitVec 32} {v1302 : FVec F S64x256 .f32}
    (h : S inp K c 15 1 4 ⟨4, 16, 11, 0, 0, 0, 0, 0⟩ ⟨4, 16, 0, 0, 0, 0, 0, 0⟩ ⊢ Q (k0_pay82 v1302 (ld inp c 0 9) (ld inp c 0 10))) :
    S inp K c 15 1 4 ⟨4, 16, 9, 0, 0, 0, 0, 0⟩ ⟨4, 16, 0, 0, 0, 0, 0, 0⟩ ⊢ WP c (onBufs (k0_part41 (F := F)) v2 v1302) Q := by
  rw [k0_part41_eq_skeleton]
  unfold onBufs k0_part41_skel
  simp only [semSignalWord, semWaitWord, Prog.lift, Prog.bind_op, Prog.bind_ret, Prog.pure_eq_ret, wp_deviceId]
  refine waitV0 ?_
  refine loadL0 (j := 9) ?_
  refine waitV0 ?_
  refine loadL0 (j := 10) ?_
  exact end_s (h)

theorem p42 {Q : Post F _} {v2 : BitVec 32} {v1326 : FVec F S64x256 .f32}
    (h : ∀ u1, S inp K c 15 1 4 ⟨4, 16, 13, 0, 0, 0, 0, 0⟩ ⟨4, 16, 0, 0, 0, 0, 0, 0⟩ ⊢ Q ⟨k0_pay83 v1326 (ld inp c 0 11) (ld inp c 0 12), u1⟩) :
    S inp K c 15 1 4 ⟨4, 16, 11, 0, 0, 0, 0, 0⟩ ⟨4, 16, 0, 0, 0, 0, 0, 0⟩ ⊢ WP c (onBufs (k0_part42 (F := F)) v2 v1326) Q := by
  rw [k0_part42_eq_skeleton]
  unfold onBufs k0_part42_skel
  simp only [semSignalWord, semWaitWord, Prog.lift, Prog.bind_op, Prog.bind_ret, Prog.pure_eq_ret, wp_deviceId]
  refine waitV0 ?_
  refine loadL0 (j := 11) ?_
  refine waitV0 ?_
  refine loadL0 (j := 12) ?_
  exact end_s (h _)

theorem p43 {Q : Post F _} {v2 : BitVec 32} {v1350 : FVec F S64x256 .f32} {v1351 : BitVec 32} (hv0 : (k0_pay84 v1350 (ld inp c 0 13) (ld inp c 0 14)) = sum0 inp c)
    (h : ∀ u0, S inp K c 15 1 4 ⟨4, 16, 15, 1, 0, 0, 0, 0⟩ ⟨4, 16, 0, 0, 0, 0, 0, 0⟩ ⊢ Q u0) :
    S inp K c 15 1 4 ⟨4, 16, 13, 0, 0, 0, 0, 0⟩ ⟨4, 16, 0, 0, 0, 0, 0, 0⟩ ⊢ WP c (onBufs (k0_part43 (F := F)) c v2 v1350 v1351) Q := by
  rw [k0_part43_eq_skeleton]
  unfold onBufs k0_part43_skel
  simp only [semSignalWord, semWaitWord, Prog.lift, Prog.bind_op, Prog.bind_ret, Prog.pure_eq_ret, wp_deviceId]
  refine waitV0 ?_
  refine loadL0 (j := 13) ?_
  refine waitV0 ?_
  refine loadL0 (j := 14) ?_
  refine loadO0 (by clear * - c; revert c; decide +kernel) fun _ => ?_
  refine storeO0 (by clear * - c; revert c; decide +kernel) hv0 ?_
  exact end_s (h _)

end Cert.Moe
-- ==== Proof.PartsThree.lean ====
/-
# The parts of the body, 44 to 65

Each part of the body takes the state of the device from one point of the protocol to the next.
-/
module

public import proofs.«01_k».proof.Proof.PartsOne

@[expose] public section

set_option maxRecDepth 16384

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable {inp : Inp F} {K : Dev nD × CellIx → ℕ} {c : Dev nD}

theorem p44 {Q : Post F _} {v2 : BitVec 32} {c1_i32_1087 : BitVec 32}
    (h : ∀ u0 u1 u2 u3, S inp K c 15 1 4 ⟨4, 16, 15, 1, 2, 0, 0, 0⟩ ⟨4, 16, 0, 0, 0, 0, 0, 0⟩ ⊢ Q ⟨u0, u1, u2, u3⟩) :
    S inp K c 15 1 4 ⟨4, 16, 15, 1, 0, 0, 0, 0⟩ ⟨4, 16, 0, 0, 0, 0, 0, 0⟩ ⊢ WP c (onBufs (k0_part44 (F := F)) c v2 c1_i32_1087) Q := by
  rw [k0_part44_eq_skeleton]
  unfold onBufs k0_part44_skel
  simp only [semSignalWord, semWaitWord, Prog.lift, Prog.bind_op, Prog.bind_ret, Prog.pure_eq_ret, wp_deviceId]
  iterate 2 refine gather0 (by clear * - c; revert c; decide +kernel) ?_
  exact end_s (h _ _ _ _)

theorem p45 {Q : Post F _} {v2 : BitVec 32} {v1407 : BitVec 32} {c64_i32_1116 : BitVec 32}
    (h : ∀ u0 u1, S inp K c 15 1 4 ⟨4, 16, 15, 1, 4, 0, 0, 0⟩ ⟨4, 16, 0, 0, 0, 0, 0, 0⟩ ⊢ Q ⟨u0, u1⟩) :
    S inp K c 15 1 4 ⟨4, 16, 15, 1, 2, 0, 0, 0⟩ ⟨4, 16, 0, 0, 0, 0, 0, 0⟩ ⊢ WP c (onBufs (k0_part45 (F := F)) c v2 v1407 c64_i32_1116) Q := by
  rw [k0_part45_eq_skeleton]
  unfold onBufs k0_part45_skel
  simp only [semSignalWord, semWaitWord, Prog.lift, Prog.bind_op, Prog.bind_ret, Prog.pure_eq_ret, wp_deviceId]
  iterate 2 refine gather0 (by clear * - c; revert c; decide +kernel) ?_
  exact end_s (h _ _)

theorem p46 {Q : Post F _} {v2 : BitVec 32} {v1433 : BitVec 32}
    (h : ∀ u0 u1, S inp K c 15 1 4 ⟨4, 16, 15, 1, 6, 0, 0, 0⟩ ⟨4, 16, 0, 0, 0, 0, 0, 0⟩ ⊢ Q ⟨u0, u1⟩) :
    S inp K c 15 1 4 ⟨4, 16, 15, 1, 4, 0, 0, 0⟩ ⟨4, 16, 0, 0, 0, 0, 0, 0⟩ ⊢ WP c (onBufs (k0_part46 (F := F)) c v2 v1433) Q := by
  rw [k0_part46_eq_skeleton]
  unfold onBufs k0_part46_skel
  simp only [semSignalWord, semWaitWord, Prog.lift, Prog.bind_op, Prog.bind_ret, Prog.pure_eq_ret, wp_deviceId]
  iterate 2 refine gather0 (by clear * - c; revert c; decide +kernel) ?_
  exact end_s (h _ _)

theorem p47 {Q : Post F _} {v2 : BitVec 32}
    (h : ∀ u0 u1, S inp K c 15 1 4 ⟨4, 16, 15, 1, 8, 0, 0, 0⟩ ⟨4, 16, 0, 0, 0, 0, 0, 0⟩ ⊢ Q ⟨u0, u1⟩) :
    S inp K c 15 1 4 ⟨4, 16, 15, 1, 6, 0, 0, 0⟩ ⟨4, 16, 0, 0, 0, 0, 0, 0⟩ ⊢ WP c (onBufs (k0_part47 (F := F)) c v2) Q := by
  rw [k0_part47_eq_skeleton]
  unfold onBufs k0_part47_skel
  simp only [semSignalWord, semWaitWord, Prog.lift, Prog.bind_op, Prog.bind_ret, Prog.pure_eq_ret, wp_deviceId]
  iterate 2 refine gather0 (by clear * - c; revert c; decide +kernel) ?_
  exact end_s (h _ _)

theorem p48 {Q : Post F _} {v2 : BitVec 32}
    (h : ∀ u0 u1 u2, S inp K c 15 1 4 ⟨4, 16, 15, 1, 11, 0, 0, 0⟩ ⟨4, 16, 0, 0, 0, 0, 0, 0⟩ ⊢ Q ⟨u0, u1, u2⟩) :
    S inp K c 15 1 4 ⟨4, 16, 15, 1, 8, 0, 0, 0⟩ ⟨4, 16, 0, 0, 0, 0, 0, 0⟩ ⊢ WP c (onBufs (k0_part48 (F := F)) c v2) Q := by
  rw [k0_part48_eq_skeleton]
  unfold onBufs k0_part48_skel
  simp only [semSignalWord, semWaitWord, Prog.lift, Prog.bind_op, Prog.bind_ret, Prog.pure_eq_ret, wp_deviceId]
  iterate 3 refine gather0 (by clear * - c; revert c; decide +kernel) ?_
  exact end_s (h _ _ _)

theorem p49 {Q : Post F _} {v2 : BitVec 32} {v1523 : BitVec 32}
    (h : ∀ u0 u1 u2, S inp K c 15 1 4 ⟨4, 16, 15, 1, 13, 0, 0, 0⟩ ⟨4, 16, 0, 0, 0, 0, 0, 0⟩ ⊢ Q ⟨u0, u1, u2⟩) :
    S inp K c 15 1 4 ⟨4, 16, 15, 1, 11, 0, 0, 0⟩ ⟨4, 16, 0, 0, 0, 0, 0, 0⟩ ⊢ WP c (onBufs (k0_part49 (F := F)) c v2 v1523) Q := by
  rw [k0_part49_eq_skeleton]
  unfold onBufs k0_part49_skel
  simp only [semSignalWord, semWaitWord, Prog.lift, Prog.bind_op, Prog.bind_ret, Prog.pure_eq_ret, wp_deviceId]
  iterate 2 refine gather0 (by clear * - c; revert c; decide +kernel) ?_
  exact end_s (h _ _ _)

theorem p50 {Q : Post F _} {v2 : BitVec 32} {v1550 : BitVec 32}
    (h : ∀ u0 u2, S inp K c 15 1 4 ⟨4, 16, 15, 1, 15, 0, 0, 0⟩ ⟨4, 16, 0, 0, 0, 0, 0, 0⟩ ⊢ Q ⟨u0, k0_pay85 (own inp c), u2⟩) :
    S inp K c 15 1 4 ⟨4, 16, 15, 1, 13, 0, 0, 0⟩ ⟨4, 16, 0, 0, 0, 0, 0, 0⟩ ⊢ WP c (onBufs (k0_part50 (F := F)) c v2 v1550) Q := by
  rw [k0_part50_eq_skeleton]
  unfold onBufs k0_part50_skel
  simp only [semSignalWord, semWaitWord, Prog.lift, Prog.bind_op, Prog.bind_ret, Prog.pure_eq_ret, wp_deviceId]
  iterate 2 refine gather0 (by clear * - c; revert c; decide +kernel) ?_
  refine loadOwn_s ?_
  exact end_s (h _ _)

theorem p51 {Q : Post F _} {v2 : BitVec 32} {v1577 : FVec F S64x256 .f32} {v1578 : BitVec 32}
    (h : S inp K c 15 1 4 ⟨4, 16, 15, 1, 15, 0, 0, 0⟩ ⟨4, 16, 2, 0, 0, 0, 0, 0⟩ ⊢ Q (k0_pay86 v1577 (ld inp c 1 0) (ld inp c 1 1))) :
    S inp K c 15 1 4 ⟨4, 16, 15, 1, 15, 0, 0, 0⟩ ⟨4, 16, 0, 0, 0, 0, 0, 0⟩ ⊢ WP c (onBufs (k0_part51 (F := F)) v2 v1577 v1578) Q := by
  rw [k0_part51_eq_skeleton]
  unfold onBufs k0_part51_skel
  simp only [semSignalWord, semWaitWord, Prog.lift, Prog.bind_op, Prog.bind_ret, Prog.pure_eq_ret, wp_deviceId]
  refine waitV1 ?_
  refine loadL1 (j := 0) ?_
  refine waitV1 ?_
  refine loadL1 (j := 1) ?_
  exact end_s (h)

theorem p52 {Q : Post F _} {v2 : BitVec 32} {v1601 : FVec F S64x256 .f32}
    (h : S inp K c 15 1 4 ⟨4, 16, 15, 1, 15, 0, 0, 0⟩ ⟨4, 16, 4, 0, 0, 0, 0, 0⟩ ⊢ Q (k0_pay87 v1601 (ld inp c 1 2) (ld inp c 1 3))) :
    S inp K c 15 1 4 ⟨4, 16, 15, 1, 15, 0, 0, 0⟩ ⟨4, 16, 2, 0, 0, 0, 0, 0⟩ ⊢ WP c (onBufs (k0_part52 (F := F)) v2 v1601) Q := by
  rw [k0_part52_eq_skeleton]
  unfold onBufs k0_part52_skel
  simp only [semSignalWord, semWaitWord, Prog.lift, Prog.bind_op, Prog.bind_ret, Prog.pure_eq_ret, wp_deviceId]
  refine waitV1 ?_
  refine loadL1 (j := 2) ?_
  refine waitV1 ?_
  refine loadL1 (j := 3) ?_
  exact end_s (h)

theorem p53 {Q : Post F _} {v2 : BitVec 32} {v1625 : FVec F S64x256 .f32}
    (h : S inp K c 15 1 4 ⟨4, 16, 15, 1, 15, 0, 0, 0⟩ ⟨4, 16, 6, 0, 0, 0, 0, 0⟩ ⊢ Q (k0_pay88 v1625 (ld inp c 1 4) (ld inp c 1 5))) :
    S inp K c 15 1 4 ⟨4, 16, 15, 1, 15, 0, 0, 0⟩ ⟨4, 16, 4, 0, 0, 0, 0, 0⟩ ⊢ WP c (onBufs (k0_part53 (F := F)) v2 v1625) Q := by
  rw [k0_part53_eq_skeleton]
  unfold onBufs k0_part53_skel
  simp only [semSignalWord, semWaitWord, Prog.lift, Prog.bind_op, Prog.bind_ret, Prog.pure_eq_ret, wp_deviceId]
  refine waitV1 ?_
  refine loadL1 (j := 4) ?_
  refine waitV1 ?_
  refine loadL1 (j := 5) ?_
  exact end_s (h)

theorem p54 {Q : Post F _} {v2 : BitVec 32} {v1649 : FVec F S64x256 .f32}
    (h : S inp K c 15 1 4 ⟨4, 16, 15, 1, 15, 0, 0, 0⟩ ⟨4, 16, 8, 0, 0, 0, 0, 0⟩ ⊢ Q (k0_pay89 v1649 (ld inp c 1 6) (ld inp c 1 7))) :
    S inp K c 15 1 4 ⟨4, 16, 15, 1, 15, 0, 0, 0⟩ ⟨4, 16, 6, 0, 0, 0, 0, 0⟩ ⊢ WP c (onBufs (k0_part54 (F := F)) v2 v1649) Q := by
  rw [k0_part54_eq_skeleton]
  unfold onBufs k0_part54_skel
  simp only [semSignalWord, semWaitWord, Prog.lift, Prog.bind_op, Prog.bind_ret, Prog.pure_eq_ret, wp_deviceId]
  refine waitV1 ?_
  refine loadL1 (j := 6) ?_
  refine waitV1 ?_
  refine loadL1 (j := 7) ?_
  exact end_s (h)

theorem p55 {Q : Post F _} {v2 : BitVec 32} {v1673 : FVec F S64x256 .f32}
    (h : S inp K c 15 1 4 ⟨4, 16, 15, 1, 15, 0, 0, 0⟩ ⟨4, 16, 10, 0, 0, 0, 0, 0⟩ ⊢ Q (k0_pay90 v1673 (ld inp c 1 8) (ld inp c 1 9))) :
    S inp K c 15 1 4 ⟨4, 16, 15, 1, 15, 0, 0, 0⟩ ⟨4, 16, 8, 0, 0, 0, 0, 0⟩ ⊢ WP c (onBufs (k0_part55 (F := F)) v2 v1673) Q := by
  rw [k0_part55_eq_skeleton]
  unfold onBufs k0_part55_skel
  simp only [semSignalWord, semWaitWord, Prog.lift, Prog.bind_op, Prog.bind_ret, Prog.pure_eq_ret, wp_deviceId]
  refine waitV1 ?_
  refine loadL1 (j := 8) ?_
  refine waitV1 ?_
  refine loadL1 (j := 9) ?_
  exact end_s (h)

theorem p56 {Q : Post F _} {v2 : BitVec 32} {v1697 : FVec F S64x256 .f32}
    (h : S inp K c 15 1 4 ⟨4, 16, 15, 1, 15, 0, 0, 0⟩ ⟨4, 16, 12, 0, 0, 0, 0, 0⟩ ⊢ Q ⟨k0_pay91 v1697 (ld inp c 1 10), k0_pay92 (ld inp c 1 11)⟩) :
    S inp K c 15 1 4 ⟨4, 16, 15, 1, 15, 0, 0, 0⟩ ⟨4, 16, 10, 0, 0, 0, 0, 0⟩ ⊢ WP c (onBufs (k0_part56 (F := F)) v2 v1697) Q := by
  rw [k0_part56_eq_skeleton]
  unfold onBufs k0_part56_skel
  simp only [semSignalWord, semWaitWord, Prog.lift, Prog.bind_op, Prog.bind_ret, Prog.pure_eq_ret, wp_deviceId]
  refine waitV1 ?_
  refine loadL1 (j := 10) ?_
  refine waitV1 ?_
  refine loadL1 (j := 11) ?_
  exact end_s (h)

theorem p57 {Q : Post F _} {v2 : BitVec 32} {v1709 : FVec F S64x256 .f32} {v1719 : FVec F S64x256 .bf16}
    (h : S inp K c 15 1 4 ⟨4, 16, 15, 1, 15, 0, 0, 0⟩ ⟨4, 16, 14, 0, 0, 0, 0, 0⟩ ⊢ Q (k0_pay93 v1709 v1719 (ld inp c 1 12))) :
    S inp K c 15 1 4 ⟨4, 16, 15, 1, 15, 0, 0, 0⟩ ⟨4, 16, 12, 0, 0, 0, 0, 0⟩ ⊢ WP c (onBufs (k0_part57 (F := F)) v2 v1709 v1719) Q := by
  rw [k0_part57_eq_skeleton]
  unfold onBufs k0_part57_skel
  simp only [semSignalWord, semWaitWord, Prog.lift, Prog.bind_op, Prog.bind_ret, Prog.pure_eq_ret, wp_deviceId]
  refine waitV1 ?_
  refine loadL1 (j := 12) ?_
  refine waitV1 ?_
  exact end_s (h)

theorem p58 {Q : Post F _} {v2 : BitVec 32} {v1733 : FVec F S64x256 .f32} (hv0 : (k0_pay94 v1733 (ld inp c 1 13) (ld inp c 1 14)) = sum1 inp c)
    (h : ∀ u0, S inp K c 15 1 4 ⟨4, 16, 15, 1, 15, 0, 0, 0⟩ ⟨4, 16, 15, 1, 0, 0, 0, 0⟩ ⊢ Q u0) :
    S inp K c 15 1 4 ⟨4, 16, 15, 1, 15, 0, 0, 0⟩ ⟨4, 16, 14, 0, 0, 0, 0, 0⟩ ⊢ WP c (onBufs (k0_part58 (F := F)) c v2 v1733) Q := by
  rw [k0_part58_eq_skeleton]
  unfold onBufs k0_part58_skel
  simp only [semSignalWord, semWaitWord, Prog.lift, Prog.bind_op, Prog.bind_ret, Prog.pure_eq_ret, wp_deviceId]
  refine loadL1 (j := 13) ?_
  refine waitV1 ?_
  refine loadL1 (j := 14) ?_
  refine loadO1 (by clear * - c; revert c; decide +kernel) fun _ => ?_
  refine storeO1 (by clear * - c; revert c; decide +kernel) hv0 ?_
  exact end_s (h _)

theorem p59 {Q : Post F _} {v2 : BitVec 32}
    (h : ∀ u0 u1, S inp K c 15 1 4 ⟨4, 16, 15, 1, 15, 0, 0, 0⟩ ⟨4, 16, 15, 1, 2, 0, 0, 0⟩ ⊢ Q ⟨u0, u1⟩) :
    S inp K c 15 1 4 ⟨4, 16, 15, 1, 15, 0, 0, 0⟩ ⟨4, 16, 15, 1, 0, 0, 0, 0⟩ ⊢ WP c (onBufs (k0_part59 (F := F)) c v2) Q := by
  rw [k0_part59_eq_skeleton]
  unfold onBufs k0_part59_skel
  simp only [semSignalWord, semWaitWord, Prog.lift, Prog.bind_op, Prog.bind_ret, Prog.pure_eq_ret, wp_deviceId]
  iterate 2 refine gather1 (by clear * - c; revert c; decide +kernel) ?_
  exact end_s (h _ _)

theorem p60 {Q : Post F _} {v2 : BitVec 32}
    (h : ∀ u0 u1 u2 u3, S inp K c 15 1 4 ⟨4, 16, 15, 1, 15, 0, 0, 0⟩ ⟨4, 16, 15, 1, 5, 0, 0, 0⟩ ⊢ Q ⟨u0, u1, u2, u3⟩) :
    S inp K c 15 1 4 ⟨4, 16, 15, 1, 15, 0, 0, 0⟩ ⟨4, 16, 15, 1, 2, 0, 0, 0⟩ ⊢ WP c (onBufs (k0_part60 (F := F)) c v2) Q := by
  rw [k0_part60_eq_skeleton]
  unfold onBufs k0_part60_skel
  simp only [semSignalWord, semWaitWord, Prog.lift, Prog.bind_op, Prog.bind_ret, Prog.pure_eq_ret, wp_deviceId]
  iterate 3 refine gather1 (by clear * - c; revert c; decide +kernel) ?_
  exact end_s (h _ _ _ _)

theorem p61 {Q : Post F _} {v2 : BitVec 32} {v1827 : BitVec 32} {c5_i32_1621 : BitVec 32}
    (h : ∀ u0 u1 u2 u3, S inp K c 15 1 4 ⟨4, 16, 15, 1, 15, 0, 0, 0⟩ ⟨4, 16, 15, 1, 7, 0, 0, 0⟩ ⊢ Q ⟨u0, u1, u2, u3⟩) :
    S inp K c 15 1 4 ⟨4, 16, 15, 1, 15, 0, 0, 0⟩ ⟨4, 16, 15, 1, 5, 0, 0, 0⟩ ⊢ WP c (onBufs (k0_part61 (F := F)) c v2 v1827 c5_i32_1621) Q := by
  rw [k0_part61_eq_skeleton]
  unfold onBufs k0_part61_skel
  simp only [semSignalWord, semWaitWord, Prog.lift, Prog.bind_op, Prog.bind_ret, Prog.pure_eq_ret, wp_deviceId]
  iterate 2 refine gather1 (by clear * - c; revert c; decide +kernel) ?_
  exact end_s (h _ _ _ _)

theorem p62 {Q : Post F _} {v2 : BitVec 32} {v1855 : BitVec 32} {c64_i32_1650 : BitVec 32}
    (h : ∀ u0 u1 u2, S inp K c 15 1 4 ⟨4, 16, 15, 1, 15, 0, 0, 0⟩ ⟨4, 16, 15, 1, 9, 0, 0, 0⟩ ⊢ Q ⟨u0, u1, u2⟩) :
    S inp K c 15 1 4 ⟨4, 16, 15, 1, 15, 0, 0, 0⟩ ⟨4, 16, 15, 1, 7, 0, 0, 0⟩ ⊢ WP c (onBufs (k0_part62 (F := F)) c v2 v1855 c64_i32_1650) Q := by
  rw [k0_part62_eq_skeleton]
  unfold onBufs k0_part62_skel
  simp only [semSignalWord, semWaitWord, Prog.lift, Prog.bind_op, Prog.bind_ret, Prog.pure_eq_ret, wp_deviceId]
  iterate 2 refine gather1 (by clear * - c; revert c; decide +kernel) ?_
  exact end_s (h _ _ _)

theorem p63 {Q : Post F _} {v2 : BitVec 32} {v1881 : BitVec 32} {c1_i32_1681 : BitVec 32}
    (h : ∀ u0 u1, S inp K c 15 1 4 ⟨4, 16, 15, 1, 15, 0, 0, 0⟩ ⟨4, 16, 15, 1, 11, 0, 0, 0⟩ ⊢ Q ⟨u0, u1⟩) :
    S inp K c 15 1 4 ⟨4, 16, 15, 1, 15, 0, 0, 0⟩ ⟨4, 16, 15, 1, 9, 0, 0, 0⟩ ⊢ WP c (onBufs (k0_part63 (F := F)) c v2 v1881 c1_i32_1681) Q := by
  rw [k0_part63_eq_skeleton]
  unfold onBufs k0_part63_skel
  simp only [semSignalWord, semWaitWord, Prog.lift, Prog.bind_op, Prog.bind_ret, Prog.pure_eq_ret, wp_deviceId]
  iterate 2 refine gather1 (by clear * - c; revert c; decide +kernel) ?_
  exact end_s (h _ _)

theorem p64 {Q : Post F _} {v2 : BitVec 32}
    (h : ∀ u0 u1, S inp K c 15 1 4 ⟨4, 16, 15, 1, 15, 0, 0, 0⟩ ⟨4, 16, 15, 1, 14, 0, 0, 0⟩ ⊢ Q ⟨u0, u1⟩) :
    S inp K c 15 1 4 ⟨4, 16, 15, 1, 15, 0, 0, 0⟩ ⟨4, 16, 15, 1, 11, 0, 0, 0⟩ ⊢ WP c (onBufs (k0_part64 (F := F)) c v2) Q := by
  rw [k0_part64_eq_skeleton]
  unfold onBufs k0_part64_skel
  simp only [semSignalWord, semWaitWord, Prog.lift, Prog.bind_op, Prog.bind_ret, Prog.pure_eq_ret, wp_deviceId]
  iterate 3 refine gather1 (by clear * - c; revert c; decide +kernel) ?_
  exact end_s (h _ _)

theorem p65 {Q : Post F _} {v2 : BitVec 32}
    (h : ∀ u0, S inp K c 15 1 4 ⟨4, 16, 15, 1, 15, 1, 0, 0⟩ ⟨4, 16, 15, 1, 15, 0, 0, 0⟩ ⊢ Q u0) :
    S inp K c 15 1 4 ⟨4, 16, 15, 1, 15, 0, 0, 0⟩ ⟨4, 16, 15, 1, 14, 0, 0, 0⟩ ⊢ WP c (onBufs (k0_part65 (F := F)) c v2) Q := by
  rw [k0_part65_eq_skeleton]
  unfold onBufs k0_part65_skel
  simp only [semSignalWord, semWaitWord, Prog.lift, Prog.bind_op, Prog.bind_ret, Prog.pure_eq_ret, wp_deviceId]
  refine gather1 (by clear * - c; revert c; decide +kernel) ?_
  refine waitS0 (ch_ne c (by decide)) ?_
  exact end_s (h _)

end Cert.Moe
-- ==== Proof.PartsFour.lean ====
/-
# The parts of the body, 66 to 85

Each part of the body takes the state of the device from one point of the protocol to the next.
-/
module

public import proofs.«01_k».proof.Proof.PartsOne

@[expose] public section

set_option maxRecDepth 16384

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable {inp : Inp F} {K : Dev nD × CellIx → ℕ} {c : Dev nD}

attribute [local irreducible] k0_cond9 k0_cond10 k0_cond11 k0_cond12 k0_cond13 k0_cond14 k0_cond15 k0_cond16

theorem p66 {Q : Post F _}
    (h : S inp K c 15 1 4 ⟨4, 16, 15, 1, 15, 5, 0, 0⟩ ⟨4, 16, 15, 1, 15, 0, 0, 0⟩ ⊢ Q ⟨⟩) :
    S inp K c 15 1 4 ⟨4, 16, 15, 1, 15, 1, 0, 0⟩ ⟨4, 16, 15, 1, 15, 0, 0, 0⟩ ⊢ WP c (onBufs (k0_part66 (F := F)) c) Q := by
  rw [k0_part66_eq_skeleton]
  unfold onBufs k0_part66_skel
  simp only [semSignalWord, semWaitWord, Prog.lift, Prog.bind_op, Prog.bind_ret, Prog.pure_eq_ret, wp_deviceId]
  iterate 4 refine waitS0 (ch_ne c (by decide)) ?_
  exact end_s (h)

theorem p67 {Q : Post F _}
    (h : S inp K c 15 1 4 ⟨4, 16, 15, 1, 15, 9, 0, 0⟩ ⟨4, 16, 15, 1, 15, 0, 0, 0⟩ ⊢ Q ⟨⟩) :
    S inp K c 15 1 4 ⟨4, 16, 15, 1, 15, 5, 0, 0⟩ ⟨4, 16, 15, 1, 15, 0, 0, 0⟩ ⊢ WP c (onBufs (k0_part67 (F := F)) c) Q := by
  rw [k0_part67_eq_skeleton]
  unfold onBufs k0_part67_skel
  simp only [semSignalWord, semWaitWord, Prog.lift, Prog.bind_op, Prog.bind_ret, Prog.pure_eq_ret, wp_deviceId]
  iterate 4 refine waitS0 (ch_ne c (by decide)) ?_
  exact end_s (h)

theorem p68 {Q : Post F _} {v848 : BitVec 1}
    (h : S inp K c 15 1 4 ⟨4, 16, 15, 1, 15, 13, 0, 0⟩ ⟨4, 16, 15, 1, 15, 0, 0, 0⟩ ⊢ Q ⟨⟩) :
    S inp K c 15 1 4 ⟨4, 16, 15, 1, 15, 9, 0, 0⟩ ⟨4, 16, 15, 1, 15, 0, 0, 0⟩ ⊢ WP c (onBufs (k0_part68 (F := F)) c v848) Q := by
  rw [k0_part68_eq_skeleton]
  unfold onBufs k0_part68_skel
  simp only [semSignalWord, semWaitWord, Prog.lift, Prog.bind_op, Prog.bind_ret, Prog.pure_eq_ret, wp_deviceId]
  iterate 3 refine waitS0 (ch_ne c (by decide)) ?_
  refine cond_s (fun hc h => waitS0 (by clear * - hc; revert c; decide +kernel) h) (fun hc h => waitSkip0 (by clear * - hc; revert c; decide +kernel) h) ?_
  exact end_s (h)

theorem p69 {Q : Post F _} {v860 : BitVec 1} {v872 : BitVec 1} {v884 : BitVec 1}
    (h : S inp K c 15 1 4 ⟨4, 16, 15, 1, 15, 16, 0, 0⟩ ⟨4, 16, 15, 1, 15, 1, 0, 0⟩ ⊢ Q ⟨⟩) :
    S inp K c 15 1 4 ⟨4, 16, 15, 1, 15, 13, 0, 0⟩ ⟨4, 16, 15, 1, 15, 0, 0, 0⟩ ⊢ WP c (onBufs (k0_part69 (F := F)) c v860 v872 v884) Q := by
  rw [k0_part69_eq_skeleton]
  unfold onBufs k0_part69_skel
  simp only [semSignalWord, semWaitWord, Prog.lift, Prog.bind_op, Prog.bind_ret, Prog.pure_eq_ret, wp_deviceId]
  iterate 3 refine cond_s (fun hc h => waitS0 (by clear * - hc; revert c; decide +kernel) h) (fun hc h => waitSkip0 (by clear * - hc; revert c; decide +kernel) h) ?_
  refine waitS1 (ch_ne c (by decide)) ?_
  exact end_s (h)

theorem p70 {Q : Post F _}
    (h : S inp K c 15 1 4 ⟨4, 16, 15, 1, 15, 16, 0, 0⟩ ⟨4, 16, 15, 1, 15, 5, 0, 0⟩ ⊢ Q ⟨⟩) :
    S inp K c 15 1 4 ⟨4, 16, 15, 1, 15, 16, 0, 0⟩ ⟨4, 16, 15, 1, 15, 1, 0, 0⟩ ⊢ WP c (onBufs (k0_part70 (F := F)) c) Q := by
  rw [k0_part70_eq_skeleton]
  unfold onBufs k0_part70_skel
  simp only [semSignalWord, semWaitWord, Prog.lift, Prog.bind_op, Prog.bind_ret, Prog.pure_eq_ret, wp_deviceId]
  iterate 4 refine waitS1 (ch_ne c (by decide)) ?_
  exact end_s (h)

theorem p71 {Q : Post F _}
    (h : S inp K c 15 1 4 ⟨4, 16, 15, 1, 15, 16, 0, 0⟩ ⟨4, 16, 15, 1, 15, 9, 0, 0⟩ ⊢ Q ⟨⟩) :
    S inp K c 15 1 4 ⟨4, 16, 15, 1, 15, 16, 0, 0⟩ ⟨4, 16, 15, 1, 15, 5, 0, 0⟩ ⊢ WP c (onBufs (k0_part71 (F := F)) c) Q := by
  rw [k0_part71_eq_skeleton]
  unfold onBufs k0_part71_skel
  simp only [semSignalWord, semWaitWord, Prog.lift, Prog.bind_op, Prog.bind_ret, Prog.pure_eq_ret, wp_deviceId]
  iterate 4 refine waitS1 (ch_ne c (by decide)) ?_
  exact end_s (h)

theorem p72 {Q : Post F _} {v1149 : BitVec 1}
    (h : S inp K c 15 1 4 ⟨4, 16, 15, 1, 15, 16, 0, 0⟩ ⟨4, 16, 15, 1, 15, 13, 0, 0⟩ ⊢ Q ⟨⟩) :
    S inp K c 15 1 4 ⟨4, 16, 15, 1, 15, 16, 0, 0⟩ ⟨4, 16, 15, 1, 15, 9, 0, 0⟩ ⊢ WP c (onBufs (k0_part72 (F := F)) c v1149) Q := by
  rw [k0_part72_eq_skeleton]
  unfold onBufs k0_part72_skel
  simp only [semSignalWord, semWaitWord, Prog.lift, Prog.bind_op, Prog.bind_ret, Prog.pure_eq_ret, wp_deviceId]
  iterate 3 refine waitS1 (ch_ne c (by decide)) ?_
  refine cond_s (fun hc h => waitS1 (by clear * - hc; revert c; decide +kernel) h) (fun hc h => waitSkip1 (by clear * - hc; revert c; decide +kernel) h) ?_
  exact end_s (h)

theorem p73 {Q : Post F _} {v1162 : BitVec 1} {v1175 : BitVec 1} {v1188 : BitVec 1} {v1381 : BitVec 32}
    (h : S inp K c 15 1 4 ⟨4, 16, 15, 1, 15, 16, 1, 1⟩ ⟨4, 16, 15, 1, 15, 16, 0, 0⟩ ⊢ Q ⟨⟩) :
    S inp K c 15 1 4 ⟨4, 16, 15, 1, 15, 16, 0, 0⟩ ⟨4, 16, 15, 1, 15, 13, 0, 0⟩ ⊢ WP c (onBufs (k0_part73 (F := F)) c v1162 v1175 v1188 v1381) Q := by
  rw [k0_part73_eq_skeleton]
  unfold onBufs k0_part73_skel
  simp only [semSignalWord, semWaitWord, Prog.lift, Prog.bind_op, Prog.bind_ret, Prog.pure_eq_ret, wp_deviceId]
  iterate 3 refine cond_s (fun hc h => waitS1 (by clear * - hc; revert c; decide +kernel) h) (fun hc h => waitSkip1 (by clear * - hc; revert c; decide +kernel) h) ?_
  refine waitX0 ?_
  refine waitY0 ?_
  exact end_s (h)

theorem p74 {Q : Post F _} {v1394 : BitVec 32} {v1407 : BitVec 32}
    (h : S inp K c 15 1 4 ⟨4, 16, 15, 1, 15, 16, 4, 3⟩ ⟨4, 16, 15, 1, 15, 16, 0, 0⟩ ⊢ Q ⟨⟩) :
    S inp K c 15 1 4 ⟨4, 16, 15, 1, 15, 16, 1, 1⟩ ⟨4, 16, 15, 1, 15, 16, 0, 0⟩ ⊢ WP c (onBufs (k0_part74 (F := F)) c v1394 v1407) Q := by
  rw [k0_part74_eq_skeleton]
  unfold onBufs k0_part74_skel
  simp only [semSignalWord, semWaitWord, Prog.lift, Prog.bind_op, Prog.bind_ret, Prog.pure_eq_ret, wp_deviceId]
  refine waitX0 ?_
  refine waitY0 ?_
  refine waitX0 ?_
  refine waitY0 ?_
  refine waitX0 ?_
  exact end_s (h)

theorem p75 {Q : Post F _} {v1420 : BitVec 32} {v1433 : BitVec 32} {v1446 : BitVec 32}
    (h : ∀ u0, S inp K c 15 1 4 ⟨4, 16, 15, 1, 15, 16, 6, 5⟩ ⟨4, 16, 15, 1, 15, 16, 0, 0⟩ ⊢ Q u0) :
    S inp K c 15 1 4 ⟨4, 16, 15, 1, 15, 16, 4, 3⟩ ⟨4, 16, 15, 1, 15, 16, 0, 0⟩ ⊢ WP c (onBufs (k0_part75 (F := F)) c v1420 v1433 v1446) Q := by
  rw [k0_part75_eq_skeleton]
  unfold onBufs k0_part75_skel
  simp only [semSignalWord, semWaitWord, Prog.lift, Prog.bind_op, Prog.bind_ret, Prog.pure_eq_ret, wp_deviceId]
  refine waitY0 ?_
  refine waitX0 ?_
  refine waitY0 ?_
  refine waitX0 ?_
  exact end_s (h _)

theorem p76 {Q : Post F _} {v1459 : BitVec 32} {v1472 : BitVec 32} {v2171 : BitVec 32}
    (h : S inp K c 15 1 4 ⟨4, 16, 15, 1, 15, 16, 8, 7⟩ ⟨4, 16, 15, 1, 15, 16, 0, 0⟩ ⊢ Q ⟨⟩) :
    S inp K c 15 1 4 ⟨4, 16, 15, 1, 15, 16, 6, 5⟩ ⟨4, 16, 15, 1, 15, 16, 0, 0⟩ ⊢ WP c (onBufs (k0_part76 (F := F)) c v1459 v1472 v2171) Q := by
  rw [k0_part76_eq_skeleton]
  unfold onBufs k0_part76_skel
  simp only [semSignalWord, semWaitWord, Prog.lift, Prog.bind_op, Prog.bind_ret, Prog.pure_eq_ret, wp_deviceId]
  refine waitY0 ?_
  refine waitX0 ?_
  refine waitY0 ?_
  refine waitX0 ?_
  exact end_s (h)

theorem p77 {Q : Post F _} {v1485 : BitVec 32} {v1498 : BitVec 32}
    (h : S inp K c 15 1 4 ⟨4, 16, 15, 1, 15, 16, 10, 10⟩ ⟨4, 16, 15, 1, 15, 16, 0, 0⟩ ⊢ Q ⟨⟩) :
    S inp K c 15 1 4 ⟨4, 16, 15, 1, 15, 16, 8, 7⟩ ⟨4, 16, 15, 1, 15, 16, 0, 0⟩ ⊢ WP c (onBufs (k0_part77 (F := F)) c v1485 v1498) Q := by
  rw [k0_part77_eq_skeleton]
  unfold onBufs k0_part77_skel
  simp only [semSignalWord, semWaitWord, Prog.lift, Prog.bind_op, Prog.bind_ret, Prog.pure_eq_ret, wp_deviceId]
  refine waitY0 ?_
  refine waitX0 ?_
  refine waitY0 ?_
  refine waitX0 ?_
  refine waitY0 ?_
  exact end_s (h)

theorem p78 {Q : Post F _} {v1511 : BitVec 32} {v1524 : BitVec 32}
    (h : S inp K c 15 1 4 ⟨4, 16, 15, 1, 15, 16, 12, 12⟩ ⟨4, 16, 15, 1, 15, 16, 0, 0⟩ ⊢ Q ⟨⟩) :
    S inp K c 15 1 4 ⟨4, 16, 15, 1, 15, 16, 10, 10⟩ ⟨4, 16, 15, 1, 15, 16, 0, 0⟩ ⊢ WP c (onBufs (k0_part78 (F := F)) c v1511 v1524) Q := by
  rw [k0_part78_eq_skeleton]
  unfold onBufs k0_part78_skel
  simp only [semSignalWord, semWaitWord, Prog.lift, Prog.bind_op, Prog.bind_ret, Prog.pure_eq_ret, wp_deviceId]
  refine waitX0 ?_
  refine waitY0 ?_
  refine waitX0 ?_
  refine waitY0 ?_
  exact end_s (h)

theorem p79 {Q : Post F _} {v1537 : BitVec 32} {v1550 : BitVec 32}
    (h : S inp K c 15 1 4 ⟨4, 16, 15, 1, 15, 16, 15, 14⟩ ⟨4, 16, 15, 1, 15, 16, 0, 0⟩ ⊢ Q ⟨⟩) :
    S inp K c 15 1 4 ⟨4, 16, 15, 1, 15, 16, 12, 12⟩ ⟨4, 16, 15, 1, 15, 16, 0, 0⟩ ⊢ WP c (onBufs (k0_part79 (F := F)) c v1537 v1550) Q := by
  rw [k0_part79_eq_skeleton]
  unfold onBufs k0_part79_skel
  simp only [semSignalWord, semWaitWord, Prog.lift, Prog.bind_op, Prog.bind_ret, Prog.pure_eq_ret, wp_deviceId]
  refine waitX0 ?_
  refine waitY0 ?_
  refine waitX0 ?_
  refine waitY0 ?_
  refine waitX0 ?_
  exact end_s (h)

theorem p80 {Q : Post F _} {v1563 : BitVec 32} {v1764 : BitVec 32} {v1777 : BitVec 32}
    (h : S inp K c 15 1 4 ⟨4, 16, 15, 1, 15, 16, 15, 15⟩ ⟨4, 16, 15, 1, 15, 16, 2, 1⟩ ⊢ Q ⟨⟩) :
    S inp K c 15 1 4 ⟨4, 16, 15, 1, 15, 16, 15, 14⟩ ⟨4, 16, 15, 1, 15, 16, 0, 0⟩ ⊢ WP c (onBufs (k0_part80 (F := F)) c v1563 v1764 v1777) Q := by
  rw [k0_part80_eq_skeleton]
  unfold onBufs k0_part80_skel
  simp only [semSignalWord, semWaitWord, Prog.lift, Prog.bind_op, Prog.bind_ret, Prog.pure_eq_ret, wp_deviceId]
  refine waitY0 ?_
  refine waitX1 ?_
  refine waitY1 ?_
  refine waitX1 ?_
  exact end_s (h)

theorem p81 {Q : Post F _} {v1790 : BitVec 32} {v1803 : BitVec 32}
    (h : S inp K c 15 1 4 ⟨4, 16, 15, 1, 15, 16, 15, 15⟩ ⟨4, 16, 15, 1, 15, 16, 4, 4⟩ ⊢ Q ⟨⟩) :
    S inp K c 15 1 4 ⟨4, 16, 15, 1, 15, 16, 15, 15⟩ ⟨4, 16, 15, 1, 15, 16, 2, 1⟩ ⊢ WP c (onBufs (k0_part81 (F := F)) c v1790 v1803) Q := by
  rw [k0_part81_eq_skeleton]
  unfold onBufs k0_part81_skel
  simp only [semSignalWord, semWaitWord, Prog.lift, Prog.bind_op, Prog.bind_ret, Prog.pure_eq_ret, wp_deviceId]
  refine waitY1 ?_
  refine waitX1 ?_
  refine waitY1 ?_
  refine waitX1 ?_
  refine waitY1 ?_
  exact end_s (h)

theorem p82 {Q : Post F _} {v1816 : BitVec 32} {v1829 : BitVec 32}
    (h : S inp K c 15 1 4 ⟨4, 16, 15, 1, 15, 16, 15, 15⟩ ⟨4, 16, 15, 1, 15, 16, 6, 6⟩ ⊢ Q ⟨⟩) :
    S inp K c 15 1 4 ⟨4, 16, 15, 1, 15, 16, 15, 15⟩ ⟨4, 16, 15, 1, 15, 16, 4, 4⟩ ⊢ WP c (onBufs (k0_part82 (F := F)) c v1816 v1829) Q := by
  rw [k0_part82_eq_skeleton]
  unfold onBufs k0_part82_skel
  simp only [semSignalWord, semWaitWord, Prog.lift, Prog.bind_op, Prog.bind_ret, Prog.pure_eq_ret, wp_deviceId]
  refine waitX1 ?_
  refine waitY1 ?_
  refine waitX1 ?_
  refine waitY1 ?_
  exact end_s (h)

theorem p83 {Q : Post F _} {v1842 : BitVec 32} {v1855 : BitVec 32}
    (h : S inp K c 15 1 4 ⟨4, 16, 15, 1, 15, 16, 15, 15⟩ ⟨4, 16, 15, 1, 15, 16, 9, 8⟩ ⊢ Q ⟨⟩) :
    S inp K c 15 1 4 ⟨4, 16, 15, 1, 15, 16, 15, 15⟩ ⟨4, 16, 15, 1, 15, 16, 6, 6⟩ ⊢ WP c (onBufs (k0_part83 (F := F)) c v1842 v1855) Q := by
  rw [k0_part83_eq_skeleton]
  unfold onBufs k0_part83_skel
  simp only [semSignalWord, semWaitWord, Prog.lift, Prog.bind_op, Prog.bind_ret, Prog.pure_eq_ret, wp_deviceId]
  refine waitX1 ?_
  refine waitY1 ?_
  refine waitX1 ?_
  refine waitY1 ?_
  refine waitX1 ?_
  exact end_s (h)

theorem p84 {Q : Post F _} {v1868 : BitVec 32} {v1881 : BitVec 32} {v1894 : BitVec 32}
    (h : ∀ u0, S inp K c 15 1 4 ⟨4, 16, 15, 1, 15, 16, 15, 15⟩ ⟨4, 16, 15, 1, 15, 16, 11, 10⟩ ⊢ Q u0) :
    S inp K c 15 1 4 ⟨4, 16, 15, 1, 15, 16, 15, 15⟩ ⟨4, 16, 15, 1, 15, 16, 9, 8⟩ ⊢ WP c (onBufs (k0_part84 (F := F)) c v1868 v1881 v1894) Q := by
  rw [k0_part84_eq_skeleton]
  unfold onBufs k0_part84_skel
  simp only [semSignalWord, semWaitWord, Prog.lift, Prog.bind_op, Prog.bind_ret, Prog.pure_eq_ret, wp_deviceId]
  refine waitY1 ?_
  refine waitX1 ?_
  refine waitY1 ?_
  refine waitX1 ?_
  exact end_s (h _)

theorem p85 {Q : Post F _} {v1907 : BitVec 32} {v1920 : BitVec 32} {v2371 : BitVec 32}
    (h : S inp K c 15 1 4 ⟨4, 16, 15, 1, 15, 16, 15, 15⟩ ⟨4, 16, 15, 1, 15, 16, 13, 12⟩ ⊢ Q ⟨⟩) :
    S inp K c 15 1 4 ⟨4, 16, 15, 1, 15, 16, 15, 15⟩ ⟨4, 16, 15, 1, 15, 16, 11, 10⟩ ⊢ WP c (onBufs (k0_part85 (F := F)) c v1907 v1920 v2371) Q := by
  rw [k0_part85_eq_skeleton]
  unfold onBufs k0_part85_skel
  simp only [semSignalWord, semWaitWord, Prog.lift, Prog.bind_op, Prog.bind_ret, Prog.pure_eq_ret, wp_deviceId]
  refine waitY1 ?_
  refine waitX1 ?_
  refine waitY1 ?_
  refine waitX1 ?_
  exact end_s (h)

end Cert.Moe
-- ==== Proof.Body.lean ====
/-
# The body of a device

The parts in order: from nothing done to everything sent, received and waited for.
-/
module

public import proofs.«01_k».proof.Proof.PartsTwo
public import proofs.«01_k».proof.Proof.PartsThree
public import proofs.«01_k».proof.Proof.PartsFour

@[expose] public section

set_option maxRecDepth 16384

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable {inp : Inp F} {K : Dev nD × CellIx → ℕ} {c : Dev nD}

set_option maxHeartbeats 800000 in
theorem body_run {Q : Post F PUnit} (h : S inp K c 15 1 4 ⟨4, 16, 15, 1, 15, 16, 15, 15⟩ ⟨4, 16, 15, 1, 15, 16, 15, 15⟩ ⊢ Q ⟨⟩) :
    S inp K c 0 0 0 ⟨0, 0, 0, 0, 0, 0, 0, 0⟩ ⟨0, 0, 0, 0, 0, 0, 0, 0⟩ ⊢ WP c (onBufs (cc0_body (F := F))) Q := by
  rw [cc0_body_eq_skeleton]
  unfold onBufs cc0_body_skel
  have e1 := same1 (v2 := vw c) (w0 := lw0 inp c) (w1 := lw1 inp c) (w2 := lw2 inp c) (w3 := lw3 inp c) (r := lr inp c) (x := lx inp c 1) (i0 := li0 inp c 1) (i1 := li1 inp c 1) rfl rfl rfl rfl rfl
  have e2 := same2 (v2 := vw c) (w0 := lw0 inp c) (w1 := lw1 inp c) (w2 := lw2 inp c) (w3 := lw3 inp c) (r := lr inp c) (x := lx inp c 2) (i0 := li0 inp c 2) (i1 := li1 inp c 2) rfl rfl rfl rfl rfl
  have e3 := same3 (v2 := vw c) (w0 := lw0 inp c) (w1 := lw1 inp c) (w2 := lw2 inp c) (w3 := lw3 inp c) (r := lr inp c) (x := lx inp c 3) (i0 := li0 inp c 3) (i1 := li1 inp c 3) rfl rfl rfl rfl
  refine bind_s ?_
  rw [k0_part86_eq_skeleton]
  unfold k0_part86_skel
  with_reducible refine bind_s ?_
  with_reducible refine p1 ?_
  intro _ _
  with_reducible refine bind_s ?_
  with_reducible refine p2 ?_
  intro _ _
  with_reducible refine bind_s ?_
  with_reducible refine p3 ?_
  intro _ _
  with_reducible refine bind_s ?_
  with_reducible refine p4 ?_
  intro _ _
  with_reducible refine bind_s ?_
  with_reducible refine p5 ?_
  with_reducible refine bind_s ?_
  with_reducible refine p6 ?_
  with_reducible refine bind_s ?_
  with_reducible refine p7 ?_ ?_ ?_ ?_
  · exact rfl
  · exact rfl
  · exact rfl
  intro _
  with_reducible refine bind_s ?_
  with_reducible refine p8 ?_
  intro _ _
  with_reducible refine bind_s ?_
  with_reducible refine p9 ?_
  with_reducible refine bind_s ?_
  with_reducible refine p10 ?_
  intro _
  with_reducible refine bind_s ?_
  with_reducible refine p11 ?_
  with_reducible refine bind_s ?_
  with_reducible refine p12 ?_ ?_ ?_
  · exact e1.1
  · exact e1.2.1
  intro _ _
  with_reducible refine bind_s ?_
  with_reducible refine p13 ?_ ?_
  · exact e1.2.2
  intro _
  with_reducible refine bind_s ?_
  with_reducible refine p14 ?_
  intro _ _
  with_reducible refine bind_s ?_
  with_reducible refine p15 ?_
  intro _ _
  with_reducible refine bind_s ?_
  with_reducible refine p16 ?_
  with_reducible refine bind_s ?_
  with_reducible refine p17 ?_
  with_reducible refine bind_s ?_
  with_reducible refine p18 ?_ ?_ ?_ ?_
  · exact e2.1
  · exact e2.2.1
  · exact e2.2.2
  intro _
  with_reducible refine bind_s ?_
  with_reducible refine p19 ?_
  intro _ _
  with_reducible refine bind_s ?_
  with_reducible refine p20 ?_
  with_reducible refine bind_s ?_
  with_reducible refine p21 ?_
  intro _
  with_reducible refine bind_s ?_
  with_reducible refine p22 ?_
  with_reducible refine bind_s ?_
  with_reducible refine p23 ?_ ?_ ?_
  · exact e3.1
  · exact e3.2.1
  intro _
  with_reducible refine bind_s ?_
  with_reducible refine p24 ?_ ?_
  · exact e3.2.2
  intro _ _ _ _
  with_reducible refine bind_s ?_
  with_reducible refine p25 ?_
  intro _ _ _ _ _
  with_reducible refine bind_s ?_
  with_reducible refine p26 ?_
  with_reducible refine bind_s ?_
  with_reducible refine p27 ?_
  intro _ _
  with_reducible refine bind_s ?_
  with_reducible refine p28 ?_
  intro _ _
  with_reducible refine bind_s ?_
  with_reducible refine p29 ?_
  intro _ _
  with_reducible refine bind_s ?_
  with_reducible refine p30 ?_
  intro _
  with_reducible refine bind_s ?_
  with_reducible refine p31 ?_
  intro _
  with_reducible refine bind_s ?_
  with_reducible refine p32 ?_
  intro _ _ _
  with_reducible refine bind_s ?_
  with_reducible refine p33 ?_
  with_reducible refine bind_s ?_
  with_reducible refine p34 ?_
  intro _ _ _ _ _
  with_reducible refine bind_s ?_
  with_reducible refine p35 ?_
  intro _ _ _
  with_reducible refine bind_s ?_
  with_reducible refine p36 ?_
  with_reducible refine bind_s ?_
  with_reducible refine p37 ?_
  with_reducible refine bind_s ?_
  with_reducible refine p38 ?_
  with_reducible refine bind_s ?_
  with_reducible refine p39 ?_
  with_reducible refine bind_s ?_
  with_reducible refine p40 ?_
  with_reducible refine bind_s ?_
  with_reducible refine p41 ?_
  with_reducible refine bind_s ?_
  with_reducible refine p42 ?_
  intro _
  with_reducible refine bind_s ?_
  with_reducible refine p43 ?_ ?_
  · exact rfl
  intro _
  with_reducible refine bind_s ?_
  with_reducible refine p44 ?_
  intro _ _ _ _
  with_reducible refine bind_s ?_
  with_reducible refine p45 ?_
  intro _ _
  with_reducible refine bind_s ?_
  with_reducible refine p46 ?_
  intro _ _
  with_reducible refine bind_s ?_
  with_reducible refine p47 ?_
  intro _ _
  with_reducible refine bind_s ?_
  with_reducible refine p48 ?_
  intro _ _ _
  with_reducible refine bind_s ?_
  with_reducible refine p49 ?_
  intro _ _ _
  with_reducible refine bind_s ?_
  with_reducible refine p50 ?_
  intro _ _
  with_reducible refine bind_s ?_
  with_reducible refine p51 ?_
  with_reducible refine bind_s ?_
  with_reducible refine p52 ?_
  with_reducible refine bind_s ?_
  with_reducible refine p53 ?_
  with_reducible refine bind_s ?_
  with_reducible refine p54 ?_
  with_reducible refine bind_s ?_
  with_reducible refine p55 ?_
  with_reducible refine bind_s ?_
  with_reducible refine p56 ?_
  with_reducible refine bind_s ?_
  with_reducible refine p57 ?_
  with_reducible refine bind_s ?_
  with_reducible refine p58 ?_ ?_
  · exact rfl
  intro _
  with_reducible refine bind_s ?_
  with_reducible refine p59 ?_
  intro _ _
  with_reducible refine bind_s ?_
  with_reducible refine p60 ?_
  intro _ _ _ _
  refine end_s ?_
  refine bind_s ?_
  rw [k0_part87_eq_skeleton]
  unfold k0_part87_skel
  with_reducible refine bind_s ?_
  with_reducible refine p61 ?_
  intro _ _ _ _
  with_reducible refine bind_s ?_
  with_reducible refine p62 ?_
  intro _ _ _
  with_reducible refine bind_s ?_
  with_reducible refine p63 ?_
  intro _ _
  with_reducible refine bind_s ?_
  with_reducible refine p64 ?_
  intro _ _
  with_reducible refine bind_s ?_
  with_reducible refine p65 ?_
  intro _
  with_reducible refine bind_s ?_
  with_reducible refine p66 ?_
  with_reducible refine bind_s ?_
  with_reducible refine p67 ?_
  with_reducible refine bind_s ?_
  with_reducible refine p68 ?_
  with_reducible refine bind_s ?_
  with_reducible refine p69 ?_
  with_reducible refine bind_s ?_
  with_reducible refine p70 ?_
  with_reducible refine bind_s ?_
  with_reducible refine p71 ?_
  with_reducible refine bind_s ?_
  with_reducible refine p72 ?_
  with_reducible refine bind_s ?_
  with_reducible refine p73 ?_
  with_reducible refine bind_s ?_
  with_reducible refine p74 ?_
  with_reducible refine bind_s ?_
  with_reducible refine p75 ?_
  intro _
  with_reducible refine bind_s ?_
  with_reducible refine p76 ?_
  with_reducible refine bind_s ?_
  with_reducible refine p77 ?_
  with_reducible refine bind_s ?_
  with_reducible refine p78 ?_
  with_reducible refine bind_s ?_
  with_reducible refine p79 ?_
  with_reducible refine bind_s ?_
  with_reducible refine p80 ?_
  with_reducible refine bind_s ?_
  with_reducible refine p81 ?_
  with_reducible refine bind_s ?_
  with_reducible refine p82 ?_
  with_reducible refine bind_s ?_
  with_reducible refine p83 ?_
  with_reducible refine bind_s ?_
  with_reducible refine p84 ?_
  intro _
  with_reducible refine bind_s ?_
  with_reducible refine p85 ?_
  simp only [semSignalWord, semWaitWord, Prog.lift, Prog.bind_op, Prog.bind_ret, Prog.pure_eq_ret, wp_deviceId]
  refine waitY1 ?_
  refine waitX1 ?_
  refine waitY1 ?_
  refine end_s ?_
  refine waitX1 ?_
  refine waitY1 ?_
  exact end_s h

end Cert.Moe
-- ==== Proof.Deal.lean ====
/-
# Dealing out

The families of cells, tokens, credits and blocks, listed the way the launch has them and the way a device's state
has them.
-/
module

public import proofs.«01_k».proof.Proof.Glob

@[expose] public section

set_option maxRecDepth 16384

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (c : Dev nD)

/-! ## Families listed in another order -/

omit [FloatOps F] in
theorem bs_fin16 (Φ : ℕ → sProp 𝕄) : bigSep Finset.univ (fun k : Fin 16 => Φ k.val) = bigSep (Finset.Ico 0 16) Φ := by
  rw [show Finset.Ico 0 16 = (Finset.univ : Finset (Fin 16)).image Fin.val from by decide]
  exact (Finset.fold_image (fun x _ y _ h => Fin.ext h)).symm

omit [FloatOps F] in
/-- Slots counted down. -/
theorem bs_rev (Φ : ℕ → sProp 𝕄) : bigSep (Finset.Ico 0 15) (fun j => Φ (14 - j)) = bigSep (Finset.Ico 0 15) Φ := by
  conv_rhs => rw [show Finset.Ico 0 15 = (Finset.Ico 0 15).image (fun j => 14 - j) from by decide]
  exact (Finset.fold_image (by decide)).symm

omit [FloatOps F] in
/-- Chunks in the order they are sent. -/
theorem bs_ch (Φ : ℕ → sProp 𝕄) : bigSep (Finset.Ico 0 16) (fun i => Φ (ch c i).val) = bigSep (Finset.Ico 0 16) Φ := by
  conv_rhs => rw [show Finset.Ico 0 16 = (Finset.Ico 0 16).image (fun i => (ch c i).val) from
    atDev (P := fun c => Finset.Ico 0 16 = (Finset.Ico 0 16).image (fun i => (ch c i).val)) (by decide +kernel) c]
  exact (Finset.fold_image (atDev (P := fun c => ∀ x ∈ Finset.Ico 0 16, ∀ y ∈ Finset.Ico 0 16, (ch c x).val = (ch c y).val → x = y) (by decide +kernel) c)).symm

/-- The last of sixteen apart. -/
theorem bs_last (Φ : ℕ → sProp 𝕄) : bigSep (Finset.Ico 0 16) Φ = iprop(Φ 15 ∗ bigSep (Finset.Ico 0 15) Φ) := bs_snoc Φ (by decide)

omit [FloatOps F] in
/-- What every device has for each sender, dealt to the senders. -/
theorem bs_deal (Φ : Dev nD → ℕ → sProp 𝕄) :
    bigSep Finset.univ (fun q : Dev nD => bigSep (Finset.Ico 0 15) (Φ q))
      = bigSep Finset.univ fun c : Dev nD => bigSep (Finset.univ.erase c) fun q => Φ q (sl c q) := by
  rw [bigSep_erase_comm (fun c q : Dev nD => Φ q (sl c q))]
  refine bigSep_congr fun q _ => ?_
  rw [peers_pr q (fun d => Φ q (sl d q))]
  exact bigSep_congr fun k hk => by rw [sl_pr_self q (Finset.mem_Ico.mp hk).2]

/-- Everything of the column half `col`, by kind. -/
def half (Ψ : ℕ → ℕ → ℕ → sProp 𝕄) (col : ℕ) : sProp 𝕄 :=
  iprop(bigSep (Finset.Ico 0 16) (Ψ 0 col) ∗ bigSep (Finset.Ico 0 16) (Ψ 1 col) ∗ bigSep (Finset.Ico 0 16) (Ψ 2 col) ∗ bigSep (Finset.Ico 0 16) (Ψ 3 col))

omit [FloatOps F] in
theorem bs_dma (Ψ : ℕ → ℕ → ℕ → sProp 𝕄) :
    bigSep Finset.univ (fun t : Fin 4 × Fin 2 × Fin 16 => Ψ t.1.val t.2.1.val t.2.2.val) = iprop(half Ψ 0 ∗ half Ψ 1) := by
  rw [bigSep_univ_prod]
  have h1 : ∀ kd : Fin 4, bigSep Finset.univ (fun t : Fin 2 × Fin 16 => Ψ kd.val t.1.val t.2.val)
      = iprop(bigSep (Finset.Ico 0 16) (Ψ kd.val 0) ∗ bigSep (Finset.Ico 0 16) (Ψ kd.val 1)) := fun kd => by
    rw [bigSep_univ_prod, bigSep_fin_two]
    exact congrArg₂ BI.sep (bs_fin16 (Ψ kd.val 0)) (bs_fin16 (Ψ kd.val 1))
  refine (bigSep_congr fun kd _ => h1 kd).trans ((bigSep_sep _ _ _).trans (congrArg₂ BI.sep ?_ ?_)) <;>
  · rw [bigSep_univ_eq_bigSepL [(0 : Fin 4), 1, 2, 3] (by decide) (by decide)]; rfl

omit [FloatOps F] in
/-- The barrier's cell and the others. -/
theorem bs_cells (Φ : CellIx → sProp 𝕄) :
    bigSep Finset.univ Φ = iprop(Φ none ∗ bigSep Finset.univ fun t : Fin 4 × Fin 2 × Fin 16 => Φ (some t)) := by
  rw [bigSep_univ_split none, show (Finset.univ.erase none : Finset CellIx) = Finset.univ.map Function.Embedding.some from by decide, bigSep_map]
  rfl

/-! ## Buffers cut up and put together -/

section Bufs

omit [FloatOps F] in
theorem sreg_cover : (Finset.univ : Finset S2x16x64x256.Idx) = (Finset.Ico 0 16).biUnion (sreg 0) ∪ (Finset.Ico 0 16).biUnion (sreg 1) := by
  ext i
  simp only [Finset.mem_univ, Finset.mem_union, Finset.mem_biUnion, Finset.mem_Ico, mem_sreg, true_iff]
  have h0 : (i 0).val < 2 := (i 0).isLt
  have h1 : (i 1).val < 16 := (i 1).isLt
  by_cases h : (i 0).val = 0
  · exact .inl ⟨(i 1).val, ⟨Nat.zero_le _, h1⟩, h, rfl⟩
  · exact .inr ⟨(i 1).val, ⟨Nat.zero_le _, h1⟩, by omega, rfl⟩
omit [FloatOps F] in
theorem sreg_cols : Disjoint ((Finset.Ico 0 16).biUnion (sreg 0)) ((Finset.Ico 0 16).biUnion (sreg 1)) := by
  rw [Finset.disjoint_left]
  intro i h h'
  simp only [Finset.mem_biUnion, mem_sreg] at h h'
  obtain ⟨_, _, h, _⟩ := h
  obtain ⟨_, _, h', _⟩ := h'
  omega
omit [FloatOps F] in
theorem oreg_cover : (Finset.univ : Finset S1024x512.Idx) = (Finset.univ : Finset (Dev nD)).biUnion (oreg 0) ∪ (Finset.univ : Finset (Dev nD)).biUnion (oreg 1) := by
  ext i
  simp only [Finset.mem_univ, Finset.mem_union, Finset.mem_biUnion, mem_oreg, true_iff, true_and]
  have h0 : (i 0).val < 1024 := (i 0).isLt
  have h1 : (i 1).val < 512 := (i 1).isLt
  have hq : (i 0).val / 64 < nD := by show _ < 16; omega
  by_cases h : (i 1).val / 256 = 0
  · exact .inl ⟨⟨_, hq⟩, rfl, h⟩
  · exact .inr ⟨⟨_, hq⟩, rfl, by omega⟩
omit [FloatOps F] in
theorem oreg_cols : Disjoint ((Finset.univ : Finset (Dev nD)).biUnion (oreg 0)) ((Finset.univ : Finset (Dev nD)).biUnion (oreg 1)) := by
  rw [Finset.disjoint_left]
  intro i h h'
  simp only [Finset.mem_biUnion, mem_oreg] at h h'
  obtain ⟨_, _, _, h⟩ := h
  obtain ⟨_, _, _, h'⟩ := h'
  omega
omit [FloatOps F] in
theorem oreg_disj {col : ℕ} {a b : Dev nD} (h : a ≠ b) : Disjoint (oreg col a) (oreg col b) := by
  rw [Finset.disjoint_left]
  intro i h1 h2
  rw [mem_oreg] at h1 h2
  exact h (Fin.ext (h1.1.symm.trans h2.1))

omit [FloatOps F] in
theorem send_split (f : BufS F) : ((c : Thread nD τ).loc cc0_scratch1 ↦[Finset.univ]{fullShare} f : sProp 𝕄)
    = iprop((bigSep (Finset.Ico 0 16) fun j => sPts c 0 j f) ∗ bigSep (Finset.Ico 0 16) fun j => sPts c 1 j f) := by
  have h := sreg_cover
  rw [show (Finset.univ : Finset (Idx ((c : Thread nD τ).loc cc0_scratch1))) = _ from h, equiv_iff.mp ⟨(pointsTo_union sreg_cols).1, (pointsTo_union sreg_cols).2⟩]
  exact congrArg₂ BI.sep (pointsTo_biUnion _ _ fun a _ b _ h => sreg_disj h) (pointsTo_biUnion _ _ fun a _ b _ h => sreg_disj h)
omit [FloatOps F] in
theorem land_split (f : BufR F) : ((c : Thread nD τ).loc cc0_scratch2 ↦[Finset.univ]{fullShare} f : sProp 𝕄)
    = iprop((bigSep (Finset.Ico 0 16) fun j => rPts c 0 j f) ∗ bigSep (Finset.Ico 0 16) fun j => rPts c 1 j f) := by
  have h := sreg_cover
  rw [show (Finset.univ : Finset (Idx ((c : Thread nD τ).loc cc0_scratch2))) = _ from h, equiv_iff.mp ⟨(pointsTo_union sreg_cols).1, (pointsTo_union sreg_cols).2⟩]
  exact congrArg₂ BI.sep (pointsTo_biUnion _ _ fun a _ b _ h => sreg_disj h) (pointsTo_biUnion _ _ fun a _ b _ h => sreg_disj h)
omit [FloatOps F] in
theorem out_split (f : BufO F) : ((c : Thread nD τ).loc cc0_stg4_0 ↦[Finset.univ]{fullShare} f : sProp 𝕄)
    = iprop((bigSep Finset.univ fun q => oPts c 0 q fullShare f) ∗ bigSep Finset.univ fun q => oPts c 1 q fullShare f) := by
  have h := oreg_cover
  rw [show (Finset.univ : Finset (Idx ((c : Thread nD τ).loc cc0_stg4_0))) = _ from h, equiv_iff.mp ⟨(pointsTo_union oreg_cols).1, (pointsTo_union oreg_cols).2⟩]
  exact congrArg₂ BI.sep (pointsTo_biUnion _ _ fun a _ b _ h => oreg_disj h) (pointsTo_biUnion _ _ fun a _ b _ h => oreg_disj h)

omit [FloatOps F] in
/-- Blocks at any contents are the buffer at some contents. -/
theorem land_join (f₀ : BufR F) : iprop((bigSep (Finset.Ico 0 16) fun j => iprop(∃ f, rPts c 0 j f)) ∗ bigSep (Finset.Ico 0 16) fun j => iprop(∃ f, rPts c 1 j f))
    ⊢ (iprop(∃ f : BufR F, (c : Thread nD τ).loc cc0_scratch2 ↦[Finset.univ]{fullShare} f) : sProp 𝕄) := by
  haveI : Nonempty (BufR F) := ⟨f₀⟩
  iintro ⟨H0, H1⟩
  ihave H0 := (BI.bigSep_exists_pi (Finset.Ico 0 16) (fun (j : ℕ) (f : BufR F) => (rPts c 0 j f : sProp 𝕄))) $$ H0
  ihave H1 := (BI.bigSep_exists_pi (Finset.Ico 0 16) (fun (j : ℕ) (f : BufR F) => (rPts c 1 j f : sProp 𝕄))) $$ H1
  icases H0 with ⟨%f0, H0⟩
  icases H1 with ⟨%f1, H1⟩
  unfold rPts
  ihave H0 := (pointsTo_biUnion_join (Finset.Ico 0 16) (sreg 0) f0 (f0 0) (fun a _ b _ h => sreg_disj h)) $$ H0
  ihave H1 := (pointsTo_biUnion_join (Finset.Ico 0 16) (sreg 1) f1 (f0 0) (fun a _ b _ h => sreg_disj h)) $$ H1
  icases H0 with ⟨%g0, -, H0⟩
  icases H1 with ⟨%g1, -, H1⟩
  ihave H := (pointsTo_join (show Disjoint (α := Finset (Idx ((c : Thread nD τ).loc cc0_scratch2))) _ _ from sreg_cols)) $$ [H0 H1]
  · isplitl [H0] <;> iassumption
  iexists _
  have h := sreg_cover
  rw [show (Finset.univ : Finset (Idx ((c : Thread nD τ).loc cc0_scratch2))) = _ from h]
  iexact H

end Bufs

/-! ## Tokens -/

omit [FloatOps F] in
theorem drop (P : sProp 𝕄) : P ⊢ iprop(emp) := by iintro -; iempintro

/-- The token of a copy onto a cell. -/
abbrev Tk (c : Dev nD) (kd col k : ℕ) : sProp 𝕄 := dutyTok ER (dcell c kd col k) 0 0

/-- The tokens of the device's own cells. -/
def toks (c : Dev nD) : sProp 𝕄 :=
  iprop((bigSep Finset.univ fun d : Dev nD => dutyTok ER (barCell c) 0 d) ∗ bigSep Finset.univ fun t : Fin 4 × Fin 2 × Fin 16 => Tk c t.1.val t.2.1.val t.2.2.val)
/-- The tokens a device pays with. -/
def payToks (c : Dev nD) : sProp 𝕄 :=
  iprop((bigSep (Finset.Ico 0 15) fun k => dutyTok ER (barCell (pr c k)) 0 c) ∗ (Ct c 0 0 0 ∗ Cq c 0 0 0) ∗ (Ct c 0 1 0 ∗ Cq c 0 1 0))

theorem Ct_toks (col : ℕ) : Ct (F := F) c 0 col 0
    = iprop((bigSep (Finset.Ico 0 16) fun i => if ch c i = c then iprop(emp) else Tk c 0 col i)
      ∗ bigSep (Finset.univ.erase c) fun q => Tk q 1 col (sl c q)) := by
  rw [peers_ch]
  unfold Ct slotAt
  refine Eq.trans (bigSep_congr fun i _ => ?_) (bigSep_sep _ _ _)
  by_cases h : ch c i = c
  · rw [if_pos h, if_pos h, if_pos h]; exact (sep_emp_eq _).symm
  · rw [if_neg h, if_neg h, if_neg h, if_pos rfl]
    exact sep_emp_eq _

theorem Cq_toks (col : ℕ) : Cq (F := F) c 0 col 0
    = iprop((bigSep (Finset.Ico 0 15) fun k => Tk c 2 col k) ∗ bigSep (Finset.univ.erase c) fun q => Tk q 3 col (sl c q)) := by
  rw [peers_pr, ← bs_rev (fun k => Tk c 2 col k)]
  unfold Cq rowsAt
  refine Eq.trans (bigSep_congr fun j hj => ?_) (bigSep_sep _ _ _)
  rw [if_pos rfl, sl_pr c (Finset.mem_Ico.mp hj).2]
  exact sep_emp_eq _

theorem toks_col (col : ℕ) : (bigSep Finset.univ fun c : Dev nD => half (F := F) (fun kd col k => Tk c kd col k) col)
    ⊢ bigSep Finset.univ fun c : Dev nD => iprop(Ct (F := F) c 0 col 0 ∗ Cq c 0 col 0) := by
  have h0 : ∀ c : Dev nD, (bigSep (Finset.Ico 0 16) fun i => Tk (F := F) c 0 col i)
      ⊢ bigSep (Finset.Ico 0 16) fun i => if ch c i = c then iprop(emp) else Tk c 0 col i := fun c =>
    bigSep_mono fun i _ => by
      by_cases h : ch c i = c
      · rw [if_pos h]; exact drop _
      · rw [if_neg h]; exact BI.Entails.refl _
  have h1 : ∀ (kd : ℕ), (bigSep Finset.univ fun c : Dev nD => bigSep (Finset.Ico 0 16) fun k => Tk (F := F) c kd col k)
      ⊢ bigSep Finset.univ fun c : Dev nD => bigSep (Finset.univ.erase c) fun q => Tk q kd col (sl c q) := fun kd => by
    refine (bigSep_mono fun c _ => ?_).trans (Entails.of_eq (bs_deal fun q k => Tk q kd col k))
    exact bigSep_subset (Finset.Ico_subset_Ico_right (by decide))
  have h2 : (bigSep Finset.univ fun c : Dev nD => bigSep (Finset.Ico 0 16) fun k => Tk (F := F) c 2 col k)
      ⊢ bigSep Finset.univ fun c : Dev nD => bigSep (Finset.Ico 0 15) fun k => Tk c 2 col k :=
    bigSep_mono fun c _ => bigSep_subset (Finset.Ico_subset_Ico_right (by decide))
  have h0' : (bigSep Finset.univ fun c : Dev nD => bigSep (Finset.Ico 0 16) fun i => Tk (F := F) c 0 col i)
      ⊢ bigSep Finset.univ fun c : Dev nD => bigSep (Finset.Ico 0 16) fun i => if ch c i = c then iprop(emp) else Tk c 0 col i :=
    bigSep_mono fun c _ => h0 c
  simp only [Ct_toks, Cq_toks]
  unfold half
  simp only [bigSep_sep']
  iintro ⟨H0, H1, H2, H3⟩
  isplitl [H0 H1]
  · isplitl [H0]
    · iapply h0'; iexact H0
    · iapply (h1 1); iexact H1
  · isplitl [H2]
    · iapply h2; iexact H2
    · iapply (h1 3); iexact H3

theorem toks_around : (bigSep Finset.univ fun c : Dev nD => toks (F := F) c) ⊢ bigSep Finset.univ fun c : Dev nD => payToks (F := F) c := by
  unfold toks payToks
  have hd : ∀ c : Dev nD, (bigSep Finset.univ fun t : Fin 4 × Fin 2 × Fin 16 => Tk (F := F) c t.1.val t.2.1.val t.2.2.val)
      = iprop(half (fun kd col k => Tk c kd col k) 0 ∗ half (fun kd col k => Tk c kd col k) 1) := fun c => bs_dma _
  simp only [hd]
  have hb : (bigSep Finset.univ fun c : Dev nD => bigSep Finset.univ fun d : Dev nD => (dutyTok ER (barCell c) 0 d : sProp 𝕄))
      ⊢ bigSep Finset.univ fun c : Dev nD => bigSep (Finset.Ico 0 15) fun k => dutyTok ER (barCell (pr c k)) 0 c := by
    have e : (bigSep Finset.univ fun c : Dev nD => bigSep (Finset.univ.erase c) fun d : Dev nD => (dutyTok ER (barCell c) 0 d : sProp 𝕄))
        = bigSep Finset.univ fun c : Dev nD => bigSep (Finset.Ico 0 15) fun k => dutyTok ER (barCell (pr c k)) 0 c := by
      rw [bigSep_erase_comm (fun c d : Dev nD => (dutyTok ER (barCell c) 0 d : sProp 𝕄))]
      exact bigSep_congr fun c _ => peers_pr c _
    exact (bigSep_mono fun c _ => bigSep_subset (Finset.erase_subset c Finset.univ)).trans (Entails.of_eq e)
  rw [bigSep_sep', bigSep_sep', bigSep_sep', bigSep_sep']
  iintro ⟨Hb, H0, H1⟩
  isplitl [Hb]; · iapply hb; iexact Hb
  isplitl [H0]
  · iapply (toks_col 0); iexact H0
  · iapply (toks_col 1); iexact H1

/-! ## Credits -/

theorem cnt (N n : ℕ) (p : Dev nD → ℕ → Prop) [∀ d, DecidablePred (p d)] :
    ∑ d : Dev nD, ∑ i ∈ Finset.Ico 0 N, (if p d i then n else 0) = (∑ d : Dev nD, ((Finset.Ico 0 N).filter (p d)).card) * n := by
  rw [Finset.sum_mul]
  refine Finset.sum_congr rfl fun d _ => ?_
  rw [← Finset.sum_filter, Finset.sum_const, smul_eq_mul]

theorem bar_iff {a b : Dev nD} : barCell a = barCell b ↔ a = b :=
  ⟨fun h => Fin.ext (congrArg (fun g : GSem nD τ sig => g.1.1.val) h), fun h => h ▸ rfl⟩
theorem bar_dma {a b : Dev nD} {kd col k : ℕ} : barCell a ≠ dcell b kd col k := fun h => by
  have := congrArg Prod.snd h; cases this
theorem dma_bar {a b : Dev nD} {kd col k : ℕ} : dcell b kd col k ≠ barCell a := fun h => bar_dma h.symm
theorem dma_iff {a b : Dev nD} {kd col k kd' col' k' : ℕ} (h1 : kd < 4) (h2 : col < 2) (h3 : k < 16) (h1' : kd' < 4) (h2' : col' < 2) (h3' : k' < 16) :
    dcell a kd col k = dcell b kd' col' k' ↔ a = b ∧ kd = kd' ∧ col = col' ∧ k = k' := by
  refine ⟨fun h => ?_, fun ⟨ha, hb, hc, hd⟩ => by rw [ha, hb, hc, hd]⟩
  have ha : a = b := Fin.ext (congrArg (fun g : GSem nD τ sig => g.1.1.val) h)
  have hs : sidx kd col k = sidx kd' col' k' := by
    have := congrArg Prod.snd h
    injection this
  have hv := congrArg Fin.val hs
  rw [sidx_val h1 h2 h3, sidx_val h1' h2' h3'] at hv
  exact ⟨ha, by omega, by omega, by omega⟩

theorem sum_at {ι : Type} (s : Finset ι) (T : ι → CellTallies nD τ sig Unit) (g : GSem nD τ sig) :
    (∑ i ∈ s, T i) g () = ∑ i ∈ s, T i g () := by
  rw [Finset.sum_apply, Finsupp.finset_sum_apply]

section At
variable (d c : Dev nD) {col col' k : ℕ} (hcol : col < 2) (hcol' : col' < 2) (hk : k < 16)

theorem OB_bar : OB d 0 (barCell c) () = ∑ k ∈ Finset.Ico 0 15, if pr d k = c then 1 else 0 := by
  unfold OB
  rw [sum_at]
  refine Finset.sum_congr rfl fun k _ => ?_
  rw [tallyAt_apply]
  exact if_congr ⟨fun h => (bar_iff.mp h.1).symm, fun h => ⟨bar_iff.mpr h.symm, rfl⟩⟩ rfl rfl
theorem OB_dma {kd : ℕ} : OB d 0 (dcell c kd col k) () = 0 := by
  unfold OB
  rw [sum_at]
  exact Finset.sum_eq_zero fun k _ => by rw [tallyAt_apply, if_neg fun h => dma_bar h.1]
theorem OR_bar : OR d col 0 (barCell c) () = 0 := by
  unfold OR
  rw [sum_at]
  refine Finset.sum_eq_zero fun i _ => ?_
  split
  · rfl
  · rw [tallyAt_apply, if_neg fun h => bar_dma h.1]
theorem OA_bar : OA d col 0 (barCell c) () = 0 := by
  unfold OA
  rw [sum_at]
  exact Finset.sum_eq_zero fun k _ => by rw [tallyAt_apply, if_neg fun h => bar_dma h.1]

include hcol hcol' hk
theorem OR_dma {kd : ℕ} (hkd : kd < 4) : OR d col' 0 (dcell c kd col k) ()
    = if kd = 1 ∧ col = col' then ∑ i ∈ Finset.Ico 0 16, (if ch d i ≠ d ∧ ch d i = c ∧ sl d (ch d i) = k then NB else 0) else 0 := by
  unfold OR
  rw [sum_at]
  have hs : ∀ i, ch d i ≠ d → sl d (ch d i) < 16 := fun i h => Nat.lt_succ_of_lt (sl_lt d _ h)
  split
  · rename_i h
    refine Finset.sum_congr rfl fun i _ => ?_
    by_cases hc : ch d i = d
    · rw [if_pos hc, if_neg fun h => h.1 hc]; rfl
    · rw [if_neg hc, tallyAt_apply]
      refine if_congr ?_ rfl rfl
      rw [dma_iff hkd hcol hk (by decide) hcol' (hs i hc)]
      exact ⟨fun ⟨⟨a, _, _, b⟩, _⟩ => ⟨hc, a.symm, b.symm⟩, fun ⟨_, a, b⟩ => ⟨⟨a.symm, h.1, h.2, b.symm⟩, rfl⟩⟩
  · rename_i h
    refine Finset.sum_eq_zero fun i _ => ?_
    by_cases hc : ch d i = d
    · rw [if_pos hc]; rfl
    · rw [if_neg hc, tallyAt_apply, if_neg]
      rw [dma_iff hkd hcol hk (by decide) hcol' (hs i hc)]
      exact fun ⟨⟨_, a, b, _⟩, _⟩ => h ⟨a, b⟩
theorem OA_dma {kd : ℕ} (hkd : kd < 4) : OA d col' 0 (dcell c kd col k) ()
    = if kd = 3 ∧ col = col' then ∑ j ∈ Finset.Ico 0 15, (if pr d j = c ∧ 14 - j = k then NB else 0) else 0 := by
  unfold OA
  rw [sum_at]
  split
  · rename_i h
    refine Finset.sum_congr rfl fun j _ => ?_
    rw [tallyAt_apply]
    refine if_congr ?_ rfl rfl
    rw [dma_iff hkd hcol hk (by decide) hcol' (by omega)]
    exact ⟨fun ⟨⟨a, _, _, b⟩, _⟩ => ⟨a.symm, b.symm⟩, fun ⟨a, b⟩ => ⟨⟨a.symm, h.1, h.2, b.symm⟩, rfl⟩⟩
  · rename_i h
    refine Finset.sum_eq_zero fun j _ => ?_
    rw [tallyAt_apply, if_neg]
    rw [dma_iff hkd hcol hk (by decide) hcol' (by omega)]
    exact fun ⟨⟨_, a, b, _⟩, _⟩ => h ⟨a, b⟩
end At

/-- What every device owes from the start. -/
def O₀ (c : Dev nD) : CellTallies nD τ sig Unit := Owe c 0 0 0 0 0

theorem O₀_at (d : Dev nD) (g : GSem nD τ sig) : O₀ d g () = OB d 0 g () + (OR d 0 0 g () + (OR d 1 0 g () + (OA d 0 0 g () + OA d 1 0 g ()))) := by
  unfold O₀ Owe
  rw [Pi.add_apply, Finsupp.add_apply, Pi.add_apply, Finsupp.add_apply, Pi.add_apply, Finsupp.add_apply, Pi.add_apply, Finsupp.add_apply]

theorem owed_bar (c : Dev nD) : ∑ d : Dev nD, O₀ d (barCell c) () = 15 := by
  simp only [O₀_at, OR_bar, OA_bar, OB_bar, Nat.add_zero]
  rw [cnt, atDev (P := fun c => ∑ d : Dev nD, ((Finset.Ico 0 15).filter fun k => pr d k = c).card = 15) (by decide +kernel) c]

theorem owed_1 (c : Dev nD) {col k : ℕ} (hcol : col < 2) (hk : k < 15) : ∑ d : Dev nD, O₀ d (dcell c 1 col k) () = NB := by
  have hk' : k < 16 := by omega
  have h : ∀ d, O₀ d (dcell c 1 col k) () = ∑ i ∈ Finset.Ico 0 16, (if ch d i ≠ d ∧ ch d i = c ∧ sl d (ch d i) = k then NB else 0) := fun d => by
    rw [O₀_at, OB_dma, OR_dma d c hcol (by decide) hk' (by decide), OR_dma d c hcol (by decide) hk' (by decide),
      OA_dma d c hcol (by decide) hk' (by decide), OA_dma d c hcol (by decide) hk' (by decide), if_neg (c := 1 = 3 ∧ col = 0) (by omega), if_neg (c := 1 = 3 ∧ col = 1) (by omega)]
    rcases (show col = 0 ∨ col = 1 by omega) with rfl | rfl
    · rw [if_pos ⟨rfl, rfl⟩, if_neg (by decide)]; simp only [Nat.zero_add, Nat.add_zero]
    · rw [if_neg (by decide), if_pos ⟨rfl, rfl⟩]; simp only [Nat.zero_add, Nat.add_zero]
  simp only [h]
  rw [cnt, atDev (P := fun c => ∀ k : Fin 15, ∑ d : Dev nD, ((Finset.Ico 0 16).filter fun i => ch d i ≠ d ∧ ch d i = c ∧ sl d (ch d i) = k.val).card = 1)
    (by decide +kernel) c ⟨k, hk⟩, Nat.one_mul]

theorem owed_3 (c : Dev nD) {col k : ℕ} (hcol : col < 2) (hk : k < 15) : ∑ d : Dev nD, O₀ d (dcell c 3 col k) () = NB := by
  have hk' : k < 16 := by omega
  have h : ∀ d, O₀ d (dcell c 3 col k) () = ∑ j ∈ Finset.Ico 0 15, (if pr d j = c ∧ 14 - j = k then NB else 0) := fun d => by
    rw [O₀_at, OB_dma, OR_dma d c hcol (by decide) hk' (by decide), OR_dma d c hcol (by decide) hk' (by decide),
      OA_dma d c hcol (by decide) hk' (by decide), OA_dma d c hcol (by decide) hk' (by decide), if_neg (c := 3 = 1 ∧ col = 0) (by omega), if_neg (c := 3 = 1 ∧ col = 1) (by omega)]
    rcases (show col = 0 ∨ col = 1 by omega) with rfl | rfl
    · rw [if_pos ⟨rfl, rfl⟩, if_neg (by decide)]; simp only [Nat.zero_add, Nat.add_zero]
    · rw [if_neg (by decide), if_pos ⟨rfl, rfl⟩]; simp only [Nat.zero_add, Nat.add_zero]
  simp only [h]
  rw [cnt, atDev (P := fun c => ∀ k : Fin 15, ∑ d : Dev nD, ((Finset.Ico 0 15).filter fun j => pr d j = c ∧ 14 - j = k.val).card = 1)
    (by decide +kernel) c ⟨k, hk⟩, Nat.one_mul]

theorem launch_at (c : Dev nD) (sm : SemLoc sig) {n : ℕ} (h : ∑ d : Dev nD, O₀ d ((c : Thread nD τ), sm) () = n) :
    tallyOn ((c : Thread nD τ), sm) (launchCredit (Pipeline.owing O₀) 0 ((c : Thread nD τ), sm)) = (tallyAt ((c : Thread nD τ), sm) () n : CellTallies nD τ sig Unit) := by
  unfold tallyAt
  refine congrArg _ (Finsupp.ext fun u => ?_)
  cases u
  rw [Pipeline.launchCredit_owing, Finsupp.single_eq_same, h]

/-- The semaphores of the cells. -/
def csem (k : CellIx) : SemLoc sig :=
  match k with
  | none => .reg barS
  | some (kd, col, k) => .dma (sidx kd col k)

theorem kcell_eq (c : Dev nD) (k : CellIx) : kcell (c, k) = ((c : Thread nD τ), csem k) := by
  rcases k with _ | ⟨kd, col, k⟩ <;> rfl

theorem csem_inj : Function.Injective csem := by
  intro a b h
  rcases a with _ | ⟨kd, col, k⟩ <;> rcases b with _ | ⟨kd', col', k'⟩
  · rfl
  · cases h
  · cases h
  · have hs : sidx kd col k = sidx kd' col' k' := by injection h
    have hv := congrArg Fin.val hs
    rw [sidx_val kd.isLt col.isLt k.isLt, sidx_val kd'.isLt col'.isLt k'.isLt] at hv
    have h1 := kd.isLt
    have h2 := col.isLt
    have h3 := k.isLt
    have h1' := kd'.isLt
    have h2' := col'.isLt
    have h3' := k'.isLt
    rw [show kd = kd' from Fin.ext (by omega), show col = col' from Fin.ext (by omega), show k = k' from Fin.ext (by omega)]

/-- The credits of one column half. -/
def Cr (c : Dev nD) (col : ℕ) : sProp 𝕄 :=
  iprop((bigSep (Finset.Ico 0 15) fun k => cred (tallyAt (dcell c 1 col k) () NB)) ∗ bigSep (Finset.Ico 0 15) fun k => cred (tallyAt (dcell c 3 col k) () NB))

theorem creds_col (col : ℕ) (hcol : col < 2) :
    half (F := F) (fun kd col k => cred (tallyOn (dcell c kd col k) (launchCredit (Pipeline.owing O₀) 0 (dcell c kd col k)))) col ⊢ Cr c col := by
  unfold half Cr
  have h1 : (bigSep (Finset.Ico 0 16) fun k => (cred (tallyOn (dcell c 1 col k) (launchCredit (Pipeline.owing O₀) 0 (dcell c 1 col k))) : sProp 𝕄))
      ⊢ bigSep (Finset.Ico 0 15) fun k => cred (tallyAt (dcell c 1 col k) () NB) :=
    (bigSep_subset (Finset.Ico_subset_Ico_right (by decide))).trans (bigSep_mono fun k hk => by
      rw [launch_at c _ (owed_1 c hcol (Finset.mem_Ico.mp hk).2)]; exact BI.Entails.refl _)
  have h3 : (bigSep (Finset.Ico 0 16) fun k => (cred (tallyOn (dcell c 3 col k) (launchCredit (Pipeline.owing O₀) 0 (dcell c 3 col k))) : sProp 𝕄))
      ⊢ bigSep (Finset.Ico 0 15) fun k => cred (tallyAt (dcell c 3 col k) () NB) :=
    (bigSep_subset (Finset.Ico_subset_Ico_right (by decide))).trans (bigSep_mono fun k hk => by
      rw [launch_at c _ (owed_3 c hcol (Finset.mem_Ico.mp hk).2)]; exact BI.Entails.refl _)
  iintro ⟨-, H1, -, H3⟩
  isplitl [H1]
  · iapply h1; iexact H1
  · iapply h3; iexact H3

theorem creds : (Pipeline.launchCred O₀ c : sProp 𝕄) ⊢ iprop(cred (tallyAt (barCell c) () 15) ∗ Cr c 0 ∗ Cr c 1) := by
  unfold Pipeline.launchCred
  have hs : (bigSep Finset.univ fun sm : SemLoc sig => (cred (tallyOn ((c.tc : Thread nD τ), sm) (launchCredit (Pipeline.owing O₀) 0 ((c.tc : Thread nD τ), sm))) : sProp 𝕄))
      ⊢ bigSep (Finset.univ.map ⟨csem, csem_inj⟩) fun sm : SemLoc sig => cred (tallyOn ((c.tc : Thread nD τ), sm) (launchCredit (Pipeline.owing O₀) 0 ((c.tc : Thread nD τ), sm))) :=
    bigSep_subset (Finset.subset_univ _)
  have hd : (bigSep Finset.univ fun t : Fin 4 × Fin 2 × Fin 16 =>
        (cred (tallyOn (dcell c t.1.val t.2.1.val t.2.2.val) (launchCredit (Pipeline.owing O₀) 0 (dcell c t.1.val t.2.1.val t.2.2.val))) : sProp 𝕄))
      = iprop(half (fun kd col k => cred (tallyOn (dcell c kd col k) (launchCredit (Pipeline.owing O₀) 0 (dcell c kd col k)))) 0
        ∗ half (fun kd col k => cred (tallyOn (dcell c kd col k) (launchCredit (Pipeline.owing O₀) 0 (dcell c kd col k)))) 1) :=
    bs_dma fun kd col k => cred (tallyOn (dcell c kd col k) (launchCredit (Pipeline.owing O₀) 0 (dcell c kd col k)))
  refine hs.trans ?_
  rw [bigSep_map, bs_cells]
  have hb := launch_at c (.reg barS) (owed_bar c)
  refine (show _ ⊢ iprop(cred (tallyOn (barCell c) (launchCredit (Pipeline.owing O₀) 0 (barCell c))) ∗ (bigSep Finset.univ fun t : Fin 4 × Fin 2 × Fin 16 =>
        (cred (tallyOn (dcell c t.1.val t.2.1.val t.2.2.val) (launchCredit (Pipeline.owing O₀) 0 (dcell c t.1.val t.2.1.val t.2.2.val))) : sProp 𝕄))) from BI.Entails.refl _).trans ?_
  rw [hd, hb]
  iintro ⟨Hb, H0, H1⟩
  isplitl [Hb]; · iexact Hb
  isplitl [H0]
  · iapply (creds_col c 0 (by decide)); iexact H0
  · iapply (creds_col c 1 (by decide)); iexact H1

/-! ## From the launch to the body's first state, and from its last state to the launch -/

/-- The positions at the cells of a device. -/
abbrev At0 (c : Dev nD) (kd col k : ℕ) : sProp 𝕄 := atPos ER (dcell c kd col k) 0 ∅ 0
abbrev Sv0 (c : Dev nD) (kd col k : ℕ) : sProp 𝕄 := semVal (dcell c kd col k) 0

variable (SB : Dev nD → BufS F) (OUT : BufO F)

theorem Col_start (col : ℕ) :
    iprop((bigSep (Finset.Ico 0 16) fun j => iprop(∃ f, sPts (F := F) c col j f)) ∗ half (At0 c) col ∗ (Ct c 0 col 0 ∗ Cq c 0 col 0) ∗ Cr c col
        ∗ ∃ f, oPts (F := F) c col c fullShare f)
      ⊢ iprop(Col SB OUT c 0 col ⟨0, 0, 0, 0, 0, 0, 0, 0⟩ ∗ At0 c 1 col 15 ∗ At0 c 2 col 15 ∗ At0 c 3 col 15) := by
  rw [← bs_ch c fun j => iprop(∃ f, sPts (F := F) c col j f)]
  unfold half Cr Col Cs Cv Co Cy
  rw [bs_last (At0 c 1 col), bs_last (At0 c 2 col), bs_last (At0 c 3 col), ← bs_rev (At0 c 2 col)]
  simp only [Nat.mul_zero, Finset.Ico_self, bigSep_empty, if_true, bigSep_sep', bs_rev (fun k => iprop(cred (tallyAt (dcell c 3 col k) () NB) ∗ At0 (F := F) c 3 col k))]
  iintro ⟨Hs, ⟨Ha0, ⟨Hx1, Ha1⟩, ⟨Hx2, Ha2⟩, Hx3, Ha3⟩, ⟨Ht, Hq⟩, ⟨Hc1, Hc3⟩, Ho⟩
  isplitr [Hx1 Hx2 Hx3]
  · isplitl [Hs Ha0]
    · isplitl [Hs]; · iexact Hs
      isplitr; · iempintro
      isplitr; · iempintro
      isplitr; · iempintro
      isplitl [Ha0]; · iexact Ha0
      iempintro
    isplitl [Ht]; · iexact Ht
    isplitl [Hc1 Ha1]
    · isplitl [Hc1 Ha1]
      · isplitl [Hc1] <;> iassumption
      · isplitr <;> iempintro
    isplitl [Ho Ha2]
    · isplitl [Ho]; · iexact Ho
      isplitr; · iempintro
      isplitr; · iempintro
      isplitl [Ha2]; · iexact Ha2
      iempintro
    isplitl [Hq]; · iexact Hq
    isplitl [Hc3 Ha3]
    · isplitl [Hc3] <;> iassumption
    · isplitr <;> iempintro
  · isplitl [Hx1]; · iexact Hx1
    isplitl [Hx2] <;> iassumption

theorem own_rows (col : ℕ) : iprop((bigSep (Finset.Ico 0 15) fun j => oPts (F := F) c col c (shr (14 - j)) OUT)
      ∗ bigSep (Finset.Ico 0 15) fun j => oPts (F := F) c col (pr c (14 - j)) fullShare OUT)
    ⊢ bigSep Finset.univ fun q => oPts (F := F) c col q fullShare OUT := by
  rw [← own_deal, bs_rev (fun j => oPts (F := F) c col (pr c j) fullShare OUT), ← peers_pr c fun q => oPts (F := F) c col q fullShare OUT]
  have e : (bigSep Finset.univ fun q => oPts (F := F) c col q fullShare OUT)
      = iprop(oPts c col c fullShare OUT ∗ bigSep (Finset.univ.erase c) fun q => oPts (F := F) c col q fullShare OUT) := bigSep_univ_split c
  exact Entails.of_eq e.symm

theorem Col_end (col : ℕ) :
    iprop(Col SB OUT c 1 col ⟨4, 16, 15, 1, 15, 16, 15, 15⟩ ∗ Sv0 c 1 col 15 ∗ Sv0 c 2 col 15 ∗ Sv0 c 3 col 15)
      ⊢ iprop((bigSep (Finset.Ico 0 16) fun j => sPts (F := F) c col j (SB c)) ∗ (bigSep (Finset.Ico 0 15) fun k => rPts c col k (RB SB c))
        ∗ (bigSep Finset.univ fun q => oPts (F := F) c col q fullShare OUT) ∗ half (Sv0 c) col) := by
  rw [← bs_ch c fun j => sPts (F := F) c col j (SB c)]
  unfold half Col Cs Cv Co Cy
  rw [bs_last (Sv0 c 1 col), bs_last (Sv0 c 2 col), bs_last (Sv0 c 3 col), ← bs_rev (Sv0 c 2 col), ← bs_rev (Sv0 c 3 col)]
  simp only [bigSep_sep']
  iintro ⟨⟨⟨-, -, -, Hs, -, Hv0⟩, -, ⟨-, Hv1, Hr⟩, ⟨-, -, Ho, -, Hv2⟩, -, -, Hv3, Hy⟩, Hx1, Hx2, Hx3⟩
  isplitl [Hs]; · iexact Hs
  isplitl [Hr]; · iexact Hr
  isplitl [Ho Hy]
  · iapply (own_rows c OUT col)
    isplitl [Ho] <;> iassumption
  isplitl [Hv0]; · iexact Hv0
  isplitl [Hv1 Hx1]
  · isplitl [Hx1] <;> iassumption
  isplitl [Hv2 Hx2]
  · isplitl [Hx2] <;> iassumption
  isplitl [Hx3] <;> iassumption

theorem Sig_start :
    iprop((bigSep (Finset.Ico 0 15) fun k => dutyTok ER (barCell (pr c k)) 0 c)
        ∗ ((bigSep (Finset.Ico 0 15) fun k => iprop(∃ f, rPts (F := F) c 0 k f)) ∗ bigSep (Finset.Ico 0 15) fun k => iprop(∃ f, rPts (F := F) c 1 k f))
        ∗ (bigSep (Finset.univ.erase c) fun q => iprop(∃ f, oPts (F := F) c 0 q fullShare f)) ∗ bigSep (Finset.univ.erase c) fun q => iprop(∃ f, oPts (F := F) c 1 q fullShare f))
      ⊢ Sig (F := F) c 0 := by
  rw [peers_pr, peers_pr]
  have h : Sig (F := F) c 0 = bigSep (Finset.Ico 0 15) fun k => iprop(dutyTok ER (barCell (pr c k)) 0 c
      ∗ (∃ f, rPts (F := F) c 0 k f) ∗ (∃ f, rPts (F := F) c 1 k f) ∗ (∃ f, oPts (F := F) c 0 (pr c k) fullShare f) ∗ ∃ f, oPts (F := F) c 1 (pr c k) fullShare f) := by
    unfold Sig barPay
    exact bigSep_congr fun k hk => by rw [sl_pr_self c (Finset.mem_Ico.mp hk).2]
  rw [h]
  simp only [bigSep_sep']
  iintro ⟨H1, ⟨H2, H3⟩, H4, H5⟩
  isplitl [H1]; · iexact H1
  isplitl [H2]; · iexact H2
  isplitl [H3]; · iexact H3
  isplitl [H4] <;> iassumption

end Cert.Moe
-- ==== Proof.Whole.lean ====
/-
# The body, from what the launch hands a device to what it hands back
-/
module

public import proofs.«01_k».proof.Proof.Body
public import proofs.«01_k».proof.Proof.Deal

@[expose] public section

set_option maxRecDepth 16384

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (inp : Inp F) (K : Dev nD × CellIx → ℕ) (c : Dev nD)

/-! ## Buffers opened -/

theorem send_open (f : BufS F) : ((c : Thread nD τ).loc cc0_scratch1 ↦[Finset.univ]{fullShare} f : sProp 𝕄)
    ⊢ iprop((bigSep (Finset.Ico 0 16) fun j => iprop(∃ f, sPts c 0 j f)) ∗ bigSep (Finset.Ico 0 16) fun j => iprop(∃ f, sPts c 1 j f)) := by
  have h : ∀ col, (bigSep (Finset.Ico 0 16) fun j => sPts c col j f) ⊢ bigSep (Finset.Ico 0 16) fun j => iprop(∃ f, sPts (F := F) c col j f) := fun col =>
    bigSep_mono fun j _ => show (sPts c col j f : sProp 𝕄) ⊢ iprop(∃ f, sPts c col j f) from by iintro H; iexists f; iexact H
  rw [send_split]
  iintro ⟨H0, H1⟩
  isplitl [H0]
  · iapply (h 0); iexact H0
  · iapply (h 1); iexact H1

theorem land_open (f : BufR F) : ((c : Thread nD τ).loc cc0_scratch2 ↦[Finset.univ]{fullShare} f : sProp 𝕄)
    ⊢ iprop(((∃ f, rPts c 0 15 f) ∗ bigSep (Finset.Ico 0 15) fun j => iprop(∃ f, rPts c 0 j f)) ∗ (∃ f, rPts c 1 15 f) ∗ bigSep (Finset.Ico 0 15) fun j => iprop(∃ f, rPts c 1 j f)) := by
  have h : ∀ col, (bigSep (Finset.Ico 0 16) fun j => rPts c col j f) ⊢ iprop((∃ f, rPts (F := F) c col 15 f) ∗ bigSep (Finset.Ico 0 15) fun j => iprop(∃ f, rPts (F := F) c col j f)) := fun col =>
    (bigSep_mono fun j _ => show (rPts c col j f : sProp 𝕄) ⊢ iprop(∃ f, rPts c col j f) from by iintro H; iexists f; iexact H).trans
      (Entails.of_eq (bs_last fun j => iprop(∃ f, rPts (F := F) c col j f)))
  rw [land_split]
  iintro ⟨H0, H1⟩
  isplitl [H0]
  · iapply (h 0); iexact H0
  · iapply (h 1); iexact H1

theorem out_open (f : BufO F) : ((c : Thread nD τ).loc cc0_stg4_0 ↦[Finset.univ]{fullShare} f : sProp 𝕄)
    ⊢ iprop(((∃ f, oPts c 0 c fullShare f) ∗ bigSep (Finset.univ.erase c) fun q => iprop(∃ f, oPts c 0 q fullShare f))
      ∗ (∃ f, oPts c 1 c fullShare f) ∗ bigSep (Finset.univ.erase c) fun q => iprop(∃ f, oPts c 1 q fullShare f)) := by
  have h : ∀ col, (bigSep Finset.univ fun q => oPts c col q fullShare f)
      ⊢ iprop((∃ f, oPts (F := F) c col c fullShare f) ∗ bigSep (Finset.univ.erase c) fun q => iprop(∃ f, oPts (F := F) c col q fullShare f)) := fun col => by
    have e : (bigSep Finset.univ fun q => iprop(∃ f, oPts (F := F) c col q fullShare f))
        = iprop((∃ f, oPts (F := F) c col c fullShare f) ∗ bigSep (Finset.univ.erase c) fun q => iprop(∃ f, oPts (F := F) c col q fullShare f)) := bigSep_univ_split c
    exact (bigSep_mono fun q _ => show (oPts c col q fullShare f : sProp 𝕄) ⊢ iprop(∃ f, oPts c col q fullShare f) from by iintro H; iexists f; iexact H).trans
      (Entails.of_eq e)
  rw [out_split]
  iintro ⟨H0, H1⟩
  isplitl [H0]
  · iapply (h 0); iexact H0
  · iapply (h 1); iexact H1

theorem land_close : iprop((∃ f, rPts (F := F) c 0 15 f) ∗ (∃ f, rPts (F := F) c 1 15 f) ∗ (bigSep (Finset.Ico 0 15) fun j => rPts c 0 j (RB (SB inp) c))
      ∗ bigSep (Finset.Ico 0 15) fun j => rPts c 1 j (RB (SB inp) c))
    ⊢ iprop(∃ f : BufR F, (c : Thread nD τ).loc cc0_scratch2 ↦[Finset.univ]{fullShare} f) := by
  have h : ∀ col, iprop((∃ f, rPts (F := F) c col 15 f) ∗ bigSep (Finset.Ico 0 15) fun j => rPts c col j (RB (SB inp) c))
      ⊢ bigSep (Finset.Ico 0 16) fun j => iprop(∃ f, rPts (F := F) c col j f) := fun col => by
    rw [bs_last fun j => iprop(∃ f, rPts (F := F) c col j f)]
    exact sep_mono_right (bigSep_mono fun j _ => show (rPts c col j (RB (SB inp) c) : sProp 𝕄) ⊢ iprop(∃ f, rPts c col j f) from by iintro H; iexists _; iexact H)
  iintro ⟨H0, H1, H2, H3⟩
  iapply (land_join c (RB (SB inp) c))
  isplitl [H0 H2]
  · iapply (h 0)
    isplitl [H0] <;> iassumption
  · iapply (h 1)
    isplitl [H1] <;> iassumption

/-! ## The records and what goes to one device -/

/-- The invariants of all cells, and that each is at round 0. -/
def records : sProp 𝕄 :=
  iprop(bigSep Finset.univ (fun p : Dev nD × CellIx => cellInv ER (rd (SB inp) (OUT inp)) (K p) (kcell p))
    ∗ bigSep Finset.univ fun p : Dev nD × CellIx => reached ER (kcell p) 0)
instance records_persistent : BI.Persistent (records inp K) := by unfold records; infer_instance

/-- The positions at the device's cells, and the tokens it pays with. -/
def ghost : sProp 𝕄 := iprop(records inp K ∗ (bigSep Finset.univ fun k : CellIx => atPos ER (kcell (c, k)) 0 ∅ 0) ∗ payToks c)

/-- What the body starts from, next to the buffers. -/
def start : sProp 𝕄 := iprop((∃ K, ghost inp K c) ∗ (cred (tallyAt (barCell c) () 15) ∗ Cr c 0 ∗ Cr c 1) ∗ levAts L lv)

/-- The semaphores of the device, at zero. -/
def zeros : sProp 𝕄 := iprop(semVal (barCell c) 0 ∗ half (Sv0 (F := F) c) 0 ∗ half (Sv0 (F := F) c) 1)

/-- The scratch buffers at any contents. -/
def scratch : sProp 𝕄 :=
  iprop((∃ f : (cc0_scratch0 : Ref sig .tc).ty.Contents (Elt F), (c : Thread nD τ).loc cc0_scratch0 ↦[Finset.univ]{fullShare} f)
    ∗ (∃ f : BufS F, (c : Thread nD τ).loc cc0_scratch1 ↦[Finset.univ]{fullShare} f) ∗ ∃ f : BufR F, (c : Thread nD τ).loc cc0_scratch2 ↦[Finset.univ]{fullShare} f)

/-- What the body leaves alone. -/
def rest : sProp 𝕄 :=
  iprop(((∃ f, rPts (F := F) c 0 15 f) ∗ ∃ f, rPts (F := F) c 1 15 f) ∗ (At0 (F := F) c 1 0 15 ∗ At0 (F := F) c 2 0 15 ∗ At0 (F := F) c 3 0 15)
    ∗ At0 (F := F) c 1 1 15 ∗ At0 (F := F) c 2 1 15 ∗ At0 (F := F) c 3 1 15)

theorem at_cells : (bigSep Finset.univ fun k : CellIx => (atPos ER (kcell (c, k)) 0 ∅ 0 : sProp 𝕄))
    = iprop(atPos ER (barCell c) 0 ∅ 0 ∗ half (At0 c) 0 ∗ half (At0 c) 1) := by
  rw [bs_cells]
  exact congrArg (BI.sep _) (bs_dma (At0 (F := F) c))

/-- The first state. -/
theorem state_start (f : BufO F) :
    iprop(start inp c ∗ scratch (F := F) c ∗ OwnT c (O₀ c) ∗ Ins inp c ∗ ((c : Thread nD τ).loc cc0_stg4_0 ↦[Finset.univ]{fullShare} f))
      ⊢ iprop(∃ K, Ctx (SB inp) (OUT inp) K ∗ S inp K c 0 0 0 ⟨0, 0, 0, 0, 0, 0, 0, 0⟩ ⟨0, 0, 0, 0, 0, 0, 0, 0⟩ ∗ rest (F := F) c) := by
  unfold start ghost records scratch payToks S Acc rest Bar
  simp only [at_cells, if_true]
  iintro ⟨⟨⟨%K, ⟨#HI, #HR⟩, ⟨HaB, Ha0, Ha1⟩, HtB, Ht0, Ht1⟩, ⟨HcB, Hc0, Hc1⟩, #Hlev⟩, ⟨⟨%g0, Hs0⟩, ⟨%g1, Hs1⟩, %g2, Hs2⟩, HO, Hin, Hout⟩
  ihave Hs1 := (send_open c g1) $$ Hs1
  ihave Hs2 := (land_open c g2) $$ Hs2
  ihave Hout := (out_open c f) $$ Hout
  icases Hs1 with ⟨Hs10, Hs11⟩
  icases Hs2 with ⟨⟨Hx0, Hr0⟩, Hx1, Hr1⟩
  icases Hout with ⟨⟨Ho0, Hq0⟩, Ho1, Hq1⟩
  ihave HS := (Sig_start (F := F) c) $$ [HtB Hr0 Hr1 Hq0 Hq1]
  · isplitl [HtB]; · iexact HtB
    isplitl [Hr0 Hr1]
    · isplitl [Hr0] <;> iassumption
    isplitl [Hq0] <;> iassumption
  ihave H0 := (Col_start c (SB inp) (OUT inp) 0) $$ [Hs10 Ha0 Ht0 Hc0 Ho0]
  · isplitl [Hs10]; · iexact Hs10
    isplitl [Ha0]; · iexact Ha0
    isplitl [Ht0]; · iexact Ht0
    isplitl [Hc0] <;> iassumption
  ihave H1 := (Col_start c (SB inp) (OUT inp) 1) $$ [Hs11 Ha1 Ht1 Hc1 Ho1]
  · isplitl [Hs11]; · iexact Hs11
    isplitl [Ha1]; · iexact Ha1
    isplitl [Ht1]; · iexact Ht1
    isplitl [Hc1] <;> iassumption
  icases H0 with ⟨H0, Hd0⟩
  icases H1 with ⟨H1, Hd1⟩
  iexists K
  isplitr
  · unfold Ctx
    isplitr; · iexact HI
    isplitr; · iexact HR
    iexact Hlev
  isplitr [Hx0 Hx1 Hd0 Hd1]
  · isplitr
    · unfold Ctx
      isplitr; · iexact HI
      isplitr; · iexact HR
      iexact Hlev
    isplitl [HO]; · unfold O₀; iexact HO
    isplitl [H0]; · iexact H0
    isplitl [H1]; · iexact H1
    isplitl [HS]; · iexact HS
    isplitl [HcB HaB]
    · isplitl [HcB] <;> iassumption
    isplitl [Hs0]
    · iexists g0
      isplitr
      · ipureintro; exact fun h => absurd h (by decide)
      · iexact Hs0
    iexact Hin
  · isplitl [Hx0 Hx1]
    · isplitl [Hx0] <;> iassumption
    isplitl [Hd0] <;> iassumption

/-- The unused cells at zero. -/
def rest' : sProp 𝕄 :=
  iprop(((∃ f, rPts (F := F) c 0 15 f) ∗ ∃ f, rPts (F := F) c 1 15 f) ∗ (Sv0 (F := F) c 1 0 15 ∗ Sv0 (F := F) c 2 0 15 ∗ Sv0 (F := F) c 3 0 15)
    ∗ Sv0 (F := F) c 1 1 15 ∗ Sv0 (F := F) c 2 1 15 ∗ Sv0 (F := F) c 3 1 15)

/-- The last state. -/
theorem state_end : iprop(S inp K c 15 1 4 ⟨4, 16, 15, 1, 15, 16, 15, 15⟩ ⟨4, 16, 15, 1, 15, 16, 15, 15⟩ ∗ rest' (F := F) c)
    ⊢ iprop(scratch (F := F) c ∗ zeros (F := F) c ∗ OwnT c 0 ∗ Ins inp c ∗ ((c : Thread nD τ).loc cc0_stg4_0 ↦[Finset.univ]{fullShare} OUT inp)) := by
  unfold S rest' scratch zeros Acc Bar
  rw [if_neg (by decide), out_split, Owe_end]
  iintro ⟨⟨-, HO, H0, H1, -, Hb, ⟨%g0, -, Hs0⟩, Hin⟩, ⟨Hx0, Hx1⟩, Hd0, Hd1⟩
  ihave H0 := (Col_end c (SB inp) (OUT inp) 0) $$ [H0 Hd0]
  · isplitl [H0] <;> iassumption
  ihave H1 := (Col_end c (SB inp) (OUT inp) 1) $$ [H1 Hd1]
  · isplitl [H1] <;> iassumption
  icases H0 with ⟨Hs10, Hr0, Ho0, Hv0⟩
  icases H1 with ⟨Hs11, Hr1, Ho1, Hv1⟩
  ihave Hs1 := (Entails.of_eq (send_split c (SB inp c)).symm) $$ [Hs10 Hs11]
  · isplitl [Hs10] <;> iassumption
  ihave Hs2 := (land_close inp c) $$ [Hx0 Hx1 Hr0 Hr1]
  · isplitl [Hx0]; · iexact Hx0
    isplitl [Hx1]; · iexact Hx1
    isplitl [Hr0] <;> iassumption
  isplitl [Hs0 Hs1 Hs2]
  · isplitl [Hs0]; · iexists g0; iexact Hs0
    isplitl [Hs1]; · iexists _; iexact Hs1
    iexact Hs2
  isplitl [Hb Hv0 Hv1]
  · isplitl [Hb]; · iexact Hb
    isplitl [Hv0] <;> iassumption
  isplitl [HO]; · iexact HO
  isplitl [Hin]; · iexact Hin
  isplitl [Ho0] <;> iassumption

theorem dead_last {kd : ℕ} (h : kd ≠ 0) : ¬ live c kd 15 := by unfold live; rw [if_neg h]; decide

/-- The cells that nothing is copied onto are closed. -/
theorem rest_close {p : Prog (TpuEff nD τ sig (Elt F) Λ₀ .tc) PUnit} {Q : Post F PUnit} :
    iprop(Ctx (SB inp) (OUT inp) K ∗ rest (F := F) c) ⊢ iprop((rest' (F := F) c -∗ WP c p Q) -∗ WP c p Q) := by
  unfold rest rest'
  iintro ⟨#HC, Hx, ⟨H1, H2, H3⟩, H4, H5, H6⟩ Hk
  iapply (close_dead (SB inp) (OUT inp) K c (kd := 1) (col := 0) (i := 15) (by decide) (by decide) (by decide) (dead_last c (by decide))) $$ [H1]
  · isplitr; · iexact HC
    iexact H1
  iintro H1
  iapply (close_dead (SB inp) (OUT inp) K c (kd := 2) (col := 0) (i := 15) (by decide) (by decide) (by decide) (dead_last c (by decide))) $$ [H2]
  · isplitr; · iexact HC
    iexact H2
  iintro H2
  iapply (close_dead (SB inp) (OUT inp) K c (kd := 3) (col := 0) (i := 15) (by decide) (by decide) (by decide) (dead_last c (by decide))) $$ [H3]
  · isplitr; · iexact HC
    iexact H3
  iintro H3
  iapply (close_dead (SB inp) (OUT inp) K c (kd := 1) (col := 1) (i := 15) (by decide) (by decide) (by decide) (dead_last c (by decide))) $$ [H4]
  · isplitr; · iexact HC
    iexact H4
  iintro H4
  iapply (close_dead (SB inp) (OUT inp) K c (kd := 2) (col := 1) (i := 15) (by decide) (by decide) (by decide) (dead_last c (by decide))) $$ [H5]
  · isplitr; · iexact HC
    iexact H5
  iintro H5
  iapply (close_dead (SB inp) (OUT inp) K c (kd := 3) (col := 1) (i := 15) (by decide) (by decide) (by decide) (dead_last c (by decide))) $$ [H6]
  · isplitr; · iexact HC
    iexact H6
  iintro H6
  iapply Hk
  isplitl [Hx]; · iexact Hx
  isplitl [H1 H2 H3]
  · isplitl [H1]; · iexact H1
    isplitl [H2] <;> iassumption
  isplitl [H4]; · iexact H4
  isplitl [H5] <;> iassumption

/-- The whole body. -/
theorem body_whole (f : BufO F) {Q : Post F PUnit} :
    iprop((start inp c ∗ scratch (F := F) c ∗ OwnT c (O₀ c) ∗ Ins inp c ∗ ((c : Thread nD τ).loc cc0_stg4_0 ↦[Finset.univ]{fullShare} f))
        ∗ ((scratch (F := F) c ∗ zeros (F := F) c ∗ OwnT c 0 ∗ Ins inp c ∗ ((c : Thread nD τ).loc cc0_stg4_0 ↦[Finset.univ]{fullShare} OUT inp)) -∗ Q ⟨⟩))
      ⊢ WP c (onBufs (cc0_body (F := F))) Q := by
  iintro ⟨H, Hk⟩
  ihave H := (state_start inp c f) $$ H
  icases H with ⟨%K, #HC, HS, HR⟩
  iapply (rest_close inp K c) $$ [HR]
  · isplitr; · iexact HC
    iexact HR
  iintro HR
  iapply wp_wand_r
  isplitl [HS]
  · iapply (body_run (Q := fun _ => S inp K c 15 1 4 ⟨4, 16, 15, 1, 15, 16, 15, 15⟩ ⟨4, 16, 15, 1, 15, 16, 15, 15⟩) (BI.Entails.refl _)); iexact HS
  iintro %a HS
  iapply Hk
  iapply (state_end inp K c)
  isplitl [HS] <;> iassumption

end Cert.Moe
-- ==== Proof.Launch.lean ====
/-
# The launch

From the memory of all devices to the body of each, and back: every run ends, with the inputs as they were, the result
`OUT` on every device, and every semaphore at zero.
-/
module

public import proofs.«01_k».proof.Proof.Whole
public import Idealize.ShloMosaic.Lib.Pipeline.CollectiveSegs
public import proofs.«01_k».proof.Proof.Gen.KernelIdeal.Points

@[expose] public section

set_option maxRecDepth 16384

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

def s₀ : MemSt nD τ sig (Elt F) := ⟨m, fun _ => 0, ρ⟩

/-- What the devices are given. -/
def inpOf : Inp F where
  x c := (win0_0.blk (0 : Fin 1)).view.read (Elt F) ((s₀ m ρ).mem ((c : Thread nD τ).loc main_arg0))
  r c := (win0_1.blk (0 : Fin 1)).view.read (Elt F) ((s₀ m ρ).mem ((c : Thread nD τ).loc main_arg1))
  i c := (win0_2.blk (0 : Fin 1)).view.read (Elt F) ((s₀ m ρ).mem ((c : Thread nD τ).loc main_arg2))
  w c := (win0_3.blk (0 : Fin 1)).view.read (Elt F) ((s₀ m ρ).mem ((c : Thread nD τ).loc main_arg3))

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def Φ₀ (c : Dev nD) : sProp 𝕄 := iprop(start (inpOf m ρ) c ∗ scratch (F := F) c)
def Φ₁ (c : Dev nD) : sProp 𝕄 := iprop(scratch (F := F) c ∗ zeros (F := F) c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => (inpOf m ρ).x c
    | ⟨1, _⟩ => (inpOf m ρ).r c
    | ⟨2, _⟩ => (inpOf m ρ).i c
    | ⟨3, _⟩ => (inpOf m ρ).w c
    | ⟨4, _⟩ => OUT (inpOf m ρ)
  Φ t := match t with
    | ⟨0, _⟩ => Φ₀ m ρ c
    | ⟨_ + 1, _⟩ => Φ₁ (F := F) c
  q _ := fullShare
  owed t := match t with
    | ⟨0, _⟩ => O₀ c
    | ⟨_ + 1, _⟩ => 0

theorem bigSep_W (Φ : Fin cfg0.W → sProp 𝕄) :
    bigSep Finset.univ Φ = iprop(Φ (0 : Fin 5) ∗ Φ (1 : Fin 5) ∗ Φ (2 : Fin 5) ∗ Φ (3 : Fin 5) ∗ Φ (4 : Fin 5)) := bigSep_W0 Φ

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m ρ c ∗ (dats m ρ 0 c).owesAt () t₀.castSucc
    ∗ (∃ d, stg c cc0_stg0_0 ((dats m ρ 0 c).before (0 : Fin 5) t₀ d))
    ∗ (∃ d, stg c cc0_stg1_0 ((dats m ρ 0 c).before (1 : Fin 5) t₀ d))
    ∗ (∃ d, stg c cc0_stg2_0 ((dats m ρ 0 c).before (2 : Fin 5) t₀ d))
    ∗ (∃ d, stg c cc0_stg3_0 ((dats m ρ 0 c).before (3 : Fin 5) t₀ d))
    ∗ (∃ d, stg c cc0_stg4_0 ((dats m ρ 0 c).before (4 : Fin 5) t₀ d)))

def bodyPost (c : Dev nD) : sProp 𝕄 :=
  iprop(Φ₁ (F := F) c ∗ (dats m ρ 0 c).owesAt () t₀.succ
    ∗ stg c cc0_stg0_0 ((inpOf m ρ).x c) ∗ stg c cc0_stg1_0 ((inpOf m ρ).r c) ∗ stg c cc0_stg2_0 ((inpOf m ρ).i c)
    ∗ stg c cc0_stg3_0 ((inpOf m ρ).w c) ∗ stg c cc0_stg4_0 (OUT (inpOf m ρ)))

theorem sound_body (c : Dev nD) : bodyPre m ρ c ⊢ WP c (onBufs (cc0_body (F := F))) (fun _ => bodyPost m ρ c) := by
  unfold bodyPre Φ₀
  iintro ⟨⟨Hst, Hsc⟩, Ho, ⟨%d0, %g0, %hg0, H0⟩, ⟨%d1, %g1, %hg1, H1⟩, ⟨%d2, %g2, %hg2, H2⟩, ⟨%d3, %g3, %hg3, H3⟩, %d4, %g4, %hg4, H4⟩
  have h0 : g0 = (inpOf m ρ).x c := by rw [hg0]; unfold Dat.before; rw [if_pos (fetch0_0 t₀)]; rfl
  have h1 : g1 = (inpOf m ρ).r c := by rw [hg1]; unfold Dat.before; rw [if_pos (fetch0_1 t₀)]; rfl
  have h2 : g2 = (inpOf m ρ).i c := by rw [hg2]; unfold Dat.before; rw [if_pos (fetch0_2 t₀)]; rfl
  have h3 : g3 = (inpOf m ρ).w c := by rw [hg3]; unfold Dat.before; rw [if_pos (fetch0_3 t₀)]; rfl
  unfold Dat.owesAt Pipeline.owesWithin
  icases Ho with ⟨%W, %hW, HO⟩
  rw [show (dats m ρ 0 c).owed t₀.castSucc = O₀ c from rfl]
  iapply (body_whole (inpOf m ρ) c g4)
  isplitl [Hst Hsc HO H0 H1 H2 H3 H4]
  · isplitl [Hst]; · iexact Hst
    isplitl [Hsc]; · iexact Hsc
    isplitl [HO]
    · unfold OwnT
      iexists W; iexact HO
    isplitl [H0 H1 H2 H3]
    · unfold Ins
      rw [← h0, ← h1, ← h2, ← h3]
      isplitl [H0]; · iexact H0
      isplitl [H1]; · iexact H1
      isplitl [H2] <;> iassumption
    iexact H4
  · unfold bodyPost Φ₁ OwnT Ins Dat.owesAt Pipeline.owesWithin
    rw [show (dats m ρ 0 c).owed t₀.succ = 0 from rfl]
    iintro ⟨Hsc, Hz, ⟨%W', HO⟩, ⟨H0, H1, H2, H3⟩, H4⟩
    isplitl [Hsc Hz]
    · isplitl [Hsc] <;> iassumption
    isplitl [HO]
    · iexists W'
      isplitr; · ipureintro; exact fun _ _ => Or.inl trivial
      iexact HO
    isplitl [H0]
    · iexists _; isplitr; · (ipureintro; rfl)
      iexact H0
    isplitl [H1]
    · iexists _; isplitr; · (ipureintro; rfl)
      iexact H1
    isplitl [H2]
    · iexists _; isplitr; · (ipureintro; rfl)
      iexact H2
    isplitl [H3]
    · iexists _; isplitr; · (ipureintro; rfl)
      iexact H3
    iexists _; isplitr; · (ipureintro; rfl)
    iexact H4

attribute [local irreducible] cc0_body

theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre m ρ c ⊢ WP c (onBufs (cc0_body (F := F))) (fun _ => bodyPost m ρ c)
  exact sound_body m ρ c

/-! ## The launch element -/

/-- The kernel's own semaphores. -/
def osem : Fin 4 × Fin 2 × Fin 16 → SemLoc sig := fun k => .dma (sidx k.1 k.2.1 k.2.2)

theorem ownSemFacts : Pipeline.OwnSemFacts cfg0.spec osem := by decide +kernel

theorem share_eq (c : Dev nD) (w : Fin cfg0.W) : (dats m ρ 0 c).share w = fullShare := by unfold Dat.share; split <;> rfl

theorem kcell_injective : Function.Injective kcell := by
  rintro ⟨c, k⟩ ⟨c', k'⟩ h
  rw [kcell_eq, kcell_eq] at h
  have h1 : c = c' := Fin.ext (congrArg (fun g : GSem nD τ sig => g.1.1.val) h)
  have h2 : csem k = csem k' := congrArg Prod.snd h
  rw [h1, csem_inj h2]
def ringCells : Finset (GSem nD τ sig) := Finset.univ.map ⟨kcell, kcell_injective⟩

/-- The tokens made at the start: a device's barrier has one for every device, each other cell has one. -/
abbrev tokOf (p : Dev nD × (Dev nD ⊕ (Fin 4 × Fin 2 × Fin 16))) : GSem nD τ sig × ℕ × Dev nD :=
  match p.2 with
  | .inl d => (barCell p.1, 0, d)
  | .inr t => (dcell p.1 t.1 t.2.1 t.2.2, 0, 0)
theorem tokOf_injective : Function.Injective tokOf := by
  rintro ⟨c, d | t⟩ ⟨c', d' | t'⟩ h
  · have h1 := congrArg Prod.fst h
    have h2 := congrArg (fun x : GSem nD τ sig × ℕ × Dev nD => x.2.2) h
    have h1 : c = c' := bar_iff.mp h1
    have h2 : d = d' := h2
    rw [h1, h2]
  · exact absurd (congrArg Prod.fst h) bar_dma
  · exact absurd (congrArg Prod.fst h) dma_bar
  · have h1 : kcell (c, some t) = kcell (c', some t') := congrArg Prod.fst h
    have h2 := kcell_injective h1
    rw [show c = c' from congrArg Prod.fst h2, show t = t' from Option.some.inj (congrArg Prod.snd h2)]
def ringToks : Finset (GSem nD τ sig × ℕ × Dev nD) := Finset.univ.map ⟨tokOf, tokOf_injective⟩

def u₀ : UU := (initOf (Pipeline.cells cfgs cellOf_inj) (Pipeline.launchToks cfgs cellOf_inj), initOf ringCells ringToks)

abbrev rdOf : Rounds.Schedule (GSem nD τ sig) (Dev nD) 𝕄 := rd (SB (inpOf m ρ)) (OUT (inpOf m ρ))

def G (c : Dev nD) : sProp 𝕄 :=
  iprop((bigSep Finset.univ fun k : CellIx => roundState ER (rdOf m ρ) (kcell (c, k)) 0)
    ∗ (bigSep Finset.univ fun k : CellIx => iprop(atPos ER (kcell (c, k)) 0 ∅ 0 ∗ reached ER (kcell (c, k)) 0)) ∗ toks c)
def G' (c : Dev nD) : sProp 𝕄 := iprop(∃ K, ghost (inpOf m ρ) K c)

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : CellIx => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_univ_sum]; rfl
  iintro HX
  imod (Rounds.fund ER (rdOf m ρ) ringCells ringToks) $$ HX with ⟨Hst, Hr, Hat, Htok⟩
  imodintro
  ihave Hst' := (Entails.of_eq (hX fun g => roundState ER (rdOf m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem ownSems0_eq (c : Dev nD) : (Pipeline.ownSems0 (Ix := Unit) (Name := ℕ) (U := UU) (Lvl := ℕ) (Val := Elt F) (τ := τ) osem c : sProp 𝕄)
    = iprop(half (Sv0 c) 0 ∗ half (Sv0 c) 1) := bs_dma (Sv0 (F := F) c)
theorem unscopedSems0_eq (c : Dev nD) : (unscopedSems0 c : sProp 𝕄) = semVal (barCell c) 0 := by
  unfold unscopedSems0; rw [bigSep_eq_bigSepL_of_eq [SemLoc.reg barS] (by decide +kernel) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CellIx => semVal (kcell (c, k)) 0 : sProp 𝕄) := by
  rw [unscopedSems0_eq, bs_cells, show (Pipeline.ownSems0 (Ix := Unit) (Name := ℕ) (U := UU) (Lvl := ℕ) (Val := Elt F) (τ := τ) osem c : sProp 𝕄)
    = bigSep Finset.univ fun t : Fin 4 × Fin 2 × Fin 16 => semVal (kcell (c, some t)) 0 from rfl]
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (rdOf m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : CellIx => semVal (kcell (c, k)) 0) ∗ bigSep Finset.univ fun k : CellIx => roundState ER (rdOf m ρ) (kcell (c, k)) 0)
      ⊢ (|={Set.univ}=> bigSep Finset.univ fun k => iprop(∃ κ : ℕ, cellInv ER (rdOf m ρ) κ (kcell (c, k))) : sProp 𝕄) from by
        rw [← bigSep_sep']
        exact (bigSep_mono fun k _ => (Rounds.body_intro ER (rdOf m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

theorem with_persistent {I : Type} [DecidableEq I] {s : Finset I} {R : sProp 𝕄} [BI.Persistent R] {Φ Ψ : I → sProp 𝕄}
    (h : ∀ i ∈ s, iprop(R ∗ Φ i) ⊢ Ψ i) : iprop(R ∗ bigSep s Φ) ⊢ bigSep s Ψ :=
  (sep_mono_left (BI.bigSep_of_persistent s R)).trans (by rw [← bigSep_sep']; exact bigSep_mono h)

theorem ghost_intro (K : Dev nD × CellIx → ℕ) (c : Dev nD) :
    iprop(records (inpOf m ρ) K ∗ ((bigSep Finset.univ fun k : CellIx => atPos ER (kcell (c, k)) 0 ∅ 0) ∗ payToks c)) ⊢ G' m ρ c := by
  unfold G' ghost
  iintro H
  iexists K
  iexact H

theorem regroup :
    (bigSep Finset.univ fun c : Dev nD => iprop((bigSep Finset.univ fun k => iprop(∃ κ : ℕ, cellInv ER (rdOf m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × CellIx => iprop(∃ κ : ℕ, cellInv ER (rdOf m ρ) κ (kcell ck))),
    bigSep_congr (s := Finset.univ) (fun (c : Dev nD) _ => bigSep_sep' Finset.univ (fun k : CellIx => (atPos ER (kcell (c, k)) 0 ∅ 0 : sProp 𝕄)) (fun k => reached ER (kcell (c, k)) 0)),
    bigSep_sep', ← bigSep_univ_prod (fun ck : Dev nD × CellIx => (reached ER (kcell ck) 0 : sProp 𝕄))]
  iintro ⟨HI, ⟨Hat, #HR⟩, Htok⟩
  ihave HK := (BI.bigSep_exists_pi Finset.univ (fun (ck : Dev nD × CellIx) (κ : ℕ) => (cellInv ER (rdOf m ρ) κ (kcell ck) : sProp 𝕄))) $$ HI
  icases HK with ⟨%K, #HI⟩
  ihave Htk := (toks_around (F := F)) $$ Htok
  iapply (with_persistent (R := records (inpOf m ρ) K) fun c _ => ghost_intro m ρ K c)
  isplitr
  · unfold records; isplitl; · iexact HI
    iexact HR
  · rw [bigSep_sep']
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## What the launch takes -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start (inpOf m ρ) c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

theorem phi0_intro (c : Dev nD) :
    iprop(start (inpOf m ρ) c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ (F := F) c from rfl, scopedRest0_eq, ownSems0_eq, unscopedSems0_eq]
  unfold Φ₁ scratch zeros
  iintro ⟨Hr, Hb, Hz⟩
  isplitl [Hb]; · iexact Hb
  isplitl [Hz]; · iexact Hz
  iexact Hr

theorem waits (c : Dev nD) : (levAts L lv : sProp 𝕄) ⊢ Pipeline.cellsWaits cfgs (dats m ρ) () 0 c :=
  Pipeline.cellsWaits_intro cfgs (dats m ρ) () 0 c fun w s t => by
    have h0 : ∀ q : DmaSem sig, q.val < 5 → lv ((c : Thread nD τ), .dma q) () = 0 := fun q hq => by
      show (if 5 ≤ q.val then _ else _) = _
      exact if_neg (Nat.not_le_of_lt hq)
    have hm : ∀ (q : DmaSem sig) (hq : q.val < 5) (b r0 r1 a0 a1 : ℕ),
        (levAts L lv : sProp 𝕄) ⊢ MayWait (c : Thread nD τ) (.dma q) () (Owe c b r0 r1 a0 a1) := fun q hq b r0 r1 a0 a1 =>
      mayWait c (.dma q) (fun _ => by rw [h0 q hq]; decide) (fun _ => by rw [h0 q hq]; decide) (fun _ => by rw [h0 q hq]; decide)
    rcases t with ⟨_ | _, ht⟩
    · exact hm _ (by fin_cases w <;> fin_cases s <;> decide) 0 0 0 0 0
    · have h := hm _ (show (((cfg0.win w).sem s : DmaSem sig)).val < 5 by fin_cases w <;> fin_cases s <;> decide) 15 16 16 15 15
      rw [Owe_end] at h
      exact h

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start (inpOf m ρ)) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The inputs are as they were, -/
theorem final_in (c : Dev nD) : finalA m ρ c (0 : Fin 5) = m ((c : Thread nD τ).loc main_arg0) ∧ finalA m ρ c (1 : Fin 5) = m ((c : Thread nD τ).loc main_arg1)
    ∧ finalA m ρ c (2 : Fin 5) = m ((c : Thread nD τ).loc main_arg2) ∧ finalA m ρ c (3 : Fin 5) = m ((c : Thread nD τ).loc main_arg3) :=
  ⟨(dats (F := F) m ρ 0 c).arrAt_in (0 : Fin 5) rfl _, (dats (F := F) m ρ 0 c).arrAt_in (1 : Fin 5) rfl _,
    (dats (F := F) m ρ 0 c).arrAt_in (2 : Fin 5) rfl _, (dats (F := F) m ρ 0 c).arrAt_in (3 : Fin 5) rfl _⟩

/-- and the result is `OUT`. -/
theorem final_out (c : Dev nD) : (win0_4.blk (0 : Fin 1)).view.read (Elt F) (finalA m ρ c (4 : Fin 5)) = OUT (inpOf m ρ) := by
  unfold finalA
  rw [show cfg0.N = ((0 : Fin 1) : Fin cfg0.N).val + 1 from rfl, (dats m ρ 0 c).arrAt_succ (4 : Fin 5) (0 : Fin 1)]
  rw [show (cfg0.win 4).flush (0 : Fin 1) = true from flush0_4 _, if_pos rfl]
  exact View.read_write_univ _ _

end Cert.Moe
-- ==== Proof.Frames.lean ====
/-
# The frames

Every run of the kernel and of the reference ends with the arguments as they were and every semaphore at zero. The
kernel's run is proved once for any float values, so its frame holds at the bit patterns and at the extended reals alike.
-/
module

public import proofs.«01_k».proof.Defs
public import proofs.«01_k».proof.Proof.Launch
public import proofs.«01_k».proof.Proof.Gen.Kernel
public import proofs.«01_k».proof.Proof.Gen.ReferenceIdeal.Run
public import Idealize.ShloMosaic.Adequacy
public import Idealize.ShloMosaic.Init

@[expose] public section

set_option maxRecDepth 16384

noncomputable section

namespace Cert.Moe

open Cert.KernelIdeal Cert.KernelIdeal.Gen
open Idealize.ShloMosaic Idealize.ShloMosaic.TcCoe Idealize.SL.Sem

section
variable {F : FTy → Type} [FloatOps F]

/-- The kernel's run, for any float values: the arguments unchanged and every semaphore at zero. -/
theorem frame_run (m : (ℓ : Loc nD τ sig) → Buf (Elt F) ℓ) (ρ : Dev nD → PrngReg) :
    θ_run defs (onTc (τ := τ) (main (F := F))) ⟨m, fun _ => 0, ρ⟩ (fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3))
      ∧ r.2.sem = fun _ => 0) :=
  (θ_run defs _ _).mono (fun r h => ⟨fun c =>
    ⟨(h.1 c 0).trans (final_in m ρ c).1, (h.1 c 1).trans (final_in m ρ c).2.1,
      (h.1 c 2).trans (final_in m ρ c).2.2.1, (h.1 c 3).trans (final_in m ρ c).2.2.2⟩, h.2⟩) (run_main m ρ)

end

theorem frame_kernelIdeal : Cert.quiescent_KernelIdeal := fun m ρ _ => frame_run (F := Ideal) m ρ

/-- The two programs have one text, so one table of bodies. -/
theorem bodies_eq : Cert.Kernel.defs₀ (F := Bits) = defs₀ := by
  unfold Cert.Kernel.defs₀ Cert.KernelIdeal.defs₀
  refine congrArg Defs.onTc ?_
  funext l a
  match l, a with
  | ⟨0, _⟩, (t, s) => rfl
  | ⟨n + 1, h⟩, _ => exact absurd h (Nat.not_lt.2 (Nat.le_add_left _ _))

theorem defs_eq : Cert.Kernel.defs (F := Bits) = defs := congrArg (Pipeline.defs pcfgs) bodies_eq

theorem frame_kernel : Cert.quiescent_Kernel := fun m ρ _ => by
  have h := frame_run (F := Bits) m ρ
  rw [← defs_eq] at h
  exact h

theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

end Cert.Moe

end
-- ==== Proof.Math.lean ====
/-
# The mathematics of the layer

The layer over the extended reals, row by row: a softmax over the 64 experts' scores, the two chosen experts' shares of
their common weight, and the weighted sum of the two experts' products. Where tokens and router weights are finite the
shares are finite and not negative, so they may be moved into and out of sums, and the sum over all experts in which every
expert but the chosen ones has weight zero is the layer's value.
-/
module

public import Idealize.ShloMosaic.PureOps.Ideal
public import Idealize.ShloMosaic.PureOps.Ideal.Laws

@[expose] public section

noncomputable section

namespace Cert.Moe.Math

open Idealize.ShloMosaic

/-- A softmax's entry. -/
def rowMax (s : Fin 64 → EReal) : EReal := (Finset.univ : Finset (Fin 64)).fold max ⊥ s
def prob (s : Fin 64 → EReal) (e : Fin 64) : EReal :=
  Ideal.div (Ideal.exp (s e - rowMax s)) (∑ e', Ideal.exp (s e' - rowMax s))
/-- The share of `u` in `u + v`. -/
def share (u v w : EReal) : EReal := Ideal.div u (v + w)

/-- A row's scores. -/
def score (x : Fin 256 → EReal) (R : Fin 256 → Fin 64 → EReal) (e : Fin 64) : EReal := ∑ k, x k * R k e

/-- One entry of the layer's result. -/
def layer (x : Fin 256 → EReal) (R : Fin 256 → Fin 64 → EReal) (a b : Fin 64) (W : Fin 64 → Fin 256 → EReal) : EReal :=
  share (prob (score x R) a) (prob (score x R) a) (prob (score x R) b) * (∑ k, x k * W a k)
    + share (prob (score x R) b) (prob (score x R) a) (prob (score x R) b) * (∑ k, x k * W b k)

/-! ## Finite values -/

def Fin' (x : EReal) : Prop := ∃ r : ℝ, x = r
def Pos (x : EReal) : Prop := ∃ r : ℝ, 0 < r ∧ x = r

theorem Fin'.mul {x y : EReal} (hx : Fin' x) (hy : Fin' y) : Fin' (x * y) := by
  obtain ⟨a, rfl⟩ := hx; obtain ⟨b, rfl⟩ := hy; exact ⟨a * b, (EReal.coe_mul a b).symm⟩
theorem Fin'.sub {x y : EReal} (hx : Fin' x) (hy : Fin' y) : Fin' (x - y) := by
  obtain ⟨a, rfl⟩ := hx; obtain ⟨b, rfl⟩ := hy; exact ⟨a - b, (EReal.coe_sub a b).symm⟩
theorem Fin'.sum {n : ℕ} (f : Fin n → EReal) (h : ∀ k, Fin' (f k)) : Fin' (∑ k, f k) := by
  choose g hg using h
  refine ⟨∑ k, g k, ?_⟩
  simp only [hg]
  induction (Finset.univ : Finset (Fin n)) using Finset.induction with
  | empty => simp
  | insert a s ha ih => rw [Finset.sum_insert ha, Finset.sum_insert ha, ih, EReal.coe_add]

theorem Pos.exp {x : EReal} (hx : Fin' x) : Pos (Ideal.exp x) := by
  obtain ⟨a, rfl⟩ := hx; exact ⟨Real.exp a, Real.exp_pos a, rfl⟩
theorem Pos.add {x y : EReal} (hx : Pos x) (hy : Pos y) : Pos (x + y) := by
  obtain ⟨a, ha, rfl⟩ := hx; obtain ⟨b, hb, rfl⟩ := hy; exact ⟨a + b, by positivity, (EReal.coe_add a b).symm⟩
theorem Pos.sum {n : ℕ} [NeZero n] (f : Fin n → EReal) (h : ∀ k, Pos (f k)) : Pos (∑ k, f k) := by
  choose g hp hg using h
  refine ⟨∑ k, g k, Finset.sum_pos (fun k _ => hp k) ⟨0, Finset.mem_univ _⟩, ?_⟩
  simp only [hg]
  induction (Finset.univ : Finset (Fin n)) using Finset.induction with
  | empty => simp
  | insert a s ha ih => rw [Finset.sum_insert ha, Finset.sum_insert ha, ih, EReal.coe_add]
theorem Pos.div {x y : EReal} (hx : Pos x) (hy : Pos y) : Pos (Ideal.div x y) := by
  obtain ⟨a, ha, rfl⟩ := hx; obtain ⟨b, hb, rfl⟩ := hy
  refine ⟨a * b⁻¹, by positivity, ?_⟩
  unfold Ideal.div
  rw [if_neg (by exact_mod_cast hb.ne'), EReal.coe_mul, EReal.coe_inv]

theorem rowMax_fin (s : Fin 64 → EReal) (h : ∀ e, Fin' (s e)) : Fin' (rowMax s) := by
  have key : ∀ S : Finset (Fin 64), S.fold max ⊥ s = ⊥ ∧ S = ∅ ∨ Fin' (S.fold max ⊥ s) := by
    intro S
    induction S using Finset.induction with
    | empty => left; simp
    | insert a S ha ih =>
      right
      rw [Finset.fold_insert ha]
      rcases ih with ⟨h0, _⟩ | h1
      · rw [h0]; simpa using h a
      · rcases max_choice (s a) (S.fold max ⊥ s) with e | e <;> rw [e]
        · exact h a
        · exact h1
  rcases key Finset.univ with ⟨_, h0⟩ | h1
  · exact absurd h0 (Finset.univ_nonempty (α := Fin 64)).ne_empty
  · exact h1

theorem prob_pos (s : Fin 64 → EReal) (h : ∀ e, Fin' (s e)) (e : Fin 64) : Pos (prob s e) :=
  (Pos.exp ((h e).sub (rowMax_fin s h))).div (Pos.sum (n := 64) _ fun e' => Pos.exp ((h e').sub (rowMax_fin s h)))

theorem share_pos {u v w : EReal} (hu : Pos u) (hv : Pos v) (hw : Pos w) : Pos (share u v w) := hu.div (hv.add hw)

theorem Pos.nonneg {x : EReal} (h : Pos x) : 0 ≤ x := by obtain ⟨r, hr, rfl⟩ := h; exact_mod_cast hr.le
theorem Pos.ne_top {x : EReal} (h : Pos x) : x ≠ ⊤ := by obtain ⟨r, hr, rfl⟩ := h; exact EReal.coe_ne_top r

/-! ## Weights in sums -/

/-- A finite weight that is not negative comes out of a row's product. -/
theorem sum_weight {n : ℕ} (w : EReal) (h0 : 0 ≤ w) (h1 : w ≠ ⊤) (x y : Fin n → EReal) :
    ∑ k, x k * w * y k = w * ∑ k, x k * y k := by
  induction (Finset.univ : Finset (Fin n)) using Finset.induction with
  | empty => simp
  | insert a s ha ih =>
    rw [Finset.sum_insert ha, Finset.sum_insert ha, ih, EReal.left_distrib_of_nonneg_of_ne_top h0 h1, mul_comm (x a) w, mul_assoc]

/-- The weight of expert `e` where `a` and `b` are chosen with shares `u` and `v`. -/
def weight (a b : Fin 64) (u v : EReal) (e : Fin 64) : EReal := (if a = e then u else 0) + (if b = e then v else 0)

theorem weight_nonneg (a b e : Fin 64) {u v : EReal} (hu : Pos u) (hv : Pos v) : 0 ≤ weight a b u v e := by
  unfold weight
  have := hu.nonneg; have := hv.nonneg
  exact add_nonneg (by split <;> simp [*]) (by split <;> simp [*])
theorem weight_ne_top (a b e : Fin 64) {u v : EReal} (hu : Pos u) (hv : Pos v) : weight a b u v e ≠ ⊤ := by
  unfold weight
  have := hu.ne_top; have := hv.ne_top
  exact EReal.add_ne_top (by split <;> simp [*]) (by split <;> simp [*])

/-- The sum over all experts is the sum over the chosen two. -/
theorem sum_experts (a b : Fin 64) {u v : EReal} (hu : Pos u) (hv : Pos v) (Y : Fin 64 → EReal) :
    ∑ e, weight a b u v e * Y e = u * Y a + v * Y b := by
  have h : ∀ e, weight a b u v e * Y e = (if a = e then u * Y e else 0) + (if b = e then v * Y e else 0) := by
    intro e
    unfold weight
    rw [EReal.right_distrib_of_nonneg (by split <;> simp [hu.nonneg]) (by split <;> simp [hv.nonneg])]
    congr 1 <;> split <;> simp
  simp only [h, Finset.sum_add_distrib, Finset.sum_ite_eq, Finset.mem_univ, if_true]

/-- Expert `l` of device `d`. -/
def expert (d : Fin 16) (l : Fin 4) : Fin 64 := ⟨4 * d.val + l.val, by omega⟩

theorem sum_devices (f : Fin 64 → EReal) : ∑ d : Fin 16, (f (expert d 0) + f (expert d 1) + f (expert d 2) + f (expert d 3)) = ∑ e, f e := by
  rw [← Fintype.sum_equiv (finProdFinEquiv (m := 16) (n := 4)) (fun p => f (expert p.1 p.2)) f ?_, Fintype.sum_prod_type]
  · exact Finset.sum_congr rfl fun d _ => (Fin.sum_univ_four fun l => f (expert d l)).symm
  · intro p
    refine congrArg f (Fin.ext ?_)
    simp only [expert, finProdFinEquiv_apply_val]
    omega

/-- What device `d` adds to a row: its four experts' products, the row weighted first. -/
def part (x : Fin 256 → EReal) (w : Fin 64 → EReal) (W : Fin 64 → Fin 256 → EReal) (d : Fin 16) : EReal :=
  (∑ k, x k * w (expert d 0) * W (expert d 0) k) + (∑ k, x k * w (expert d 1) * W (expert d 1) k)
    + (∑ k, x k * w (expert d 2) * W (expert d 2) k) + (∑ k, x k * w (expert d 3) * W (expert d 3) k)

/-- The devices' parts add up to the layer. -/
theorem sum_parts (x : Fin 256 → EReal) (R : Fin 256 → Fin 64 → EReal) (a b : Fin 64) (W : Fin 64 → Fin 256 → EReal)
    (hx : ∀ k, Fin' (x k)) (hR : ∀ k e, Fin' (R k e)) :
    ∑ d, part x (weight a b (share (prob (score x R) a) (prob (score x R) a) (prob (score x R) b))
        (share (prob (score x R) b) (prob (score x R) a) (prob (score x R) b))) W d = layer x R a b W := by
  have hs : ∀ e, Fin' (score x R e) := fun e => Fin'.sum _ fun k => (hx k).mul (hR k e)
  have hp := prob_pos _ hs
  have hu := share_pos (hp a) (hp a) (hp b)
  have hv := share_pos (hp b) (hp a) (hp b)
  unfold layer part
  rw [← sum_experts a b hu hv (fun e => ∑ k, x k * W e k), ← sum_devices]
  refine Finset.sum_congr rfl fun d _ => ?_
  rw [sum_weight _ (weight_nonneg a b _ hu hv) (weight_ne_top a b _ hu hv),
    sum_weight _ (weight_nonneg a b _ hu hv) (weight_ne_top a b _ hu hv),
    sum_weight _ (weight_nonneg a b _ hu hv) (weight_ne_top a b _ hu hv),
    sum_weight _ (weight_nonneg a b _ hu hv) (weight_ne_top a b _ hu hv)]

end Cert.Moe.Math

end
-- ==== Proof.Ker.lean ====
/-
# The kernel's value

The kernel's result at a token and a column is the sum over the sixteen devices of `Math.part` of the token's row, the
weights of the device's four experts and their columns.
-/
module

public import proofs.«01_k».proof.Proof.Math
public import proofs.«01_k».proof.Proof.Vals
public import Idealize.ShloMosaic.Lib.Pointwise
public import Idealize.ShloMosaic.Lib.KernelVsHost

@[expose] public section

set_option maxRecDepth 16384

noncomputable section

namespace Cert.Moe.Ker

open Cert.KernelIdeal Cert.KernelIdeal.Gen
open Idealize.ShloMosaic Idealize.ShloMosaic.TcCoe

/-! ## Words -/

theorem eq_lane (e a : Fin 64) (u : EReal) :
    Scalar.select (IntOp.cmpi .eq (BitVec.ofNat 32 e.val) (BitVec.ofNat 32 a.val)) u 0 = if a = e then u else 0 := by
  have h : IntOp.cmpi .eq (BitVec.ofNat 32 e.val) (BitVec.ofNat 32 a.val) = if a = e then 1#1 else 0#1 := by
    revert e a; decide +kernel
  rw [h]
  split <;> rfl

theorem eq_expert (d : Fin 16) (l : Fin 4) (a : Fin 64) (u : EReal) :
    Scalar.select (IntOp.cmpi .eq (BitVec.ofNat 32 a.val) (Scalar.addi (Scalar.muli (vw d) 4#32) (BitVec.ofNat 32 l.val))) u 0
      = if a = Math.expert d l then u else 0 := by
  have h : IntOp.cmpi .eq (BitVec.ofNat 32 a.val) (Scalar.addi (Scalar.muli (vw d) 4#32) (BitVec.ofNat 32 l.val))
      = if a = Math.expert d l then 1#1 else 0#1 := by
    revert d l a; decide +kernel
  rw [h]
  split <;> rfl

theorem neg_inf : Ideal.ofBits FTy.f32 4286578688#32 = (⊥ : EReal) := by
  show Ideal.ieee 8 23 (4286578688#32) = ⊥
  unfold Ideal.ieee
  rw [if_pos (by decide), if_pos (by decide), if_pos (by decide)]

/-! ## One group of rows -/

section Group
variable (r : FVec Ideal S256x64 .bf16) (x : FVec Ideal S256x256 .bf16) (i0 i1 : IVec S256x1 32)

/-- The scores and their exponentials. -/
def scores : FVec Ideal S256x64 .f32 :=
  matmul dot_S256x256_S256x64_S256x64_1_0_0_1_n_n none (k0_pay6 x) (k0_pay5 r) (constant S256x64 .f32 0x00000000#32)
def expd : FVec Ideal S256x64 .f32 :=
  exp (subf (scores r x) (broadcastTo S256x64 (shapeCast S256x1
    (multiReduction .maximumf [1] S256 (scores r x) 0xFF800000#32 reduces_S256x64_S256 (.inl rfl) rfl) shapeCasts_S256_S256x1) broadcasts_S256x1_S256x64))
theorem pay7_eq : k0_pay7 (F := Ideal) r x = divf (expd r x) (broadcastTo S256x64 (shapeCast S256x1
    (multiReduction .add [1] S256 (expd r x) 0x00000000#32 reduces_S256x64_S256 (.inl rfl) rfl) shapeCasts_S256_S256x1) broadcasts_S256x1_S256x64) := rfl

theorem scores_at (n : Fin 256) (e : Fin 64) :
    scores r x (ix2 n e) = Math.score (fun k => x (ix2 n k)) (fun k e => r (ix2 k e)) e := by
  unfold scores k0_pay6 k0_pay5 Math.score
  pointwise []

theorem expd_at (n : Fin 256) (e : Fin 64) :
    expd r x (ix2 n e) = Ideal.exp (scores r x (ix2 n e) - Math.rowMax fun e => scores r x (ix2 n e)) := by
  unfold expd
  pointwise []
  rw [neg_inf]
  rfl

theorem prob_at (n : Fin 256) (e : Fin 64) :
    k0_pay7 (F := Ideal) r x (ix2 n e) = Math.prob (Math.score (fun k => x (ix2 n k)) (fun k e => r (ix2 k e))) e := by
  have h : Math.score (fun k => x (ix2 n k)) (fun k e => r (ix2 k e)) = fun e => scores r x (ix2 n e) :=
    funext fun e => (scores_at r x n e).symm
  rw [h, pay7_eq]
  unfold Math.prob
  pointwise []
  simp only [expd_at]

theorem first_at (P : FVec Ideal S256x64 .f32) (n : Fin 256) (a : Fin 64) (ha : i0 (ix2 n 0) = BitVec.ofNat 32 a.val) :
    k0_pay10 (F := Ideal) lane P i0 (ix1 n) = P (ix2 n a) := by
  unfold k0_pay10 k0_pay8 lane
  pointwise []
  simp only [ha, eq_lane, Finset.sum_ite_eq, Finset.mem_univ, if_true]

theorem second_at (P : FVec Ideal S256x64 .f32) (n : Fin 256) (a : Fin 64) (ha : i1 (ix2 n 0) = BitVec.ofNat 32 a.val) :
    k0_pay11 (F := Ideal) lane P i1 (ix1 n) = P (ix2 n a) := by
  unfold k0_pay11 k0_pay9 lane
  pointwise []
  simp only [ha, eq_lane, Finset.sum_ite_eq, Finset.mem_univ, if_true]

theorem share0_at (P : FVec Ideal S256x64 .f32) (n : Fin 256) (a b : Fin 64) (ha : i0 (ix2 n 0) = BitVec.ofNat 32 a.val) (hb : i1 (ix2 n 0) = BitVec.ofNat 32 b.val) :
    k0_pay13 (F := Ideal) lane P i0 i1 (ix1 n) = Math.share (P (ix2 n a)) (P (ix2 n a)) (P (ix2 n b)) := by
  unfold k0_pay13 k0_pay12 Math.share
  pointwise []
  rw [first_at _ _ _ _ ha, second_at _ _ _ _ hb]

theorem share1_at (P : FVec Ideal S256x64 .f32) (n : Fin 256) (a b : Fin 64) (ha : i0 (ix2 n 0) = BitVec.ofNat 32 a.val) (hb : i1 (ix2 n 0) = BitVec.ofNat 32 b.val) :
    k0_pay14 (F := Ideal) lane P i0 i1 (ix1 n) = Math.share (P (ix2 n b)) (P (ix2 n a)) (P (ix2 n b)) := by
  unfold k0_pay14 k0_pay12 Math.share
  pointwise []
  rw [first_at _ _ _ _ ha, second_at _ _ _ _ hb]

end Group

/-- The shares of the two chosen experts. -/
def wt (s : Fin 64 → EReal) (a b : Fin 64) : Fin 64 → EReal :=
  Math.weight a b (Math.share (Math.prob s a) (Math.prob s a) (Math.prob s b)) (Math.share (Math.prob s b) (Math.prob s a) (Math.prob s b))

theorem prod_at (d : Fin 16) (w0 w1 w2 w3 : FVec Ideal S1x256x512 .bf16) (r : FVec Ideal S256x64 .bf16) (x : FVec Ideal S256x256 .bf16) (i0 i1 : IVec S256x1 32)
    (n : Fin 256) (h : Fin 512) (a b : Fin 64) (ha : i0 (ix2 n 0) = BitVec.ofNat 32 a.val) (hb : i1 (ix2 n 0) = BitVec.ofNat 32 b.val)
    (W : Fin 64 → Fin 256 → EReal) (h0 : ∀ k, w0 (ix3 0 k h) = W (Math.expert d 0) k) (h1 : ∀ k, w1 (ix3 0 k h) = W (Math.expert d 1) k)
    (h2 : ∀ k, w2 (ix3 0 k h) = W (Math.expert d 2) k) (h3 : ∀ k, w3 (ix3 0 k h) = W (Math.expert d 3) k) :
    prodOf (F := Ideal) (vw d) w0 w1 w2 w3 r x i0 i1 (ix2 n h)
      = Math.part (fun k => x (ix2 n k)) (wt (Math.score (fun k => x (ix2 n k)) (fun k e => r (ix2 k e))) a b) W d := by
  have e0 := share0_at i0 i1 (k0_pay7 (F := Ideal) r x) n a b ha hb
  have e1 := share1_at i0 i1 (k0_pay7 (F := Ideal) r x) n a b ha hb
  rw [prob_at, prob_at] at e0 e1
  unfold wt Math.weight
  rw [← e0, ← e1]
  clear e0 e1
  unfold prodOf k0_pay17 k0_pay15 k0_pay16 k0_pay1 k0_pay2 k0_pay3 k0_pay4 k0_pay6 k0_pay8 k0_pay9 Math.part
  generalize k0_pay13 (F := Ideal) lane (k0_pay7 r x) i0 i1 = u
  generalize k0_pay14 (F := Ideal) lane (k0_pay7 r x) i0 i1 = v
  pointwise []
  have q0 : ∀ (a : Fin 64) (u : EReal), Scalar.select (IntOp.cmpi .eq (BitVec.ofNat 32 a.val) (Scalar.addi (Scalar.muli (vw d) 4#32) 0#32)) u 0
      = if a = Math.expert d 0 then u else 0 := eq_expert d 0
  have q1 : ∀ (a : Fin 64) (u : EReal), Scalar.select (IntOp.cmpi .eq (BitVec.ofNat 32 a.val) (Scalar.addi (Scalar.muli (vw d) 4#32) 1#32)) u 0
      = if a = Math.expert d 1 then u else 0 := eq_expert d 1
  have q2 : ∀ (a : Fin 64) (u : EReal), Scalar.select (IntOp.cmpi .eq (BitVec.ofNat 32 a.val) (Scalar.addi (Scalar.muli (vw d) 4#32) 2#32)) u 0
      = if a = Math.expert d 2 then u else 0 := eq_expert d 2
  have q3 : ∀ (a : Fin 64) (u : EReal), Scalar.select (IntOp.cmpi .eq (BitVec.ofNat 32 a.val) (Scalar.addi (Scalar.muli (vw d) 4#32) 3#32)) u 0
      = if a = Math.expert d 3 then u else 0 := eq_expert d 3
  simp only [ha, hb, q0, q1, q2, q3, h0, h1, h2, h3]

/-! ## Groups, chunks and slots -/

/-- The chunks of a stored group: rows 64 at a time. -/
theorem whole_at (z : FVec Ideal S256x512 .f32) (q : Fin 4) (r : Fin 64) (h : Fin 512) (n : Fin 256) (hn : n.val = 64 * q.val + r.val) :
    k0_pay18 (F := Ideal) z (ix3 q r h) = z (ix2 n h) := by
  unfold k0_pay18
  pointwise []
  refine congrArg z (funext fun a => Fin.ext ?_)
  match a with
  | ⟨0, _⟩ => exact (show q.val * 64 + r.val = n.val by omega)
  | ⟨1, _⟩ => rfl

theorem left_at (z : FVec Ideal S256x512 .f32) (q : Fin 4) (r : Fin 64) (h : Fin 256) (n : Fin 256) (hn : n.val = 64 * q.val + r.val)
    (h' : Fin 512) (hh : h'.val = h.val) :
    k0_pay20 (F := Ideal) z (ix4 q r h) = z (ix2 n h') := by
  unfold k0_pay20 k0_pay19
  rw [show ix4 q r h = Idealize.ShloMosaic.ix4 0 q r h from funext fun a => by match a with | ⟨0, _⟩ => rfl | ⟨1, _⟩ => rfl | ⟨2, _⟩ => rfl | ⟨3, _⟩ => rfl]
  pointwise []
  refine congrArg z (funext fun a => Fin.ext ?_)
  match a with
  | ⟨0, _⟩ => exact (show q.val * 64 + r.val = n.val by omega)
  | ⟨1, _⟩ => exact hh.symm

theorem right_at (z : FVec Ideal S256x512 .f32) (q : Fin 4) (r : Fin 64) (h : Fin 256) (n : Fin 256) (hn : n.val = 64 * q.val + r.val)
    (h' : Fin 512) (hh : h'.val = 256 + h.val) :
    k0_pay21 (F := Ideal) z (ix4 q r h) = z (ix2 n h') := by
  unfold k0_pay21 k0_pay19
  rw [show ix4 q r h = Idealize.ShloMosaic.ix4 0 q r h from funext fun a => by match a with | ⟨0, _⟩ => rfl | ⟨1, _⟩ => rfl | ⟨2, _⟩ => rfl | ⟨3, _⟩ => rfl]
  pointwise []
  refine congrArg z (funext fun a => Fin.ext ?_)
  match a with
  | ⟨0, _⟩ => exact (show q.val * 64 + r.val = n.val by omega)
  | ⟨1, _⟩ => exact hh.symm

/-- The token in row `r` of the group that `c` takes up in step `t`. -/
def row (c : Dev nD) (t : Fin 4) (r : Fin 256) : Fin 1024 :=
  ⟨256 * ((c.val / 4 + t.val + 1) % 4) + r.val, by have := r.isLt; have := Nat.mod_lt (c.val / 4 + t.val + 1) (show 0 < 4 by decide); omega⟩

section Sum
variable (inp : Inp Ideal) (c : Dev nD)

theorem lx_at (t : Fin 4) (r : Fin 256) (k : Fin 256) : lx inp c t (ix2 r k) = inp.x c (ix2 (row c t r) k) := by
  have e := congrFun (k0_off1_eq c t)
  refine congrArg (inp.x c) (funext fun a => Fin.ext ?_)
  match a with
  | ⟨0, _⟩ =>
    show k0_off1 c (BitVec.ofNat 32 t.val) 0 + 1 * r.val = 256 * ((c.val / 4 + t.val + 1) % 4) + r.val
    rw [show k0_off1 c (BitVec.ofNat 32 t.val) 0 = 256 * ((c.val / 4 + t.val + 1) % 4) from e 0, Nat.one_mul]
  | ⟨1, _⟩ =>
    show k0_off1 c (BitVec.ofNat 32 t.val) 1 + 1 * k.val = k.val
    rw [show k0_off1 c (BitVec.ofNat 32 t.val) 1 = 0 from e 1, Nat.one_mul, Nat.zero_add]

theorem li0_at (t : Fin 4) (r : Fin 256) : li0 inp c t (ix2 r 0) = inp.i c (ix2 (row c t r) 0) := by
  have e := congrFun (k0_off2_eq c t)
  refine congrArg (inp.i c) (funext fun a => Fin.ext ?_)
  match a with
  | ⟨0, _⟩ =>
    show k0_off2 c (BitVec.ofNat 32 t.val) 0 + 1 * r.val = 256 * ((c.val / 4 + t.val + 1) % 4) + r.val
    rw [show k0_off2 c (BitVec.ofNat 32 t.val) 0 = 256 * ((c.val / 4 + t.val + 1) % 4) from e 0, Nat.one_mul]
  | ⟨1, _⟩ =>
    show k0_off2 c (BitVec.ofNat 32 t.val) 1 + 1 * 0 = 0
    rw [show k0_off2 c (BitVec.ofNat 32 t.val) 1 = 0 from e 1]

theorem li1_at (t : Fin 4) (r : Fin 256) : li1 inp c t (ix2 r 0) = inp.i c (ix2 (row c t r) 1) := by
  have e := congrFun (k0_off3_eq c t)
  refine congrArg (inp.i c) (funext fun a => Fin.ext ?_)
  match a with
  | ⟨0, _⟩ =>
    show k0_off3 c (BitVec.ofNat 32 t.val) 0 + 1 * r.val = 256 * ((c.val / 4 + t.val + 1) % 4) + r.val
    rw [show k0_off3 c (BitVec.ofNat 32 t.val) 0 = 256 * ((c.val / 4 + t.val + 1) % 4) from e 0, Nat.one_mul]
  | ⟨1, _⟩ =>
    show k0_off3 c (BitVec.ofNat 32 t.val) 1 + 1 * 0 = 1
    rw [show k0_off3 c (BitVec.ofNat 32 t.val) 1 = 1 from e 1]

theorem lr_at (k : Fin 256) (e : Fin 64) : lr inp c (ix2 k e) = inp.r c (ix2 k e) := by
  refine congrArg (inp.r c) (funext fun a => Fin.ext ?_)
  match a with
  | ⟨0, _⟩ => exact (show 0 + 1 * k.val = k.val by omega)
  | ⟨1, _⟩ => exact (show 0 + 1 * e.val = e.val by omega)

theorem lw0_at (k : Fin 256) (h : Fin 512) : lw0 inp c (ix3 0 k h) = inp.w c (ix3 0 k h) := by
  refine congrArg (inp.w c) (funext fun a => Fin.ext ?_)
  match a with
  | ⟨0, _⟩ => rfl
  | ⟨1, _⟩ => exact (show 0 + 1 * k.val = k.val by omega)
  | ⟨2, _⟩ => exact (show 0 + 1 * h.val = h.val by omega)
theorem lw1_at (k : Fin 256) (h : Fin 512) : lw1 inp c (ix3 0 k h) = inp.w c (ix3 1 k h) := by
  refine congrArg (inp.w c) (funext fun a => Fin.ext ?_)
  match a with
  | ⟨0, _⟩ => rfl
  | ⟨1, _⟩ => exact (show 0 + 1 * k.val = k.val by omega)
  | ⟨2, _⟩ => exact (show 0 + 1 * h.val = h.val by omega)
theorem lw2_at (k : Fin 256) (h : Fin 512) : lw2 inp c (ix3 0 k h) = inp.w c (ix3 2 k h) := by
  refine congrArg (inp.w c) (funext fun a => Fin.ext ?_)
  match a with
  | ⟨0, _⟩ => rfl
  | ⟨1, _⟩ => exact (show 0 + 1 * k.val = k.val by omega)
  | ⟨2, _⟩ => exact (show 0 + 1 * h.val = h.val by omega)
theorem lw3_at (k : Fin 256) (h : Fin 512) : lw3 inp c (ix3 0 k h) = inp.w c (ix3 3 k h) := by
  refine congrArg (inp.w c) (funext fun a => Fin.ext ?_)
  match a with
  | ⟨0, _⟩ => rfl
  | ⟨1, _⟩ => exact (show 0 + 1 * k.val = k.val by omega)
  | ⟨2, _⟩ => exact (show 0 + 1 * h.val = h.val by omega)

theorem sum16 (g : Fin 16 → EReal) : g 0 + g 1 + g 2 + g 3 + g 4 + g 5 + g 6 + g 7 + g 8 + g 9 + g 10 + g 11 + g 12 + g 13 + g 14 + g 15 = ∑ d, g d := by
  rw [Fin.sum_univ_castSucc, Fin.sum_univ_castSucc, Fin.sum_univ_castSucc, Fin.sum_univ_castSucc, Fin.sum_univ_castSucc, Fin.sum_univ_castSucc,
    Fin.sum_univ_castSucc, Fin.sum_univ_castSucc, Fin.sum_univ_eight]
  rfl

/-- The token in row `r` of chunk `c`. -/
def tok (r : Fin 64) : Fin 1024 := ⟨64 * c.val + r.val, by have := r.isLt; have : c.val < 16 := c.isLt; omega⟩
def inGrp (r : Fin 64) : Fin 256 := ⟨64 * (c.val % 4) + r.val, by have := r.isLt; have := Nat.mod_lt c.val (show 0 < 4 by decide); omega⟩

theorem tok_row (k : Fin 16) (r : Fin 64) : tok c r = row (pr c k.val) (stepOf (pr c k.val) c.val) (inGrp c r) := Fin.ext (by
  have : c.val < 16 := c.isLt
  have hp : (pr c k.val).val < 16 := (pr c k.val).isLt
  have := r.isLt
  show 64 * c.val + r.val = 256 * (((pr c k.val).val / 4 + (c.val / 4 + 3 - (pr c k.val).val / 4) % 4 + 1) % 4) + (64 * (c.val % 4) + r.val)
  generalize (pr c k.val).val = p at *
  omega)

theorem ld_at (col : Fin 2) (k : Fin 16) (r : Fin 64) (h : Fin 256) :
    ld inp c col k (Idealize.ShloMosaic.ix4 0 0 r h) = RB (SB inp) c (Idealize.ShloMosaic.ix4 col k r h) := by
  refine congrArg (RB (SB inp) c) (funext fun a => Fin.ext ?_)
  match a with
  | ⟨0, _⟩ => rfl
  | ⟨1, _⟩ => rfl
  | ⟨2, _⟩ => exact (show 0 + 1 * r.val = r.val by omega)
  | ⟨3, _⟩ => exact (show 0 + 1 * h.val = h.val by omega)

/-- A device and its fifteen peers are all devices. -/
theorem sum_peers (f : Fin 16 → EReal) :
    f c + f (pr c 0) + f (pr c 1) + f (pr c 2) + f (pr c 3) + f (pr c 4) + f (pr c 5) + f (pr c 6) + f (pr c 7)
      + f (pr c 8) + f (pr c 9) + f (pr c 10) + f (pr c 11) + f (pr c 12) + f (pr c 13) + f (pr c 14) = ∑ d : Fin 16, f d := by
  have hc : c.val < 16 := c.isLt
  let c' : Fin 16 := c
  have h0 : f c = f (c' + 0) := congrArg f (Fin.ext (show c.val = (c.val + 0) % 16 by omega))
  have hp : ∀ k : ℕ, ∀ m : Fin 16, m.val = k + 1 → f (pr c k) = f (c' + m) := fun k m hm =>
    congrArg f (Fin.ext (show (c.val + 1 + k) % 16 = (c.val + m.val) % 16 by rw [hm]; congr 1; omega))
  rw [← Equiv.sum_comp (Equiv.addLeft c') f, ← sum16, h0, hp 0 1 rfl, hp 1 2 rfl, hp 2 3 rfl, hp 3 4 rfl, hp 4 5 rfl, hp 5 6 rfl, hp 6 7 rfl,
    hp 7 8 rfl, hp 8 9 rfl, hp 9 10 rfl, hp 10 11 rfl, hp 11 12 rfl, hp 12 13 rfl, hp 13 14 rfl, hp 14 15 rfl]
  rfl

/-! ## The result -/

variable (X : Fin 1024 → Fin 256 → EReal) (R : Fin 256 → Fin 64 → EReal) (a b : Fin 1024 → Fin 64) (W : Fin 64 → Fin 256 → Fin 512 → EReal)

/-- The devices are given the same tokens, router and routes, and each its four experts. -/
structure Given : Prop where
  x : ∀ c n k, inp.x c (ix2 n k) = X n k
  r : ∀ c k e, inp.r c (ix2 k e) = R k e
  a : ∀ c n, inp.i c (ix2 n 0) = BitVec.ofNat 32 (a n).val
  b : ∀ c n, inp.i c (ix2 n 1) = BitVec.ofNat 32 (b n).val
  w : ∀ c l k h, inp.w c (ix3 l k h) = W (Math.expert c l) k h

/-- What one device's experts add to the result. -/
def contrib (n : Fin 1024) (h : Fin 512) (d : Fin 16) : EReal :=
  Math.part (X n) (wt (Math.score (X n) R) (a n) (b n)) (fun e k => W e k h) d

variable {inp X R a b W} (hg : Given inp X R a b W)
include hg

theorem grp_at (t : Fin 4) (r : Fin 256) (h : Fin 512) (n : Fin 1024) (hn : n = row c t r) :
    grp inp c t (ix2 r h) = contrib X R a b W n h c := by
  subst hn
  unfold grp contrib
  rw [prod_at c _ _ _ _ _ _ _ _ r h (a (row c t r)) (b (row c t r)) ((li0_at inp c t r).trans (hg.a c _)) ((li1_at inp c t r).trans (hg.b c _))
    (fun e k => W e k h) (fun k => (lw0_at inp c k h).trans (hg.w c 0 k h)) (fun k => (lw1_at inp c k h).trans (hg.w c 1 k h))
    (fun k => (lw2_at inp c k h).trans (hg.w c 2 k h)) (fun k => (lw3_at inp c k h).trans (hg.w c 3 k h))]
  rw [show (fun k => lx inp c t (ix2 r k)) = X (row c t r) from funext fun k => (lx_at inp c t r k).trans (hg.x c _ k),
    show (fun k e => lr inp c (ix2 k e)) = R from funext fun k => funext fun e => (lr_at inp c k e).trans (hg.r c k e)]

theorem own_at (r : Fin 64) (h : Fin 512) : own inp c (ix3 0 r h) = contrib X R a b W (tok c r) h c := by
  have e := whole_at (grp inp c 3) ⟨c.val % 4, Nat.mod_lt _ (by decide)⟩ r h (inGrp c r) rfl
  rw [grp_at c hg 3 (inGrp c r) h (tok c r) (Fin.ext (by
    have : c.val < 16 := c.isLt
    have := r.isLt
    show 64 * c.val + r.val = 256 * ((c.val / 4 + 3 + 1) % 4) + (64 * (c.val % 4) + r.val)
    omega))] at e
  rw [← e]
  exact congrArg (k0_pay18 (grp inp c 3)) (funext fun x => by match x with | ⟨0, _⟩ => rfl | ⟨1, _⟩ => rfl | ⟨2, _⟩ => rfl)

theorem ld0_at (k : Fin 16) (r : Fin 64) (h : Fin 256) (h' : Fin 512) (hh : h'.val = h.val) :
    ld inp c 0 k (Idealize.ShloMosaic.ix4 0 0 r h) = contrib X R a b W (tok c r) h' (pr c k.val) := by
  have e := left_at (grp inp (pr c k.val) (stepOf (pr c k.val) c.val)) ⟨c.val % 4, Nat.mod_lt _ (by decide)⟩ r h (inGrp c r) rfl h' hh
  rw [grp_at (pr c k.val) hg _ (inGrp c r) h' (tok c r) (tok_row c k r)] at e
  rw [← e]
  exact ld_at inp c 0 k r h

theorem ld1_at (k : Fin 16) (r : Fin 64) (h : Fin 256) (h' : Fin 512) (hh : h'.val = 256 + h.val) :
    ld inp c 1 k (Idealize.ShloMosaic.ix4 0 0 r h) = contrib X R a b W (tok c r) h' (pr c k.val) := by
  have e := right_at (grp inp (pr c k.val) (stepOf (pr c k.val) c.val)) ⟨c.val % 4, Nat.mod_lt _ (by decide)⟩ r h (inGrp c r) rfl h' hh
  rw [grp_at (pr c k.val) hg _ (inGrp c r) h' (tok c r) (tok_row c k r)] at e
  rw [← e]
  exact ld_at inp c 1 k r h

theorem sum0_at (r : Fin 64) (h : Fin 256) (h' : Fin 512) (hh : h'.val = h.val) :
    sum0 inp c (ix2 r h) = ∑ d, contrib X R a b W (tok c r) h' d := by
  rw [← sum_peers c]
  unfold sum0 k0_pay84 k0_pay83 k0_pay82 k0_pay81 k0_pay80 k0_pay79 k0_pay78 k0_pay77
  pointwise []
  rw [own_at c hg, show (⟨h.val, _⟩ : Fin 512) = h' from Fin.ext hh.symm, ld0_at c hg 0 r h h' hh, ld0_at c hg 1 r h h' hh, ld0_at c hg 2 r h h' hh, ld0_at c hg 3 r h h' hh, ld0_at c hg 4 r h h' hh, ld0_at c hg 5 r h h' hh, ld0_at c hg 6 r h h' hh, ld0_at c hg 7 r h h' hh, ld0_at c hg 8 r h h' hh, ld0_at c hg 9 r h h' hh, ld0_at c hg 10 r h h' hh, ld0_at c hg 11 r h h' hh, ld0_at c hg 12 r h h' hh, ld0_at c hg 13 r h h' hh, ld0_at c hg 14 r h h' hh]
  rfl

theorem sum1_at (r : Fin 64) (h : Fin 256) (h' : Fin 512) (hh : h'.val = 256 + h.val) :
    sum1 inp c (ix2 r h) = ∑ d, contrib X R a b W (tok c r) h' d := by
  rw [← sum_peers c]
  unfold sum1 k0_pay94 k0_pay93 k0_pay92 k0_pay91 k0_pay90 k0_pay89 k0_pay88 k0_pay87 k0_pay86 k0_pay85
  pointwise []
  rw [own_at c hg, show (⟨256 + h.val, _⟩ : Fin 512) = h' from Fin.ext hh.symm, ld1_at c hg 0 r h h' hh, ld1_at c hg 1 r h h' hh, ld1_at c hg 2 r h h' hh, ld1_at c hg 3 r h h' hh, ld1_at c hg 4 r h h' hh, ld1_at c hg 5 r h h' hh, ld1_at c hg 6 r h h' hh, ld1_at c hg 7 r h h' hh, ld1_at c hg 8 r h h' hh, ld1_at c hg 9 r h h' hh, ld1_at c hg 10 r h h' hh, ld1_at c hg 11 r h h' hh, ld1_at c hg 12 r h h' hh, ld1_at c hg 13 r h h' hh, ld1_at c hg 14 r h h' hh]
  rfl

/-- The kernel's result, where tokens and router weights are finite. -/
theorem out_at (hX : ∀ n k, Math.Fin' (X n k)) (hR : ∀ k e, Math.Fin' (R k e)) (n : Fin 1024) (h : Fin 512) :
    OUT inp (ix2 n h) = Math.layer (X n) R (a n) (b n) (fun e k => W e k h) := by
  have hn := n.isLt
  have hh := h.isLt
  refine Eq.trans ?_ (Math.sum_parts (X n) R (a n) (b n) (fun e k => W e k h) (hX n) hR)
  have ht : tok ⟨n.val / 64, by show _ < 16; omega⟩ ⟨n.val % 64, Nat.mod_lt _ (by decide)⟩ = n :=
    Fin.ext (show 64 * (n.val / 64) + n.val % 64 = n.val by omega)
  have hi : (fun a => match a with | ⟨0, _⟩ => (⟨n.val % 64, Nat.mod_lt _ (by decide)⟩ : Fin 64) | ⟨1, _⟩ => (⟨h.val % 256, Nat.mod_lt _ (by decide)⟩ : Fin 256) : S64x256.Idx)
      = ix2 ⟨n.val % 64, Nat.mod_lt _ (by decide)⟩ ⟨h.val % 256, Nat.mod_lt _ (by decide)⟩ :=
    funext fun a => by match a with | ⟨0, _⟩ => rfl | ⟨1, _⟩ => rfl
  show (if h.val / 256 = 0 then sum0 inp ⟨n.val / 64, _⟩ else sum1 inp ⟨n.val / 64, _⟩)
    (fun a => match a with | ⟨0, _⟩ => (⟨n.val % 64, _⟩ : Fin 64) | ⟨1, _⟩ => (⟨h.val % 256, _⟩ : Fin 256)) = _
  by_cases hc : h.val / 256 = 0
  · rw [if_pos hc]
    refine (congrArg (sum0 inp _) hi).trans ?_
    rw [sum0_at _ hg _ _ h (show h.val = h.val % 256 by omega), ht]
    rfl
  · rw [if_neg hc]
    refine (congrArg (sum1 inp _) hi).trans ?_
    rw [sum1_at _ hg _ _ h (show h.val = 256 + h.val % 256 by omega), ht]
    rfl

end Sum

end Cert.Moe.Ker
-- ==== Proof.Ref.lean ====
/-
# The reference's value

The reference's result at a token and a column is `Math.layer` of the token's row, the router's weights, the token's two
experts and their weights' column, where every expert index is in range.
-/
module

public import proofs.«01_k».proof.Proof.Math
public import proofs.«01_k».proof.Proof.Gen.ReferenceIdeal.Run
public import Idealize.ShloMosaic.Lib.Pointwise
public import Idealize.ShloMosaic.Lib.KernelVsHost

@[expose] public section

set_option maxRecDepth 16384

noncomputable section

namespace Cert.Moe.Ref

open Cert.ReferenceIdeal Cert.ReferenceIdeal.Gen
open Idealize.ShloMosaic Idealize.ShloMosaic.TcCoe

variable (X : FVec Ideal S1024x256 .bf16) (R : FVec Ideal S256x64 .bf16) (I : IVec S1024x2 32) (W : FVec Ideal S64x256x512 .bf16)

/-- The router's scores, and their softmax. -/
def scores : FVec Ideal S1024x64 .f32 :=
  Host.dotGeneral dot_S1024x256_S256x64_S1024x64_1_0_0_1_n_n none (extf .f32 X bitsLt_bf16_f32) (extf .f32 R bitsLt_bf16_f32)
def expd : FVec Ideal S1024x64 .f32 :=
  Host.exp (subf (scores X R) (broadcastInDim S1024x64 ![0, 1] bcast_S1024x1_S1024x64_0_1 (broadcastInDim S1024x1 ![0] bcast_S1024_S1024x1_0
    (Host.reduce FloatOps.maximumf (scores X R) (constant S_ .f32 0xFF800000#32) reducesTo_S1024x64_S1024_d1 h_S_))))
def probs : FVec Ideal S1024x64 .f32 :=
  Host.divf (expd X R) (broadcastInDim S1024x64 ![0, 1] bcast_S1024x1_S1024x64_0_1 (broadcastInDim S1024x1 ![0] bcast_S1024_S1024x1_0
    (Host.reduceAdd (expd X R) (constant S_ .f32 0x00000000#32) reducesTo_S1024x64_S1024_d1 h_S_)))

/-- The first and the second expert of each token. -/
def col0 : IVec S1024 32 := shapeCast _ (extractStridedSlice S1024x1 ![0, 0] I slices_S1024x2_S1024x1_0_0) shapeCasts_S1024x1_S1024
def col1 : IVec S1024 32 := shapeCast _ (extractStridedSlice S1024x1 ![0, 1] I slices_S1024x2_S1024x1_0_1) shapeCasts_S1024x1_S1024

/-- A negative index counts from the end. -/
def wrapped (j : IVec S1024 32) : IVec S1024x1x1 32 :=
  shapeCast _ (select (cmpi .slt (broadcastInDim S1024x1 ![0] bcast_S1024_S1024x1_0 j) (broadcastInDim S1024x1 ![] bcast_S_S1024x1 (constantI S_ 32 0#32)))
    (addi (broadcastInDim S1024x1 ![0] bcast_S1024_S1024x1_0 j) (broadcastInDim S1024x1 ![] bcast_S_S1024x1 (constantI S_ 32 64#32)))
    (broadcastInDim S1024x1 ![0] bcast_S1024_S1024x1_0 j)) shapeCasts_S1024x1_S1024x1x1
/-- Each token's entry of a table, where its index is in range. -/
def taken (P : FVec Ideal S1024x64 .f32) (j : IVec S1024 32) : FVec Ideal S1024x1 .f32 :=
  select (Host.reduce IntOp.andi (andi (cmpi .sge (wrapped j) (broadcastInDim S1024x1x1 ![] bcast_S_S1024x1x1 (constantI S_ 32 0#32)))
      (cmpi .sle (wrapped j) (broadcastInDim S1024x1x1 ![0, 1, 2] bcast_S1x1x1_S1024x1x1_0_1_2 (broadcastInDim S1x1x1 ![2] bcast_S1_S1x1x1_2 (constantI S1 32 63#32)))))
      (constantI S_ 1 1#1) reducesTo_S1024x1x1_S1024x1_d2 h_S_)
    (Host.gather gather_S1024x64_S1024x1x1_S1024x1_n_1_0_0_1_2_11 P (wrapped j)) (broadcastInDim S1024x1 ![] bcast_S_S1024x1 (constant S_ .f32 0x7FC00000#32))
/-- Each token's expert's weights, and their product with the token. -/
def experts (j : IVec S1024 32) : FVec Ideal S1024x256x512 .f32 :=
  Host.gather gather_S64x256x512_S1024x1_S1024x256x512_12_0_n_n_0_1_1256512 (extf .f32 W bitsLt_bf16_f32) (broadcastInDim S1024x1 ![0] bcast_S1024_S1024x1_0
    (select (cmpi .slt j (broadcastInDim S1024 ![] bcast_S_S1024 (constantI S_ 32 0#32))) (addi j (broadcastInDim S1024 ![] bcast_S_S1024 (constantI S_ 32 64#32))) j))
def product (j : IVec S1024 32) : FVec Ideal S1024x512 .f32 :=
  Host.dotGeneral dot_S1024x256_S1024x256x512_S1024x512_1_1_n_2_0_0 none (extf .f32 X bitsLt_bf16_f32) (experts W j)

def result : FVec Ideal S1024x512 .bf16 :=
  truncf .bf16 (addf
    (mulf (broadcastInDim S1024x512 ![0, 1] bcast_S1024x1_S1024x512_0_1 (Host.divf (taken (probs X R) (col0 I)) (addf (taken (probs X R) (col0 I)) (taken (probs X R) (col1 I)))))
      (product X W (col0 I)))
    (mulf (broadcastInDim S1024x512 ![0, 1] bcast_S1024x1_S1024x512_0_1 (Host.divf (taken (probs X R) (col1 I)) (addf (taken (probs X R) (col0 I)) (taken (probs X R) (col1 I)))))
      (product X W (col1 I)))) bitsLt_bf16_f32

theorem res_eq (m : (ℓ : Loc nD τ sig) → Buf (Elt Ideal) ℓ) (c : Dev nD) :
    Cert.ReferenceIdeal.Value.res_main_v45 (F := Ideal) m c
      = result (m ((c.tc : Thread nD τ).loc main_arg0)) (m ((c.tc : Thread nD τ).loc main_arg1)) (m ((c.tc : Thread nD τ).loc main_arg2)) (m ((c.tc : Thread nD τ).loc main_arg3)) := by
  unfold Cert.ReferenceIdeal.Value.res_main_v45 result product experts taken wrapped col0 col1 probs expd scores
  rfl

theorem scores_at (n : Fin 1024) (e : Fin 64) :
    scores X R (ix2 n e) = Math.score (fun k => X (ix2 n k)) (fun k e => R (ix2 k e)) e := by
  unfold scores Math.score
  pointwise []

theorem col0_at (n : Fin 1024) : col0 I (ix1 n) = I (ix2 n 0) := by
  unfold col0
  pointwise []
theorem col1_at (n : Fin 1024) : col1 I (ix1 n) = I (ix2 n 1) := by
  unfold col1
  pointwise []

theorem neg_inf : Ideal.ofBits FTy.f32 4286578688#32 = (⊥ : EReal) := by
  show Ideal.ieee 8 23 (4286578688#32) = ⊥
  unfold Ideal.ieee
  rw [if_pos (by decide), if_pos (by decide), if_pos (by decide)]

theorem expd_at (n : Fin 1024) (e : Fin 64) :
    expd X R (ix2 n e) = Ideal.exp (scores X R (ix2 n e) - Math.rowMax fun e => scores X R (ix2 n e)) := by
  unfold expd
  pointwise []
  rw [neg_inf]
  rfl

theorem probs_at (n : Fin 1024) (e : Fin 64) :
    probs X R (ix2 n e) = Math.prob (Math.score (fun k => X (ix2 n k)) (fun k e => R (ix2 k e))) e := by
  have h : Math.score (fun k => X (ix2 n k)) (fun k e => R (ix2 k e)) = fun e => scores X R (ix2 n e) :=
    funext fun e => (scores_at X R n e).symm
  rw [h]
  unfold probs Math.prob
  pointwise []
  simp only [expd_at]

/-! ## The lookups -/

section Lookup
variable (j : IVec S1024 32) (a : Fin 1024 → Fin 64) (ha : ∀ n, j (ix1 n) = BitVec.ofNat 32 (a n).val)

theorem not_neg (e : Fin 64) : IntOp.cmpi .slt (BitVec.ofNat 32 e.val) 0#32 = 0#1 := by revert e; decide +kernel
theorem in_range (e : Fin 64) : IntOp.andi (IntOp.cmpi .sge (BitVec.ofNat 32 e.val) 0#32) (IntOp.cmpi .sle (BitVec.ofNat 32 e.val) 63#32) = 1#1 := by
  revert e; decide +kernel
theorem to_nat (e : Fin 64) : min (BitVec.ofNat 32 e.val).toInt.toNat 63 = e.val := by revert e; decide +kernel

include ha

theorem wrapped_at (n : Fin 1024) : wrapped j (ix3 n 0 0) = BitVec.ofNat 32 (a n).val := by
  unfold wrapped
  pointwise []
  rw [ha, not_neg]
  rfl

theorem gather_at (P : FVec Ideal S1024x64 .f32) (n : Fin 1024) :
    Host.gather gather_S1024x64_S1024x1x1_S1024x1_n_1_0_0_1_2_11 P (wrapped j) (ix2 n 0) = P (ix2 n (a n)) := by
  refine congrArg P (funext fun x => ?_)
  match x with
  | ⟨0, _⟩ => exact Fin.ext (show 0 + n.val + 0 = n.val by omega)
  | ⟨1, _⟩ =>
    have hs : gather_S1024x64_S1024x1x1_S1024x1_n_1_0_0_1_2_11.siIdx (ix2 n 0) ⟨0, by decide⟩ = ix3 n 0 0 := by
      funext b
      match b with
      | ⟨0, _⟩ => rfl
      | ⟨1, _⟩ => rfl
      | ⟨2, _⟩ => rfl
    refine Fin.ext ?_
    show min (wrapped j (gather_S1024x64_S1024x1x1_S1024x1_n_1_0_0_1_2_11.siIdx (ix2 n 0) ⟨0, _⟩)).toInt.toNat 63 + 0 + 0 = (a n).val
    rw [hs, wrapped_at j a ha, to_nat]
    rfl

theorem taken_at (P : FVec Ideal S1024x64 .f32) (n : Fin 1024) : taken P j (ix2 n 0) = P (ix2 n (a n)) := by
  unfold taken
  pointwise []
  rw [gather_at j a ha]
  have hf : (fun x : Fin 1 => IntOp.andi (IntOp.cmpi .sge (wrapped j (ix3 n 0 x)) 0#32) (IntOp.cmpi .sle (wrapped j (ix3 n 0 x)) 63#32)) = fun _ => 1#1 :=
    funext fun x => by rw [Fin.eq_zero x, wrapped_at j a ha, in_range]
  rw [hf, show Finset.fold IntOp.andi (1#1) (fun _ : Fin 1 => (1#1 : BitVec 1)) Finset.univ = 1#1 by decide]
  rfl

theorem experts_at (n : Fin 1024) (k : Fin 256) (h : Fin 512) : experts W j (ix3 n k h) = W (ix3 (a n) k h) := by
  unfold experts
  have hw : (broadcastInDim S1024x1 ![0] bcast_S1024_S1024x1_0
    (select (cmpi .slt j (broadcastInDim S1024 ![] bcast_S_S1024 (constantI S_ 32 0#32))) (addi j (broadcastInDim S1024 ![] bcast_S_S1024 (constantI S_ 32 64#32))) j)) (ix2 n 0)
      = BitVec.ofNat 32 (a n).val := by
    pointwise []
    rw [ha, not_neg]
    rfl
  revert hw
  generalize (broadcastInDim S1024x1 ![0] bcast_S1024_S1024x1_0
    (select (cmpi .slt j (broadcastInDim S1024 ![] bcast_S_S1024 (constantI S_ 32 0#32))) (addi j (broadcastInDim S1024 ![] bcast_S_S1024 (constantI S_ 32 64#32))) j)) = idx
  intro hw
  refine congrArg W (funext fun x => ?_)
  match x with
  | ⟨0, _⟩ =>
    have hs : gather_S64x256x512_S1024x1_S1024x256x512_12_0_n_n_0_1_1256512.siIdx (ix3 n k h) ⟨0, by decide⟩ = ix2 n 0 := by
      funext b
      match b with
      | ⟨0, _⟩ => rfl
      | ⟨1, _⟩ => rfl
    refine Fin.ext ?_
    show min (idx (gather_S64x256x512_S1024x1_S1024x256x512_12_0_n_n_0_1_1256512.siIdx (ix3 n k h) ⟨0, _⟩)).toInt.toNat 63 + 0 + 0 = (a n).val
    rw [hs, hw, to_nat]
    rfl
  | ⟨1, _⟩ => exact Fin.ext (show 0 + 0 + k.val = k.val by omega)
  | ⟨2, _⟩ => exact Fin.ext (show 0 + 0 + h.val = h.val by omega)

theorem product_at (n : Fin 1024) (h : Fin 512) : product X W j (ix2 n h) = ∑ k : Fin 256, X (ix2 n k) * W (ix3 (a n) k h) := by
  unfold product
  pointwise []
  simp only [experts_at W j a ha]

end Lookup

/-- The reference's result. -/
theorem result_at (a b : Fin 1024 → Fin 64) (ha : ∀ n, I (ix2 n 0) = BitVec.ofNat 32 (a n).val) (hb : ∀ n, I (ix2 n 1) = BitVec.ofNat 32 (b n).val)
    (n : Fin 1024) (h : Fin 512) :
    result X R I W (ix2 n h) = Math.layer (fun k => X (ix2 n k)) (fun k e => R (ix2 k e)) (a n) (b n) (fun e k => W (ix3 e k h)) := by
  have h0 : ∀ n, col0 I (ix1 n) = BitVec.ofNat 32 (a n).val := fun n => (col0_at I n).trans (ha n)
  have h1 : ∀ n, col1 I (ix1 n) = BitVec.ofNat 32 (b n).val := fun n => (col1_at I n).trans (hb n)
  unfold result Math.layer Math.share
  pointwise []
  rw [taken_at _ a h0, taken_at _ b h1, product_at X W _ a h0, product_at X W _ b h1, probs_at, probs_at]

end Cert.Moe.Ref

end
-- ==== Proof.Pre.lean ====
/-
# The precondition

What the precondition says of a device's arguments: the tokens and the router's weights are real numbers, and every routed
index is the index of one of the 64 experts.
-/
module

public import proofs.«01_k».proof.Defs
public import proofs.«01_k».proof.Proof.Math
public import Idealize.ShloMosaic.Lib.Pointwise
public import Idealize.ShloMosaic.Lib.KernelVsHost

@[expose] public section

set_option maxRecDepth 16384

noncomputable section

namespace Cert.Moe.Pre

open Cert.Pre_finite_routed_KernelIdeal
open Idealize.ShloMosaic Idealize.ShloMosaic.TcCoe

instance facts : Cert.Pre_finite_routed_KernelIdeal.Facts where
  bcast_S_S1024x256 := by decide
  reducesTo_S1024x256_S_d0_1 := by decide
  h_S_ := by decide
  bcast_S_S256x64 := by decide
  reducesTo_S256x64_S_d0_1 := by decide
  bcast_S_S1024x2 := by decide
  reducesTo_S1024x2_S_d0_1 := by decide

instance facts' : Cert.Pre_finite_routed_ReferenceIdeal.Facts where
  bcast_S_S1024x256 := by decide
  reducesTo_S1024x256_S_d0_1 := by decide
  h_S_ := by decide
  bcast_S_S256x64 := by decide
  reducesTo_S256x64_S_d0_1 := by decide
  bcast_S_S1024x2 := by decide
  reducesTo_S1024x2_S_d0_1 := by decide

theorem and_one {a b : BitVec 1} (h : IntOp.andi a b = 1#1) : a = 1#1 ∧ b = 1#1 := by revert a b; decide

theorem fold_one {ι : Type} [DecidableEq ι] (s : Finset ι) (f : ι → BitVec 1) (h : s.fold IntOp.andi (1#1) f = 1#1) : ∀ i ∈ s, f i = 1#1 := by
  induction s using Finset.induction with
  | empty => intro i hi; exact absurd hi (Finset.notMem_empty i)
  | insert a s ha ih =>
    rw [Finset.fold_insert ha] at h
    intro i hi
    rcases Finset.mem_insert.1 hi with rfl | hi
    · exact (and_one h).1
    · exact ih (and_one h).2 i hi

theorem pos_inf : Ideal.ofBits FTy.bf16 32640#16 = (⊤ : EReal) := by
  show Ideal.ieee 8 7 (32640#16) = ⊤
  unfold Ideal.ieee
  rw [if_pos (by decide), if_pos (by decide), if_neg (by decide)]

theorem real_of_abs (x : EReal) (h : BitVec.ofBool (decide (FloatOps.absf (F := Ideal) (φ := .bf16) x < Ideal.ofBits FTy.bf16 32640#16)) = 1#1) : Math.Fin' x := by
  have h' : max x (-x) < ⊤ := by
    rw [pos_inf] at h
    by_contra hn
    rw [show decide (FloatOps.absf (F := Ideal) (φ := .bf16) x < (⊤ : EReal)) = false from decide_eq_false hn] at h
    exact absurd h (by decide)
  induction x using EReal.rec with
  | bot => exact absurd h' (by simp)
  | top => exact absurd h' (by simp)
  | coe r => exact ⟨r, rfl⟩

theorem route (v : BitVec 32) (h0 : IntOp.cmpi .sge v 0#32 = 1#1) (h1 : IntOp.cmpi .sle v 63#32 = 1#1) : ∃ a : Fin 64, v = BitVec.ofNat 32 a.val := by
  have e0 : (0#32).sle v = true := by
    cases hb : (0#32).sle v with
    | true => rfl
    | false => exact absurd (h0.symm.trans (congrArg BitVec.ofBool hb)) (by decide)
  have e1 : v.sle 63#32 = true := by
    cases hb : v.sle 63#32 with
    | true => rfl
    | false => exact absurd (h1.symm.trans (congrArg BitVec.ofBool hb)) (by decide)
  have i0 : (0#32).toInt ≤ v.toInt := of_decide_eq_true e0
  have i1 : v.toInt ≤ (63#32).toInt := of_decide_eq_true e1
  rw [show (0#32).toInt = 0 by decide] at i0
  rw [show (63#32).toInt = 63 by decide] at i1
  have hv := v.isLt
  rw [BitVec.toInt_eq_toNat_cond] at i0 i1
  have hlt : v.toNat < 64 := by
    split at i0 <;> omega
  exact ⟨⟨v.toNat, hlt⟩, BitVec.eq_of_toNat_eq (by rw [BitVec.toNat_ofNat]; exact (Nat.mod_eq_of_lt hv).symm)⟩

variable (X : FVec Ideal S1024x256 .bf16) (R : FVec Ideal S256x64 .bf16) (I : IVec S1024x2 32) (W : FVec Ideal S4x256x512 .bf16)

theorem fn_at (h : fn (F := Ideal) X R I W = fun _ => 1#1) :
    (∀ n k, Math.Fin' (X (ix2 n k))) ∧ (∀ k e, Math.Fin' (R (ix2 k e)))
      ∧ ∀ n, (∃ a : Fin 64, I (ix2 n 0) = BitVec.ofNat 32 a.val) ∧ ∃ a : Fin 64, I (ix2 n 1) = BitVec.ofNat 32 a.val := by
  have h0 := congrFun h (fun a => a.elim0)
  unfold fn at h0
  revert h0
  pointwise []
  intro h0
  obtain ⟨h01, h2⟩ := and_one h0
  obtain ⟨h1, h3⟩ := and_one h01
  have hx := fold_one _ _ h1
  have hr := fold_one _ _ h3
  have hi := fold_one _ _ h2
  have hi' : ∀ n : Fin 1024, ∀ l : Fin 2, ∃ a : Fin 64, I (ix2 n l) = BitVec.ofNat 32 a.val := fun n l =>
    route _ (and_one (hi (n, l) (Finset.mem_univ _))).1 (and_one (hi (n, l) (Finset.mem_univ _))).2
  exact ⟨fun n k => real_of_abs _ (hx (n, k) (Finset.mem_univ _)), fun k e => real_of_abs _ (hr (k, e) (Finset.mem_univ _)),
    fun n => ⟨hi' n 0, hi' n 1⟩⟩

end Cert.Moe.Pre
-- ==== Proof.Value.lean ====
/-
# The value claim

Under the precondition every device's result is the reference's: both are `Math.layer` of the token's row, the router's
weights, the token's two experts and their columns.
-/
module

public import proofs.«01_k».proof.Proof.Frames
public import proofs.«01_k».proof.Proof.Ker
public import proofs.«01_k».proof.Proof.Ref
public import proofs.«01_k».proof.Proof.Pre

@[expose] public section

set_option maxRecDepth 16384

noncomputable section

namespace Cert.Moe

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg) (c : Dev nD)

/-! ## What the body is given are the arguments, and what it leaves is the result -/

theorem inp_x : (inpOf m ρ).x c = m ((c : Thread nD τ).loc main_arg0) := by
  have hz : (fun a => (win0_0.index (0 : Fin 1)) a * main_arg0.ty.shape.size a) = fun _ => 0 := funext fun a => by fin_cases a <;> decide
  exact Memref.read_access_unit_zero (Elt Ideal) main_arg0 hz (fun a => by fin_cases a <;> decide) (m ((c : Thread nD τ).loc main_arg0))
theorem inp_r : (inpOf m ρ).r c = m ((c : Thread nD τ).loc main_arg1) := by
  have hz : (fun a => (win0_1.index (0 : Fin 1)) a * main_arg1.ty.shape.size a) = fun _ => 0 := funext fun a => by fin_cases a <;> decide
  exact Memref.read_access_unit_zero (Elt Ideal) main_arg1 hz (fun a => by fin_cases a <;> decide) (m ((c : Thread nD τ).loc main_arg1))
theorem inp_i : (inpOf m ρ).i c = m ((c : Thread nD τ).loc main_arg2) := by
  have hz : (fun a => (win0_2.index (0 : Fin 1)) a * main_arg2.ty.shape.size a) = fun _ => 0 := funext fun a => by fin_cases a <;> decide
  exact Memref.read_access_unit_zero (Elt Ideal) main_arg2 hz (fun a => by fin_cases a <;> decide) (m ((c : Thread nD τ).loc main_arg2))
theorem inp_w : (inpOf m ρ).w c = m ((c : Thread nD τ).loc main_arg3) := by
  have hz : (fun a => (win0_3.index (0 : Fin 1)) a * main_arg3.ty.shape.size a) = fun _ => 0 := funext fun a => by fin_cases a <;> decide
  exact Memref.read_access_unit_zero (Elt Ideal) main_arg3 hz (fun a => by fin_cases a <;> decide) (m ((c : Thread nD τ).loc main_arg3))

theorem out_eq : finalA m ρ c (4 : Fin 5) = OUT (inpOf m ρ) := by
  have hz : (fun a => (win0_4.index (0 : Fin 1)) a * main_v1.ty.shape.size a) = fun _ => 0 := funext fun a => by fin_cases a <;> decide
  exact (Memref.read_access_unit_zero (Elt Ideal) main_v1 hz (fun a => by fin_cases a <;> decide) (finalA m ρ c (4 : Fin 5))).symm.trans (final_out m ρ c)

/-- Expert `l` of device `c` is expert `4c + l`. -/
theorem block_at (W : (⟨3, ![64, 256, 512]⟩ : Shape).Idx → EReal) (l : Fin 4) (k : Fin 256) (h : Fin 512) :
    Layout.block ⟨3, ![4, 256, 512]⟩ ⟨3, ![64, 256, 512]⟩ 0 16 c W (by decide) (ix3 l k h) = W (ix3 (Math.expert c l) k h) := by
  refine congrArg W (funext fun a => Fin.ext ?_)
  match a with
  | ⟨0, _⟩ => exact (show c.val * 4 + l.val = 4 * c.val + l.val by omega)
  | ⟨1, _⟩ => rfl
  | ⟨2, _⟩ => rfl

/-- The two programs' results. -/
theorem value_eq (X : FVec Ideal S1024x256 .bf16) (R : FVec Ideal S256x64 .bf16) (I : IVec S1024x2 32) (W : FVec Ideal Cert.ReferenceIdeal.S64x256x512 .bf16)
    (hx : ∀ c, (inpOf m ρ).x c = X) (hr : ∀ c, (inpOf m ρ).r c = R) (hi : ∀ c, (inpOf m ρ).i c = I)
    (hw : ∀ c l k h, (inpOf m ρ).w c (ix3 l k h) = W (ix3 (Math.expert c l) k h))
    (hX : ∀ n k, Math.Fin' (X (ix2 n k))) (hR : ∀ k e, Math.Fin' (R (ix2 k e)))
    (hI : ∀ n, (∃ a : Fin 64, I (ix2 n 0) = BitVec.ofNat 32 a.val) ∧ ∃ a : Fin 64, I (ix2 n 1) = BitVec.ofNat 32 a.val) :
    OUT (inpOf m ρ) = Ref.result X R I W := by
  choose a ha using fun n => (hI n).1
  choose b hb using fun n => (hI n).2
  have hg : Ker.Given (inpOf m ρ) (fun n k => X (ix2 n k)) (fun k e => R (ix2 k e)) a b (fun e k h => W (ix3 e k h)) :=
    ⟨fun c n k => congrFun (hx c) _, fun c k e => congrFun (hr c) _, fun c n => (congrFun (hi c) _).trans (ha n),
      fun c n => (congrFun (hi c) _).trans (hb n), hw⟩
  funext j
  have hj : j = ix2 (show Fin 1024 from j 0) (show Fin 512 from j 1) := funext fun x => by match x with | ⟨0, _⟩ => rfl | ⟨1, _⟩ => rfl
  rw [hj]
  exact (Ker.out_at hg hX hR _ _).trans (Ref.result_at X R I W a b ha hb _ _).symm

theorem algebraic : Cert.algebraic_KernelIdeal_ReferenceIdeal_pre_finite_routed_KernelIdeal := by
  intro m g m' g' hpre heq
  obtain ⟨hX, hR, hI⟩ := Pre.fn_at _ _ _ _ (hpre (0 : Dev nD))
  have h0 := heq (0 : Dev nD)
  rw [h0.1] at hX
  rw [h0.2.1] at hR
  rw [h0.2.2.1] at hI
  have hv : OUT (inpOf m g) = Cert.ReferenceIdeal.Value.res_main_v45 (F := Ideal) m' 0 :=
    (value_eq m g _ _ _ _ (fun c => (inp_x m g c).trans (heq c).1) (fun c => (inp_r m g c).trans (heq c).2.1) (fun c => (inp_i m g c).trans (heq c).2.2.1)
      (fun c l k h => (congrFun ((inp_w m g c).trans (heq c).2.2.2) _).trans (block_at c _ l k h)) hX hR hI).trans (Ref.res_eq m' 0).symm
  refine ⟨Cert.ReferenceIdeal.Value.res_main_v45 (F := Ideal) m' 0, ?_, ?_⟩
  · exact (θ_run defs _ _).mono (fun r h c => ⟨((h.1 c 4).trans (out_eq m g c)).trans hv, (h.1 c 0).trans (final_in m g c).1, (h.1 c 1).trans (final_in m g c).2.1,
      (h.1 c 2).trans (final_in m g c).2.2.1, (h.1 c 3).trans (final_in m g c).2.2.2⟩) (run_main m g)
  · exact (θ_run Cert.ReferenceIdeal.defs _ _).mono (fun r h => h 0) (Cert.ReferenceIdeal.Value.run (F := Ideal) m' g')

/-! ## The frames under the precondition -/

theorem frame_kernelIdeal_pre : Cert.quiescent_KernelIdeal_pre_finite_routed_KernelIdeal := fun m ρ _ => frame_kernelIdeal m ρ trivial
theorem frame_reference_pre : Cert.quiescent_ReferenceIdeal_pre_finite_routed_ReferenceIdeal := fun m ρ _ => frame_reference m ρ trivial

end Cert.Moe

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Frames
public import proofs.«01_k».proof.Proof.Value

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  Cert.Moe.Pre.facts, Cert.Moe.Pre.facts',
  Cert.Moe.frame_kernel, Cert.Moe.frame_kernelIdeal, Cert.Moe.frame_kernelIdeal_pre, Cert.Moe.frame_reference, Cert.Moe.frame_reference_pre,
  trivial, Cert.Moe.algebraic⟩

end Cert.Proof

end
